-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v121) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x3 : Shape := ⟨3, ![8, 4096, 3]⟩
abbrev S8x10x4096 : Shape := ⟨3, ![8, 10, 4096]⟩
abbrev S64x3 : Shape := ⟨2, ![64, 3]⟩
abbrev S64 : Shape := ⟨1, ![64]⟩
abbrev S64x13 : Shape := ⟨2, ![64, 13]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x10x4096 : S_.BroadcastsInDim S8x10x4096 (![] : Fin 0 → Fin S8x10x4096.rank)
  reducesTo_S8x10x4096_S_d0_1_2 : S8x10x4096.ReducesTo [0, 1, 2] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S64x13 : S_.BroadcastsInDim S64x13 (![] : Fin 0 → Fin S64x13.rank)
  reducesTo_S64x13_S_d0_1 : S64x13.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S64 .f32) (main_arg15 : FVec F S128x64 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64x64 .f32) (main_arg12 : FVec F S64 .f32) (main_arg13 : FVec F S64 .f32) (main_arg14 : FVec F S64 .f32) (main_arg15 : FVec F S128x64 .f32) (main_arg16 : FVec F S128 .f32) (main_arg17 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S64x13 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S128x64 .f32) (main_arg16 : FVec F S128 .f32) (main_arg17 : FVec F S128 .f32) (main_v33 : IVec S_ 1) : IVec S_ 1 :=
  let main_v34 : FVec F S64x13 .f32 := Host.absf main_arg7
  let main_cst_12 : FVec F S_ .f32 := constant S_ .f32 0x7F800000#32
  let main_v35 : FVec F S64x13 .f32 := broadcastInDim S64x13 ![] bcast_S_S64x13 main_cst_12
  let main_v36 : IVec S64x13 1 := cmpf .olt main_v34 main_v35
  let main_c_13 : IVec S_ 1 := constantI S_ 1 1#1
  let main_v37 : IVec S_ 1 := (fun x v => Host.reduce IntOp.andi x v reducesTo_S64x13_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_v48 main_v49 main_v50

def fn_part1 {F : FTy → Type} [FloatOps F] (main_arg4 : FVec F S64 .f32) (main_arg5 : FVec F S64 .f32) (main_arg6 : FVec F S64 .f32) (main_arg7 : FVec F S64x13 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S128x64 .f32) (main_arg16 : FVec F S128 .f32) (main_arg17 : FVec F S128 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8x4096x3 .f32) (main_arg1 : FVec F S8x4096x3 .f32) (main_arg2 : FVec F S8x10x4096 .f32) (main_arg3 : FVec F S64x3 .f32) (main_arg4 : FVec F S64 .f32) (main_arg5 : FVec F S64 .f32) (main_arg6 : FVec F S64 .f32) (main_arg7 : FVec F S64x13 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S128x64 .f32) (main_arg16 : FVec F S128 .f32) (main_arg17 : FVec F S128 .f32) (main_arg18 : FVec F S128 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x10x4096 .f32 := Host.absf main_arg2
  let main_cst_2 : FVec F S_ .f32 := constant S_ .f32 0x7F800000#32
  let main_v10 : FVec F S8x10x4096 .f32 := broadcastInDim S8x10x4096 ![] bcast_S_S8x10x4096 main_cst_2
  let main_v11 : IVec S8x10x4096 1 := cmpf .olt main_v9 main_v10
  let main_c_3 : IVec S_ 1 := constantI S_ 1 1#1
  let main_v12 : IVec S_ 1 := (fun x v => Host.reduce IntOp.andi x v reducesTo_S8x10x4096_S_d0_1_2 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8x4096x3 : Shape := ⟨3, ![8, 4096, 3]⟩
abbrev S8x10x4096 : Shape := ⟨3, ![8, 10, 4096]⟩
abbrev S64x3 : Shape := ⟨2, ![64, 3]⟩
abbrev S64 : Shape := ⟨1, ![64]⟩
abbrev S64x13 : Shape := ⟨2, ![64, 13]⟩
abbrev S64x64 : Shape := ⟨2, ![64, 64]⟩
abbrev S128x64 : Shape := ⟨2, ![128, 64]⟩
abbrev S128 : Shape := ⟨1, ![128]⟩
abbrev S8x3x4096 : Shape := ⟨3, ![8, 3, 4096]⟩
abbrev S3x8x4096 : Shape := ⟨3, ![3, 8, 4096]⟩
abbrev S3x8x512 : Shape := ⟨3, ![3, 8, 512]⟩
abbrev S8x4096 : Shape := ⟨2, ![8, 4096]⟩
abbrev S1x1x512 : Shape := ⟨3, ![1, 1, 512]⟩
abbrev S8x1 : Shape := ⟨2, ![8, 1]⟩
abbrev S1x8x4096 : Shape := ⟨3, ![1, 8, 4096]⟩
abbrev S3x8 : Shape := ⟨2, ![3, 8]⟩
abbrev S3x8x1 : Shape := ⟨3, ![3, 8, 1]⟩
abbrev S8 : Shape := ⟨1, ![8]⟩
abbrev S8x512x3 : Shape := ⟨3, ![8, 512, 3]⟩
abbrev S8x4096x10 : Shape := ⟨3, ![8, 4096, 10]⟩
abbrev S8x4096x16 : Shape := ⟨3, ![8, 4096, 16]⟩
abbrev S8x32x512x16 : Shape := ⟨4, ![8, 32, 512, 16]⟩
abbrev S8x1x16 : Shape := ⟨3, ![8, 1, 16]⟩
abbrev S8x16x16 : Shape := ⟨3, ![8, 16, 16]⟩
abbrev S1x512x3 : Shape := ⟨3, ![1, 512, 3]⟩
abbrev S1x3x4096 : Shape := ⟨3, ![1, 3, 4096]⟩
abbrev S1x4096x16 : Shape := ⟨3, ![1, 4096, 16]⟩
abbrev S1x32x512x16 : Shape := ⟨4, ![1, 32, 512, 16]⟩
abbrev S1x1x16 : Shape := ⟨3, ![1, 1, 16]⟩
abbrev S1x16x16 : Shape := ⟨3, ![1, 16, 16]⟩
abbrev S512x3 : Shape := ⟨2, ![512, 3]⟩
abbrev S3x4096 : Shape := ⟨2, ![3, 4096]⟩
abbrev S4096x16 : Shape := ⟨2, ![4096, 16]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S512x13 : Shape := ⟨2, ![512, 13]⟩
abbrev S512x16 : Shape := ⟨2, ![512, 16]⟩
abbrev S1x16 : Shape := ⟨2, ![1, 16]⟩
abbrev S16x16 : Shape := ⟨2, ![16, 16]⟩
abbrev S1x1x512x16 : Shape := ⟨4, ![1, 1, 512, 16]⟩
abbrev S16 : Shape := ⟨1, ![16]⟩
abbrev S8x16x32x512 : Shape := ⟨4, ![8, 16, 32, 512]⟩
abbrev S8x16x16384 : Shape := ⟨3, ![8, 16, 16384]⟩
abbrev S_ : Shape := ⟨0, ![]⟩
abbrev S16x1 : Shape := ⟨2, ![16, 1]⟩
abbrev S3 : Shape := ⟨1, ![3]⟩
abbrev S3x3 : Shape := ⟨2, ![3, 3]⟩
abbrev S3x64 : Shape := ⟨2, ![3, 64]⟩
abbrev S64x1 : Shape := ⟨2, ![64, 1]⟩
abbrev S13 : Shape := ⟨1, ![13]⟩
abbrev S13x13 : Shape := ⟨2, ![13, 13]⟩
abbrev S13x64 : Shape := ⟨2, ![13, 64]⟩
abbrev S64x16 : Shape := ⟨2, ![64, 16]⟩
abbrev S8x64x16384 : Shape := ⟨3, ![8, 64, 16384]⟩
abbrev S8x64x1 : Shape := ⟨3, ![8, 64, 1]⟩
abbrev S8x64x64 : Shape := ⟨3, ![8, 64, 64]⟩
abbrev S1x16x16384 : Shape := ⟨3, ![1, 16, 16384]⟩
abbrev S1x64x16384 : Shape := ⟨3, ![1, 64, 16384]⟩
abbrev S1x64x1 : Shape := ⟨3, ![1, 64, 1]⟩
abbrev S1x64x64 : Shape := ⟨3, ![1, 64, 64]⟩
abbrev S16x16384 : Shape := ⟨2, ![16, 16384]⟩
abbrev S64x16384 : Shape := ⟨2, ![64, 16384]⟩
abbrev S8x1x64 : Shape := ⟨3, ![8, 1, 64]⟩
abbrev S1x64 : Shape := ⟨2, ![1, 64]⟩
abbrev S64x128 : Shape := ⟨2, ![64, 128]⟩
abbrev S128x1 : Shape := ⟨2, ![128, 1]⟩
abbrev S8x128x512 : Shape := ⟨3, ![8, 128, 512]⟩
abbrev S1x128x512 : Shape := ⟨3, ![1, 128, 512]⟩
abbrev S128x16384 : Shape := ⟨2, ![128, 16384]⟩
abbrev S128x512 : Shape := ⟨2, ![128, 512]⟩

abbrev nBuf : Space → Nat
  | .hbm => 164
  | .vmem => 42
  | .smem => 0
  | _ => 0

abbrev hbmTy0_0 (i : Nat) : BufTy := match i % 128 with
  | 0 => ⟨S8x4096x3, .f32⟩
  | 1 => ⟨S8x4096x3, .f32⟩
  | 2 => ⟨S8x10x4096, .f32⟩
  | 3 => ⟨S64x3, .f32⟩
  | 4 => ⟨S64, .f32⟩
  | 5 => ⟨S64, .f32⟩
  | 6 => ⟨S64, .f32⟩
  | 7 => ⟨S64x13, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S128x64, .f32⟩
  | 16 => ⟨S128, .f32⟩
  | 17 => ⟨S128, .f32⟩
  | 18 => ⟨S128, .f32⟩
  | 19 => ⟨S8x3x4096, .f32⟩
  | 20 => ⟨S8x3x4096, .f32⟩
  | 21 => ⟨S3x8x4096, .f32⟩
  | 22 => ⟨S3x8x4096, .f32⟩
  | 23 => ⟨S3x8x512, .f32⟩
  | 24 => ⟨S3x8x512, .f32⟩
  | 25 => ⟨S8x512x3, .f32⟩
  | 26 => ⟨S8x512x3, .f32⟩
  | 27 => ⟨S8x4096x10, .f32⟩
  | 28 => ⟨S8x4096x16, .f32⟩
  | 29 => ⟨S8x32x512x16, .f32⟩
  | 30 => ⟨S8x1x16, .f32⟩
  | 31 => ⟨S8x16x16, .f32⟩
  | 32 => ⟨S8x16x32x512, .f32⟩
  | 33 => ⟨S8x16x16384, .f32⟩
  | 34 => ⟨S_, .f32⟩
  | 35 => ⟨S1x16, .f32⟩
  | 36 => ⟨S16, .f32⟩
  | 37 => ⟨S_, .f32⟩
  | 38 => ⟨S16, .f32⟩
  | 39 => ⟨S16, .f32⟩
  | 40 => ⟨S_, .f32⟩
  | 41 => ⟨S16x16, .f32⟩
  | 42 => ⟨S_, .f32⟩
  | 43 => ⟨S16x16, .f32⟩
  | 44 => ⟨S16x16, .f32⟩
  | 45 => ⟨S16x1, .f32⟩
  | 46 => ⟨S1x16, .f32⟩
  | 47 => ⟨S16x16, .f32⟩
  | 48 => ⟨S16x16, .f32⟩
  | 49 => ⟨S16x16, .f32⟩
  | 50 => ⟨S16x16, .f32⟩
  | 51 => ⟨S3, .f32⟩
  | 52 => ⟨S3x3, .f32⟩
  | 53 => ⟨S64, .f32⟩
  | 54 => ⟨S64, .f32⟩
  | 55 => ⟨S3x64, .f32⟩
  | 56 => ⟨S64, .f32⟩
  | 57 => ⟨S_, .f32⟩
  | 58 => ⟨S64, .f32⟩
  | 59 => ⟨S64, .f32⟩
  | 60 => ⟨S64, .f32⟩
  | 61 => ⟨S64, .f32⟩
  | 62 => ⟨S64x1, .f32⟩
  | 63 => ⟨S64x3, .f32⟩
  | 64 => ⟨S64x3, .f32⟩
  | 65 => ⟨S64, .f32⟩
  | 66 => ⟨S64, .f32⟩
  | 67 => ⟨S64, .f32⟩
  | 68 => ⟨S64x1, .f32⟩
  | 69 => ⟨S13, .f32⟩
  | 70 => ⟨S13x13, .f32⟩
  | 71 => ⟨S64, .f32⟩
  | 72 => ⟨S64, .f32⟩
  | 73 => ⟨S13x64, .f32⟩
  | 74 => ⟨S64, .f32⟩
  | 75 => ⟨S_, .f32⟩
  | 76 => ⟨S64, .f32⟩
  | 77 => ⟨S64, .f32⟩
  | 78 => ⟨S64, .f32⟩
  | 79 => ⟨S64, .f32⟩
  | 80 => ⟨S64x1, .f32⟩
  | 81 => ⟨S64x13, .f32⟩
  | 82 => ⟨S64x13, .f32⟩
  | 83 => ⟨S64, .f32⟩
  | 84 => ⟨S64, .f32⟩
  | 85 => ⟨S64, .f32⟩
  | 86 => ⟨S64x1, .f32⟩
  | 87 => ⟨S64x16, .f32⟩
  | 88 => ⟨S64x1, .f32⟩
  | 89 => ⟨S8x64x16384, .f32⟩
  | 90 => ⟨S8x64x1, .f32⟩
  | 91 => ⟨S8x64x64, .f32⟩
  | 92 => ⟨S8x1x64, .f32⟩
  | 93 => ⟨S_, .f32⟩
  | 94 => ⟨S1x64, .f32⟩
  | 95 => ⟨S64, .f32⟩
  | 96 => ⟨S_, .f32⟩
  | 97 => ⟨S64, .f32⟩
  | 98 => ⟨S64, .f32⟩
  | 99 => ⟨S_, .f32⟩
  | 100 => ⟨S64x64, .f32⟩
  | 101 => ⟨S_, .f32⟩
  | 102 => ⟨S64x64, .f32⟩
  | 103 => ⟨S64x64, .f32⟩
  | 104 => ⟨S64x1, .f32⟩
  | 105 => ⟨S1x64, .f32⟩
  | 106 => ⟨S64x64, .f32⟩
  | 107 => ⟨S64x64, .f32⟩
  | 108 => ⟨S64x64, .f32⟩
  | 109 => ⟨S64x64, .f32⟩
  | 110 => ⟨S64, .f32⟩
  | 111 => ⟨S64, .f32⟩
  | 112 => ⟨S64x64, .f32⟩
  | 113 => ⟨S64, .f32⟩
  | 114 => ⟨S_, .f32⟩
  | 115 => ⟨S64, .f32⟩
  | 116 => ⟨S64, .f32⟩
  | 117 => ⟨S64, .f32⟩
  | 118 => ⟨S64, .f32⟩
  | 119 => ⟨S64x1, .f32⟩
  | 120 => ⟨S64x64, .f32⟩
  | 121 => ⟨S64x64, .f32⟩
  | 122 => ⟨S64, .f32⟩
  | 123 => ⟨S64, .f32⟩
  | 124 => ⟨S64, .f32⟩
  | 125 => ⟨S64x1, .f32⟩
  | 126 => ⟨S8x64x16384, .f32⟩
  | 127 => ⟨S8x64x1, .f32⟩
  | _ => ⟨S8x4096x3, .f32⟩

abbrev hbmTy0_1 (i : Nat) : BufTy := match i % 128 with
  | 0 => ⟨S8x64x64, .f32⟩
  | 1 => ⟨S8x1x64, .f32⟩
  | 2 => ⟨S_, .f32⟩
  | 3 => ⟨S1x64, .f32⟩
  | 4 => ⟨S64, .f32⟩
  | 5 => ⟨S_, .f32⟩
  | 6 => ⟨S64, .f32⟩
  | 7 => ⟨S64, .f32⟩
  | 8 => ⟨S_, .f32⟩
  | 9 => ⟨S64x64, .f32⟩
  | 10 => ⟨S_, .f32⟩
  | 11 => ⟨S64x64, .f32⟩
  | 12 => ⟨S64x64, .f32⟩
  | 13 => ⟨S64x1, .f32⟩
  | 14 => ⟨S1x64, .f32⟩
  | 15 => ⟨S64x64, .f32⟩
  | 16 => ⟨S64x64, .f32⟩
  | 17 => ⟨S64x64, .f32⟩
  | 18 => ⟨S64x64, .f32⟩
  | 19 => ⟨S128, .f32⟩
  | 20 => ⟨S128, .f32⟩
  | 21 => ⟨S64x128, .f32⟩
  | 22 => ⟨S128, .f32⟩
  | 23 => ⟨S_, .f32⟩
  | 24 => ⟨S128, .f32⟩
  | 25 => ⟨S128, .f32⟩
  | 26 => ⟨S128, .f32⟩
  | 27 => ⟨S128, .f32⟩
  | 28 => ⟨S128x1, .f32⟩
  | 29 => ⟨S128x64, .f32⟩
  | 30 => ⟨S128x64, .f32⟩
  | 31 => ⟨S128, .f32⟩
  | 32 => ⟨S128, .f32⟩
  | 33 => ⟨S128, .f32⟩
  | 34 => ⟨S128x1, .f32⟩
  | 35 => ⟨S8x128x512, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | .local _ .vmem, ⟨0, _⟩ => ⟨S3x8x4096, .f32⟩
  | .local _ .vmem, ⟨1, _⟩ => ⟨S3x8x4096, .f32⟩
  | .local _ .vmem, ⟨2, _⟩ => ⟨S3x8x512, .f32⟩
  | .local _ .vmem, ⟨3, _⟩ => ⟨S3x8x512, .f32⟩
  | .local _ .vmem, ⟨4, _⟩ => ⟨S1x512x3, .f32⟩
  | .local _ .vmem, ⟨5, _⟩ => ⟨S1x512x3, .f32⟩
  | .local _ .vmem, ⟨6, _⟩ => ⟨S1x3x4096, .f32⟩
  | .local _ .vmem, ⟨7, _⟩ => ⟨S1x3x4096, .f32⟩
  | .local _ .vmem, ⟨8, _⟩ => ⟨S1x4096x16, .f32⟩
  | .local _ .vmem, ⟨9, _⟩ => ⟨S1x4096x16, .f32⟩
  | .local _ .vmem, ⟨10, _⟩ => ⟨S1x32x512x16, .f32⟩
  | .local _ .vmem, ⟨11, _⟩ => ⟨S1x32x512x16, .f32⟩
  | .local _ .vmem, ⟨12, _⟩ => ⟨S1x1x16, .f32⟩
  | .local _ .vmem, ⟨13, _⟩ => ⟨S1x1x16, .f32⟩
  | .local _ .vmem, ⟨14, _⟩ => ⟨S1x16x16, .f32⟩
  | .local _ .vmem, ⟨15, _⟩ => ⟨S1x16x16, .f32⟩
  | .local _ .vmem, ⟨16, _⟩ => ⟨S1x16x16384, .f32⟩
  | .local _ .vmem, ⟨17, _⟩ => ⟨S1x16x16384, .f32⟩
  | .local _ .vmem, ⟨18, _⟩ => ⟨S64x16, .f32⟩
  | .local _ .vmem, ⟨19, _⟩ => ⟨S64x1, .f32⟩
  | .local _ .vmem, ⟨20, _⟩ => ⟨S1x64x16384, .f32⟩
  | .local _ .vmem, ⟨21, _⟩ => ⟨S1x64x16384, .f32⟩
  | .local _ .vmem, ⟨22, _⟩ => ⟨S1x64x1, .f32⟩
  | .local _ .vmem, ⟨23, _⟩ => ⟨S1x64x1, .f32⟩
  | .local _ .vmem, ⟨24, _⟩ => ⟨S1x64x64, .f32⟩
  | .local _ .vmem, ⟨25, _⟩ => ⟨S1x64x64, .f32⟩
  | .local _ .vmem, ⟨26, _⟩ => ⟨S1x64x16384, .f32⟩
  | .local _ .vmem, ⟨27, _⟩ => ⟨S1x64x16384, .f32⟩
  | .local _ .vmem, ⟨28, _⟩ => ⟨S64x64, .f32⟩
  | .local _ .vmem, ⟨29, _⟩ => ⟨S64x1, .f32⟩
  | .local _ .vmem, ⟨30, _⟩ => ⟨S1x64x16384, .f32⟩
  | .local _ .vmem, ⟨31, _⟩ => ⟨S1x64x16384, .f32⟩
  | .local _ .vmem, ⟨32, _⟩ => ⟨S1x64x1, .f32⟩
  | .local _ .vmem, ⟨33, _⟩ => ⟨S1x64x1, .f32⟩
  | .local _ .vmem, ⟨34, _⟩ => ⟨S1x64x64, .f32⟩
  | .local _ .vmem, ⟨35, _⟩ => ⟨S1x64x64, .f32⟩
  | .local _ .vmem, ⟨36, _⟩ => ⟨S1x64x16384, .f32⟩
  | .local _ .vmem, ⟨37, _⟩ => ⟨S1x64x16384, .f32⟩
  | .local _ .vmem, ⟨38, _⟩ => ⟨S128x64, .f32⟩
  | .local _ .vmem, ⟨39, _⟩ => ⟨S128x1, .f32⟩
  | .local _ .vmem, ⟨40, _⟩ => ⟨S1x128x512, .f32⟩
  | .local _ .vmem, ⟨41, _⟩ => ⟨S1x128x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v61_2 : Ref sig .tc := ⟨.hbm, 91, rfl⟩
abbrev main_v62 : Ref sig .tc := ⟨.hbm, 92, rfl⟩
abbrev main_cst_5 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_cst_8 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91_0 : Ref sig .tc := ⟨.hbm, 126, rfl⟩
abbrev main_v91_1 : Ref sig .tc := ⟨.hbm, 127, rfl⟩
abbrev main_v91_2 : Ref sig .tc := ⟨.hbm, 128, rfl⟩
abbrev main_v92 : Ref sig .tc := ⟨.hbm, 129, rfl⟩
abbrev main_cst_10 : Ref sig .tc := ⟨.hbm, 130, rfl⟩
abbrev main_v93 : Ref sig .tc := ⟨.hbm, 131, rfl⟩
abbrev main_v94 : Ref sig .tc := ⟨.hbm, 132, rfl⟩
abbrev main_cst_11 : Ref sig .tc := ⟨.hbm, 133, rfl⟩
abbrev main_v95 : Ref sig .tc := ⟨.hbm, 134, rfl⟩
abbrev main_v96 : Ref sig .tc := ⟨.hbm, 135, rfl⟩
abbrev main_cst_12 : Ref sig .tc := ⟨.hbm, 136, rfl⟩
abbrev main_v97 : Ref sig .tc := ⟨.hbm, 137, rfl⟩
abbrev main_cst_13 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_14 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c512_i32 : BitVec 32 := 512#32
  let v9 : BitVec 32 := Scalar.addi c0_i32_6 c512_i32
  let c1_i32 : BitVec 32 := 1#32
  ⟨c0_i32_6, v9, c1_i32⟩
abbrev stage0_0 : Fin 1 → Memref sig .tc .vmem S3x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x64x16384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x64x16384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x64x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x16384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x128x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S8x4096x3 : Shape := ⟨3, ![8, 4096, 3]⟩
abbrev S8x10x4096 : Shape := ⟨3, ![8, 10, 4096]⟩
abbrev S64x3 : Shape := ⟨2, ![64, 3]⟩
abbrev S64 : Shape := ⟨1, ![64]⟩
abbrev S64x13 : Shape := ⟨2, ![64, 13]⟩
abbrev S64x64 : Shape := ⟨2, ![64, 64]⟩
abbrev S128x64 : Shape := ⟨2, ![128, 64]⟩
abbrev S128 : Shape := ⟨1, ![128]⟩
abbrev S8x4096x10 : Shape := ⟨3, ![8, 4096, 10]⟩
abbrev S_ : Shape := ⟨0, ![]⟩
abbrev S8x512 : Shape := ⟨2, ![8, 512]⟩
abbrev S8x4096 : Shape := ⟨2, ![8, 4096]⟩
abbrev S8 : Shape := ⟨1, ![8]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x512x1 : Shape := ⟨3, ![8, 512, 1]⟩
abbrev S8x512x3 : Shape := ⟨3, ![8, 512, 3]⟩
abbrev S8x1x4096 : Shape := ⟨3, ![8, 1, 4096]⟩
abbrev S8x512x4096 : Shape := ⟨3, ![8, 512, 4096]⟩
abbrev S4096 : Shape := ⟨1, ![4096]⟩
abbrev S1x1x4096 : Shape := ⟨3, ![1, 1, 4096]⟩
abbrev S8x512x32 : Shape := ⟨3, ![8, 512, 32]⟩
abbrev S8x512x32x1 : Shape := ⟨4, ![8, 512, 32, 1]⟩
abbrev S8x512x32x3 : Shape := ⟨4, ![8, 512, 32, 3]⟩
abbrev S8x512x1x3 : Shape := ⟨4, ![8, 512, 1, 3]⟩
abbrev S8x512x32x10 : Shape := ⟨4, ![8, 512, 32, 10]⟩
abbrev S8x512x32x16 : Shape := ⟨4, ![8, 512, 32, 16]⟩
abbrev S8x16x32x512 : Shape := ⟨4, ![8, 16, 32, 512]⟩
abbrev S8x3x32x512 : Shape := ⟨4, ![8, 3, 32, 512]⟩
abbrev S8x32x512x64 : Shape := ⟨4, ![8, 32, 512, 64]⟩
abbrev S8x64x32x512 : Shape := ⟨4, ![8, 64, 32, 512]⟩
abbrev S1x64x1x1 : Shape := ⟨4, ![1, 64, 1, 1]⟩
abbrev S8x13x32x512 : Shape := ⟨4, ![8, 13, 32, 512]⟩
abbrev S8x32x512x128 : Shape := ⟨4, ![8, 32, 512, 128]⟩
abbrev S8x128x32x512 : Shape := ⟨4, ![8, 128, 32, 512]⟩
abbrev S1x128x1x1 : Shape := ⟨4, ![1, 128, 1, 1]⟩
abbrev S8x128x512 : Shape := ⟨3, ![8, 128, 512]⟩

abbrev nBuf : Space → Nat
  | .hbm => 404
  | .vmem => 0
  | .smem => 0
  | _ => 0

abbrev hbmTy0_0 (i : Nat) : BufTy := match i % 128 with
  | 0 => ⟨S8x4096x3, .f32⟩
  | 1 => ⟨S8x4096x3, .f32⟩
  | 2 => ⟨S8x10x4096, .f32⟩
  | 3 => ⟨S64x3, .f32⟩
  | 4 => ⟨S64, .f32⟩
  | 5 => ⟨S64, .f32⟩
  | 6 => ⟨S64, .f32⟩
  | 7 => ⟨S64x13, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S128x64, .f32⟩
  | 16 => ⟨S128, .f32⟩
  | 17 => ⟨S128, .f32⟩
  | 18 => ⟨S128, .f32⟩
  | 19 => ⟨S8x4096x10, .f32⟩
  | 20 => ⟨S_, .i32⟩
  | 21 => ⟨S8x512, .i32⟩
  | 22 => ⟨S_, .f32⟩
  | 23 => ⟨S8x4096, .f32⟩
  | 24 => ⟨S_, .i32⟩
  | 25 => ⟨S8, .i32⟩
  | 26 => ⟨S_, .i32⟩
  | 27 => ⟨S_, .i32⟩
  | 28 => ⟨S8x4096x3, .f32⟩
  | 29 => ⟨S_, .i32⟩
  | 30 => ⟨S_, .i32⟩
  | 31 => ⟨S8x512, .i32⟩
  | 32 => ⟨S8x4096, .f32⟩
  | 33 => ⟨S8, .i32⟩
  | 34 => ⟨S_, .i32⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1, .i32⟩
  | 45 => ⟨S8x512, .i32⟩
  | 46 => ⟨S8x1x1, .i32⟩
  | 47 => ⟨S_, .i32⟩
  | 48 => ⟨S8x1x1, .i32⟩
  | 49 => ⟨S8x1x1, .i1⟩
  | 50 => ⟨S_, .i32⟩
  | 51 => ⟨S8x1x1, .i32⟩
  | 52 => ⟨S8x1x1, .i32⟩
  | 53 => ⟨S8x1x1, .i32⟩
  | 54 => ⟨S1, .i32⟩
  | 55 => ⟨S_, .i32⟩
  | 56 => ⟨S8x1x1, .i32⟩
  | 57 => ⟨S8x1x1, .i1⟩
  | 58 => ⟨S1x1x1, .i32⟩
  | 59 => ⟨S8x1x1, .i32⟩
  | 60 => ⟨S8x1x1, .i1⟩
  | 61 => ⟨S8x1x1, .i1⟩
  | 62 => ⟨S_, .i1⟩
  | 63 => ⟨S8x1, .i1⟩
  | 64 => ⟨S8x1x3, .f32⟩
  | 65 => ⟨S8x1x3, .i1⟩
  | 66 => ⟨S_, .f32⟩
  | 67 => ⟨S8x1x3, .f32⟩
  | 68 => ⟨S8x1x3, .f32⟩
  | 69 => ⟨S8x4096x3, .f32⟩
  | 70 => ⟨S8x4096x3, .f32⟩
  | 71 => ⟨S8x4096x3, .f32⟩
  | 72 => ⟨S_, .f32⟩
  | 73 => ⟨S8x4096, .f32⟩
  | 74 => ⟨S8x4096, .f32⟩
  | 75 => ⟨S8x4096, .i32⟩
  | 76 => ⟨S_, .f32⟩
  | 77 => ⟨S_, .i32⟩
  | 78 => ⟨S8, .f32⟩
  | 79 => ⟨S8, .i32⟩
  | 80 => ⟨S_, .i32⟩
  | 81 => ⟨S_, .i32⟩
  | 82 => ⟨S8x512x1, .i32⟩
  | 83 => ⟨S_, .i32⟩
  | 84 => ⟨S8x512x1, .i32⟩
  | 85 => ⟨S8x512x1, .i1⟩
  | 86 => ⟨S_, .i32⟩
  | 87 => ⟨S8x512x1, .i32⟩
  | 88 => ⟨S8x512x1, .i32⟩
  | 89 => ⟨S8x512x1, .i32⟩
  | 90 => ⟨S1, .i32⟩
  | 91 => ⟨S_, .i32⟩
  | 92 => ⟨S8x512x1, .i32⟩
  | 93 => ⟨S8x512x1, .i1⟩
  | 94 => ⟨S1x1x1, .i32⟩
  | 95 => ⟨S8x512x1, .i32⟩
  | 96 => ⟨S8x512x1, .i1⟩
  | 97 => ⟨S8x512x1, .i1⟩
  | 98 => ⟨S_, .i1⟩
  | 99 => ⟨S8x512, .i1⟩
  | 100 => ⟨S8x512x3, .f32⟩
  | 101 => ⟨S8x512x3, .i1⟩
  | 102 => ⟨S_, .f32⟩
  | 103 => ⟨S8x512x3, .f32⟩
  | 104 => ⟨S8x512x3, .f32⟩
  | 105 => ⟨S8x512x1, .i32⟩
  | 106 => ⟨S_, .i32⟩
  | 107 => ⟨S8x512x1, .i32⟩
  | 108 => ⟨S8x512x1, .i1⟩
  | 109 => ⟨S_, .i32⟩
  | 110 => ⟨S8x512x1, .i32⟩
  | 111 => ⟨S8x512x1, .i32⟩
  | 112 => ⟨S8x512x1, .i32⟩
  | 113 => ⟨S1, .i32⟩
  | 114 => ⟨S_, .i32⟩
  | 115 => ⟨S8x512x1, .i32⟩
  | 116 => ⟨S8x512x1, .i1⟩
  | 117 => ⟨S1x1x1, .i32⟩
  | 118 => ⟨S8x512x1, .i32⟩
  | 119 => ⟨S8x512x1, .i1⟩
  | 120 => ⟨S8x512x1, .i1⟩
  | 121 => ⟨S_, .i1⟩
  | 122 => ⟨S8x512, .i1⟩
  | 123 => ⟨S8x512x3, .f32⟩
  | 124 => ⟨S8x512x3, .i1⟩
  | 125 => ⟨S_, .f32⟩
  | 126 => ⟨S8x512x3, .f32⟩
  | 127 => ⟨S8x512x3, .f32⟩
  | _ => ⟨S8x4096x3, .f32⟩

abbrev hbmTy0_1 (i : Nat) : BufTy := match i % 128 with
  | 0 => ⟨S8x512x3, .f32⟩
  | 1 => ⟨S_, .f32⟩
  | 2 => ⟨S8x512, .f32⟩
  | 3 => ⟨S8x512x1, .f32⟩
  | 4 => ⟨S8x4096x3, .f32⟩
  | 5 => ⟨S_, .f32⟩
  | 6 => ⟨S8x4096, .f32⟩
  | 7 => ⟨S8x1x4096, .f32⟩
  | 8 => ⟨S8x512x4096, .f32⟩
  | 9 => ⟨S8x512x4096, .f32⟩
  | 10 => ⟨S8x512x4096, .f32⟩
  | 11 => ⟨S8x512x4096, .f32⟩
  | 12 => ⟨S_, .f32⟩
  | 13 => ⟨S8x512x4096, .f32⟩
  | 14 => ⟨S8x512x4096, .f32⟩
  | 15 => ⟨S8x512x4096, .f32⟩
  | 16 => ⟨S4096, .i32⟩
  | 17 => ⟨S1x1x4096, .i32⟩
  | 18 => ⟨S8x512x4096, .i32⟩
  | 19 => ⟨S_, .f32⟩
  | 20 => ⟨S8x512x4096, .f32⟩
  | 21 => ⟨S8x512x4096, .i1⟩
  | 22 => ⟨S_, .i32⟩
  | 23 => ⟨S_, .i32⟩
  | 24 => ⟨S8x512x4096, .i32⟩
  | 25 => ⟨S8x512x4096, .i32⟩
  | 26 => ⟨S8x512x4096, .i32⟩
  | 27 => ⟨S8x512x32, .i32⟩
  | 28 => ⟨S8x512x1, .i32⟩
  | 29 => ⟨S8x512x32, .i32⟩
  | 30 => ⟨S_, .i32⟩
  | 31 => ⟨S8x512x32, .i32⟩
  | 32 => ⟨S8x512x32, .i1⟩
  | 33 => ⟨S8x512x32, .i32⟩
  | 34 => ⟨S_, .i32⟩
  | 35 => ⟨S8x512x32, .i32⟩
  | 36 => ⟨S8x512x32, .i1⟩
  | 37 => ⟨S_, .i32⟩
  | 38 => ⟨S8x512x32, .i32⟩
  | 39 => ⟨S8x512x32, .i32⟩
  | 40 => ⟨S8x512x32, .i32⟩
  | 41 => ⟨S8x512x32x1, .i32⟩
  | 42 => ⟨S8x512x32x3, .f32⟩
  | 43 => ⟨S_, .i32⟩
  | 44 => ⟨S8x512x32, .i32⟩
  | 45 => ⟨S8x512x32, .i1⟩
  | 46 => ⟨S_, .i32⟩
  | 47 => ⟨S8x512x32, .i32⟩
  | 48 => ⟨S8x512x32, .i32⟩
  | 49 => ⟨S8x512x32, .i32⟩
  | 50 => ⟨S8x512x32x1, .i32⟩
  | 51 => ⟨S8x512x32x3, .f32⟩
  | 52 => ⟨S8x512x1x3, .f32⟩
  | 53 => ⟨S8x512x32x3, .f32⟩
  | 54 => ⟨S8x512x32x3, .f32⟩
  | 55 => ⟨S_, .i32⟩
  | 56 => ⟨S8x512x32, .i32⟩
  | 57 => ⟨S8x512x32, .i1⟩
  | 58 => ⟨S_, .i32⟩
  | 59 => ⟨S8x512x32, .i32⟩
  | 60 => ⟨S8x512x32, .i32⟩
  | 61 => ⟨S8x512x32, .i32⟩
  | 62 => ⟨S8x512x32x1, .i32⟩
  | 63 => ⟨S8x512x32x10, .f32⟩
  | 64 => ⟨S8x512x32x16, .f32⟩
  | 65 => ⟨S8x16x32x512, .f32⟩
  | 66 => ⟨S8x3x32x512, .f32⟩
  | 67 => ⟨S8x32x512x64, .f32⟩
  | 68 => ⟨S8x64x32x512, .f32⟩
  | 69 => ⟨S1x64x1x1, .f32⟩
  | 70 => ⟨S8x64x32x512, .f32⟩
  | 71 => ⟨S8x64x32x512, .f32⟩
  | 72 => ⟨S_, .f32⟩
  | 73 => ⟨S64, .f32⟩
  | 74 => ⟨S1x64x1x1, .f32⟩
  | 75 => ⟨S_, .f32⟩
  | 76 => ⟨S1x64x1x1, .f32⟩
  | 77 => ⟨S1x64x1x1, .f32⟩
  | 78 => ⟨S_, .i32⟩
  | 79 => ⟨S_, .f32⟩
  | 80 => ⟨S64, .f32⟩
  | 81 => ⟨S1x64x1x1, .f32⟩
  | 82 => ⟨S_, .f32⟩
  | 83 => ⟨S1x64x1x1, .f32⟩
  | 84 => ⟨S1x64x1x1, .f32⟩
  | 85 => ⟨S8x64x32x512, .f32⟩
  | 86 => ⟨S8x64x32x512, .f32⟩
  | 87 => ⟨S8x64x32x512, .f32⟩
  | 88 => ⟨S_, .f32⟩
  | 89 => ⟨S_, .f32⟩
  | 90 => ⟨S_, .f32⟩
  | 91 => ⟨S_, .f32⟩
  | 92 => ⟨S64, .f32⟩
  | 93 => ⟨S1x64x1x1, .f32⟩
  | 94 => ⟨S1x64x1x1, .f32⟩
  | 95 => ⟨S1x64x1x1, .f32⟩
  | 96 => ⟨S_, .f32⟩
  | 97 => ⟨S_, .i1⟩
  | 98 => ⟨S_, .f32⟩
  | 99 => ⟨S_, .f32⟩
  | 100 => ⟨S1x64x1x1, .f32⟩
  | 101 => ⟨S1x64x1x1, .f32⟩
  | 102 => ⟨S8x64x32x512, .f32⟩
  | 103 => ⟨S8x64x32x512, .f32⟩
  | 104 => ⟨S_, .f32⟩
  | 105 => ⟨S1x64x1x1, .f32⟩
  | 106 => ⟨S1x64x1x1, .f32⟩
  | 107 => ⟨S1x64x1x1, .f32⟩
  | 108 => ⟨S8x64x32x512, .f32⟩
  | 109 => ⟨S8x64x32x512, .f32⟩
  | 110 => ⟨S1x64x1x1, .f32⟩
  | 111 => ⟨S8x64x32x512, .f32⟩
  | 112 => ⟨S8x64x32x512, .f32⟩
  | 113 => ⟨S1x64x1x1, .f32⟩
  | 114 => ⟨S8x64x32x512, .f32⟩
  | 115 => ⟨S8x64x32x512, .f32⟩
  | 116 => ⟨S8x13x32x512, .f32⟩
  | 117 => ⟨S8x32x512x64, .f32⟩
  | 118 => ⟨S8x64x32x512, .f32⟩
  | 119 => ⟨S1x64x1x1, .f32⟩
  | 120 => ⟨S8x64x32x512, .f32⟩
  | 121 => ⟨S8x64x32x512, .f32⟩
  | 122 => ⟨S_, .f32⟩
  | 123 => ⟨S64, .f32⟩
  | 124 => ⟨S1x64x1x1, .f32⟩
  | 125 => ⟨S_, .f32⟩
  | 126 => ⟨S1x64x1x1, .f32⟩
  | 127 => ⟨S1x64x1x1, .f32⟩
  | _ => ⟨S8x4096x3, .f32⟩

abbrev hbmTy0_2 (i : Nat) : BufTy := match i % 128 with
  | 0 => ⟨S_, .i32⟩
  | 1 => ⟨S_, .f32⟩
  | 2 => ⟨S64, .f32⟩
  | 3 => ⟨S1x64x1x1, .f32⟩
  | 4 => ⟨S_, .f32⟩
  | 5 => ⟨S1x64x1x1, .f32⟩
  | 6 => ⟨S1x64x1x1, .f32⟩
  | 7 => ⟨S8x64x32x512, .f32⟩
  | 8 => ⟨S8x64x32x512, .f32⟩
  | 9 => ⟨S8x64x32x512, .f32⟩
  | 10 => ⟨S_, .f32⟩
  | 11 => ⟨S_, .f32⟩
  | 12 => ⟨S_, .f32⟩
  | 13 => ⟨S_, .f32⟩
  | 14 => ⟨S64, .f32⟩
  | 15 => ⟨S1x64x1x1, .f32⟩
  | 16 => ⟨S1x64x1x1, .f32⟩
  | 17 => ⟨S1x64x1x1, .f32⟩
  | 18 => ⟨S_, .f32⟩
  | 19 => ⟨S_, .i1⟩
  | 20 => ⟨S_, .f32⟩
  | 21 => ⟨S_, .f32⟩
  | 22 => ⟨S1x64x1x1, .f32⟩
  | 23 => ⟨S1x64x1x1, .f32⟩
  | 24 => ⟨S8x64x32x512, .f32⟩
  | 25 => ⟨S8x64x32x512, .f32⟩
  | 26 => ⟨S_, .f32⟩
  | 27 => ⟨S1x64x1x1, .f32⟩
  | 28 => ⟨S1x64x1x1, .f32⟩
  | 29 => ⟨S1x64x1x1, .f32⟩
  | 30 => ⟨S8x64x32x512, .f32⟩
  | 31 => ⟨S8x64x32x512, .f32⟩
  | 32 => ⟨S1x64x1x1, .f32⟩
  | 33 => ⟨S8x64x32x512, .f32⟩
  | 34 => ⟨S8x64x32x512, .f32⟩
  | 35 => ⟨S1x64x1x1, .f32⟩
  | 36 => ⟨S8x64x32x512, .f32⟩
  | 37 => ⟨S8x64x32x512, .f32⟩
  | 38 => ⟨S8x64x32x512, .f32⟩
  | 39 => ⟨S_, .f32⟩
  | 40 => ⟨S8x64x32x512, .f32⟩
  | 41 => ⟨S8x64x32x512, .f32⟩
  | 42 => ⟨S8x32x512x64, .f32⟩
  | 43 => ⟨S8x64x32x512, .f32⟩
  | 44 => ⟨S1x64x1x1, .f32⟩
  | 45 => ⟨S8x64x32x512, .f32⟩
  | 46 => ⟨S8x64x32x512, .f32⟩
  | 47 => ⟨S_, .f32⟩
  | 48 => ⟨S64, .f32⟩
  | 49 => ⟨S1x64x1x1, .f32⟩
  | 50 => ⟨S_, .f32⟩
  | 51 => ⟨S1x64x1x1, .f32⟩
  | 52 => ⟨S1x64x1x1, .f32⟩
  | 53 => ⟨S_, .i32⟩
  | 54 => ⟨S_, .f32⟩
  | 55 => ⟨S64, .f32⟩
  | 56 => ⟨S1x64x1x1, .f32⟩
  | 57 => ⟨S_, .f32⟩
  | 58 => ⟨S1x64x1x1, .f32⟩
  | 59 => ⟨S1x64x1x1, .f32⟩
  | 60 => ⟨S8x64x32x512, .f32⟩
  | 61 => ⟨S8x64x32x512, .f32⟩
  | 62 => ⟨S8x64x32x512, .f32⟩
  | 63 => ⟨S_, .f32⟩
  | 64 => ⟨S_, .f32⟩
  | 65 => ⟨S_, .f32⟩
  | 66 => ⟨S_, .f32⟩
  | 67 => ⟨S64, .f32⟩
  | 68 => ⟨S1x64x1x1, .f32⟩
  | 69 => ⟨S1x64x1x1, .f32⟩
  | 70 => ⟨S1x64x1x1, .f32⟩
  | 71 => ⟨S_, .f32⟩
  | 72 => ⟨S_, .i1⟩
  | 73 => ⟨S_, .f32⟩
  | 74 => ⟨S_, .f32⟩
  | 75 => ⟨S1x64x1x1, .f32⟩
  | 76 => ⟨S1x64x1x1, .f32⟩
  | 77 => ⟨S8x64x32x512, .f32⟩
  | 78 => ⟨S8x64x32x512, .f32⟩
  | 79 => ⟨S_, .f32⟩
  | 80 => ⟨S1x64x1x1, .f32⟩
  | 81 => ⟨S1x64x1x1, .f32⟩
  | 82 => ⟨S1x64x1x1, .f32⟩
  | 83 => ⟨S8x64x32x512, .f32⟩
  | 84 => ⟨S8x64x32x512, .f32⟩
  | 85 => ⟨S1x64x1x1, .f32⟩
  | 86 => ⟨S8x64x32x512, .f32⟩
  | 87 => ⟨S8x64x32x512, .f32⟩
  | 88 => ⟨S1x64x1x1, .f32⟩
  | 89 => ⟨S8x64x32x512, .f32⟩
  | 90 => ⟨S8x64x32x512, .f32⟩
  | 91 => ⟨S_, .f32⟩
  | 92 => ⟨S8x64x32x512, .f32⟩
  | 93 => ⟨S8x64x32x512, .f32⟩
  | 94 => ⟨S8x32x512x128, .f32⟩
  | 95 => ⟨S8x128x32x512, .f32⟩
  | 96 => ⟨S1x128x1x1, .f32⟩
  | 97 => ⟨S8x128x32x512, .f32⟩
  | 98 => ⟨S8x128x32x512, .f32⟩
  | 99 => ⟨S_, .f32⟩
  | 100 => ⟨S128, .f32⟩
  | 101 => ⟨S1x128x1x1, .f32⟩
  | 102 => ⟨S_, .f32⟩
  | 103 => ⟨S1x128x1x1, .f32⟩
  | 104 => ⟨S1x128x1x1, .f32⟩
  | 105 => ⟨S_, .i32⟩
  | 106 => ⟨S_, .f32⟩
  | 107 => ⟨S128, .f32⟩
  | 108 => ⟨S1x128x1x1, .f32⟩
  | 109 => ⟨S_, .f32⟩
  | 110 => ⟨S1x128x1x1, .f32⟩
  | 111 => ⟨S1x128x1x1, .f32⟩
  | 112 => ⟨S8x128x32x512, .f32⟩
  | 113 => ⟨S8x128x32x512, .f32⟩
  | 114 => ⟨S8x128x32x512, .f32⟩
  | 115 => ⟨S_, .f32⟩
  | 116 => ⟨S_, .f32⟩
  | 117 => ⟨S_, .f32⟩
  | 118 => ⟨S_, .f32⟩
  | 119 => ⟨S128, .f32⟩
  | 120 => ⟨S1x128x1x1, .f32⟩
  | 121 => ⟨S1x128x1x1, .f32⟩
  | 122 => ⟨S1x128x1x1, .f32⟩
  | 123 => ⟨S_, .f32⟩
  | 124 => ⟨S_, .i1⟩
  | 125 => ⟨S_, .f32⟩
  | 126 => ⟨S_, .f32⟩
  | 127 => ⟨S1x128x1x1, .f32⟩
  | _ => ⟨S8x4096x3, .f32⟩

abbrev hbmTy0_3 (i : Nat) : BufTy := match i % 128 with
  | 0 => ⟨S1x128x1x1, .f32⟩
  | 1 => ⟨S8x128x32x512, .f32⟩
  | 2 => ⟨S8x128x32x512, .f32⟩
  | 3 => ⟨S_, .f32⟩
  | 4 => ⟨S1x128x1x1, .f32⟩
  | 5 => ⟨S1x128x1x1, .f32⟩
  | 6 => ⟨S1x128x1x1, .f32⟩
  | 7 => ⟨S8x128x32x512, .f32⟩
  | 8 => ⟨S8x128x32x512, .f32⟩
  | 9 => ⟨S1x128x1x1, .f32⟩
  | 10 => ⟨S8x128x32x512, .f32⟩
  | 11 => ⟨S8x128x32x512, .f32⟩
  | 12 => ⟨S1x128x1x1, .f32⟩
  | 13 => ⟨S8x128x32x512, .f32⟩
  | 14 => ⟨S8x128x32x512, .f32⟩
  | 15 => ⟨S_, .f32⟩
  | 16 => ⟨S8x128x32x512, .f32⟩
  | 17 => ⟨S8x128x32x512, .f32⟩
  | 18 => ⟨S_, .f32⟩
  | 19 => ⟨S8x128x512, .f32⟩
  | _ => ⟨S8x4096x3, .f32⟩

abbrev hbmTy (i : Nat) : BufTy := match i / 128 with
  | 0 => hbmTy0_0 i
  | 1 => hbmTy0_1 i
  | 2 => hbmTy0_2 i
  | 3 => hbmTy0_3 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_c_1 : Ref sig .tc := ⟨.hbm, 26, rfl⟩
abbrev main_c_2 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v4_3 : Ref sig .tc := ⟨.hbm, 31, rfl⟩
abbrev main_v4_4 : Ref sig .tc := ⟨.hbm, 32, rfl⟩
abbrev main_v4_5 : Ref sig .tc := ⟨.hbm, 33, rfl⟩
abbrev main_while0c_c_37 : Ref sig .tc := ⟨.hbm, 34, rfl⟩
abbrev main_while0c_v160 : Ref sig .tc := ⟨.hbm, 35, rfl⟩
abbrev main_while0b_c_37 : Ref sig .tc := ⟨.hbm, 36, rfl⟩
abbrev main_while0b_v160 : Ref sig .tc := ⟨.hbm, 37, rfl⟩
abbrev main_while0b_c_38 : Ref sig .tc := ⟨.hbm, 38, rfl⟩
abbrev main_while0b_v161 : Ref sig .tc := ⟨.hbm, 39, rfl⟩
abbrev main_while0b_c_39 : Ref sig .tc := ⟨.hbm, 40, rfl⟩
abbrev main_while0b_v162 : Ref sig .tc := ⟨.hbm, 41, rfl⟩
abbrev main_while0b_v163 : Ref sig .tc := ⟨.hbm, 42, rfl⟩
abbrev main_while0b_v164 : Ref sig .tc := ⟨.hbm, 43, rfl⟩
abbrev main_while0b_v165 : Ref sig .tc := ⟨.hbm, 44, rfl⟩
abbrev main_while0b_v166 : Ref sig .tc := ⟨.hbm, 45, rfl⟩
abbrev main_while0b_v167 : Ref sig .tc := ⟨.hbm, 46, rfl⟩
abbrev main_while0b_call0_c : Ref sig .tc := ⟨.hbm, 47, rfl⟩
abbrev main_while0b_call0_v0 : Ref sig .tc := ⟨.hbm, 48, rfl⟩
abbrev main_while0b_call0_v1 : Ref sig .tc := ⟨.hbm, 49, rfl⟩
abbrev main_while0b_call0_c_0 : Ref sig .tc := ⟨.hbm, 50, rfl⟩
abbrev main_while0b_call0_v2 : Ref sig .tc := ⟨.hbm, 51, rfl⟩
abbrev main_while0b_call0_v3 : Ref sig .tc := ⟨.hbm, 52, rfl⟩
abbrev main_while0b_call0_v4 : Ref sig .tc := ⟨.hbm, 53, rfl⟩
abbrev main_while0b_call0_c_1 : Ref sig .tc := ⟨.hbm, 54, rfl⟩
abbrev main_while0b_call0_c_2 : Ref sig .tc := ⟨.hbm, 55, rfl⟩
abbrev main_while0b_call0_v5 : Ref sig .tc := ⟨.hbm, 56, rfl⟩
abbrev main_while0b_call0_v6 : Ref sig .tc := ⟨.hbm, 57, rfl⟩
abbrev main_while0b_call0_v7 : Ref sig .tc := ⟨.hbm, 58, rfl⟩
abbrev main_while0b_call0_v8 : Ref sig .tc := ⟨.hbm, 59, rfl⟩
abbrev main_while0b_call0_v9 : Ref sig .tc := ⟨.hbm, 60, rfl⟩
abbrev main_while0b_call0_v10 : Ref sig .tc := ⟨.hbm, 61, rfl⟩
abbrev main_while0b_call0_c_3 : Ref sig .tc := ⟨.hbm, 62, rfl⟩
abbrev main_while0b_call0_v11 : Ref sig .tc := ⟨.hbm, 63, rfl⟩
abbrev main_while0b_call0_v12 : Ref sig .tc := ⟨.hbm, 64, rfl⟩
abbrev main_while0b_call0_v13 : Ref sig .tc := ⟨.hbm, 65, rfl⟩
abbrev main_while0b_call0_cst : Ref sig .tc := ⟨.hbm, 66, rfl⟩
abbrev main_while0b_call0_v14 : Ref sig .tc := ⟨.hbm, 67, rfl⟩
abbrev main_while0b_v168 : Ref sig .tc := ⟨.hbm, 68, rfl⟩
abbrev main_while0b_v169 : Ref sig .tc := ⟨.hbm, 69, rfl⟩
abbrev main_while0b_v170 : Ref sig .tc := ⟨.hbm, 70, rfl⟩
abbrev main_while0b_v171 : Ref sig .tc := ⟨.hbm, 71, rfl⟩
abbrev main_while0b_cst_40 : Ref sig .tc := ⟨.hbm, 72, rfl⟩
abbrev main_while0b_v172 : Ref sig .tc := ⟨.hbm, 73, rfl⟩
abbrev main_while0b_v173 : Ref sig .tc := ⟨.hbm, 74, rfl⟩
abbrev main_while0b_call1_v0 : Ref sig .tc := ⟨.hbm, 75, rfl⟩
abbrev main_while0b_call1_cst : Ref sig .tc := ⟨.hbm, 76, rfl⟩
abbrev main_while0b_call1_c : Ref sig .tc := ⟨.hbm, 77, rfl⟩
abbrev main_while0b_call1_v1_0 : Ref sig .tc := ⟨.hbm, 78, rfl⟩
abbrev main_while0b_v174 : Ref sig .tc := ⟨.hbm, 79, rfl⟩
abbrev main_while0b_c_41 : Ref sig .tc := ⟨.hbm, 80, rfl⟩
abbrev main_while0b_v175 : Ref sig .tc := ⟨.hbm, 81, rfl⟩
abbrev main_v5 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_c_2 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_c_3 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_cst : Ref sig .tc := ⟨.hbm, 102, rfl⟩
abbrev main_call2_v14 : Ref sig .tc := ⟨.hbm, 103, rfl⟩
abbrev main_v6 : Ref sig .tc := ⟨.hbm, 104, rfl⟩
abbrev main_v7 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_c_2 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_c_3 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_cst : Ref sig .tc := ⟨.hbm, 125, rfl⟩
abbrev main_call3_v14 : Ref sig .tc := ⟨.hbm, 126, rfl⟩
abbrev main_v8 : Ref sig .tc := ⟨.hbm, 127, rfl⟩
abbrev main_v9 : Ref sig .tc := ⟨.hbm, 128, rfl⟩
abbrev main_cst_3 : Ref sig .tc := ⟨.hbm, 129, rfl⟩
abbrev main_v10 : Ref sig .tc := ⟨.hbm, 130, rfl⟩
abbrev main_v11 : Ref sig .tc := ⟨.hbm, 131, rfl⟩
abbrev main_v12 : Ref sig .tc := ⟨.hbm, 132, rfl⟩
abbrev main_cst_4 : Ref sig .tc := ⟨.hbm, 133, rfl⟩
abbrev main_v13 : Ref sig .tc := ⟨.hbm, 134, rfl⟩
abbrev main_v14 : Ref sig .tc := ⟨.hbm, 135, rfl⟩
abbrev main_v15 : Ref sig .tc := ⟨.hbm, 136, rfl⟩
abbrev main_v16 : Ref sig .tc := ⟨.hbm, 137, rfl⟩
abbrev main_v17 : Ref sig .tc := ⟨.hbm, 138, rfl⟩
abbrev main_v18 : Ref sig .tc := ⟨.hbm, 139, rfl⟩
abbrev main_cst_5 : Ref sig .tc := ⟨.hbm, 140, rfl⟩
abbrev main_v19 : Ref sig .tc := ⟨.hbm, 141, rfl⟩
abbrev main_v20 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_v24 : Ref sig .tc := ⟨.hbm, 146, rfl⟩
abbrev main_cst_6 : Ref sig .tc := ⟨.hbm, 147, rfl⟩
abbrev main_v25 : Ref sig .tc := ⟨.hbm, 148, rfl⟩
abbrev main_v26 : Ref sig .tc := ⟨.hbm, 149, rfl⟩
abbrev main_c_7 : Ref sig .tc := ⟨.hbm, 150, rfl⟩
abbrev main_call4_v0 : Ref sig .tc := ⟨.hbm, 151, rfl⟩
abbrev main_call4_v1 : Ref sig .tc := ⟨.hbm, 152, rfl⟩
abbrev main_v27 : Ref sig .tc := ⟨.hbm, 153, rfl⟩
abbrev main_v28 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_c_8 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_c_9 : Ref sig .tc := ⟨.hbm, 162, rfl⟩
abbrev main_v35 : Ref sig .tc := ⟨.hbm, 163, rfl⟩
abbrev main_v36 : Ref sig .tc := ⟨.hbm, 164, rfl⟩
abbrev main_c_10 : Ref sig .tc := ⟨.hbm, 165, rfl⟩
abbrev main_v37 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_c_11 : Ref sig .tc := ⟨.hbm, 171, rfl⟩
abbrev main_v42 : Ref sig .tc := ⟨.hbm, 172, rfl⟩
abbrev main_v43 : Ref sig .tc := ⟨.hbm, 173, rfl⟩
abbrev main_c_12 : Ref sig .tc := ⟨.hbm, 174, rfl⟩
abbrev main_v44 : Ref sig .tc := ⟨.hbm, 175, rfl⟩
abbrev main_v45 : Ref sig .tc := ⟨.hbm, 176, rfl⟩
abbrev main_v46 : Ref sig .tc := ⟨.hbm, 177, rfl⟩
abbrev main_v47 : Ref sig .tc := ⟨.hbm, 178, rfl⟩
abbrev main_v48 : Ref sig .tc := ⟨.hbm, 179, rfl⟩
abbrev main_v49 : Ref sig .tc := ⟨.hbm, 180, rfl⟩
abbrev main_v50 : Ref sig .tc := ⟨.hbm, 181, rfl⟩
abbrev main_v51 : Ref sig .tc := ⟨.hbm, 182, rfl⟩
abbrev main_c_13 : Ref sig .tc := ⟨.hbm, 183, rfl⟩
abbrev main_v52 : Ref sig .tc := ⟨.hbm, 184, rfl⟩
abbrev main_v53 : Ref sig .tc := ⟨.hbm, 185, rfl⟩
abbrev main_c_14 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_cst_15 : Ref sig .tc := ⟨.hbm, 200, rfl⟩
abbrev main_v67 : Ref sig .tc := ⟨.hbm, 201, rfl⟩
abbrev main_v68 : Ref sig .tc := ⟨.hbm, 202, rfl⟩
abbrev main_cst_16 : Ref sig .tc := ⟨.hbm, 203, rfl⟩
abbrev main_v69 : Ref sig .tc := ⟨.hbm, 204, rfl⟩
abbrev main_v70 : Ref sig .tc := ⟨.hbm, 205, rfl⟩
abbrev main_c_17 : Ref sig .tc := ⟨.hbm, 206, rfl⟩
abbrev main_call7_cst : Ref sig .tc := ⟨.hbm, 207, rfl⟩
abbrev main_call7_v0 : Ref sig .tc := ⟨.hbm, 208, rfl⟩
abbrev main_call7_v1 : Ref sig .tc := ⟨.hbm, 209, rfl⟩
abbrev main_call7_cst_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_v6 : Ref sig .tc := ⟨.hbm, 215, rfl⟩
abbrev main_call7_v7 : Ref sig .tc := ⟨.hbm, 216, rfl⟩
abbrev main_call7_cst_1 : Ref sig .tc := ⟨.hbm, 217, rfl⟩
abbrev main_call7_v8 : Ref sig .tc := ⟨.hbm, 218, rfl⟩
abbrev main_call7_cst_2 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_v12 : Ref sig .tc := ⟨.hbm, 223, rfl⟩
abbrev main_call7_cst_3 : Ref sig .tc := ⟨.hbm, 224, rfl⟩
abbrev main_call7_v13 : Ref sig .tc := ⟨.hbm, 225, rfl⟩
abbrev main_call7_cst_4 : Ref sig .tc := ⟨.hbm, 226, rfl⟩
abbrev main_call7_call0_v0 : Ref sig .tc := ⟨.hbm, 227, rfl⟩
abbrev main_call7_call0_v1 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev main_cst_18 : Ref sig .tc := ⟨.hbm, 232, rfl⟩
abbrev main_v74 : Ref sig .tc := ⟨.hbm, 233, rfl⟩
abbrev main_v75 : Ref sig .tc := ⟨.hbm, 234, rfl⟩
abbrev main_v76 : Ref sig .tc := ⟨.hbm, 235, rfl⟩
abbrev main_v77 : Ref sig .tc := ⟨.hbm, 236, rfl⟩
abbrev main_v78 : Ref sig .tc := ⟨.hbm, 237, rfl⟩
abbrev main_v79 : Ref sig .tc := ⟨.hbm, 238, rfl⟩
abbrev main_v80 : Ref sig .tc := ⟨.hbm, 239, rfl⟩
abbrev main_v81 : Ref sig .tc := ⟨.hbm, 240, rfl⟩
abbrev main_v82 : Ref sig .tc := ⟨.hbm, 241, rfl⟩
abbrev main_v83 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_cst_19 : Ref sig .tc := ⟨.hbm, 250, rfl⟩
abbrev main_v91 : Ref sig .tc := ⟨.hbm, 251, rfl⟩
abbrev main_v92 : Ref sig .tc := ⟨.hbm, 252, rfl⟩
abbrev main_cst_20 : Ref sig .tc := ⟨.hbm, 253, rfl⟩
abbrev main_v93 : Ref sig .tc := ⟨.hbm, 254, rfl⟩
abbrev main_v94 : Ref sig .tc := ⟨.hbm, 255, rfl⟩
abbrev main_c_21 : Ref sig .tc := ⟨.hbm, 256, rfl⟩
abbrev main_call8_cst : Ref sig .tc := ⟨.hbm, 257, rfl⟩
abbrev main_call8_v0 : Ref sig .tc := ⟨.hbm, 258, rfl⟩
abbrev main_call8_v1 : Ref sig .tc := ⟨.hbm, 259, rfl⟩
abbrev main_call8_cst_0 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_call8_v5 : Ref sig .tc := ⟨.hbm, 264, rfl⟩
abbrev main_call8_v6 : Ref sig .tc := ⟨.hbm, 265, rfl⟩
abbrev main_call8_v7 : Ref sig .tc := ⟨.hbm, 266, rfl⟩
abbrev main_call8_cst_1 : Ref sig .tc := ⟨.hbm, 267, rfl⟩
abbrev main_call8_v8 : Ref sig .tc := ⟨.hbm, 268, rfl⟩
abbrev main_call8_cst_2 : Ref sig .tc := ⟨.hbm, 269, rfl⟩
abbrev main_call8_v9 : Ref sig .tc := ⟨.hbm, 270, rfl⟩
abbrev main_call8_v10 : Ref sig .tc := ⟨.hbm, 271, rfl⟩
abbrev main_call8_v11 : Ref sig .tc := ⟨.hbm, 272, rfl⟩
abbrev main_call8_v12 : Ref sig .tc := ⟨.hbm, 273, rfl⟩
abbrev main_call8_cst_3 : Ref sig .tc := ⟨.hbm, 274, rfl⟩
abbrev main_call8_v13 : Ref sig .tc := ⟨.hbm, 275, rfl⟩
abbrev main_call8_cst_4 : Ref sig .tc := ⟨.hbm, 276, rfl⟩
abbrev main_call8_call0_v0 : Ref sig .tc := ⟨.hbm, 277, rfl⟩
abbrev main_call8_call0_v1 : Ref sig .tc := ⟨.hbm, 278, rfl⟩
abbrev main_v95 : Ref sig .tc := ⟨.hbm, 279, rfl⟩
abbrev main_v96 : Ref sig .tc := ⟨.hbm, 280, rfl⟩
abbrev main_v97 : Ref sig .tc := ⟨.hbm, 281, rfl⟩
abbrev main_cst_22 : Ref sig .tc := ⟨.hbm, 282, rfl⟩
abbrev main_v98 : Ref sig .tc := ⟨.hbm, 283, rfl⟩
abbrev main_v99 : Ref sig .tc := ⟨.hbm, 284, rfl⟩
abbrev main_v100 : Ref sig .tc := ⟨.hbm, 285, rfl⟩
abbrev main_v101 : Ref sig .tc := ⟨.hbm, 286, rfl⟩
abbrev main_v102 : Ref sig .tc := ⟨.hbm, 287, rfl⟩
abbrev main_v103 : Ref sig .tc := ⟨.hbm, 288, rfl⟩
abbrev main_v104 : Ref sig .tc := ⟨.hbm, 289, rfl⟩
abbrev main_v105 : Ref sig .tc := ⟨.hbm, 290, rfl⟩
abbrev main_v106 : Ref sig .tc := ⟨.hbm, 291, rfl⟩
abbrev main_v107 : Ref sig .tc := ⟨.hbm, 292, rfl⟩
abbrev main_v108 : Ref sig .tc := ⟨.hbm, 293, rfl⟩
abbrev main_v109 : Ref sig .tc := ⟨.hbm, 294, rfl⟩
abbrev main_call9_cst : Ref sig .tc := ⟨.hbm, 295, rfl⟩
abbrev main_call9_v0 : Ref sig .tc := ⟨.hbm, 296, rfl⟩
abbrev main_v110 : Ref sig .tc := ⟨.hbm, 297, rfl⟩
abbrev main_v111 : Ref sig .tc := ⟨.hbm, 298, rfl⟩
abbrev main_v112 : Ref sig .tc := ⟨.hbm, 299, rfl⟩
abbrev main_v113 : Ref sig .tc := ⟨.hbm, 300, rfl⟩
abbrev main_v114 : Ref sig .tc := ⟨.hbm, 301, rfl⟩
abbrev main_v115 : Ref sig .tc := ⟨.hbm, 302, rfl⟩
abbrev main_cst_23 : Ref sig .tc := ⟨.hbm, 303, rfl⟩
abbrev main_v116 : Ref sig .tc := ⟨.hbm, 304, rfl⟩
abbrev main_v117 : Ref sig .tc := ⟨.hbm, 305, rfl⟩
abbrev main_cst_24 : Ref sig .tc := ⟨.hbm, 306, rfl⟩
abbrev main_v118 : Ref sig .tc := ⟨.hbm, 307, rfl⟩
abbrev main_v119 : Ref sig .tc := ⟨.hbm, 308, rfl⟩
abbrev main_c_25 : Ref sig .tc := ⟨.hbm, 309, rfl⟩
abbrev main_call10_cst : Ref sig .tc := ⟨.hbm, 310, rfl⟩
abbrev main_call10_v0 : Ref sig .tc := ⟨.hbm, 311, rfl⟩
abbrev main_call10_v1 : Ref sig .tc := ⟨.hbm, 312, rfl⟩
abbrev main_call10_cst_0 : Ref sig .tc := ⟨.hbm, 313, rfl⟩
abbrev main_call10_v2 : Ref sig .tc := ⟨.hbm, 314, rfl⟩
abbrev main_call10_v3 : Ref sig .tc := ⟨.hbm, 315, rfl⟩
abbrev main_call10_v4 : Ref sig .tc := ⟨.hbm, 316, rfl⟩
abbrev main_call10_v5 : Ref sig .tc := ⟨.hbm, 317, rfl⟩
abbrev main_call10_v6 : Ref sig .tc := ⟨.hbm, 318, rfl⟩
abbrev main_call10_v7 : Ref sig .tc := ⟨.hbm, 319, rfl⟩
abbrev main_call10_cst_1 : Ref sig .tc := ⟨.hbm, 320, rfl⟩
abbrev main_call10_v8 : Ref sig .tc := ⟨.hbm, 321, rfl⟩
abbrev main_call10_cst_2 : Ref sig .tc := ⟨.hbm, 322, rfl⟩
abbrev main_call10_v9 : Ref sig .tc := ⟨.hbm, 323, rfl⟩
abbrev main_call10_v10 : Ref sig .tc := ⟨.hbm, 324, rfl⟩
abbrev main_call10_v11 : Ref sig .tc := ⟨.hbm, 325, rfl⟩
abbrev main_call10_v12 : Ref sig .tc := ⟨.hbm, 326, rfl⟩
abbrev main_call10_cst_3 : Ref sig .tc := ⟨.hbm, 327, rfl⟩
abbrev main_call10_v13 : Ref sig .tc := ⟨.hbm, 328, rfl⟩
abbrev main_call10_cst_4 : Ref sig .tc := ⟨.hbm, 329, rfl⟩
abbrev main_call10_call0_v0 : Ref sig .tc := ⟨.hbm, 330, rfl⟩
abbrev main_call10_call0_v1 : Ref sig .tc := ⟨.hbm, 331, rfl⟩
abbrev main_v120 : Ref sig .tc := ⟨.hbm, 332, rfl⟩
abbrev main_v121 : Ref sig .tc := ⟨.hbm, 333, rfl⟩
abbrev main_v122 : Ref sig .tc := ⟨.hbm, 334, rfl⟩
abbrev main_cst_26 : Ref sig .tc := ⟨.hbm, 335, rfl⟩
abbrev main_v123 : Ref sig .tc := ⟨.hbm, 336, rfl⟩
abbrev main_v124 : Ref sig .tc := ⟨.hbm, 337, rfl⟩
abbrev main_v125 : Ref sig .tc := ⟨.hbm, 338, rfl⟩
abbrev main_v126 : Ref sig .tc := ⟨.hbm, 339, rfl⟩
abbrev main_v127 : Ref sig .tc := ⟨.hbm, 340, rfl⟩
abbrev main_v128 : Ref sig .tc := ⟨.hbm, 341, rfl⟩
abbrev main_v129 : Ref sig .tc := ⟨.hbm, 342, rfl⟩
abbrev main_v130 : Ref sig .tc := ⟨.hbm, 343, rfl⟩
abbrev main_v131 : Ref sig .tc := ⟨.hbm, 344, rfl⟩
abbrev main_v132 : Ref sig .tc := ⟨.hbm, 345, rfl⟩
abbrev main_v133 : Ref sig .tc := ⟨.hbm, 346, rfl⟩
abbrev main_call11_cst : Ref sig .tc := ⟨.hbm, 347, rfl⟩
abbrev main_call11_v0 : Ref sig .tc := ⟨.hbm, 348, rfl⟩
abbrev main_v134 : Ref sig .tc := ⟨.hbm, 349, rfl⟩
abbrev main_v135 : Ref sig .tc := ⟨.hbm, 350, rfl⟩
abbrev main_v136 : Ref sig .tc := ⟨.hbm, 351, rfl⟩
abbrev main_v137 : Ref sig .tc := ⟨.hbm, 352, rfl⟩
abbrev main_v138 : Ref sig .tc := ⟨.hbm, 353, rfl⟩
abbrev main_v139 : Ref sig .tc := ⟨.hbm, 354, rfl⟩
abbrev main_cst_27 : Ref sig .tc := ⟨.hbm, 355, rfl⟩
abbrev main_v140 : Ref sig .tc := ⟨.hbm, 356, rfl⟩
abbrev main_v141 : Ref sig .tc := ⟨.hbm, 357, rfl⟩
abbrev main_cst_28 : Ref sig .tc := ⟨.hbm, 358, rfl⟩
abbrev main_v142 : Ref sig .tc := ⟨.hbm, 359, rfl⟩
abbrev main_v143 : Ref sig .tc := ⟨.hbm, 360, rfl⟩
abbrev main_c_29 : Ref sig .tc := ⟨.hbm, 361, rfl⟩
abbrev main_call12_cst : Ref sig .tc := ⟨.hbm, 362, rfl⟩
abbrev main_call12_v0 : Ref sig .tc := ⟨.hbm, 363, rfl⟩
abbrev main_call12_v1 : Ref sig .tc := ⟨.hbm, 364, rfl⟩
abbrev main_call12_cst_0 : Ref sig .tc := ⟨.hbm, 365, rfl⟩
abbrev main_call12_v2 : Ref sig .tc := ⟨.hbm, 366, rfl⟩
abbrev main_call12_v3 : Ref sig .tc := ⟨.hbm, 367, rfl⟩
abbrev main_call12_v4 : Ref sig .tc := ⟨.hbm, 368, rfl⟩
abbrev main_call12_v5 : Ref sig .tc := ⟨.hbm, 369, rfl⟩
abbrev main_call12_v6 : Ref sig .tc := ⟨.hbm, 370, rfl⟩
abbrev main_call12_v7 : Ref sig .tc := ⟨.hbm, 371, rfl⟩
abbrev main_call12_cst_1 : Ref sig .tc := ⟨.hbm, 372, rfl⟩
abbrev main_call12_v8 : Ref sig .tc := ⟨.hbm, 373, rfl⟩
abbrev main_call12_cst_2 : Ref sig .tc := ⟨.hbm, 374, rfl⟩
abbrev main_call12_v9 : Ref sig .tc := ⟨.hbm, 375, rfl⟩
abbrev main_call12_v10 : Ref sig .tc := ⟨.hbm, 376, rfl⟩
abbrev main_call12_v11 : Ref sig .tc := ⟨.hbm, 377, rfl⟩
abbrev main_call12_v12 : Ref sig .tc := ⟨.hbm, 378, rfl⟩
abbrev main_call12_cst_3 : Ref sig .tc := ⟨.hbm, 379, rfl⟩
abbrev main_call12_v13 : Ref sig .tc := ⟨.hbm, 380, rfl⟩
abbrev main_call12_cst_4 : Ref sig .tc := ⟨.hbm, 381, rfl⟩
abbrev main_call12_call0_v0 : Ref sig .tc := ⟨.hbm, 382, rfl⟩
abbrev main_call12_call0_v1 : Ref sig .tc := ⟨.hbm, 383, rfl⟩
abbrev main_v144 : Ref sig .tc := ⟨.hbm, 384, rfl⟩
abbrev main_v145 : Ref sig .tc := ⟨.hbm, 385, rfl⟩
abbrev main_v146 : Ref sig .tc := ⟨.hbm, 386, rfl⟩
abbrev main_cst_30 : Ref sig .tc := ⟨.hbm, 387, rfl⟩
abbrev main_v147 : Ref sig .tc := ⟨.hbm, 388, rfl⟩
abbrev main_v148 : Ref sig .tc := ⟨.hbm, 389, rfl⟩
abbrev main_v149 : Ref sig .tc := ⟨.hbm, 390, rfl⟩
abbrev main_v150 : Ref sig .tc := ⟨.hbm, 391, rfl⟩
abbrev main_v151 : Ref sig .tc := ⟨.hbm, 392, rfl⟩
abbrev main_v152 : Ref sig .tc := ⟨.hbm, 393, rfl⟩
abbrev main_v153 : Ref sig .tc := ⟨.hbm, 394, rfl⟩
abbrev main_v154 : Ref sig .tc := ⟨.hbm, 395, rfl⟩
abbrev main_v155 : Ref sig .tc := ⟨.hbm, 396, rfl⟩
abbrev main_v156 : Ref sig .tc := ⟨.hbm, 397, rfl⟩
abbrev main_v157 : Ref sig .tc := ⟨.hbm, 398, rfl⟩
abbrev main_call13_cst : Ref sig .tc := ⟨.hbm, 399, rfl⟩
abbrev main_call13_v0 : Ref sig .tc := ⟨.hbm, 400, rfl⟩
abbrev main_v158 : Ref sig .tc := ⟨.hbm, 401, rfl⟩
abbrev main_cst_31 : Ref sig .tc := ⟨.hbm, 402, rfl⟩
abbrev main_v159 : Ref sig .tc := ⟨.hbm, 403, rfl⟩

abbrev nD : Nat := 1
abbrev τ : Topo := Topo.v7x

variable {F : FTy → Type} [FloatOps F]

abbrev main_while0_count : Scf.Loop 32 := ⟨0#32, 512#32, 1#32⟩
-- ==== Proof.Pick.lean ====
/- Taking the smallest members of a set of numbers one after the other, and the same from the sorted list. -/
module

public import Idealize.ShloMosaic.Lib.Pointwise

@[expose] public section

noncomputable section

namespace Cert.Pick

/-- The smallest of `z` and the values `u`, by what it must satisfy. -/
theorem fold_min_eq {ι : Type*} (s : Finset ι) (u : ι → ℕ) (z v : ℕ) (h1 : v = z ∨ ∃ n ∈ s, u n = v) (h2 : ∀ n ∈ s, v ≤ u n)
    (hz : v ≤ z) : s.fold min z u = v := by
  apply le_antisymm
  · rcases h1 with h | ⟨n, hn, h⟩
    · rw [h]; exact (Finset.fold_min_le _).2 (Or.inl le_rfl)
    · exact (Finset.fold_min_le _).2 (Or.inr ⟨n, hn, h.le⟩)
  · exact (Finset.le_fold_min _).2 ⟨hz, h2⟩

variable {N : ℕ} (P : Fin N → Prop) [DecidablePred P]

/-- The members of `P` before `n`, -/
def before (n : Fin N) : Finset (Fin N) := Finset.univ.filter fun m => m < n ∧ P m

/-- and how many they are. -/
def rank (n : Fin N) : ℕ := (before P n).card

/-- Member `n` itself if `k` or more members stand before it, and `N` for everything else. -/
def left (k : ℕ) (n : Fin N) : ℕ := if P n ∧ k ≤ rank P n then n.val else N

/-- Member number `k`, counted from 0 upwards; `N` if there is none. -/
def kth (k : ℕ) : ℕ := Finset.univ.fold min N (left P k)

/-- The `k`-th smallest is at most `N`, which stands for none. -/
theorem kth_le (k : ℕ) : kth P k ≤ N := (Finset.fold_min_le _).2 (Or.inl le_rfl)

/-- It is at most every candidate left after `k` rounds, -/
theorem kth_le_left (k : ℕ) (n : Fin N) : kth P k ≤ left P k n := (Finset.fold_min_le _).2 (Or.inr ⟨n, Finset.mem_univ _, le_rfl⟩)

/-- so at most every member with at least `k` smaller ones. -/
theorem kth_le_of {k : ℕ} {n : Fin N} (h : P n) (hk : k ≤ rank P n) : kth P k ≤ n.val := by
  have := kth_le_left P k n
  rwa [left, if_pos ⟨h, hk⟩] at this

/-- Where it is less than `N` it is a member with at least `k` smaller ones. -/
theorem kth_mem (k : ℕ) (h : kth P k < N) : ∃ n : Fin N, P n ∧ k ≤ rank P n ∧ kth P k = n.val := by
  by_contra hc
  push Not at hc
  have : N ≤ kth P k := by
    refine (Finset.le_fold_min _).2 ⟨le_rfl, fun n _ => ?_⟩
    unfold left
    split_ifs with hp
    · exfalso
      have hle : kth P k ≤ n.val := kth_le_of P hp.1 hp.2
      obtain ⟨m, _, hm⟩ : ∃ m ∈ (Finset.univ : Finset (Fin N)), left P k m ≤ kth P k := by
        rcases (Finset.fold_min_le (kth P k)).1 (le_refl (kth P k)) with h' | h'
        · omega
        · exact h'
      have hm' : left P k m < N := lt_of_le_of_lt hm h
      unfold left at hm hm'
      split_ifs at hm hm' with hq
      · exact hc m hq.1 hq.2 (le_antisymm (kth_le_of P hq.1 hq.2) hm)
      · omega
    · exact le_rfl
  omega

/-- A larger member has more smaller ones. -/
theorem rank_lt {m n : Fin N} (h : m < n) (hm : P m) : rank P m < rank P n := by
  apply Finset.card_lt_card
  refine ⟨fun i hi => ?_, fun hs => ?_⟩
  · simp only [before, Finset.mem_filter, Finset.mem_univ, true_and] at hi ⊢
    exact ⟨hi.1.trans h, hi.2⟩
  · have : m ∈ before P m := hs (by simp only [before, Finset.mem_filter, Finset.mem_univ, true_and]; exact ⟨h, hm⟩)
    simp only [before, Finset.mem_filter, Finset.mem_univ, true_and] at this
    exact lt_irrefl _ this.1

/-- Behind the last of a set's members below `n` stands `n`. -/
theorem rank_pred {n : Fin N} (h : 0 < rank P n) : ∃ m : Fin N, m < n ∧ P m ∧ rank P n = rank P m + 1 := by
  obtain ⟨m, hm, hmax⟩ := Finset.exists_max_image (before P n) id (Finset.card_pos.1 h)
  have hm' := hm
  simp only [before, Finset.mem_filter, Finset.mem_univ, true_and] at hm'
  refine ⟨m, hm'.1, hm'.2, ?_⟩
  have : before P n = insert m (before P m) := by
    ext i
    simp only [before, Finset.mem_filter, Finset.mem_univ, true_and, Finset.mem_insert]
    constructor
    · intro hi
      have := hmax i (by simp only [before, Finset.mem_filter, Finset.mem_univ, true_and]; exact hi)
      rcases lt_or_eq_of_le this with h' | h'
      · exact Or.inr ⟨h', hi.2⟩
      · exact Or.inl h'
    · rintro (rfl | hi)
      · exact hm'
      · exact ⟨hi.1.trans hm'.1, hi.2⟩
  rw [rank, this, Finset.card_insert_of_notMem]; · rfl
  simp only [before, Finset.mem_filter, Finset.mem_univ, true_and]
  exact fun hi => lt_irrefl _ hi.1

/-- Member number `k` has exactly `k` members before it. -/
theorem rank_kth {k : ℕ} {n : Fin N} (h : kth P k = n.val) : P n ∧ rank P n = k := by
  obtain ⟨m, hp, hk, hm⟩ := kth_mem P k (h ▸ n.isLt)
  obtain rfl : m = n := Fin.ext (hm.symm.trans h)
  refine ⟨hp, ?_⟩
  by_contra hne
  obtain ⟨i, hi, hpi, hr⟩ := rank_pred P (n := m) (by omega)
  have h1 := kth_le_of P (k := k) hpi (by omega)
  have h2 : i.val < m.val := hi
  omega

/-- Dropping the smallest of what is left leaves the members with one more before them. -/
theorem left_succ (k : ℕ) (n : Fin N) : left P (k + 1) n = if n.val = kth P k then N else left P k n := by
  by_cases h : n.val = kth P k
  · rw [if_pos h]
    have := (rank_kth P h.symm).2
    unfold left; rw [if_neg]; omega
  · rw [if_neg h]
    unfold left
    by_cases hp : P n
    · have hne : ¬rank P n = k := fun hr => by
        have hle := kth_le_of P (k := k) hp hr.ge
        obtain ⟨m, hpm, hkm, hm⟩ := kth_mem P k (lt_of_le_of_lt hle n.isLt)
        have := rank_lt P (show m < n from by rw [Fin.lt_def]; omega) hpm
        omega
      refine if_congr ?_ rfl rfl
      constructor
      · rintro ⟨_, h⟩; exact ⟨hp, by omega⟩
      · rintro ⟨_, h⟩; exact ⟨hp, by omega⟩
    · rw [if_neg fun h => hp h.1, if_neg fun h => hp h.1]

/-- At first every member is left. -/
theorem left_zero (n : Fin N) : left P 0 n = if P n then n.val else N := by
  unfold left; exact if_congr (by simp) rfl rfl

/-- A set that is not empty has a first member. -/
theorem kth_zero_lt (h : ∃ n, P n) : kth P 0 < N := by
  obtain ⟨n, hn⟩ := h
  exact lt_of_le_of_lt (kth_le_of P hn (Nat.zero_le _)) n.isLt

/-- At most `k` of the values that `left P 0` takes are smaller than member number `k`, -/
theorem card_lt_kth (k : ℕ) : (Finset.univ.filter fun m => left P 0 m < kth P k).card ≤ k := by
  by_cases h : kth P k < N
  · obtain ⟨n, _, _, hn⟩ := kth_mem P k h
    obtain ⟨hp, hr⟩ := rank_kth P hn
    refine le_trans (Finset.card_le_card (t := before P n) fun m hm => ?_) hr.le
    simp only [Finset.mem_filter, Finset.mem_univ, true_and, left_zero, before] at hm ⊢
    split_ifs at hm with hpm
    · exact ⟨by rw [Fin.lt_def]; omega, hpm⟩
    · omega
  · have hN : kth P k = N := le_antisymm (kth_le P k) (not_lt.1 h)
    by_contra hc
    push Not at hc
    obtain ⟨m, hm, hmax⟩ := Finset.exists_max_image (Finset.univ.filter fun m => left P 0 m < kth P k) id
      (Finset.card_pos.1 (by omega))
    simp only [Finset.mem_filter, Finset.mem_univ, true_and, left_zero] at hm
    have hpm : P m := by
      by_contra hq; rw [if_neg hq] at hm; omega
    have hsub : (Finset.univ.filter fun m => left P 0 m < kth P k) ⊆ insert m (before P m) := by
      intro i hi
      have h1 := hmax i hi
      simp only [Finset.mem_filter, Finset.mem_univ, true_and, left_zero, before, Finset.mem_insert] at hi ⊢
      rcases lt_or_eq_of_le h1 with h' | h'
      · refine Or.inr ⟨h', ?_⟩
        by_contra hq; rw [if_neg hq] at hi; omega
      · exact Or.inl h'
    have h2 := (Finset.card_le_card hsub).trans (Finset.card_insert_le _ _)
    have h3 := kth_le_of P (k := k) hpm (by unfold rank; omega)
    have := m.isLt
    omega

/-- and more than `k` are no larger. -/
theorem lt_card_le_kth (k : ℕ) (hk : k < N) : k < (Finset.univ.filter fun m => left P 0 m ≤ kth P k).card := by
  by_cases h : kth P k < N
  · obtain ⟨n, _, _, hn⟩ := kth_mem P k h
    obtain ⟨hp, hr⟩ := rank_kth P hn
    have hsub : insert n (before P n) ⊆ Finset.univ.filter fun m => left P 0 m ≤ kth P k := by
      intro m hm
      simp only [Finset.mem_filter, Finset.mem_univ, true_and, left_zero, before, Finset.mem_insert] at hm ⊢
      rcases hm with rfl | hm
      · rw [if_pos hp]; exact hn.ge
      · rw [if_pos hm.2, hn]; exact le_of_lt hm.1
    have h2 := Finset.card_le_card hsub
    rw [Finset.card_insert_of_notMem] at h2
    · unfold rank at hr; omega
    · simp only [before, Finset.mem_filter, Finset.mem_univ, true_and]; exact fun hi => lt_irrefl _ hi.1
  · have hN : kth P k = N := le_antisymm (kth_le P k) (not_lt.1 h)
    rw [Finset.filter_true_of_mem, Finset.card_univ, Fintype.card_fin]; · exact hk
    intro m _
    rw [hN, left_zero]; split_ifs
    · exact le_of_lt m.isLt
    · exact le_rfl

/-- Entry `k` of the sorted values is member number `k`. -/
theorem sorted_kth (t : Fin N → ℕ) (ht : Monotone t) (σ : Equiv.Perm (Fin N)) (hσ : ∀ i, t i = left P 0 (σ i)) (k : Fin N) :
    t k = kth P k.val := by
  have hc : ∀ Q : ℕ → Prop, ∀ [DecidablePred Q], (Finset.univ.filter fun i => Q (t i)).card = (Finset.univ.filter fun m => Q (left P 0 m)).card := by
    intro Q _
    refine Finset.card_bij (fun i _ => σ i) ?_ (fun _ _ _ _ h => σ.injective h) ?_
    · intro i hi
      simp only [Finset.mem_filter, Finset.mem_univ, true_and] at hi ⊢
      rw [← hσ]; exact hi
    · intro m hm
      refine ⟨σ.symm m, ?_, by simp⟩
      simp only [Finset.mem_filter, Finset.mem_univ, true_and] at hm ⊢
      rw [hσ]; simpa using hm
  apply le_antisymm
  · by_contra h
    push Not at h
    have h1 := lt_card_le_kth P k.val k.isLt
    rw [← hc fun v => v ≤ kth P k.val] at h1
    have h2 : (Finset.univ.filter fun i => t i ≤ kth P k.val) ⊆ Finset.Iio k := by
      intro i hi
      simp only [Finset.mem_filter, Finset.mem_univ, true_and, Finset.mem_Iio] at hi ⊢
      by_contra hki
      have := ht (not_lt.1 hki)
      omega
    have h3 := Finset.card_le_card h2
    rw [Fin.card_Iio] at h3
    omega
  · by_contra h
    push Not at h
    have h1 := card_lt_kth P k.val
    rw [← hc fun v => v < kth P k.val] at h1
    have h2 : Finset.Iic k ⊆ (Finset.univ.filter fun i => t i < kth P k.val) := by
      intro i hi
      simp only [Finset.mem_filter, Finset.mem_univ, true_and, Finset.mem_Iic] at hi ⊢
      have := ht hi
      omega
    have h3 := Finset.card_le_card h2
    rw [Fin.card_Iic] at h3
    omega

/-- What the search takes for its sample `k`: member number `k`, or the first if there are fewer. -/
def eff (k : ℕ) : ℕ := if kth P k < N then kth P k else kth P 0

/-- In a set with a member, each choice is a member's number. -/
theorem eff_lt (h : ∃ n, P n) (k : ℕ) : eff P k < N := by
  unfold eff; split_ifs with hk
  · exact hk
  · exact kth_zero_lt P h

end Cert.Pick

end
-- ==== Proof.Spec.lean ====
/- The mathematics that kernel and reference share: the neighbours of a point, and the farthest points. -/
module

public import Idealize.ShloMosaic.Lib.Pointwise
public import proofs.«01_k».proof.Proof.Pick

@[expose] public section

noncomputable section

namespace Cert.Spec

open Idealize.ShloMosaic
open Classical

/-- The constants of the programs: 2, the radius squared, the number of samples, the constant under the root. -/
abbrev TWO : EReal := Ideal.ofBits .f32 0x40000000#32
/-- The squared radius. -/
abbrev RADSQ : EReal := Ideal.ofBits .f32 0x3CB851EC#32

/-- The squared distance of `q` and `p` as both programs form it, -/
def dist2 (q p : Fin 3 → EReal) : EReal := ∑ j, q j * q j + ∑ j, p j * p j - TWO * ∑ j, q j * p j

/-- and whether `p` lies in the ball about `q`. -/
def near (q p : Fin 3 → EReal) : Prop := dist2 q p ≤ RADSQ

variable {N : ℕ} [NeZero N]

/-- Point number `k` of the ball about `q`: among the points `p` the one with `k` members before it, or the first one. -/
def nb (q : Fin 3 → EReal) (p : Fin N → Fin 3 → EReal) (k : ℕ) : Fin N := Fin.ofNat N (Pick.eff (fun n => near q (p n)) k)

/-- In terms of numbers, the `k`-th neighbour of a query that has one. -/
theorem nb_val (q : Fin 3 → EReal) (p : Fin N → Fin 3 → EReal) (h : ∃ n, near q (p n)) (k : ℕ) :
    (nb q p k).val = Pick.eff (fun n => near q (p n)) k := by
  simp only [nb, Fin.val_ofNat, Nat.mod_eq_of_lt (Pick.eff_lt _ h k)]

/-- `n` is the first place where `g` is largest. -/
def IsFirstMax (g : Fin N → EReal) (n : Fin N) : Prop := (∀ m, g m ≤ g n) ∧ ∀ m, m < n → g m < g n

/-- There is one first place of a largest value, -/
theorem isFirstMax_unique {g : Fin N → EReal} {m n : Fin N} (hm : IsFirstMax g m) (hn : IsFirstMax g n) : m = n := by
  rcases lt_trichotomy m n with h | h | h
  · exact absurd (hm.1 n) (not_le.2 (hn.2 m h))
  · exact h
  · exact absurd (hn.1 m) (not_le.2 (hm.2 n h))

/-- and always one, -/
theorem exists_isFirstMax (g : Fin N → EReal) : ∃ n, IsFirstMax g n := by
  obtain ⟨x, _, hx⟩ := Finset.exists_max_image (Finset.univ : Finset (Fin N)) g ⟨0, Finset.mem_univ _⟩
  obtain ⟨n, hn, hmin⟩ := Finset.exists_min_image (Finset.univ.filter fun m => g m = g x) id ⟨x, by simp⟩
  simp only [Finset.mem_filter, Finset.mem_univ, true_and] at hn
  refine ⟨n, fun m => hn ▸ hx m (Finset.mem_univ _), fun m hm => ?_⟩
  refine lt_of_le_of_ne (hn ▸ hx m (Finset.mem_univ _)) fun he => ?_
  exact absurd (hmin m (by simp only [Finset.mem_filter, Finset.mem_univ, true_and]; exact he.trans hn)) (not_le.2 hm)

/-- The first place where `g` is largest. -/
def firstMax (g : Fin N → EReal) : Fin N := (exists_isFirstMax g).choose

/-- which `firstMax` names, -/
theorem firstMax_spec (g : Fin N → EReal) : IsFirstMax g (firstMax g) := (exists_isFirstMax g).choose_spec

/-- and only it. -/
theorem eq_firstMax {g : Fin N → EReal} {n : Fin N} (h : IsFirstMax g n) : n = firstMax g := isFirstMax_unique h (firstMax_spec g)

/-- One step of the farthest-point search over the points `p`: the distances to the points taken so far, and the point taken. -/
def fpsStep (p : Fin N → Fin 3 → EReal) (s : (Fin N → EReal) × Fin N) : (Fin N → EReal) × Fin N :=
  let d := fun n => min (s.1 n) (∑ j, (p n j - p s.2 j) * (p n j - p s.2 j))
  (d, firstMax d)

/-- The search's start: every distance large, point 0 taken. -/
def fpsInit : (Fin N → EReal) × Fin N := (fun _ => Ideal.ofBits .f32 0x501502F9#32, 0)

/-- The state after `k` steps, and the point that step `k` uses. -/
def fpsAt (p : Fin N → Fin 3 → EReal) (k : ℕ) : (Fin N → EReal) × Fin N := (fpsStep p)^[k] fpsInit
/-- The number of the `k`-th sampled point. -/
def fps (p : Fin N → Fin 3 → EReal) (k : ℕ) : Fin N := (fpsAt p k).2

/-- One more step of the search. -/
theorem fpsAt_succ (p : Fin N → Fin 3 → EReal) (k : ℕ) : fpsAt p (k + 1) = fpsStep p (fpsAt p k) := Function.iterate_succ_apply' _ _ _

end Cert.Spec

end
-- ==== Proof.Fold.lean ====
/- Batch normalisation of a linear layer, folded into the layer: with real inputs, normalising `w · x + b` by its own mean and
   variance over all samples is one linear layer whose weights and offset come from the first and second moments of `x`. -/
module

public import Idealize.ShloMosaic.PureOps.Ideal
public import Mathlib.Algebra.BigOperators.Field
public import Mathlib.Tactic.Ring
public import Mathlib.Tactic.FieldSimp
public import Mathlib.Tactic.Positivity

@[expose] public section

noncomputable section

namespace Cert.Fold

open Idealize.ShloMosaic

variable {S K : Type} [Fintype S] [Fintype K]

/-- The mean of `f` over all samples, `N` of them. -/
def mean (N : EReal) (f : S → EReal) : EReal := Ideal.div (∑ p, f p) N

/-- `w · v + b`. -/
def lin (w : K → EReal) (b : EReal) (v : K → EReal) : EReal := ∑ k, w k * v k + b

/-- Batch normalisation of `y` with gain `g` and offset `be`, at sample `p`: what the reference computes. -/
def norm (N eps : EReal) (y : S → EReal) (g be : EReal) (p : S) : EReal :=
  Ideal.div (y p - mean N y) (Ideal.sqrt (mean N (fun q => (y q - mean N y) * (y q - mean N y)) + eps)) * g + be

/-- The covariance of channels `k` and `l` from the moments. -/
def cov (N : EReal) (x : S → K → EReal) (k l : K) : EReal :=
  mean N (fun p => x p k * x p l) - mean N (fun p => x p k) * mean N (fun p => x p l)

/-- The gain divided by the deviation of `w · x`, the variance taken from the covariance. -/
def gain (N eps : EReal) (x : S → K → EReal) (w : K → EReal) (g : EReal) : EReal :=
  Ideal.div g (Ideal.sqrt (∑ l, w l * ∑ k, cov N x k l * w k + eps))

/-- The folded offset. -/
def offset (N eps : EReal) (x : S → K → EReal) (w : K → EReal) (b g be : EReal) : EReal :=
  gain N eps x w g * (b - lin w b (fun k => mean N (fun p => x p k))) + be

/-! ## The same over the reals -/

/-- The mean of a linear layer is the layer of the means. -/
theorem mean_lin_real (n : ℝ) (hn : n = Fintype.card S) (h0 : n ≠ 0) (x : S → K → ℝ) (w : K → ℝ) (b : ℝ) :
    (∑ p, (∑ k, w k * x p k + b)) / n = ∑ k, w k * ((∑ p, x p k) / n) + b := by
  rw [Finset.sum_add_distrib, Finset.sum_comm, Finset.sum_const, add_div, Finset.sum_div]
  congr 1
  · refine Finset.sum_congr rfl fun k _ => ?_
    rw [← Finset.mul_sum, mul_div_assoc]
  · rw [Finset.card_univ, nsmul_eq_mul, ← hn]; field_simp

/-- The variance of a linear layer is the quadratic form of the covariance. -/
theorem var_lin_real (n : ℝ) (hn : n = Fintype.card S) (h0 : n ≠ 0) (x : S → K → ℝ) (w : K → ℝ) (b : ℝ) :
    (∑ p, ((∑ k, w k * x p k + b) - (∑ q, (∑ k, w k * x q k + b)) / n) * ((∑ k, w k * x p k + b) - (∑ q, (∑ k, w k * x q k + b)) / n)) / n
      = ∑ l, w l * ∑ k, ((∑ p, x p k * x p l) / n - (∑ p, x p k) / n * ((∑ p, x p l) / n)) * w k := by
  rw [mean_lin_real n hn h0]
  have hc : ∀ p, (∑ k, w k * x p k + b) - (∑ k, w k * ((∑ p, x p k) / n) + b) = ∑ k, w k * (x p k - (∑ q, x q k) / n) := by
    intro p
    rw [add_sub_add_right_eq_sub, ← Finset.sum_sub_distrib]
    exact Finset.sum_congr rfl fun k _ => by ring
  simp only [hc]
  have hcov : ∀ k l, (∑ p, (x p k - (∑ q, x q k) / n) * (x p l - (∑ q, x q l) / n)) / n
      = (∑ p, x p k * x p l) / n - (∑ p, x p k) / n * ((∑ p, x p l) / n) := by
    intro k l
    have : ∀ p, (x p k - (∑ q, x q k) / n) * (x p l - (∑ q, x q l) / n)
        = x p k * x p l - x p k * ((∑ q, x q l) / n) - (∑ q, x q k) / n * x p l + (∑ q, x q k) / n * ((∑ q, x q l) / n) := fun p => by ring
    simp only [this]
    rw [Finset.sum_add_distrib, Finset.sum_sub_distrib, Finset.sum_sub_distrib, ← Finset.sum_mul, ← Finset.mul_sum, Finset.sum_const,
      Finset.card_univ, nsmul_eq_mul, ← hn]
    field_simp
    ring
  have hp : ∀ p, (∑ k, w k * (x p k - (∑ q, x q k) / n)) * (∑ k, w k * (x p k - (∑ q, x q k) / n))
      = ∑ l, w l * ∑ k, ((x p k - (∑ q, x q k) / n) * (x p l - (∑ q, x q l) / n)) * w k := by
    intro p
    rw [Finset.sum_mul]
    refine Finset.sum_congr rfl fun l _ => ?_
    rw [mul_assoc, Finset.mul_sum]
    congr 1
    exact Finset.sum_congr rfl fun k _ => by ring
  simp only [hp]
  rw [Finset.sum_comm, Finset.sum_div]
  refine Finset.sum_congr rfl fun l _ => ?_
  rw [← Finset.mul_sum, mul_div_assoc, Finset.sum_comm, Finset.sum_div]
  congr 1
  refine Finset.sum_congr rfl fun k _ => ?_
  rw [← Finset.sum_mul, ← hcov, div_mul_eq_mul_div]

/-! ## Real entries inside the extended reals -/

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the second not zero. -/
theorem div_real (a b : ℝ) (h : b ≠ 0) : Ideal.div (a : EReal) (b : EReal) = ((a / b : ℝ) : EReal) := by
  rw [Ideal.div_coe h, ← EReal.coe_mul, mul_one_div]

/-- The mean of real numbers is real, -/
theorem mean_real (n : ℝ) (h0 : n ≠ 0) (f : S → ℝ) : mean (n : EReal) (fun p => (f p : EReal)) = (((∑ p, f p) / n : ℝ) : EReal) := by
  unfold mean; rw [← coe_sum, div_real _ _ h0]

/-- and so is a linear form of them. -/
theorem lin_real (w : K → ℝ) (b : ℝ) (v : K → ℝ) :
    lin (fun k => (w k : EReal)) b (fun k => (v k : EReal)) = ((∑ k, w k * v k + b : ℝ) : EReal) := by
  unfold lin; rw [EReal.coe_add, coe_sum]; simp only [EReal.coe_mul]

/-- The root of a sum that is positive. -/
theorem sqrt_real (a : ℝ) (h : 0 ≤ a) : Ideal.sqrt (a : EReal) = (Real.sqrt a : EReal) := by
  rw [Ideal.sqrt_coe, if_neg (not_lt.mpr h)]

/-- THE FOLD: batch normalisation of `w · x + b` is one linear layer. -/
theorem norm_lin (n e : ℝ) (hn : n = Fintype.card S) (h0 : 0 < n) (he : 0 < e) (x : S → K → ℝ) (w : K → ℝ) (b g : ℝ) (be : EReal) (p : S) :
    norm (n : EReal) (e : EReal) (fun p => lin (fun k => (w k : EReal)) b (fun k => (x p k : EReal))) g be p
      = lin (fun k => (w k : EReal) * gain (n : EReal) (e : EReal) (fun p k => (x p k : EReal)) (fun k => (w k : EReal)) g)
          (offset (n : EReal) (e : EReal) (fun p k => (x p k : EReal)) (fun k => (w k : EReal)) b g be) (fun k => (x p k : EReal))
    ∧ ∃ r : ℝ, norm (n : EReal) (e : EReal) (fun p => lin (fun k => (w k : EReal)) b (fun k => (x p k : EReal))) g be p = (r : EReal) + be := by
  have hn0 : n ≠ 0 := h0.ne'
  have hv := var_lin_real n hn hn0 x w b
  have hvar : 0 ≤ (∑ p, ((∑ k, w k * x p k + b) - (∑ q, (∑ k, w k * x q k + b)) / n) * ((∑ k, w k * x p k + b) - (∑ q, (∑ k, w k * x q k + b)) / n)) / n :=
    div_nonneg (Finset.sum_nonneg fun p _ => mul_self_nonneg _) h0.le
  rw [hv] at hvar
  set v := ∑ l, w l * ∑ k, ((∑ p, x p k * x p l) / n - (∑ p, x p k) / n * ((∑ p, x p l) / n)) * w k with hvdef
  have hs : Real.sqrt (v + e) ≠ 0 := (Real.sqrt_pos.mpr (by linarith)).ne'
  have hgain : gain (n : EReal) (e : EReal) (fun p k => (x p k : EReal)) (fun k => (w k : EReal)) g = ((g / Real.sqrt (v + e) : ℝ) : EReal) := by
    unfold gain cov
    simp only [← EReal.coe_mul, mean_real n hn0, ← EReal.coe_sub]
    simp only [← coe_sum, ← EReal.coe_mul, ← EReal.coe_add]
    rw [← hvdef, sqrt_real _ (by linarith), div_real _ _ hs]
  have hleft : norm (n : EReal) (e : EReal) (fun p => lin (fun k => (w k : EReal)) b (fun k => (x p k : EReal))) g be p
      = (((∑ k, w k * x p k + b - (∑ q, (∑ k, w k * x q k + b)) / n) / Real.sqrt (v + e) * g : ℝ) : EReal) + be := by
    unfold norm
    simp only [lin_real, mean_real n hn0, ← EReal.coe_sub, ← EReal.coe_mul, ← EReal.coe_add]
    rw [hv, sqrt_real _ (by linarith), div_real _ _ hs, ← EReal.coe_mul]
  refine ⟨?_, _, hleft⟩
  rw [hleft]
  unfold offset
  simp only [hgain, mean_real n hn0, ← EReal.coe_mul]
  unfold lin
  simp only [← EReal.coe_mul, ← coe_sum, ← EReal.coe_add, ← EReal.coe_sub]
  rw [← add_assoc, ← EReal.coe_add]
  congr 2
  rw [mean_lin_real n hn hn0]
  have : ∀ k, w k * (g / Real.sqrt (v + e)) * x p k = (g / Real.sqrt (v + e)) * (w k * x p k) := fun k => by ring
  simp only [this]
  rw [← Finset.mul_sum]
  field_simp
  ring

end Cert.Fold

end
-- ==== Proof.Lits.lean ====
/- The values of the programs' float constants. -/
module

public import Idealize.ShloMosaic.Lib.Pointwise

@[expose] public section

noncomputable section

namespace Cert.Lits

open Idealize.ShloMosaic

/-- The word of minus infinity. -/
theorem ninf : Ideal.ofBits .f32 0xFF800000#32 = ⊥ := by simp [Ideal.ofBits, Ideal.ieee]
/-- The word of 2. -/
theorem two : Ideal.ofBits .f32 0x40000000#32 = ((2 : ℝ) : EReal) := by
  simp [Ideal.ofBits, Ideal.ieee, -EReal.coe_mul]; norm_num
/-- The word of the number of samples, 131072. -/
theorem count : Ideal.ofBits .f32 0x48000000#32 = ((131072 : ℝ) : EReal) := by
  simp [Ideal.ofBits, Ideal.ieee, -EReal.coe_mul]; norm_num
/-- The first distance, 1e10, is real. -/
theorem large : ∃ r : ℝ, Ideal.ofBits .f32 0x501502F9#32 = (r : EReal) := by
  simp [Ideal.ofBits, Ideal.ieee, -EReal.coe_mul]
/-- The number added to a variance is real and positive. -/
theorem small : ∃ r : ℝ, 0 < r ∧ Ideal.ofBits .f32 0x3727C5AC#32 = (r : EReal) := by
  refine ⟨10995116 * (2 ^ 40)⁻¹, by positivity, ?_⟩
  simp [Ideal.ofBits, Ideal.ieee, -EReal.coe_mul]
/-- The squared radius is real and not negative. -/
theorem radsq : ∃ r : ℝ, 0 ≤ r ∧ Ideal.ofBits .f32 0x3CB851EC#32 = (r : EReal) := by
  refine ⟨12079596 * (2 ^ 29)⁻¹, by positivity, ?_⟩
  simp [Ideal.ofBits, Ideal.ieee, -EReal.coe_mul]

end Cert.Lits

end
-- ==== Proof.Chain.lean ====
/- The computation that kernel and reference share, on plain functions of the arguments: the gathered samples, the three
   normalised layers, the maximum. -/
module

public import Idealize.ShloMosaic.Lib.Pointwise
public import proofs.«01_k».proof.Proof.Spec
public import proofs.«01_k».proof.Proof.Fold
public import proofs.«01_k».proof.Proof.Lits

@[expose] public section

noncomputable section

namespace Cert.Chain

open Idealize.ShloMosaic Cert.Fold Cert.Spec

/-- The number of samples and the constant under the root. -/
abbrev NN : EReal := Ideal.ofBits .f32 0x48000000#32
/-- The small number added to a variance. -/
abbrev EPS : EReal := Ideal.ofBits .f32 0x3727C5AC#32

/-- The arguments. -/
structure Args where
  ctr : Fin 8 → Fin 4096 → Fin 3 → EReal
  nrm : Fin 8 → Fin 4096 → Fin 3 → EReal
  feat : Fin 8 → Fin 10 → Fin 4096 → EReal
  wl : Fin 64 → Fin 3 → EReal
  bl : Fin 64 → EReal
  gl : Fin 64 → EReal
  el : Fin 64 → EReal
  wf : Fin 64 → Fin 13 → EReal
  bf : Fin 64 → EReal
  gf : Fin 64 → EReal
  ef : Fin 64 → EReal
  w1 : Fin 64 → Fin 64 → EReal
  b1 : Fin 64 → EReal
  g1 : Fin 64 → EReal
  e1 : Fin 64 → EReal
  w2 : Fin 128 → Fin 64 → EReal
  b2 : Fin 128 → EReal
  g2 : Fin 128 → EReal
  e2 : Fin 128 → EReal

/-- `x` is a real number. -/
abbrev IsReal (x : EReal) : Prop := ∃ r : ℝ, x = (r : EReal)

/-- The arguments as arrays. -/
def Args.ofArrays (a0 : (⟨3, ![8, 4096, 3]⟩ : Shape).Idx → EReal) (a1 : (⟨3, ![8, 4096, 3]⟩ : Shape).Idx → EReal) (a2 : (⟨3, ![8, 10, 4096]⟩ : Shape).Idx → EReal) (a3 : (⟨2, ![64, 3]⟩ : Shape).Idx → EReal) (a4 : (⟨1, ![64]⟩ : Shape).Idx → EReal) (a5 : (⟨1, ![64]⟩ : Shape).Idx → EReal) (a6 : (⟨1, ![64]⟩ : Shape).Idx → EReal) (a7 : (⟨2, ![64, 13]⟩ : Shape).Idx → EReal) (a8 : (⟨1, ![64]⟩ : Shape).Idx → EReal) (a9 : (⟨1, ![64]⟩ : Shape).Idx → EReal) (a10 : (⟨1, ![64]⟩ : Shape).Idx → EReal) (a11 : (⟨2, ![64, 64]⟩ : Shape).Idx → EReal) (a12 : (⟨1, ![64]⟩ : Shape).Idx → EReal) (a13 : (⟨1, ![64]⟩ : Shape).Idx → EReal) (a14 : (⟨1, ![64]⟩ : Shape).Idx → EReal) (a15 : (⟨2, ![128, 64]⟩ : Shape).Idx → EReal) (a16 : (⟨1, ![128]⟩ : Shape).Idx → EReal) (a17 : (⟨1, ![128]⟩ : Shape).Idx → EReal) (a18 : (⟨1, ![128]⟩ : Shape).Idx → EReal) : Args where
  ctr b n j := a0 (ix3 b n j)
  nrm b n j := a1 (ix3 b n j)
  feat b n j := a2 (ix3 b n j)
  wl o k := a3 (ix2 o k)
  bl o := a4 (ix1 o)
  gl o := a5 (ix1 o)
  el o := a6 (ix1 o)
  wf o k := a7 (ix2 o k)
  bf o := a8 (ix1 o)
  gf o := a9 (ix1 o)
  ef o := a10 (ix1 o)
  w1 o k := a11 (ix2 o k)
  b1 o := a12 (ix1 o)
  g1 o := a13 (ix1 o)
  e1 o := a14 (ix1 o)
  w2 o k := a15 (ix2 o k)
  b2 o := a16 (ix1 o)
  g2 o := a17 (ix1 o)
  e2 o := a18 (ix1 o)

namespace Args

variable (A : Args)

/-- A sample: its batch, and its number within the batch, `k * 512 + s` for point `k` of query `s`. -/
abbrev S := Fin 8 × Fin 16384

/-- The three coordinates, three normals and ten features of point `n` of batch `b`. -/
def row (b : Fin 8) (n : Fin 4096) (c : Fin 16) : EReal :=
  if h : c.val < 3 then A.ctr b n ⟨c.val, h⟩ else if h' : c.val < 6 then A.nrm b n ⟨c.val - 3, by omega⟩ else A.feat b ⟨c.val - 6, by omega⟩ n

/-- Query `s` of batch `b`: the point that step `s` of the farthest-point search takes, and its normal. -/
def pick (b : Fin 8) (s : Fin 512) : Fin 4096 := fps (A.ctr b) s.val
/-- The coordinates of sampled point `s`. -/
def center (b : Fin 8) (s : Fin 512) : Fin 3 → EReal := A.ctr b (A.pick b s)
/-- The normal of sampled point `s`. -/
def normal (b : Fin 8) (s : Fin 512) : Fin 3 → EReal := A.nrm b (A.pick b s)

/-- The gathered row of point `k` of query `s`, relative to the query in its coordinates. -/
def gath (b : Fin 8) (k : ℕ) (s : Fin 512) (c : Fin 16) : EReal :=
  A.row b (nb (A.center b s) (A.ctr b) k) c - (if h : c.val < 3 then A.center b s ⟨c.val, h⟩ else 0)

/-- The samples. -/
def samp (p : S) (c : Fin 16) : EReal := A.gath p.1 (p.2.val / 512) ⟨p.2.val % 512, Nat.mod_lt _ (by norm_num)⟩ c

/-- The three relative coordinates of a sample. -/
def loc (p : S) (c : Fin 3) : EReal := A.samp p ⟨c.val, by omega⟩
/-- The normal and the features of a sample. -/
def fea (p : S) (c : Fin 13) : EReal := A.samp p ⟨3 + c.val, by omega⟩

/-- The three layers, each a normalised linear map and a cut at 0, and the maximum over a query's points. -/
def act0 (p : S) (o : Fin 64) : EReal :=
  max (norm NN EPS (fun q => lin (A.wl o) (A.bl o) (A.loc q)) (A.gl o) (A.el o) p + norm NN EPS (fun q => lin (A.wf o) (A.bf o) (A.fea q)) (A.gf o) (A.ef o) p) 0
/-- The second layer's output. -/
def act1 (p : S) (o : Fin 64) : EReal := max (norm NN EPS (fun q => lin (A.w1 o) (A.b1 o) (A.act0 q)) (A.g1 o) (A.e1 o) p) 0
/-- The last layer's output. -/
def act2 (p : S) (o : Fin 128) : EReal := max (norm NN EPS (fun q => lin (A.w2 o) (A.b2 o) (A.act1 q)) (A.g2 o) (A.e2 o) p) 0
/-- The maximum of the last layer's output over a query's 32 samples. -/
def out (b : Fin 8) (o : Fin 128) (m : Fin 512) : EReal := Finset.univ.sup fun k : Fin 32 => A.act2 (b, ⟨k.val * 512 + m.val, by omega⟩) o

/-- Every argument but the last bias is real. -/
structure Reals : Prop where
  ctr : ∀ b n j, IsReal (A.ctr b n j)
  nrm : ∀ b n j, IsReal (A.nrm b n j)
  feat : ∀ b n j, IsReal (A.feat b n j)
  wl : ∀ o k, IsReal (A.wl o k)
  bl : ∀ o, IsReal (A.bl o)
  gl : ∀ o, IsReal (A.gl o)
  el : ∀ o, IsReal (A.el o)
  wf : ∀ o k, IsReal (A.wf o k)
  bf : ∀ o, IsReal (A.bf o)
  gf : ∀ o, IsReal (A.gf o)
  ef : ∀ o, IsReal (A.ef o)
  w1 : ∀ o k, IsReal (A.w1 o k)
  b1 : ∀ o, IsReal (A.b1 o)
  g1 : ∀ o, IsReal (A.g1 o)
  e1 : ∀ o, IsReal (A.e1 o)
  w2 : ∀ o k, IsReal (A.w2 o k)
  b2 : ∀ o, IsReal (A.b2 o)
  g2 : ∀ o, IsReal (A.g2 o)

end Args

/-- One normalised linear map over the samples folds to one linear map, when its samples, weights, bias and gain are real. -/
theorem norm_fold {K : Type} [Fintype K] (x : Args.S → K → EReal) (w : K → EReal) (b g be : EReal) (hx : ∀ p k, IsReal (x p k))
    (hw : ∀ k, IsReal (w k)) (hb : IsReal b) (hg : IsReal g) (p : Args.S) :
    norm NN EPS (fun q => lin w b (x q)) g be p = lin (fun k => w k * gain NN EPS x w g) (offset NN EPS x w b g be) (x p)
    ∧ ∃ r : ℝ, norm NN EPS (fun q => lin w b (x q)) g be p = (r : EReal) + be := by
  choose x' hx' using hx
  choose w' hw' using hw
  obtain ⟨b', rfl⟩ := hb
  obtain ⟨g', rfl⟩ := hg
  obtain ⟨e, he, hE⟩ := Lits.small
  obtain rfl : w = fun k => (w' k : EReal) := funext hw'
  obtain rfl : x = fun p k => (x' p k : EReal) := funext fun p => funext (hx' p)
  rw [show NN = ((131072 : ℝ) : EReal) from Lits.count, show EPS = (e : EReal) from hE]
  exact norm_lin 131072 e (by simp) (by norm_num) he x' w' b' g' be p

theorem isReal_sub {x y : EReal} (hx : IsReal x) (hy : IsReal y) : IsReal (x - y) := by
  obtain ⟨a, rfl⟩ := hx; obtain ⟨b, rfl⟩ := hy; exact ⟨a - b, by rw [EReal.coe_sub]⟩
theorem isReal_add {x y : EReal} (hx : IsReal x) (hy : IsReal y) : IsReal (x + y) := by
  obtain ⟨a, rfl⟩ := hx; obtain ⟨b, rfl⟩ := hy; exact ⟨a + b, by rw [EReal.coe_add]⟩
theorem isReal_max {x : EReal} (hx : IsReal x) : IsReal (max x 0) := by
  rcases max_choice x 0 with h | h <;> rw [h]
  · exact hx
  · exact ⟨0, rfl⟩

namespace Args

variable {A : Args} (H : A.Reals)
include H

/-- With real arguments the data rows are real, -/
theorem Reals.row (b : Fin 8) (n : Fin 4096) (c : Fin 16) : IsReal (A.row b n c) := by
  unfold Args.row; split_ifs
  · exact H.ctr _ _ _
  · exact H.nrm _ _ _
  · exact H.feat _ _ _

/-- so are the samples, -/
theorem Reals.samp (p : S) (c : Fin 16) : IsReal (A.samp p c) := by
  unfold Args.samp gath
  refine isReal_sub (H.row _ _ _) ?_
  split_ifs
  · exact H.ctr _ _ _
  · exact ⟨0, rfl⟩

/-- the first layer's outputs, -/
theorem Reals.act0 (p : S) (o : Fin 64) : IsReal (A.act0 p o) := by
  unfold Args.act0
  obtain ⟨r, hr⟩ := (norm_fold A.loc (A.wl o) (A.bl o) (A.gl o) (A.el o) (fun q k => H.samp q _) (H.wl o) (H.bl o) (H.gl o) p).2
  obtain ⟨s, hs⟩ := (norm_fold A.fea (A.wf o) (A.bf o) (A.gf o) (A.ef o) (fun q k => H.samp q _) (H.wf o) (H.bf o) (H.gf o) p).2
  rw [hr, hs]
  exact isReal_max (isReal_add (isReal_add ⟨r, rfl⟩ (H.el o)) (isReal_add ⟨s, rfl⟩ (H.ef o)))

/-- and the second's. -/
theorem Reals.act1 (p : S) (o : Fin 64) : IsReal (A.act1 p o) := by
  unfold Args.act1
  obtain ⟨r, hr⟩ := (norm_fold A.act0 (A.w1 o) (A.b1 o) (A.g1 o) (A.e1 o) H.act0 (H.w1 o) (H.b1 o) (H.g1 o) p).2
  rw [hr]
  exact isReal_max (isReal_add ⟨r, rfl⟩ (H.e1 o))

/-- The folded layers. -/
theorem Reals.act1_fold (p : S) (o : Fin 64) : A.act1 p o
    = max (∑ k, A.w1 o k * gain NN EPS A.act0 (A.w1 o) (A.g1 o) * A.act0 p k + offset NN EPS A.act0 (A.w1 o) (A.b1 o) (A.g1 o) (A.e1 o)) 0 := by
  unfold Args.act1
  rw [(norm_fold A.act0 (A.w1 o) (A.b1 o) (A.g1 o) (A.e1 o) H.act0 (H.w1 o) (H.b1 o) (H.g1 o) p).1]
  rfl

/-- With real arguments the last layer may be computed with folded weights. -/
theorem Reals.act2_fold (p : S) (o : Fin 128) : A.act2 p o
    = max (∑ k, A.w2 o k * gain NN EPS A.act1 (A.w2 o) (A.g2 o) * A.act1 p k + offset NN EPS A.act1 (A.w2 o) (A.b2 o) (A.g2 o) (A.e2 o)) 0 := by
  unfold Args.act2
  rw [(norm_fold A.act1 (A.w2 o) (A.b2 o) (A.g2 o) (A.e2 o) H.act1 (H.w2 o) (H.b2 o) (H.g2 o) p).1]
  rfl

/-- The first layer folds to one map over all sixteen channels: `w` joins the two folded weights, `d` adds the two offsets. -/
theorem Reals.act0_fold (p : S) (o : Fin 64) (w : Fin 16 → EReal) (d : EReal)
    (h1 : ∀ k : Fin 3, w ⟨k.val, by omega⟩ = A.wl o k * gain NN EPS A.loc (A.wl o) (A.gl o))
    (h2 : ∀ k : Fin 13, w ⟨3 + k.val, by omega⟩ = A.wf o k * gain NN EPS A.fea (A.wf o) (A.gf o))
    (hd : d = offset NN EPS A.loc (A.wl o) (A.bl o) (A.gl o) (A.el o) + offset NN EPS A.fea (A.wf o) (A.bf o) (A.gf o) (A.ef o)) :
    A.act0 p o = max (∑ k, w k * A.samp p k + d) 0 := by
  unfold Args.act0
  rw [(norm_fold A.loc (A.wl o) (A.bl o) (A.gl o) (A.el o) (fun q k => H.samp q _) (H.wl o) (H.bl o) (H.gl o) p).1,
    (norm_fold A.fea (A.wf o) (A.bf o) (A.gf o) (A.ef o) (fun q k => H.samp q _) (H.wf o) (H.bf o) (H.gf o) p).1]
  have hs : ∑ k : Fin 16, w k * A.samp p k = ∑ k : Fin 3, w ⟨k.val, by omega⟩ * A.samp p ⟨k.val, by omega⟩ + ∑ k : Fin 13, w ⟨3 + k.val, by omega⟩ * A.samp p ⟨3 + k.val, by omega⟩ :=
    Fin.sum_univ_add (a := 3) (b := 13) fun k => w k * A.samp p k
  rw [hs, hd]
  simp only [h1, h2, lin]
  congr 1
  exact add_add_add_comm _ _ _ _

omit H in
/-- The samples of a batch, counted by point and query. -/
theorem sum_samples (f : Fin 16384 → EReal) (g : ℕ → Fin 512 → EReal) (h : ∀ n : Fin 16384, f n = g (n.val / 512) ⟨n.val % 512, Nat.mod_lt _ (by norm_num)⟩) :
    ∑ k ∈ Finset.range 32, ∑ s : Fin 512, g k s = ∑ n, f n := by
  rw [Finset.sum_range, ← Fintype.sum_prod_type' (f := fun (k : Fin 32) (s : Fin 512) => g k.val s)]
  refine (Equiv.sum_comp (finProdFinEquiv (m := 32) (n := 512)).symm _).symm.trans ?_
  refine Finset.sum_congr rfl fun n _ => ?_
  rw [h n]
  rfl

/-- Every query has itself in its ball. -/
theorem Reals.near_self (b : Fin 8) (s : Fin 512) : near (A.center b s) (A.ctr b (A.pick b s)) := by
  unfold near dist2 center
  choose f hf using H.ctr
  obtain ⟨r, hr, hR⟩ := Lits.radsq
  simp only [hf, TWO, RADSQ, Lits.two, hR]
  simp only [← EReal.coe_mul, ← coe_sum, ← EReal.coe_add, ← EReal.coe_sub]
  refine EReal.coe_le_coe_iff.2 (le_of_eq_of_le ?_ hr)
  ring

end Args

end Cert.Chain

end
-- ==== Proof.Words.lean ====
/- Facts on the 32-bit words that carry point numbers, and on sums with one entry selected. -/
module

public import Idealize.ShloMosaic.Lib.Pointwise
public import Idealize.ShloMosaic.Lib.WordArith
public import proofs.«01_k».proof.Proof.Pick

@[expose] public section

noncomputable section

namespace Cert.Words

open Idealize.ShloMosaic

/-- Two small numbers with one word are equal. -/
theorem ofNat_inj {a b : ℕ} (ha : a < 2 ^ 32) (hb : b < 2 ^ 32) : BitVec.ofNat 32 a = BitVec.ofNat 32 b ↔ a = b := by
  constructor
  · intro h
    have := congrArg BitVec.toNat h
    simpa only [BitVec.toNat_ofNat, Nat.mod_eq_of_lt ha, Nat.mod_eq_of_lt hb] using this
  · rintro rfl; rfl

/-- The signed minimum of two small numbers. -/
theorem minsi_ofNat {a b : ℕ} (ha : a < 2 ^ 31) (hb : b < 2 ^ 31) :
    IntOp.minsi (BitVec.ofNat 32 a) (BitVec.ofNat 32 b) = BitVec.ofNat 32 (min a b) := by
  apply BitVec.eq_of_toNat_eq
  rw [WordArith.toNat_minsi_of_lt]
  all_goals simp only [BitVec.toNat_ofNat]
  all_goals omega

/-- The signed minimum of many small numbers. -/
theorem fold_minsi {ι : Type*} (s : Finset ι) (u : ι → ℕ) (z : ℕ) (hz : z < 2 ^ 31) (hu : ∀ i, u i < 2 ^ 31) :
    s.fold IntOp.minsi (BitVec.ofNat 32 z) (fun i => BitVec.ofNat 32 (u i)) = BitVec.ofNat 32 (s.fold min z u) := by
  classical
  have key : s.fold IntOp.minsi (BitVec.ofNat 32 z) (fun i => BitVec.ofNat 32 (u i)) = BitVec.ofNat 32 (s.fold min z u) ∧ s.fold min z u < 2 ^ 31 := by
    refine Finset.induction_on s ?_ fun i t hi ih => ?_
    · exact ⟨rfl, hz⟩
    · rw [Finset.fold_insert hi, Finset.fold_insert hi, ih.1, minsi_ofNat (hu i) ih.2]
      exact ⟨rfl, by have := hu i; omega⟩
  exact key.1

/-- The signed comparison of two small numbers. -/
theorem slt_ofNat {a b : ℕ} (ha : a < 2 ^ 31) (hb : b < 2 ^ 31) :
    (BitVec.ofNat 32 a).slt (BitVec.ofNat 32 b) = decide (a < b) := by
  rw [BitVec.slt, BitVec.toInt_eq_toNat_cond, BitVec.toInt_eq_toNat_cond]
  simp only [BitVec.toNat_ofNat]
  rw [Nat.mod_eq_of_lt (by omega), Nat.mod_eq_of_lt (by omega), if_pos (by omega), if_pos (by omega)]
  simp

/-- The comparison's bit as a number: 1 where it holds, 0 where not. -/
theorem flag (a b : BitVec 32) :
    FloatOps.sitofp (F := Ideal) FTy.f32 (BitVec.setWidth 32 (IntOp.cmpi .eq a b)) = (if a = b then (1 : EReal) else 0) := by
  rw [show FloatOps.sitofp (F := Ideal) FTy.f32 (BitVec.setWidth 32 (IntOp.cmpi .eq a b)) = (((BitVec.setWidth 32 (IntOp.cmpi .eq a b)).toInt : ℝ) : EReal) from rfl]
  by_cases h : a = b
  · subst h
    rw [if_pos rfl, show IntOp.cmpi .eq a a = 1#1 from by simp [IntOp.cmpi]]
    norm_num
  · rw [if_neg h, show IntOp.cmpi .eq a b = 0#1 from by simp only [IntOp.cmpi, beq_eq_false_iff_ne.2 h]; rfl]
    norm_num

/-- A sum against a row that is 1 at `e` and 0 elsewhere is the entry at `e`. -/
theorem sum_pick {N : ℕ} (f : Fin N → EReal) (e : Fin N) : ∑ n, f n * (if n = e then (1 : EReal) else 0) = f e := by
  simp only [mul_ite, mul_one, mul_zero, Finset.sum_ite_eq', Finset.mem_univ, if_true]

/-- The same with the factors exchanged. -/
theorem sum_pick' {N : ℕ} (f : Fin N → EReal) (e : Fin N) : ∑ n, (if n = e then (1 : EReal) else 0) * f n = f e := by
  simp only [ite_mul, one_mul, zero_mul, Finset.sum_ite_eq', Finset.mem_univ, if_true]

end Cert.Words

end
-- ==== Proof.Far.lean ====
/- The farthest-point search of the kernel, read at an index. -/
module

public import proofs.«01_k».proof.Proof.Spec
public import proofs.«01_k».proof.Proof.Words
public import proofs.«01_k».proof.Proof.Lits
public import proofs.«01_k».proof.Proof.Gen.KernelIdeal.Frame
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Far

open Cert.KernelIdeal Cert.KernelIdeal.Gen Cert.Words Cert.Spec
open Idealize.ShloMosaic Idealize.ShloMosaic.TcCoe Idealize.ShloMosaic.Tactic
open Idealize.SL.Sem

open Classical

/-- A fold over all of `Fin n` that keeps `I` from one trip to the next ends with `I n`. -/
theorem foldl_inv {σ : Type} (I : ℕ → σ → Prop) : ∀ (n : ℕ) (g : Fin n → σ → σ) (init : σ) (_ : I 0 init)
    (_ : ∀ (k : Fin n) (a : σ), I k.val a → I (k.val + 1) (g k a)), I n ((List.finRange n).foldl (fun acc k => g k acc) init)
  | 0, _, _, h0, _ => by simpa using h0
  | n + 1, g, init, h0, hs => by
    rw [List.finRange_succ_last, List.foldl_append, List.foldl_map, List.foldl_cons, List.foldl_nil]
    exact hs (Fin.last n) _ (foldl_inv I n (fun k => g k.castSucc) init h0 fun k a h => hs k.castSucc a h)

/-- The smallest place where `D` equals its maximum, as the kernel searches it, is the first place where `D` is largest. -/
theorem min_place (D : Fin 4096 → EReal) :
    Finset.fold IntOp.minsi (2147483647#32) (fun x : Fin 4096 => if D x = Finset.fold max (Ideal.ofBits .f32 0xFF800000#32) D Finset.univ then BitVec.ofNat 32 x.val else 4096#32) Finset.univ
      = BitVec.ofNat 32 (firstMax D).val := by
  have hM : Finset.fold max (Ideal.ofBits .f32 0xFF800000#32) D Finset.univ = D (firstMax D) := by
    rw [Lits.ninf]
    refine le_antisymm ((Finset.fold_max_le _).2 ⟨bot_le, fun n _ => (firstMax_spec D).1 n⟩) ((Finset.le_fold_max _).2 (Or.inr ⟨_, Finset.mem_univ _, le_rfl⟩))
  rw [hM]
  have hu : (fun x : Fin 4096 => if D x = D (firstMax D) then BitVec.ofNat 32 x.val else 4096#32)
      = fun x => BitVec.ofNat 32 (if D x = D (firstMax D) then x.val else 4096) := by
    funext x; split_ifs <;> rfl
  rw [hu]
  refine (fold_minsi _ (fun x : Fin 4096 => if D x = D (firstMax D) then x.val else 4096) 2147483647 (by norm_num) (fun n => by have := n.isLt; split_ifs <;> omega)).trans ?_
  refine congrArg (BitVec.ofNat 32) ?_
  have hl := (firstMax D).isLt
  refine Pick.fold_min_eq _ _ _ _ (Or.inr ⟨firstMax D, Finset.mem_univ _, if_pos rfl⟩) (fun n _ => ?_) (by omega)
  split_ifs with h
  · by_contra hc
    exact absurd h (ne_of_lt ((firstMax_spec D).2 n (Fin.lt_def.2 (by omega))))
  · omega

variable (x0 x1 : Vec Ideal S3x8x4096 .f32)

/-- The points of batch `b`. -/
abbrev cloud (b : Fin 8) : Fin 4096 → Fin 3 → EReal := fun n j => x0 (ix3 j b n)

/-- The selector of the current point is 1 at that point and 0 elsewhere. -/
theorem pay5_apply (f : IVec S8x1 32) (b : Fin 8) (e : Fin 4096) (hf : f (ix2 b 0) = BitVec.ofNat 32 e.val) (n : Fin 4096) :
    k0_pay5 (F := Ideal) f (ix2 b n) = if n = e then (1 : EReal) else 0 := by
  pointwise [k0_pay5]
  rw [hf, flag]
  have h1 := n.isLt
  have h2 := e.isLt
  refine if_congr ?_ rfl rfl
  rw [ofNat_inj (by omega) (by omega), Fin.ext_iff]

/-- The sum against the selector is the current point's coordinate. -/
theorem pay6_apply (f : IVec S8x1 32) (b : Fin 8) (e : Fin 4096) (hf : f (ix2 b 0) = BitVec.ofNat 32 e.val) (d : Fin 3) :
    k0_pay6 x0 f (ix3 d b 0) = x0 (ix3 d b e) := by
  pointwise [k0_pay6, k0_pay1]
  simp only [pay5_apply f b e hf]
  exact sum_pick (fun n => (x0 (ix3 d b n) : EReal)) e

/-- The mark of output column `p` in trip `k`: set where `p = k`. -/
theorem pay7_apply (k : Fin k0_t1_loop.trips) (hk : k.val < 512) (p : Fin 512) :
    k0_pay7 (F := Ideal) k (ix3 0 0 p) = if p.val = k.val then (1 : EReal) else 0 := by
  pointwise [k0_pay7]
  rw [flag, show Scf.iv 0#32 1#32 k.val = BitVec.ofNat 32 k.val by simp [Scf.iv]]
  have h1 := p.isLt
  refine if_congr ?_ rfl rfl
  rw [ofNat_inj (by omega) (by omega)]

/-- Trip `k` writes the current point's coordinates into column `k`, -/
theorem pay8_apply (k : Fin k0_t1_loop.trips) (hk : k.val < 512) (f : IVec S8x1 32) (nc : FVec Ideal S3x8x512 .f32) (b : Fin 8) (e : Fin 4096)
    (hf : f (ix2 b 0) = BitVec.ofNat 32 e.val) (d : Fin 3) (p : Fin 512) :
    k0_pay8 x0 k f nc (ix3 d b p) = nc (ix3 d b p) + x0 (ix3 d b e) * (if p.val = k.val then (1 : EReal) else 0) := by
  pointwise [k0_pay8]
  rw [pay6_apply x0 f b e hf, pay7_apply k hk]

/-- and its normal. -/
theorem pay9_apply (k : Fin k0_t1_loop.trips) (hk : k.val < 512) (f : IVec S8x1 32) (nc : FVec Ideal S3x8x512 .f32) (b : Fin 8) (e : Fin 4096)
    (hf : f (ix2 b 0) = BitVec.ofNat 32 e.val) (d : Fin 3) (p : Fin 512) :
    k0_pay9 x0 k f nc (ix3 d b p) = nc (ix3 d b p) + x0 (ix3 d b e) * (if p.val = k.val then (1 : EReal) else 0) := by
  pointwise [k0_pay9]
  simp only [pay5_apply f b e hf, pay7_apply k hk]
  rw [sum_pick (fun n => (x0 (ix3 d b n) : EReal)) e]

/-- The distances after a trip: the smaller of the old one and the one to the current point. -/
theorem pay10_apply (D : FVec Ideal S8x4096 .f32) (f : IVec S8x1 32) (b : Fin 8) (e : Fin 4096)
    (hf : f (ix2 b 0) = BitVec.ofNat 32 e.val) (n : Fin 4096) :
    k0_pay10 x0 D f (ix2 b n) = min (D (ix2 b n) : EReal) (∑ j, (cloud x0 b n j - cloud x0 b e j) * (cloud x0 b n j - cloud x0 b e j)) := by
  pointwise [k0_pay10, k0_pay1]
  simp only [pay6_apply x0 f b e hf]

/-- The next point is the first at the largest distance. -/
theorem pay11_apply (D : FVec Ideal S8x4096 .f32) (f : IVec S8x1 32) (b : Fin 8) :
    k0_pay11 x0 D f (ix2 b 0) = BitVec.ofNat 32 (firstMax fun n => (k0_pay10 x0 D f (ix2 b n) : EReal)).val := by
  unfold k0_pay11
  generalize k0_pay10 x0 D f = E
  pointwise
  exact min_place fun n => (E (ix2 b n) : EReal)

/-- The state of the search's loop: distances, point taken, rows written so far of the points and of their normals. -/
abbrev St := FVec Ideal S8x4096 .f32 × IVec S8x1 32 × FVec Ideal S3x8x512 .f32 × FVec Ideal S3x8x512 .f32

/-- One trip of the loop. -/
def trip (a : Fin k0_t1_loop.trips) (acc : St) : St :=
  (k0_pay10 x0 acc.1 acc.2.1, k0_pay11 x0 acc.1 acc.2.1, k0_pay8 x0 a acc.2.1 acc.2.2.1, k0_pay9 x1 a acc.2.1 acc.2.2.2)

/-- The state before trip `k`: the search after `k` steps, and the first `k` rows written. -/
def Inv (k : ℕ) (acc : St) : Prop := ∀ b : Fin 8, (∀ n, acc.1 (ix2 b n) = (fpsAt (cloud x0 b) k).1 n)
  ∧ acc.2.1 (ix2 b 0) = BitVec.ofNat 32 (fpsAt (cloud x0 b) k).2.val
  ∧ (∀ d (p : Fin 512), acc.2.2.1 (ix3 d b p) = if p.val < k then x0 (ix3 d b (fps (cloud x0 b) p.val)) else (0 : EReal))
  ∧ (∀ d (p : Fin 512), acc.2.2.2 (ix3 d b p) = if p.val < k then x1 (ix3 d b (fps (cloud x0 b) p.val)) else (0 : EReal))

/-- The invariant holds before the first trip, -/
theorem inv_zero : Inv x0 x1 0 (k0_pay2, k0_pay3, k0_pay4, k0_pay4) := fun b => by
  refine ⟨fun n => ?_, ?_, fun d p => ?_, fun d p => ?_⟩
  · pointwise [k0_pay2]; rfl
  · pointwise [k0_pay3]; rfl
  · rw [if_neg (Nat.not_lt_zero _)]; pointwise [k0_pay4]
  · rw [if_neg (Nat.not_lt_zero _)]; pointwise [k0_pay4]

/-- A column that holds the first `k` entries, with the next one written, holds `k + 1`. -/
theorem row_step {u : ℕ → EReal} {v : EReal} (p k : ℕ) (h : v = if p < k then u p else 0) :
    v + u k * (if p = k then (1 : EReal) else 0) = if p < k + 1 then u p else 0 := by
  rcases lt_trichotomy p k with h1 | h1 | h1
  · rw [if_neg (ne_of_lt h1), if_pos (by omega), h, if_pos h1, mul_zero, add_zero]
  · subst h1; rw [if_pos rfl, if_pos (by omega), h, if_neg (lt_irrefl _), mul_one, zero_add]
  · rw [if_neg (ne_of_gt h1), if_neg (by omega), h, if_neg (by omega), mul_zero, add_zero]

/-- each trip keeps it, -/
theorem inv_step (k : Fin k0_t1_loop.trips) (hk : k.val < 512) (acc : St) (h : Inv x0 x1 k.val acc) : Inv x0 x1 (k.val + 1) (trip x0 x1 k acc) := fun b => by
  obtain ⟨h1, h2, h3, h4⟩ := h b
  have hD : ∀ n, (k0_pay10 x0 acc.1 acc.2.1 (ix2 b n) : EReal) = (fpsAt (cloud x0 b) (k.val + 1)).1 n := fun n => by
    rw [pay10_apply x0 acc.1 acc.2.1 b _ h2 n, h1 n, fpsAt_succ]; rfl
  refine ⟨hD, ?_, fun d p => ?_, fun d p => ?_⟩
  · have h5 := pay11_apply x0 acc.1 acc.2.1 b
    rw [funext hD] at h5
    rw [fpsAt_succ] at h5 ⊢
    have h6 : (firstMax fun n => (fpsStep (cloud x0 b) (fpsAt (cloud x0 b) k.val)).1 n) = (fpsStep (cloud x0 b) (fpsAt (cloud x0 b) k.val)).2 := rfl
    rw [h6] at h5
    have h7 : (trip x0 x1 k acc).2.1 = k0_pay11 x0 acc.1 acc.2.1 := by unfold trip; with_reducible rfl
    rw [h7, h5]
  · refine (pay8_apply x0 k hk acc.2.1 acc.2.2.1 b _ h2 d p).trans ?_
    exact row_step (u := fun i => x0 (ix3 d b (fps (cloud x0 b) i))) p.val k.val (h3 d p)
  · refine (pay9_apply x1 k hk acc.2.1 acc.2.2.2 b _ h2 d p).trans ?_
    exact row_step (u := fun i => x1 (ix3 d b (fps (cloud x0 b) i))) p.val k.val (h4 d p)

theorem trips_eq : k0_t1_loop.trips = 512 := by decide +kernel

/-- so it holds after any number of trips, -/
theorem inv_run (n : ℕ) (hn : k0_t1_loop.trips = n) : Inv x0 x1 n (Scf.fold (trip x0 x1) (k0_pay2, k0_pay3, k0_pay4, k0_pay4)) := by
  subst hn
  rw [Scf.fold_eq]
  exact foldl_inv (Inv x0 x1) _ (trip x0 x1) _ (inv_zero x0 x1) fun k a h => inv_step x0 x1 k (lt_of_lt_of_eq k.isLt trips_eq) a h

/-- and after all 512. -/
theorem inv_end : Inv x0 x1 512 (Scf.fold (trip x0 x1) (k0_pay2, k0_pay3, k0_pay4, k0_pay4)) := inv_run x0 x1 512 trips_eq

section Region

variable (V : (c : Dev nD) → (b : Ref sig .tc) → Buf (Elt Ideal) ((c : Thread nD τ).loc b))

/-- Region 0 has one point; its windows are the whole arrays. -/
theorem place0 : ∀ t : Fin cfg0.N, (∀ a, win0_0.index t (a : Fin 3) = 0) ∧ (∀ a, win0_1.index t (a : Fin 3) = 0)
    ∧ (∀ a, win0_2.index t (a : Fin 3) = 0) ∧ (∀ a, win0_3.index t (a : Fin 3) = 0) := (by decide +kernel : ∀ t : Fin grid0.N, _)

/-- The call's first block is its whole first array, -/
theorem read0 (c : Dev nD) (t : Fin cfg0.N) : (iblk0 V c 0 t : Vec Ideal S3x8x4096 .f32) = (V c main_v2 : Vec Ideal S3x8x4096 .f32) := by
  funext y
  idx_vars y
  blk_point [iblk0, place0 t]
/-- and the second likewise. -/
theorem read1 (c : Dev nD) (t : Fin cfg0.N) : (iblk0 V c 1 t : Vec Ideal S3x8x4096 .f32) = (V c main_v3 : Vec Ideal S3x8x4096 .f32) := by
  funext y
  idx_vars y
  blk_point [iblk0, place0 t]

/-- What the call stores, as the fold of its trips. -/
theorem outs_eq (c : Dev nD) (t : Fin cfg0.N) : outsAt0 V c t
    = ((Scf.fold (trip (V c main_v2 : Vec Ideal S3x8x4096 .f32) (V c main_v3 : Vec Ideal S3x8x4096 .f32)) (k0_pay2, k0_pay3, k0_pay4, k0_pay4)).2.2.1,
      (Scf.fold (trip (V c main_v2 : Vec Ideal S3x8x4096 .f32) (V c main_v3 : Vec Ideal S3x8x4096 .f32)) (k0_pay2, k0_pay3, k0_pay4, k0_pay4)).2.2.2) := by
  rw [← read0 V c t, ← read1 V c t]
  unfold outsAt0
  have e0 : View.read (Elt Ideal) (View.whole cc0_stg0_0) ((hs0_0 t).unread (iblk0 V c 0 t)) = iblk0 V c 0 t := (hs0_0 t).read_unread _
  have e1 : View.read (Elt Ideal) (View.whole cc0_stg1_0) ((hs0_1 t).unread (iblk0 V c 1 t)) = iblk0 V c 1 t := (hs0_1 t).read_unread _
  refine Prod.ext ?_ ?_
  · dsimp only
    frame_out
    rw [e0, e1]
    rfl
  · dsimp only
    frame_out
    rw [e0, e1]
    rfl

theorem row_congr (x z : S3x8x4096.Idx → EReal) {d d' : Fin 3} {b b' : Fin 8} {p p' : ℕ} (hd : d.val = d'.val) (hb : b.val = b'.val) (hp : p = p') :
    z (ix3 d b (fps (cloud x b) p)) = z (ix3 d' b' (fps (cloud x b') p')) := by
  obtain rfl := Fin.ext hd; obtain rfl := Fin.ext hb; obtain rfl := hp; rfl

/-- Row `p` of the first output is the point of step `p`, -/
theorem arr0_2 (c : Dev nD) : (dat0 V c).arrAt 2 cfg0.N = fun i : S3x8x512.Idx =>
    (V c main_v2 : Vec Ideal S3x8x4096 .f32) (ix3 (i 0) (i 1) (fps (cloud (V c main_v2 : Vec Ideal S3x8x4096 .f32) (i 1)) (i 2).val)) := by
  refine (dat0 V c).arrAt_eq_of_covers 2 _ (by decide +kernel) fun t hf y => ?_
  blk_simp
  rw [after0_2, outs_eq]
  idx_vars y
  refine ((inv_end _ _ _).2.2.1 _ _).trans ((if_pos (Fin.isLt _)).trans (row_congr _ _ ?_ ?_ ?_))
  all_goals blk_point [place0 t]

/-- and of the second that point's normal. -/
theorem arr0_3 (c : Dev nD) : (dat0 V c).arrAt 3 cfg0.N = fun i : S3x8x512.Idx =>
    (V c main_v3 : Vec Ideal S3x8x4096 .f32) (ix3 (i 0) (i 1) (fps (cloud (V c main_v2 : Vec Ideal S3x8x4096 .f32) (i 1)) (i 2).val)) := by
  refine (dat0 V c).arrAt_eq_of_covers 3 _ (by decide +kernel) fun t hf y => ?_
  blk_simp
  rw [after0_3, outs_eq]
  idx_vars y
  refine ((inv_end _ _ _).2.2.2 _ _).trans ((if_pos (Fin.isLt _)).trans (row_congr _ _ ?_ ?_ ?_))
  all_goals blk_point [place0 t]

end Region

end Cert.KernelIdeal.Far

end
-- ==== Proof.Ball.lean ====
/- The neighbour search's 32 rounds: each takes the smallest candidate of every row and drops it. -/
module

public import proofs.«01_k».proof.Proof.Gen.KernelIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.Ball

open Cert.KernelIdeal Cert.KernelIdeal.Gen
open Idealize.ShloMosaic Idealize.ShloMosaic.TcCoe Idealize.ShloMosaic.Tactic
open Idealize.SL.Sem

/-- Every point's own number, in each query's row. -/
abbrev nums : IVec S512x4096 32 := iota .tc S512x4096 32 [1] iota_S512x4096_d1_w32

/-- One word per query, repeated over the query's row. -/
abbrev wide (m : IVec S512x1 32) : IVec S512x4096 32 := broadcastTo S512x4096 m broadcasts_S512x1_S512x4096

/-- Every row's smallest word, -/
abbrev rmin0 (c : IVec S512x4096 32) : IVec S512 32 := multiReductionI .minsi [1] S512 c 2147483647#32 reduces_S512x4096_S512 rfl

/-- as a column. -/
def rmin (c : IVec S512x4096 32) : IVec S512x1 32 := shapeCast S512x1 (rmin0 c) shapeCasts_S512_S512x1

/-- The candidates without every row's smallest. -/
def dropMin (c : IVec S512x4096 32) : IVec S512x4096 32 :=
  select (cmpi .eq nums (wide (rmin c))) (broadcast S512x4096 4096#32) c

variable (x0 : Vec Ideal S1x512x3 .f32) (x1 : Vec Ideal S1x3x4096 .f32) (x2 : Vec Ideal S1x4096x16 .f32)

/-- The candidates before round `k`. -/
def cand : ℕ → IVec S512x4096 32
  | 0 => k1_pay4 (View.ld x0 r1_0) (View.ld x1 r1_1)
  | k + 1 => dropMin (cand k)

/-- The point that round `k` takes for every query: the smallest candidate, or round 0's where there is none. -/
def eff (k : ℕ) : IVec S512x1 32 :=
  select (cmpi .slt (rmin (cand x0 x1 k)) (broadcast S512x1 4096#32)) (rmin (cand x0 x1 k)) (rmin (cand x0 x1 0))

/-- The same as a row with 1 at that point and 0 elsewhere. -/
def onehot (k : ℕ) : IVec S512x4096 32 := extui 32 (cmpi .eq nums (wide (eff x0 x1 k))) natLt_1_32

/-- The rows that round `k` gathers, less the query in the first three channels. -/
def grp (k : ℕ) : FVec Ideal S512x16 .f32 :=
  subf (matmul dot_S512x4096_S4096x16_S512x16_1_0_0_1_n_n none (sitofp .f32 (onehot x0 x1 k)) (k1_pay3 (View.ld x2 r1_2)) (constant S512x16 .f32 0x00000000#32)) (k1_pay6 (View.ld x0 r1_0))

/-- The values that the printed rounds name are the rounds' candidates, smallest candidates and gathered rows. -/
theorem named :
    k1_pay180 x0 x1 x2 = nums
    ∧ k1_pay183 x0 x1 x2 = rmin (cand x0 x1 0)
    ∧ k1_pay182 x0 x1 x2 = cand x0 x1 0
    ∧ k1_pay185 x0 x1 x2 = rmin (cand x0 x1 0)
    ∧ k1_pay186 x0 x1 x2 = onehot x0 x1 0
    ∧ k1_pay187 x0 x1 x2 = cand x0 x1 2
    ∧ k1_pay188 x0 x1 x2 = rmin0 (cand x0 x1 2)
    ∧ k1_pay189 x0 x1 x2 = cand x0 x1 3
    ∧ k1_pay190 x0 x1 x2 = rmin (cand x0 x1 3)
    ∧ k1_pay191 x0 x1 x2 = cand x0 x1 5
    ∧ k1_pay192 x0 x1 x2 = rmin (cand x0 x1 5)
    ∧ k1_pay193 x0 x1 x2 = grp x0 x1 x2 5
    ∧ k1_pay195 x0 x1 x2 = cand x0 x1 7
    ∧ k1_pay196 x0 x1 x2 = rmin (cand x0 x1 7)
    ∧ k1_pay197 x0 x1 x2 = sitofp .f32 (onehot x0 x1 7)
    ∧ k1_pay198 x0 x1 x2 = cand x0 x1 9
    ∧ k1_pay199 x0 x1 x2 = rmin (cand x0 x1 9)
    ∧ k1_pay200 x0 x1 x2 = cand x0 x1 10
    ∧ k1_pay201 x0 x1 x2 = wide (rmin (cand x0 x1 10))
    ∧ k1_pay202 x0 x1 x2 = cand x0 x1 12
    ∧ k1_pay203 x0 x1 x2 = rmin (cand x0 x1 12)
    ∧ k1_pay204 x0 x1 x2 = grp x0 x1 x2 12
    ∧ k1_pay205 x0 x1 x2 = cand x0 x1 14
    ∧ k1_pay206 x0 x1 x2 = rmin (cand x0 x1 14)
    ∧ k1_pay207 x0 x1 x2 = grp x0 x1 x2 14
    ∧ k1_pay208 x0 x1 x2 = cand x0 x1 16
    ∧ k1_pay209 x0 x1 x2 = rmin (cand x0 x1 16)
    ∧ k1_pay210 x0 x1 x2 = cmpi .slt (rmin (cand x0 x1 16)) (broadcast S512x1 4096#32)
    ∧ k1_pay211 x0 x1 x2 = cand x0 x1 17
    ∧ k1_pay212 x0 x1 x2 = cmpi .eq nums (wide (rmin (cand x0 x1 17)))
    ∧ k1_pay213 x0 x1 x2 = cand x0 x1 19
    ∧ k1_pay214 x0 x1 x2 = rmin (cand x0 x1 19)
    ∧ k1_pay215 x0 x1 x2 = cand x0 x1 21
    ∧ k1_pay216 x0 x1 x2 = rmin (cand x0 x1 21)
    ∧ k1_pay217 x0 x1 x2 = grp x0 x1 x2 21
    ∧ k1_pay218 x0 x1 x2 = cand x0 x1 23
    ∧ k1_pay219 x0 x1 x2 = rmin (cand x0 x1 23)
    ∧ k1_pay220 x0 x1 x2 = wide (eff x0 x1 23)
    ∧ k1_pay221 x0 x1 x2 = cand x0 x1 25
    ∧ k1_pay222 x0 x1 x2 = cand x0 x1 26
    ∧ k1_pay223 x0 x1 x2 = rmin (cand x0 x1 26)
    ∧ k1_pay224 x0 x1 x2 = cand x0 x1 28
    ∧ k1_pay225 x0 x1 x2 = rmin (cand x0 x1 28)
    ∧ k1_pay226 x0 x1 x2 = grp x0 x1 x2 28
    ∧ k1_pay227 x0 x1 x2 = cand x0 x1 30
    ∧ k1_pay228 x0 x1 x2 = rmin (cand x0 x1 30)
    ∧ k1_pay229 x0 x1 x2 = onehot x0 x1 30 := by
  have h180 : k1_pay180 x0 x1 x2 = nums := rfl
  have h183 : k1_pay183 x0 x1 x2 = rmin (cand x0 x1 0) := rfl
  have h182 : k1_pay182 x0 x1 x2 = cand x0 x1 0 := rfl
  have h185 : k1_pay185 x0 x1 x2 = rmin (cand x0 x1 0) := rfl
  have h186 : k1_pay186 x0 x1 x2 = onehot x0 x1 0 := rfl
  have h187 : k1_pay187 x0 x1 x2 = cand x0 x1 2 := by rw [k1_pay187, h180, h182, h185]; rfl
  have h188 : k1_pay188 x0 x1 x2 = rmin0 (cand x0 x1 2) := by rw [k1_pay188, h180, h182, h185]; rfl
  have h189 : k1_pay189 x0 x1 x2 = cand x0 x1 3 := by rw [k1_pay189, h180, h187, h188]; rfl
  have h190 : k1_pay190 x0 x1 x2 = rmin (cand x0 x1 3) := by rw [k1_pay190, h180, h187, h188]; rfl
  have h191 : k1_pay191 x0 x1 x2 = cand x0 x1 5 := by rw [k1_pay191, h180, h189, h190]; rfl
  have h192 : k1_pay192 x0 x1 x2 = rmin (cand x0 x1 5) := by rw [k1_pay192, h180, h189, h190]; rfl
  have h193 : k1_pay193 x0 x1 x2 = grp x0 x1 x2 5 := by rw [k1_pay193, h180, h183, h189, h190]; rfl
  have h195 : k1_pay195 x0 x1 x2 = cand x0 x1 7 := by rw [k1_pay195, h180, h191, h192]; rfl
  have h196 : k1_pay196 x0 x1 x2 = rmin (cand x0 x1 7) := by rw [k1_pay196, h180, h191, h192]; rfl
  have h197 : k1_pay197 x0 x1 x2 = sitofp .f32 (onehot x0 x1 7) := by rw [k1_pay197, h180, h183, h191, h192]; rfl
  have h198 : k1_pay198 x0 x1 x2 = cand x0 x1 9 := by rw [k1_pay198, h180, h195, h196]; rfl
  have h199 : k1_pay199 x0 x1 x2 = rmin (cand x0 x1 9) := by rw [k1_pay199, h180, h195, h196]; rfl
  have h200 : k1_pay200 x0 x1 x2 = cand x0 x1 10 := by rw [k1_pay200, h180, h198, h199]; rfl
  have h201 : k1_pay201 x0 x1 x2 = wide (rmin (cand x0 x1 10)) := by rw [k1_pay201, h180, h198, h199]; rfl
  have h202 : k1_pay202 x0 x1 x2 = cand x0 x1 12 := by rw [k1_pay202, h180, h200, h201]; rfl
  have h203 : k1_pay203 x0 x1 x2 = rmin (cand x0 x1 12) := by rw [k1_pay203, h180, h200, h201]; rfl
  have h204 : k1_pay204 x0 x1 x2 = grp x0 x1 x2 12 := by rw [k1_pay204, h180, h183, h200, h201]; rfl
  have h205 : k1_pay205 x0 x1 x2 = cand x0 x1 14 := by rw [k1_pay205, h180, h202, h203]; rfl
  have h206 : k1_pay206 x0 x1 x2 = rmin (cand x0 x1 14) := by rw [k1_pay206, h180, h202, h203]; rfl
  have h207 : k1_pay207 x0 x1 x2 = grp x0 x1 x2 14 := by rw [k1_pay207, h180, h183, h202, h203]; rfl
  have h208 : k1_pay208 x0 x1 x2 = cand x0 x1 16 := by rw [k1_pay208, h180, h205, h206]; rfl
  have h209 : k1_pay209 x0 x1 x2 = rmin (cand x0 x1 16) := by rw [k1_pay209, h180, h205, h206]; rfl
  have h210 : k1_pay210 x0 x1 x2 = cmpi .slt (rmin (cand x0 x1 16)) (broadcast S512x1 4096#32) := by rw [k1_pay210, h180, h205, h206]; rfl
  have h211 : k1_pay211 x0 x1 x2 = cand x0 x1 17 := by rw [k1_pay211, h180, h208, h209]; rfl
  have h212 : k1_pay212 x0 x1 x2 = cmpi .eq nums (wide (rmin (cand x0 x1 17))) := by rw [k1_pay212, h180, h208, h209]; rfl
  have h213 : k1_pay213 x0 x1 x2 = cand x0 x1 19 := by rw [k1_pay213, h180, h211, h212]; rfl
  have h214 : k1_pay214 x0 x1 x2 = rmin (cand x0 x1 19) := by rw [k1_pay214, h180, h211, h212]; rfl
  have h215 : k1_pay215 x0 x1 x2 = cand x0 x1 21 := by rw [k1_pay215, h180, h213, h214]; rfl
  have h216 : k1_pay216 x0 x1 x2 = rmin (cand x0 x1 21) := by rw [k1_pay216, h180, h213, h214]; rfl
  have h217 : k1_pay217 x0 x1 x2 = grp x0 x1 x2 21 := by rw [k1_pay217, h180, h183, h213, h214]; rfl
  have h218 : k1_pay218 x0 x1 x2 = cand x0 x1 23 := by rw [k1_pay218, h180, h215, h216]; rfl
  have h219 : k1_pay219 x0 x1 x2 = rmin (cand x0 x1 23) := by rw [k1_pay219, h180, h215, h216]; rfl
  have h220 : k1_pay220 x0 x1 x2 = wide (eff x0 x1 23) := by rw [k1_pay220, h180, h183, h215, h216]; rfl
  have h221 : k1_pay221 x0 x1 x2 = cand x0 x1 25 := by rw [k1_pay221, h180, h218, h219]; rfl
  have h222 : k1_pay222 x0 x1 x2 = cand x0 x1 26 := by rw [k1_pay222, h180, h221]; rfl
  have h223 : k1_pay223 x0 x1 x2 = rmin (cand x0 x1 26) := by rw [k1_pay223, h180, h221]; rfl
  have h224 : k1_pay224 x0 x1 x2 = cand x0 x1 28 := by rw [k1_pay224, h180, h222, h223]; rfl
  have h225 : k1_pay225 x0 x1 x2 = rmin (cand x0 x1 28) := by rw [k1_pay225, h180, h222, h223]; rfl
  have h226 : k1_pay226 x0 x1 x2 = grp x0 x1 x2 28 := by rw [k1_pay226, h180, h183, h222, h223]; rfl
  have h227 : k1_pay227 x0 x1 x2 = cand x0 x1 30 := by rw [k1_pay227, h180, h224, h225]; rfl
  have h228 : k1_pay228 x0 x1 x2 = rmin (cand x0 x1 30) := by rw [k1_pay228, h180, h224, h225]; rfl
  have h229 : k1_pay229 x0 x1 x2 = onehot x0 x1 30 := by rw [k1_pay229, h180, h183, h224, h225]; rfl
  exact ⟨h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229⟩

end Cert.KernelIdeal.Ball

end
-- ==== Proof.BallOut.lean ====
/- What the neighbour search stores: the rows gathered by its 32 rounds, their sums and their second moments. -/
module

public import proofs.«01_k».proof.Proof.Ball
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.Ball

open Cert.KernelIdeal Cert.KernelIdeal.Gen
open Idealize.ShloMosaic Idealize.ShloMosaic.TcCoe Idealize.ShloMosaic.Tactic
open Idealize.SL.Sem

variable (x0 : Vec Ideal S1x512x3 .f32) (x1 : Vec Ideal S1x3x4096 .f32) (x2 : Vec Ideal S1x4096x16 .f32)

/-- A round's rows as the stored block. -/
abbrev blk (g : FVec Ideal S512x16 .f32) : FVec Ideal S1x1x512x16 .f32 := shapeCast S1x1x512x16 g shapeCasts_S512x16_S1x1x512x16

/-- The sums of the rows of the rounds before `k`. -/
def rowSum : ℕ → FVec Ideal S1x16 .f32
  | 0 => k1_pay7
  | k + 1 => addf (rowSum k) (shapeCast S1x16 (multiReduction .add [0] S16 (grp x0 x1 x2 k) 0x00000000#32 reduces_S512x16_S16 (.inl rfl) rfl) shapeCasts_S16_S1x16)

/-- The second moments of the rows of the rounds before `k`. -/
def rowSq : ℕ → FVec Ideal S16x16 .f32
  | 0 => k1_pay8
  | k + 1 => addf (rowSq k) (matmul dot_S512x16_S512x16_S16x16_0_0_1_1_n_n none (grp x0 x1 x2 k) (grp x0 x1 x2 k) (constant S16x16 .f32 0x00000000#32))

/-- The stored blocks are the rounds' rows. -/
theorem out1_3_eq : out1_3 x0 x1 x2 = View.canon [⟨r1_34, blk (grp x0 x1 x2 31)⟩,
    ⟨r1_33, blk (grp x0 x1 x2 30)⟩,
    ⟨r1_32, blk (grp x0 x1 x2 29)⟩,
    ⟨r1_31, blk (grp x0 x1 x2 28)⟩,
    ⟨r1_30, blk (grp x0 x1 x2 27)⟩,
    ⟨r1_29, blk (grp x0 x1 x2 26)⟩,
    ⟨r1_28, blk (grp x0 x1 x2 25)⟩,
    ⟨r1_27, blk (grp x0 x1 x2 24)⟩,
    ⟨r1_26, blk (grp x0 x1 x2 23)⟩,
    ⟨r1_25, blk (grp x0 x1 x2 22)⟩,
    ⟨r1_24, blk (grp x0 x1 x2 21)⟩,
    ⟨r1_23, blk (grp x0 x1 x2 20)⟩,
    ⟨r1_22, blk (grp x0 x1 x2 19)⟩,
    ⟨r1_21, blk (grp x0 x1 x2 18)⟩,
    ⟨r1_20, blk (grp x0 x1 x2 17)⟩,
    ⟨r1_19, blk (grp x0 x1 x2 16)⟩,
    ⟨r1_18, blk (grp x0 x1 x2 15)⟩,
    ⟨r1_17, blk (grp x0 x1 x2 14)⟩,
    ⟨r1_16, blk (grp x0 x1 x2 13)⟩,
    ⟨r1_15, blk (grp x0 x1 x2 12)⟩,
    ⟨r1_14, blk (grp x0 x1 x2 11)⟩,
    ⟨r1_13, blk (grp x0 x1 x2 10)⟩,
    ⟨r1_12, blk (grp x0 x1 x2 9)⟩,
    ⟨r1_11, blk (grp x0 x1 x2 8)⟩,
    ⟨r1_10, blk (grp x0 x1 x2 7)⟩,
    ⟨r1_9, blk (grp x0 x1 x2 6)⟩,
    ⟨r1_8, blk (grp x0 x1 x2 5)⟩,
    ⟨r1_7, blk (grp x0 x1 x2 4)⟩,
    ⟨r1_6, blk (grp x0 x1 x2 3)⟩,
    ⟨r1_5, blk (grp x0 x1 x2 2)⟩,
    ⟨r1_4, blk (grp x0 x1 x2 1)⟩,
    ⟨r1_3, blk (grp x0 x1 x2 0)⟩] := by
  obtain ⟨h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229⟩ := named x0 x1 x2
  have h181 : k1_pay181 x0 x1 x2 = k1_pay3 (View.ld x2 r1_2) := rfl
  have h184 : k1_pay184 x0 x1 x2 = k1_pay6 (View.ld x0 r1_0) := rfl
  have h194 : k1_pay194 x0 x1 x2 = constant S512x16 .f32 0x00000000#32 := rfl
  unfold out1_3
  simp only [h181, h184, h194, h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229]
  rfl

/-- The stored sums are those of all 32 rounds, -/
theorem out1_4_eq : out1_4 x0 x1 x2 = View.canon [⟨r1_35, shapeCast S1x1x16 (rowSum x0 x1 x2 32) shapeCasts_S1x16_S1x1x16⟩] := by
  obtain ⟨h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229⟩ := named x0 x1 x2
  have h181 : k1_pay181 x0 x1 x2 = k1_pay3 (View.ld x2 r1_2) := rfl
  have h184 : k1_pay184 x0 x1 x2 = k1_pay6 (View.ld x0 r1_0) := rfl
  have h194 : k1_pay194 x0 x1 x2 = constant S512x16 .f32 0x00000000#32 := rfl
  unfold out1_4
  simp only [h181, h184, h194, h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229]
  rfl

/-- and so are the second moments. -/
theorem out1_5_eq : out1_5 x0 x1 x2 = View.canon [⟨r1_36, k1_pay1 (rowSq x0 x1 x2 32)⟩] := by
  obtain ⟨h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229⟩ := named x0 x1 x2
  have h181 : k1_pay181 x0 x1 x2 = k1_pay3 (View.ld x2 r1_2) := rfl
  have h184 : k1_pay184 x0 x1 x2 = k1_pay6 (View.ld x0 r1_0) := rfl
  have h194 : k1_pay194 x0 x1 x2 = constant S512x16 .f32 0x00000000#32 := rfl
  unfold out1_5
  simp only [h181, h184, h194, h180, h183, h182, h185, h186, h187, h188, h189, h190, h191, h192, h193, h195, h196, h197, h198, h199, h200, h201, h202, h203, h204, h205, h206, h207, h208, h209, h210, h211, h212, h213, h214, h215, h216, h217, h218, h219, h220, h221, h222, h223, h224, h225, h226, h227, h228, h229]
  rfl

end Cert.KernelIdeal.Ball

end
-- ==== Proof.BallVal.lean ====
/- The neighbour search read at an index. -/
module

public import proofs.«01_k».proof.Proof.BallOut
public import proofs.«01_k».proof.Proof.Words
public import proofs.«01_k».proof.Proof.Spec
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Ball

open Cert.KernelIdeal Cert.KernelIdeal.Gen Cert.Pick Cert.Words Cert.Spec
open Idealize.ShloMosaic Idealize.ShloMosaic.TcCoe Idealize.ShloMosaic.Tactic
open Idealize.SL.Sem

open Classical

variable (x0 : Vec Ideal S1x512x3 .f32) (x1 : Vec Ideal S1x3x4096 .f32) (x2 : Vec Ideal S1x4096x16 .f32)

/-- Query `s` of a block, the block's points, and the points in the ball about the query. -/
abbrev qry (s : Fin 512) : Fin 3 → EReal := fun j => x0 (ix3 0 s j)
abbrev pts : Fin 4096 → Fin 3 → EReal := fun n j => x1 (ix3 0 j n)
/-- Point `n` is a neighbour of query `s`. -/
abbrev ball (s : Fin 512) : Fin 4096 → Prop := fun n => near (qry x0 s) (pts x1 n)

/-- The row minimum after `k` rounds is the `k`-th smallest candidate. -/
theorem rmin_apply (P : Fin 4096 → Prop) (c : IVec S512x4096 32) (s : Fin 512) (k : ℕ)
    (h : ∀ n, c (ix2 s n) = BitVec.ofNat 32 (left P k n)) : rmin c (ix2 s 0) = BitVec.ofNat 32 (kth P k) := by
  pointwise [rmin]
  simp only [h]
  have hl : ∀ n, left P k n ≤ 4096 := fun n => by
    unfold left; split_ifs
    · exact le_of_lt n.isLt
    · exact le_rfl
  refine (fold_minsi _ (fun n => left P k n) 2147483647 (by norm_num) (fun n => by have := hl n; omega)).trans ?_
  refine congrArg (BitVec.ofNat 32) ?_
  refine fold_min_eq _ _ _ _ (Or.inr ?_) (fun n _ => kth_le_left P k n) ((kth_le P k).trans (by norm_num))
  by_cases hk : kth P k < 4096
  · obtain ⟨n, hp, hr, hn⟩ := kth_mem P k hk
    exact ⟨n, Finset.mem_univ _, by rw [hn]; unfold left; rw [if_pos ⟨hp, hr⟩]⟩
  · refine ⟨0, Finset.mem_univ _, le_antisymm ((hl 0).trans (not_lt.1 hk)) (kth_le_left P k 0)⟩

/-- Before round `k` the candidates are the ball's members with `k` or more members before them. -/
theorem cand_apply (s : Fin 512) : ∀ (k : ℕ) (n : Fin 4096), cand x0 x1 k (ix2 s n) = BitVec.ofNat 32 (left (ball x0 x1 s) k n)
  | 0, n => by
    unfold cand
    pointwise [k1_pay4, k1_pay2]
    rw [left_zero]
    by_cases h : ball x0 x1 s n
    · rw [if_pos h]; exact if_pos h
    · rw [if_neg h]; exact if_neg h
  | k + 1, n => by
    unfold cand
    pointwise [dropMin]
    rw [rmin_apply (ball x0 x1 s) _ s k (fun n => cand_apply s k n), cand_apply s k n, left_succ]
    have h1 := kth_le (ball x0 x1 s) k
    have h2 := n.isLt
    by_cases h : n.val = kth (ball x0 x1 s) k
    · rw [if_pos h, ← h]
      simp only [IntOp.cmpi, beq_self_eq_true]; rfl
    · rw [if_neg h]
      have : ¬(BitVec.ofNat 32 n.val = BitVec.ofNat 32 (kth (ball x0 x1 s) k)) := fun he => h ((ofNat_inj (by omega) (by omega)).1 he)
      simp only [IntOp.cmpi, beq_eq_false_iff_ne.2 this]; rfl

/-- Round `k` takes the ball's point number `k`. -/
theorem eff_apply (k : ℕ) (s : Fin 512) : Ball.eff x0 x1 k (ix2 s 0) = BitVec.ofNat 32 (Pick.eff (ball x0 x1 s) k) := by
  pointwise [Ball.eff]
  rw [rmin_apply (ball x0 x1 s) _ s k (fun n => cand_apply x0 x1 s k n), rmin_apply (ball x0 x1 s) _ s 0 (fun n => cand_apply x0 x1 s 0 n)]
  have h1 := kth_le (ball x0 x1 s) k
  rw [show (4096#32 : BitVec 32) = BitVec.ofNat 32 4096 from rfl]
  unfold Pick.eff
  simp only [IntOp.cmpi]
  rw [slt_ofNat (by omega) (by norm_num)]
  by_cases h : kth (ball x0 x1 s) k < 4096
  · rw [if_pos h, decide_eq_true h]; rfl
  · rw [if_neg h, decide_eq_false h]; rfl

/-- What round `k` gathers for query `s`: the row of the ball's point number `k`, less the query in the first three channels. -/
theorem grp_apply (k : ℕ) (s : Fin 512) (n : Fin 16) (H : ∃ m, near (qry x0 s) (pts x1 m)) :
    grp x0 x1 x2 k (ix2 s n) = x2 (ix3 0 (nb (qry x0 s) (pts x1) k) n) - (if h : n.val < 3 then x0 (ix3 0 s ⟨n.val, h⟩) else 0 : EReal) := by
  pointwise [grp, onehot, k1_pay3, k1_pay6, k1_pay2]
  congr 1
  rw [eff_apply, ← nb_val _ _ H k]
  simp only [flag]
  rw [← sum_pick' (fun m => (x2 (ix3 0 m n) : EReal)) (nb (qry x0 s) (pts x1) k)]
  refine Finset.sum_congr rfl fun m _ => ?_
  have h1 := m.isLt
  have h2 := (nb (qry x0 s) (pts x1) k).isLt
  congr 1
  refine if_congr ?_ rfl rfl
  rw [ofNat_inj (by omega) (by omega), Fin.ext_iff]

/-- The running sum after `k` rounds, as a sum over rounds and queries. -/
theorem rowSum_apply (n : Fin 16) : ∀ k : ℕ, rowSum x0 x1 x2 k (ix2 0 n) = ∑ i ∈ Finset.range k, ∑ s : Fin 512, (grp x0 x1 x2 i (ix2 s n) : EReal)
  | 0 => by
    unfold rowSum
    pointwise [k1_pay7]
    rw [Finset.range_zero, Finset.sum_empty]
  | k + 1 => by
    unfold rowSum
    pointwise
    rw [rowSum_apply n k, Finset.sum_range_succ]

/-- The running second moment after `k` rounds, as a sum over rounds and queries. -/
theorem rowSq_apply (m n : Fin 16) : ∀ k : ℕ, rowSq x0 x1 x2 k (ix2 m n)
    = ∑ i ∈ Finset.range k, ∑ s : Fin 512, (grp x0 x1 x2 i (ix2 s m) * grp x0 x1 x2 i (ix2 s n) : EReal)
  | 0 => by
    unfold rowSq
    pointwise [k1_pay8]
    rw [Finset.range_zero, Finset.sum_empty]
  | k + 1 => by
    unfold rowSq
    pointwise
    rw [rowSq_apply m n k, Finset.sum_range_succ]

end Cert.KernelIdeal.Ball

end
-- ==== Proof.BallArr.lean ====
/- What the grouping call of the kernel leaves in its output arrays, read at an index. -/
module

public import proofs.«01_k».proof.Proof.BallVal
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Ball

open Cert.KernelIdeal Cert.KernelIdeal.Gen Cert.Pick Cert.Words Cert.Spec
open Idealize.ShloMosaic Idealize.ShloMosaic.TcCoe Idealize.ShloMosaic.Tactic
open Idealize.SL.Sem

open Classical

variable (V : (c : Dev nD) → (b : Ref sig .tc) → Buf (Elt Ideal) ((c : Thread nD τ).loc b))

/-- The rows `d` gathered for query `s` of batch `b` in round `k`: the row of the ball's point number `k`, less the query in the first three channels. -/
def gat (q : S8x512x3.Idx → EReal) (p : S8x3x4096.Idx → EReal) (d : S8x4096x16.Idx → EReal) (b : Fin 8) (k : ℕ) (s : Fin 512) (n : Fin 16) : EReal :=
  d (ix3 b (nb (fun j => q (ix3 b s j)) (fun m j => p (ix3 b j m)) k) n) - (if h : n.val < 3 then q (ix3 b s ⟨n.val, h⟩) else 0)

theorem gat_congr (q : S8x512x3.Idx → EReal) (p : S8x3x4096.Idx → EReal) (d : S8x4096x16.Idx → EReal) {b b' : Fin 8} {k k' : ℕ}
    {s s' : Fin 512} {n n' : Fin 16} (hb : b.val = b'.val) (hk : k = k') (hs : s.val = s'.val) (hn : n.val = n'.val) :
    gat q p d b k s n = gat q p d b' k' s' n' := by
  obtain rfl := Fin.ext hb; obtain rfl := Fin.ext hs; obtain rfl := Fin.ext hn; obtain rfl := hk; rfl

/-- Where region 1's windows stand at point `t`: batch `t`. -/
theorem place1 : ∀ t : Fin cfg1.N, win1_0.index t (0 : Fin 3) = t.val ∧ win1_0.index t (1 : Fin 3) = 0 ∧ win1_0.index t (2 : Fin 3) = 0 ∧ win1_1.index t (0 : Fin 3) = t.val ∧ win1_1.index t (1 : Fin 3) = 0 ∧ win1_1.index t (2 : Fin 3) = 0 ∧ win1_2.index t (0 : Fin 3) = t.val ∧ win1_2.index t (1 : Fin 3) = 0 ∧ win1_2.index t (2 : Fin 3) = 0 ∧ win1_3.index t (0 : Fin 4) = t.val ∧ win1_3.index t (1 : Fin 4) = 0 ∧ win1_3.index t (2 : Fin 4) = 0 ∧ win1_3.index t (3 : Fin 4) = 0 ∧ win1_4.index t (0 : Fin 3) = t.val ∧ win1_4.index t (1 : Fin 3) = 0 ∧ win1_4.index t (2 : Fin 3) = 0 ∧ win1_5.index t (0 : Fin 3) = t.val ∧ win1_5.index t (1 : Fin 3) = 0 ∧ win1_5.index t (2 : Fin 3) = 0 :=
  (by decide +kernel : ∀ t : Fin grid1.N, _)

/-- The stored block of one round is that round's rows. -/
theorem blk_tile (f : ℕ → FVec Ideal S512x16 .f32) (j k : ℕ) (s : Fin 512) (n : Fin 16) (x : S1x1x512x16.Idx)
    (h1 : k = j + (x 1).val) (h2 : s.val = (x 2).val) (h3 : n.val = (x 3).val) : blk (f j) x = f k (ix2 s n) := by
  idx_vars x
  pointwise [blk]
  have hk : k = j := by simp at h1; omega
  subst hk
  refine congrArg (f k) (congrArg₂ ix2 ?_ ?_)
  · exact Fin.ext h2.symm
  · exact Fin.ext h3.symm

/-- What a step stores in its first output block, at an index. -/
theorem out1_3_apply (x0 : Vec Ideal S1x512x3 .f32) (x1 : Vec Ideal S1x3x4096 .f32) (x2 : Vec Ideal S1x4096x16 .f32)
    (z : Fin 1) (k : Fin 32) (s : Fin 512) (n : Fin 16) : out1_3 x0 x1 x2 (ix4 z k s n) = grp x0 x1 x2 k.val (ix2 s n) := by
  rw [out1_3_eq]
  canon_tiles x h
  all_goals exact blk_tile (grp x0 x1 x2) _ _ s n x (by simpa using h1) (by simpa using h2) (by simpa using h3)

/-- The blocks of region 1 at point `t`. -/
theorem read_q (c : Dev nD) (t : Fin cfg1.N) (s : Fin 512) (j : Fin 3) :
    (iblk1 V c 0 t : Vec Ideal S1x512x3 .f32) (ix3 0 s j) = (V c main_v5 : Vec Ideal S8x512x3 .f32) (ix3 ⟨t.val, t.isLt⟩ s j) := by
  blk_point [iblk1, place1 t]
/-- The block of point coordinates that step `t` reads is cloud `t` of the array. -/
theorem read_p (c : Dev nD) (t : Fin cfg1.N) (j : Fin 3) (n : Fin 4096) :
    (iblk1 V c 1 t : Vec Ideal S1x3x4096 .f32) (ix3 0 j n) = (V c main_v0 : Vec Ideal S8x3x4096 .f32) (ix3 ⟨t.val, t.isLt⟩ j n) := by
  blk_point [iblk1, place1 t]
/-- The block of data rows that step `t` reads is cloud `t` of the array. -/
theorem read_d (c : Dev nD) (t : Fin cfg1.N) (m : Fin 4096) (n : Fin 16) :
    (iblk1 V c 2 t : Vec Ideal S1x4096x16 .f32) (ix3 0 m n) = (V c main_v8 : Vec Ideal S8x4096x16 .f32) (ix3 ⟨t.val, t.isLt⟩ m n) := by
  blk_point [iblk1, place1 t]

/-- Every query has a point in its ball. -/
def Met (q : S8x512x3.Idx → EReal) (p : S8x3x4096.Idx → EReal) : Prop :=
  ∀ b s, ∃ m : Fin 4096, near (fun j => q (ix3 b s j)) (fun j => p (ix3 b j m))

/-- One round's rows at point `t` are the gathered rows of batch `t`. -/
theorem grp_gat (c : Dev nD) (H : Met (V c main_v5 : Vec Ideal S8x512x3 .f32) (V c main_v0 : Vec Ideal S8x3x4096 .f32))
    (t : Fin cfg1.N) (k : ℕ) (s : Fin 512) (n : Fin 16) :
    grp (iblk1 V c 0 t) (iblk1 V c 1 t) (iblk1 V c 2 t) k (ix2 s n)
      = gat (V c main_v5 : Vec Ideal S8x512x3 .f32) (V c main_v0 : Vec Ideal S8x3x4096 .f32) (V c main_v8 : Vec Ideal S8x4096x16 .f32) ⟨t.val, t.isLt⟩ k s n := by
  have hq : qry (iblk1 V c 0 t) s = fun j => (V c main_v5 : Vec Ideal S8x512x3 .f32) (ix3 ⟨t.val, t.isLt⟩ s j) := funext fun j => read_q V c t s j
  have hp : pts (iblk1 V c 1 t) = fun m j => (V c main_v0 : Vec Ideal S8x3x4096 .f32) (ix3 ⟨t.val, t.isLt⟩ j m) := funext fun m => funext fun j => read_p V c t j m
  rw [grp_apply _ _ _ _ _ _ (by rw [hq, hp]; exact H _ _), hq, hp, read_d]
  simp only [read_q]
  rfl

/-- If every query has a neighbour, the first output array holds the gathered rows less their query. -/
theorem arr1_3 (c : Dev nD) (H : Met (V c main_v5 : Vec Ideal S8x512x3 .f32) (V c main_v0 : Vec Ideal S8x3x4096 .f32)) :
    (dat1 V c).arrAt 3 cfg1.N = fun i : S8x32x512x16.Idx =>
      gat (V c main_v5 : Vec Ideal S8x512x3 .f32) (V c main_v0 : Vec Ideal S8x3x4096 .f32) (V c main_v8 : Vec Ideal S8x4096x16 .f32) (i 0) (i 1).val (i 2) (i 3) := by
  refine (dat1 V c).arrAt_eq_of_covers 3 _ (by decide +kernel) fun t hf y => ?_
  blk_simp
  rw [after1_3]
  idx_vars y
  rw [out1_3_apply, grp_gat V c H]
  refine gat_congr _ _ _ ?_ ?_ ?_ ?_
  all_goals blk_point [place1 t]

/-- If every query has a neighbour, the second output array holds the sums of the gathered rows over a cloud's samples. -/
theorem arr1_4 (c : Dev nD) (H : Met (V c main_v5 : Vec Ideal S8x512x3 .f32) (V c main_v0 : Vec Ideal S8x3x4096 .f32)) :
    (dat1 V c).arrAt 4 cfg1.N = fun i : S8x1x16.Idx => ∑ k ∈ Finset.range 32, ∑ s : Fin 512,
      gat (V c main_v5 : Vec Ideal S8x512x3 .f32) (V c main_v0 : Vec Ideal S8x3x4096 .f32) (V c main_v8 : Vec Ideal S8x4096x16 .f32) (i 0) k s (i 2) := by
  refine (dat1 V c).arrAt_eq_of_covers 4 _ (by decide +kernel) fun t hf y => ?_
  blk_simp
  rw [after1_4, out1_4_eq]
  frame_out
  idx_vars y
  pointwise
  rw [rowSum_apply]
  simp only [grp_gat V c H]
  refine @Finset.sum_congr ℕ EReal _ _ _ _ _ rfl fun k _ => @Finset.sum_congr _ EReal _ _ _ _ _ rfl fun s _ => gat_congr _ _ _ ?_ rfl rfl ?_
  all_goals blk_point [place1 t]

/-- If every query has a neighbour, the third output array holds the sums of products of two channels over a cloud's samples. -/
theorem arr1_5 (c : Dev nD) (H : Met (V c main_v5 : Vec Ideal S8x512x3 .f32) (V c main_v0 : Vec Ideal S8x3x4096 .f32)) :
    (dat1 V c).arrAt 5 cfg1.N = fun i : S8x16x16.Idx => ∑ k ∈ Finset.range 32, ∑ s : Fin 512,
      gat (V c main_v5 : Vec Ideal S8x512x3 .f32) (V c main_v0 : Vec Ideal S8x3x4096 .f32) (V c main_v8 : Vec Ideal S8x4096x16 .f32) (i 0) k s (i 1)
        * gat (V c main_v5 : Vec Ideal S8x512x3 .f32) (V c main_v0 : Vec Ideal S8x3x4096 .f32) (V c main_v8 : Vec Ideal S8x4096x16 .f32) (i 0) k s (i 2) := by
  refine (dat1 V c).arrAt_eq_of_covers 5 _ (by decide +kernel) fun t hf y => ?_
  blk_simp
  rw [after1_5, out1_5_eq]
  frame_out
  idx_vars y
  pointwise [k1_pay1]
  rw [rowSq_apply]
  simp only [grp_gat V c H]
  refine @Finset.sum_congr ℕ EReal _ _ _ _ _ rfl fun k _ => @Finset.sum_congr _ EReal _ _ _ _ _ rfl fun s _ =>
    congrArg₂ (fun u v : EReal => u * v) (gat_congr _ _ _ ?_ rfl rfl ?_) (gat_congr _ _ _ ?_ rfl rfl ?_)
  all_goals blk_point [place1 t]

end Cert.KernelIdeal.Ball

end
-- ==== Proof.Layers.lean ====
/- What the three layer calls of the kernel leave in their output arrays, read at an index. -/
module

public import proofs.«01_k».proof.Proof.Gen.KernelIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL.Sem

variable (V : (c : Dev nD) → (b : Ref sig .tc) → Buf (Elt Ideal) ((c : Thread nD τ).loc b))

/-- One layer at channel `o` and sample `n` of batch `b`: the weights' row times the sample, plus the offset, not below 0. -/
def layer {O K N : ℕ} (x : (⟨3, ![8, K, N]⟩ : Shape).Idx → EReal) (w : (⟨2, ![O, K]⟩ : Shape).Idx → EReal)
    (d : (⟨2, ![O, 1]⟩ : Shape).Idx → EReal) (b : Fin 8) (o : Fin O) (n : Fin N) : EReal :=
  max (∑ k : Fin K, w (ix2 o k) * x (ix3 b k n) + d (ix2 o 0)) 0

/-- Where region 2's windows stand at point `t`: batch `t` of the samples, the whole of the weights. -/
theorem place2 : ∀ t : Fin cfg2.N, win2_0.index t (0 : Fin 3) = t.val ∧ win2_0.index t (1 : Fin 3) = 0 ∧ win2_0.index t (2 : Fin 3) = 0
    ∧ win2_1.index t (0 : Fin 2) = 0 ∧ win2_1.index t (1 : Fin 2) = 0 ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)
/-- Where region 3's windows stand at point `t`. -/
theorem place3 : ∀ t : Fin cfg3.N, win3_0.index t (0 : Fin 3) = t.val ∧ win3_0.index t (1 : Fin 3) = 0 ∧ win3_0.index t (2 : Fin 3) = 0
    ∧ win3_1.index t (0 : Fin 2) = 0 ∧ win3_1.index t (1 : Fin 2) = 0 ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0
    ∧ win3_4.index t (0 : Fin 3) = t.val ∧ win3_4.index t (1 : Fin 3) = 0 ∧ win3_4.index t (2 : Fin 3) = 0
    ∧ win3_5.index t (0 : Fin 3) = t.val ∧ win3_5.index t (1 : Fin 3) = 0 ∧ win3_5.index t (2 : Fin 3) = 0 :=
  (by decide +kernel : ∀ t : Fin grid3.N, _)
/-- Where region 4's windows stand at point `t`. -/
theorem place4 : ∀ t : Fin cfg4.N, win4_0.index t (0 : Fin 3) = t.val ∧ win4_0.index t (1 : Fin 3) = 0 ∧ win4_0.index t (2 : Fin 3) = 0
    ∧ win4_1.index t (0 : Fin 2) = 0 ∧ win4_1.index t (1 : Fin 2) = 0 ∧ win4_2.index t (0 : Fin 2) = 0 ∧ win4_2.index t (1 : Fin 2) = 0
    ∧ win4_3.index t (0 : Fin 3) = t.val ∧ win4_3.index t (1 : Fin 3) = 0 ∧ win4_3.index t (2 : Fin 3) = 0 :=
  (by decide +kernel : ∀ t : Fin grid4.N, _)

/-- The layer itself, after region 2. -/
theorem arr2_3 (c : Dev nD) : (dat2 V c).arrAt 3 cfg2.N = fun i : S8x64x16384.Idx =>
    layer (V c main_v11 : Vec Ideal S8x16x16384 .f32) (V c main_v59 : Vec Ideal S64x16 .f32) (V c main_v60 : Vec Ideal S64x1 .f32) (i 0) (i 1) (i 2) := by
  refine (dat2 V c).arrAt_eq_of_covers 3 _ (by decide +kernel) fun t hf y => ?_
  blk_simp
  rw [after2_3]
  frame_out
  idx_vars y
  pointwise [k2_pay2, k2_pay1, layer]
  blk_point [iblk2, place2 t]

/-- The layer's sum over each batch's samples, after region 2. -/
theorem arr2_4 (c : Dev nD) : (dat2 V c).arrAt 4 cfg2.N = fun i : S8x64x1.Idx =>
    ∑ n : Fin 16384, layer (V c main_v11 : Vec Ideal S8x16x16384 .f32) (V c main_v59 : Vec Ideal S64x16 .f32) (V c main_v60 : Vec Ideal S64x1 .f32) (i 0) (i 1) n := by
  refine (dat2 V c).arrAt_eq_of_covers 4 _ (by decide +kernel) fun t hf y => ?_
  blk_simp
  rw [after2_4]
  frame_out
  idx_vars y
  pointwise [k2_pay3, k2_pay1, layer]
  blk_point [iblk2, place2 t]

/-- The sums over each batch's samples of the products of two channels, after region 2. -/
theorem arr2_5 (c : Dev nD) : (dat2 V c).arrAt 5 cfg2.N = fun i : S8x64x64.Idx =>
    ∑ n : Fin 16384, layer (V c main_v11 : Vec Ideal S8x16x16384 .f32) (V c main_v59 : Vec Ideal S64x16 .f32) (V c main_v60 : Vec Ideal S64x1 .f32) (i 0) (i 1) n * layer (V c main_v11 : Vec Ideal S8x16x16384 .f32) (V c main_v59 : Vec Ideal S64x16 .f32) (V c main_v60 : Vec Ideal S64x1 .f32) (i 0) (i 2) n := by
  refine (dat2 V c).arrAt_eq_of_covers 5 _ (by decide +kernel) fun t hf y => ?_
  blk_simp
  rw [after2_5]
  frame_out
  idx_vars y
  pointwise [k2_pay4, k2_pay1, layer]
  blk_point [iblk2, place2 t]

/-- The layer itself, after region 3. -/
theorem arr3_3 (c : Dev nD) : (dat3 V c).arrAt 3 cfg3.N = fun i : S8x64x16384.Idx =>
    layer (V c main_v61_0 : Vec Ideal S8x64x16384 .f32) (V c main_v86 : Vec Ideal S64x64 .f32) (V c main_v90 : Vec Ideal S64x1 .f32) (i 0) (i 1) (i 2) := by
  refine (dat3 V c).arrAt_eq_of_covers 3 _ (by decide +kernel) fun t hf y => ?_
  blk_simp
  rw [after3_3]
  frame_out
  idx_vars y
  pointwise [k3_pay2, k3_pay1, layer]
  blk_point [iblk3, place3 t]

/-- The layer's sum over each batch's samples, after region 3. -/
theorem arr3_4 (c : Dev nD) : (dat3 V c).arrAt 4 cfg3.N = fun i : S8x64x1.Idx =>
    ∑ n : Fin 16384, layer (V c main_v61_0 : Vec Ideal S8x64x16384 .f32) (V c main_v86 : Vec Ideal S64x64 .f32) (V c main_v90 : Vec Ideal S64x1 .f32) (i 0) (i 1) n := by
  refine (dat3 V c).arrAt_eq_of_covers 4 _ (by decide +kernel) fun t hf y => ?_
  blk_simp
  rw [after3_4]
  frame_out
  idx_vars y
  pointwise [k3_pay3, k3_pay1, layer]
  blk_point [iblk3, place3 t]

/-- The sums over each batch's samples of the products of two channels, after region 3. -/
theorem arr3_5 (c : Dev nD) : (dat3 V c).arrAt 5 cfg3.N = fun i : S8x64x64.Idx =>
    ∑ n : Fin 16384, layer (V c main_v61_0 : Vec Ideal S8x64x16384 .f32) (V c main_v86 : Vec Ideal S64x64 .f32) (V c main_v90 : Vec Ideal S64x1 .f32) (i 0) (i 1) n * layer (V c main_v61_0 : Vec Ideal S8x64x16384 .f32) (V c main_v86 : Vec Ideal S64x64 .f32) (V c main_v90 : Vec Ideal S64x1 .f32) (i 0) (i 2) n := by
  refine (dat3 V c).arrAt_eq_of_covers 5 _ (by decide +kernel) fun t hf y => ?_
  blk_simp
  rw [after3_5]
  frame_out
  idx_vars y
  pointwise [k3_pay4, k3_pay1, layer]
  blk_point [iblk3, place3 t]

end Cert.KernelIdeal.Layers

end
-- ==== Proof.Last.lean ====
/- What the last layer call of the kernel leaves in its output array, read at an index. -/
module

public import proofs.«01_k».proof.Proof.Layers
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL.Sem

variable (V : (c : Dev nD) → (b : Ref sig .tc) → Buf (Elt Ideal) ((c : Thread nD τ).loc b))

/-- The largest of `n + 1` values is the larger of the last and the largest of the others. -/
theorem sup_last {n : ℕ} (g : Fin (n + 1) → EReal) :
    Finset.univ.sup g = max (Finset.univ.sup fun k : Fin n => g k.castSucc) (g (Fin.last n)) := by
  rw [Fin.univ_castSuccEmb, Finset.sup_cons, Finset.sup_map, sup_comm]; rfl

/-- The last call's block: the largest of its layer's 32 columns that stand 512 apart. -/
theorem pay4 (v0 : Vec Ideal S1x64x16384 .f32) (v2 : Vec Ideal S128x64 .f32) (v5 : Vec Ideal S128x1 .f32) (a : Fin 128) (b : Fin 512) :
    k4_pay1 (k4_pay2 v0 v2 v5) (k4_pay3 v0 v2 v5) (ix3 0 a b)
      = Finset.univ.sup fun k : Fin 32 => k4_pay2 v0 v2 v5 (ix2 a ⟨k.val * 512 + b.val, by omega⟩) := by
  unfold k4_pay1 k4_pay3
  generalize k4_pay2 v0 v2 v5 = Y
  pointwise
  simp only [sup_last, Finset.univ_eq_empty, Finset.sup_empty, Fin.val_castSucc, Fin.val_last, Nat.reduceMul, bot_le, max_eq_right]
  simp only [Nat.zero_add]

/-- The largest over a group's 32 samples of the last layer, after region 4. -/
theorem arr4_3 (c : Dev nD) : (dat4 V c).arrAt 3 cfg4.N = fun i : S8x128x512.Idx =>
    Finset.univ.sup fun k : Fin 32 => layer (V c main_v91_0 : Vec Ideal S8x64x16384 .f32) (V c main_v116 : Vec Ideal S128x64 .f32)
      (V c main_v120 : Vec Ideal S128x1 .f32) (i 0) (i 1) ⟨k.val * 512 + (i 2).val, by have := (i 2).isLt; change (i 2).val < 512 at this; omega⟩ := by
  refine (dat4 V c).arrAt_eq_of_covers 3 _ (by decide +kernel) fun t hf y => ?_
  blk_simp
  rw [after4_3]
  frame_out
  idx_vars y
  have h0 : y0 = 0 := Subsingleton.elim _ _
  subst h0
  rw [pay4]
  refine @Finset.sup_congr EReal (Fin 32) _ _ _ _ _ _ rfl fun k _ => ?_
  pointwise [k4_pay2, layer]
  blk_point [iblk4, place4 t]

end Cert.KernelIdeal.Layers

end
-- ==== Proof.Moments.lean ====
/- The folded weights and offsets that the kernel's host operations form between its calls. -/
module

public import proofs.«01_k».proof.Proof.Gen.KernelIdeal.Frame
public import proofs.«01_k».proof.Proof.Fold
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Moments

open Cert.KernelIdeal Cert.KernelIdeal.Gen Cert.Fold
open Idealize.ShloMosaic Idealize.ShloMosaic.TcCoe Idealize.ShloMosaic.Tactic
open Idealize.SL.Sem

/-- The number of samples and the constant under the root, as the programs' words read. -/
abbrev NN : EReal := Ideal.ofBits .f32 0x48000000#32
abbrev EPS : EReal := Ideal.ofBits .f32 0x3727C5AC#32

variable (X : Valuation τ sig (Elt Ideal))

/-- A sum over batches of sums over a batch's samples is one mean over all samples. -/
theorem mean_pairs {B T : ℕ} (N : EReal) (f : Fin B × Fin T → EReal) : mean N f = Ideal.div (∑ b, ∑ n, f (b, n)) N := by
  unfold mean; rw [Fintype.sum_prod_type]

/-- The weights that `hostOps3` folds. -/
theorem v86 (x : Fin 8 × Fin 16384 → Fin 64 → EReal)
    (h1 : ∀ b k, (X (Proc.devRef .tc main_v61_1) : Vec Ideal S8x64x1 .f32) (ix3 b k 0) = ∑ n, x (b, n) k)
    (h2 : ∀ b k l, (X (Proc.devRef .tc main_v61_2) : Vec Ideal S8x64x64 .f32) (ix3 b k l) = ∑ n, x (b, n) k * x (b, n) l)
    (w : Fin 64 → Fin 64 → EReal) (hw : ∀ o k, (X (Proc.devRef .tc main_arg11) : Vec Ideal S64x64 .f32) (ix2 o k) = w o k) (o : Fin 64) (k : Fin 64) :
    (StableHlo.after hostOps3 X (Proc.devRef .tc main_v86) : Vec Ideal S64x64 .f32) (ix2 o k)
      = w o k * gain NN EPS x (fun k => w o k) ((X (Proc.devRef .tc main_arg13) : Vec Ideal S64 .f32) (ix1 o)) := by
  after_reads_at
  simp only [gain, cov, mean_pairs]
  simp only [h1, h2, hw]

/-- The offset that `hostOps3` folds. -/
theorem v90 (x : Fin 8 × Fin 16384 → Fin 64 → EReal)
    (h1 : ∀ b k, (X (Proc.devRef .tc main_v61_1) : Vec Ideal S8x64x1 .f32) (ix3 b k 0) = ∑ n, x (b, n) k)
    (h2 : ∀ b k l, (X (Proc.devRef .tc main_v61_2) : Vec Ideal S8x64x64 .f32) (ix3 b k l) = ∑ n, x (b, n) k * x (b, n) l)
    (w : Fin 64 → Fin 64 → EReal) (hw : ∀ o k, (X (Proc.devRef .tc main_arg11) : Vec Ideal S64x64 .f32) (ix2 o k) = w o k) (o : Fin 64) :
    (StableHlo.after hostOps3 X (Proc.devRef .tc main_v90) : Vec Ideal S64x1 .f32) (ix2 o 0)
      = offset NN EPS x (fun k => w o k) ((X (Proc.devRef .tc main_arg12) : Vec Ideal S64 .f32) (ix1 o)) ((X (Proc.devRef .tc main_arg13) : Vec Ideal S64 .f32) (ix1 o)) ((X (Proc.devRef .tc main_arg14) : Vec Ideal S64 .f32) (ix1 o)) := by
  after_reads_at
  simp only [offset, gain, cov, lin, mean_pairs]
  simp only [h1, h2, hw]

/-- The weights that `hostOps4` folds. -/
theorem v116 (x : Fin 8 × Fin 16384 → Fin 64 → EReal)
    (h1 : ∀ b k, (X (Proc.devRef .tc main_v91_1) : Vec Ideal S8x64x1 .f32) (ix3 b k 0) = ∑ n, x (b, n) k)
    (h2 : ∀ b k l, (X (Proc.devRef .tc main_v91_2) : Vec Ideal S8x64x64 .f32) (ix3 b k l) = ∑ n, x (b, n) k * x (b, n) l)
    (w : Fin 128 → Fin 64 → EReal) (hw : ∀ o k, (X (Proc.devRef .tc main_arg15) : Vec Ideal S128x64 .f32) (ix2 o k) = w o k) (o : Fin 128) (k : Fin 64) :
    (StableHlo.after hostOps4 X (Proc.devRef .tc main_v116) : Vec Ideal S128x64 .f32) (ix2 o k)
      = w o k * gain NN EPS x (fun k => w o k) ((X (Proc.devRef .tc main_arg17) : Vec Ideal S128 .f32) (ix1 o)) := by
  after_reads_at
  simp only [gain, cov, mean_pairs]
  simp only [h1, h2, hw]

/-- The offset that `hostOps4` folds. -/
theorem v120 (x : Fin 8 × Fin 16384 → Fin 64 → EReal)
    (h1 : ∀ b k, (X (Proc.devRef .tc main_v91_1) : Vec Ideal S8x64x1 .f32) (ix3 b k 0) = ∑ n, x (b, n) k)
    (h2 : ∀ b k l, (X (Proc.devRef .tc main_v91_2) : Vec Ideal S8x64x64 .f32) (ix3 b k l) = ∑ n, x (b, n) k * x (b, n) l)
    (w : Fin 128 → Fin 64 → EReal) (hw : ∀ o k, (X (Proc.devRef .tc main_arg15) : Vec Ideal S128x64 .f32) (ix2 o k) = w o k) (o : Fin 128) :
    (StableHlo.after hostOps4 X (Proc.devRef .tc main_v120) : Vec Ideal S128x1 .f32) (ix2 o 0)
      = offset NN EPS x (fun k => w o k) ((X (Proc.devRef .tc main_arg16) : Vec Ideal S128 .f32) (ix1 o)) ((X (Proc.devRef .tc main_arg17) : Vec Ideal S128 .f32) (ix1 o)) ((X (Proc.devRef .tc main_arg18) : Vec Ideal S128 .f32) (ix1 o)) := by
  after_reads_at
  simp only [offset, gain, cov, lin, mean_pairs]
  simp only [h1, h2, hw]

/-- The samples as the layer calls read them: batch `b`, channel `k`, column `32`-fold group position times 512 plus group. -/
theorem v11 (b : Fin 8) (k : Fin 16) (n : Fin 16384) :
    (StableHlo.after hostOps2 X (Proc.devRef .tc main_v11) : Vec Ideal S8x16x16384 .f32) (ix3 b k n)
      = (X (Proc.devRef .tc main_v9_0) : Vec Ideal S8x32x512x16 .f32) (ix4 b ⟨n.val / 512, by omega⟩ ⟨n.val % 512, by omega⟩ k) := by
  after_reads_at

end Cert.KernelIdeal.Moments

end
-- ==== Proof.FirstFold.lean ====
/- The folded weights and offset of the first layer, which the kernel's host operations form from its two parts. -/
module

public import proofs.«01_k».proof.Proof.Moments
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Moments

open Cert.KernelIdeal Cert.KernelIdeal.Gen Cert.Fold
open Idealize.ShloMosaic Idealize.ShloMosaic.TcCoe Idealize.ShloMosaic.Tactic
open Idealize.SL.Sem

variable (X : Valuation τ sig (Elt Ideal))

set_option maxHeartbeats 4000000 in
/-- The first layer's weights on the coordinates, as `hostOps2` folds them. -/
theorem v59_loc (x : Fin 8 × Fin 16384 → Fin 16 → EReal)
    (h1 : ∀ b k, (X (Proc.devRef .tc main_v9_1) : Vec Ideal S8x1x16 .f32) (ix3 b 0 k) = ∑ n, x (b, n) k)
    (h2 : ∀ b k l, (X (Proc.devRef .tc main_v9_2) : Vec Ideal S8x16x16 .f32) (ix3 b k l) = ∑ n, x (b, n) k * x (b, n) l)
    (w : Fin 64 → Fin 3 → EReal) (hw : ∀ o k, (X (Proc.devRef .tc main_arg3) : Vec Ideal S64x3 .f32) (ix2 o k) = w o k) (o : Fin 64) (k : Fin 3) :
    (StableHlo.after hostOps2 X (Proc.devRef .tc main_v59) : Vec Ideal S64x16 .f32) (ix2 o ⟨k.val, by omega⟩)
      = w o k * gain NN EPS (fun p (k : Fin 3) => x p ⟨k.val, by omega⟩) (fun k => w o k) ((X (Proc.devRef .tc main_arg5) : Vec Ideal S64 .f32) (ix1 o)) := by
  after_reads_at
  simp only [gain, cov, mean_pairs]
  simp only [h1, h2, hw]

set_option maxHeartbeats 4000000 in
/-- The first layer's weights on the normals and features, as `hostOps2` folds them. -/
theorem v59_feat (x : Fin 8 × Fin 16384 → Fin 16 → EReal)
    (h1 : ∀ b k, (X (Proc.devRef .tc main_v9_1) : Vec Ideal S8x1x16 .f32) (ix3 b 0 k) = ∑ n, x (b, n) k)
    (h2 : ∀ b k l, (X (Proc.devRef .tc main_v9_2) : Vec Ideal S8x16x16 .f32) (ix3 b k l) = ∑ n, x (b, n) k * x (b, n) l)
    (u : Fin 64 → Fin 13 → EReal) (hu : ∀ o k, (X (Proc.devRef .tc main_arg7) : Vec Ideal S64x13 .f32) (ix2 o k) = u o k) (o : Fin 64) (k : Fin 13) :
    (StableHlo.after hostOps2 X (Proc.devRef .tc main_v59) : Vec Ideal S64x16 .f32) (ix2 o ⟨3 + k.val, by omega⟩)
      = u o k * gain NN EPS (fun p (k : Fin 13) => x p ⟨3 + k.val, by omega⟩) (fun k => u o k) ((X (Proc.devRef .tc main_arg9) : Vec Ideal S64 .f32) (ix1 o)) := by
  after_reads_at
  simp only [gain, cov, mean_pairs]
  simp only [h1, h2, hu]

set_option maxHeartbeats 4000000 in
/-- The first layer's offset, the sum of its two parts'. -/
theorem v60 (x : Fin 8 × Fin 16384 → Fin 16 → EReal)
    (h1 : ∀ b k, (X (Proc.devRef .tc main_v9_1) : Vec Ideal S8x1x16 .f32) (ix3 b 0 k) = ∑ n, x (b, n) k)
    (h2 : ∀ b k l, (X (Proc.devRef .tc main_v9_2) : Vec Ideal S8x16x16 .f32) (ix3 b k l) = ∑ n, x (b, n) k * x (b, n) l)
    (w : Fin 64 → Fin 3 → EReal) (hw : ∀ o k, (X (Proc.devRef .tc main_arg3) : Vec Ideal S64x3 .f32) (ix2 o k) = w o k)
    (u : Fin 64 → Fin 13 → EReal) (hu : ∀ o k, (X (Proc.devRef .tc main_arg7) : Vec Ideal S64x13 .f32) (ix2 o k) = u o k) (o : Fin 64) :
    (StableHlo.after hostOps2 X (Proc.devRef .tc main_v60) : Vec Ideal S64x1 .f32) (ix2 o 0)
      = offset NN EPS (fun p (k : Fin 3) => x p ⟨k.val, by omega⟩) (fun k => w o k) ((X (Proc.devRef .tc main_arg4) : Vec Ideal S64 .f32) (ix1 o)) ((X (Proc.devRef .tc main_arg5) : Vec Ideal S64 .f32) (ix1 o)) ((X (Proc.devRef .tc main_arg6) : Vec Ideal S64 .f32) (ix1 o))
        + offset NN EPS (fun p (k : Fin 13) => x p ⟨3 + k.val, by omega⟩) (fun k => u o k) ((X (Proc.devRef .tc main_arg8) : Vec Ideal S64 .f32) (ix1 o)) ((X (Proc.devRef .tc main_arg9) : Vec Ideal S64 .f32) (ix1 o)) ((X (Proc.devRef .tc main_arg10) : Vec Ideal S64 .f32) (ix1 o)) := by
  after_reads_at
  simp only [offset, gain, cov, lin, mean_pairs]
  simp only [h1, h2, hw, hu]

end Cert.KernelIdeal.Moments

end
-- ==== Proof.KernelVal.lean ====
/- What the kernel leaves in its result arrays: the shared computation on its arguments. -/
module

public import proofs.«01_k».proof.Proof.Chain
public import proofs.«01_k».proof.Proof.Far
public import proofs.«01_k».proof.Proof.BallArr
public import proofs.«01_k».proof.Proof.Layers
public import proofs.«01_k».proof.Proof.Last
public import proofs.«01_k».proof.Proof.Moments
public import proofs.«01_k».proof.Proof.FirstFold
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Val

open Cert.KernelIdeal Cert.KernelIdeal.Gen Cert.Spec Cert.Fold Cert.Chain Cert.KernelIdeal.Layers
open Idealize.ShloMosaic Idealize.ShloMosaic.TcCoe Idealize.ShloMosaic.Tactic
open Idealize.SL.Sem

section Stretches

variable (X : Valuation τ sig (Elt Ideal))

/-- The coordinates with points last, -/
theorem v0 (b : Fin 8) (j : Fin 3) (n : Fin 4096) : (StableHlo.after hostOps0 X (Proc.devRef .tc main_v0) : Vec Ideal S8x3x4096 .f32) (ix3 b j n)
    = (X (Proc.devRef .tc main_arg0) : Vec Ideal S8x4096x3 .f32) (ix3 b n j) := by after_reads_at
/-- with coordinate first, -/
theorem v2 (b : Fin 8) (j : Fin 3) (n : Fin 4096) : (StableHlo.after hostOps0 X (Proc.devRef .tc main_v2) : Vec Ideal S3x8x4096 .f32) (ix3 j b n)
    = (X (Proc.devRef .tc main_arg0) : Vec Ideal S8x4096x3 .f32) (ix3 b n j) := by after_reads_at
/-- and the normals with coordinate first. -/
theorem v3 (b : Fin 8) (j : Fin 3) (n : Fin 4096) : (StableHlo.after hostOps0 X (Proc.devRef .tc main_v3) : Vec Ideal S3x8x4096 .f32) (ix3 j b n)
    = (X (Proc.devRef .tc main_arg1) : Vec Ideal S8x4096x3 .f32) (ix3 b n j) := by after_reads_at
/-- The sampled points with coordinate last, -/
theorem v5 (b : Fin 8) (j : Fin 3) (s : Fin 512) : (StableHlo.after hostOps1 X (Proc.devRef .tc main_v5) : Vec Ideal S8x512x3 .f32) (ix3 b s j)
    = (X (Proc.devRef .tc main_v4_0) : Vec Ideal S3x8x512 .f32) (ix3 j b s) := by after_reads_at
/-- their normals likewise, -/
theorem v6 (b : Fin 8) (j : Fin 3) (s : Fin 512) : (StableHlo.after hostOps1 X (Proc.devRef .tc main_v6) : Vec Ideal S8x512x3 .f32) (ix3 b s j)
    = (X (Proc.devRef .tc main_v4_1) : Vec Ideal S3x8x512 .f32) (ix3 j b s) := by after_reads_at
/-- and the data rows: coordinates, normal, features side by side. -/
theorem v8 (b : Fin 8) (n : Fin 4096) (k : Fin 16) : (StableHlo.after hostOps1 X (Proc.devRef .tc main_v8) : Vec Ideal S8x4096x16 .f32) (ix3 b n k)
    = (if h : k.val < 3 then (X (Proc.devRef .tc main_arg0) : Vec Ideal S8x4096x3 .f32) (ix3 b n ⟨k.val, h⟩)
      else if h' : k.val < 6 then (X (Proc.devRef .tc main_arg1) : Vec Ideal S8x4096x3 .f32) (ix3 b n ⟨k.val - 3, by omega⟩)
      else (X (Proc.devRef .tc main_arg2) : Vec Ideal S8x10x4096 .f32) (ix3 b ⟨k.val - 6, by omega⟩ n) : EReal) := by
  after_reads_at
  by_cases h : k.val < 3
  · rw [dif_pos h, dif_pos h]
  · rw [dif_neg h, dif_neg h]
    by_cases h' : k.val < 6
    · rw [dif_pos h', dif_pos (show k.val - 3 < 3 by omega)]
    · rw [dif_neg h', dif_neg (show ¬k.val - 3 < 3 by omega)]
      refine (congrFun (StableHlo.unary_result' _ _ _ _) _).trans ?_
      rw [StableHlo.upto_unwritten [main_v5, main_v6] rfl (by decide)]
      pointwise
      exact congrArg (fun e : Fin 10 => (X (Proc.devRef .tc main_arg2) : Vec Ideal S8x10x4096 .f32) (ix3 b e n)) (Fin.ext (by show k.val - 3 - 3 = k.val - 6; omega))

end Stretches

variable (m : (l : Loc nD τ sig) → Buf (Elt Ideal) l) (ρ : Dev nD → PrngReg) (c : Dev nD)

/-- The kernel's arguments. -/
def args : Args := Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- These contents hold every argument as launched. -/
abbrev reads (X : Valuation τ sig (Elt Ideal)) : Prop := ∀ a ∈ argRefs, X (Proc.devRef .tc a) = m ((c : Thread nD τ).loc a)

/-- The farthest-point call is given the coordinates, -/
theorem V1_v2 (b : Fin 8) (j : Fin 3) (n : Fin 4096) : (V1 m ρ c main_v2 : Vec Ideal S3x8x4096 .f32) (ix3 j b n) = (args m c).ctr b n j :=
  (v2 _ b j n)
/-- and the normals; -/
theorem V1_v3 (b : Fin 8) (j : Fin 3) (n : Fin 4096) : (V1 m ρ c main_v3 : Vec Ideal S3x8x4096 .f32) (ix3 j b n) = (args m c).nrm b n j :=
  (v3 _ b j n)
/-- its cloud `b` is the argument's. -/
theorem V1_cloud (b : Fin 8) : Far.cloud (V1 m ρ c main_v2 : Vec Ideal S3x8x4096 .f32) b = (args m c).ctr b :=
  funext fun n => funext fun j => V1_v2 m ρ c b j n

/-- The queries, -/
theorem W2_v4_0 (b : Fin 8) (j : Fin 3) (s : Fin 512) : (W2 m ρ c (Proc.devRef .tc main_v4_0) : Vec Ideal S3x8x512 .f32) (ix3 j b s) = (args m c).center b s j := by
  refine (congrFun ((W2_arr m ρ c 2).trans (Far.arr0_2 (V1 m ρ) c)) (ix3 j b s)).trans ?_
  show (V1 m ρ c main_v2 : Vec Ideal S3x8x4096 .f32) (ix3 j b (fps (Far.cloud (V1 m ρ c main_v2 : Vec Ideal S3x8x4096 .f32) b) s.val)) = _
  rw [V1_cloud]
  exact V1_v2 m ρ c b j _
/-- It leaves the sampled points' normals. -/
theorem W2_v4_1 (b : Fin 8) (j : Fin 3) (s : Fin 512) : (W2 m ρ c (Proc.devRef .tc main_v4_1) : Vec Ideal S3x8x512 .f32) (ix3 j b s) = (args m c).normal b s j := by
  refine (congrFun ((W2_arr m ρ c 3).trans (Far.arr0_3 (V1 m ρ) c)) (ix3 j b s)).trans ?_
  show (V1 m ρ c main_v3 : Vec Ideal S3x8x4096 .f32) (ix3 j b (fps (Far.cloud (V1 m ρ c main_v2 : Vec Ideal S3x8x4096 .f32) b) s.val)) = _
  rw [V1_cloud]
  exact V1_v3 m ρ c b j _

/-- The grouping call is given the sampled points, -/
theorem V3_v5 (b : Fin 8) (j : Fin 3) (s : Fin 512) : (V3 m ρ c main_v5 : Vec Ideal S8x512x3 .f32) (ix3 b s j) = (args m c).center b s j :=
  (v5 _ b j s).trans (W2_v4_0 m ρ c b j s)
/-- (beside which their normals stay) -/
theorem V3_v6 (b : Fin 8) (j : Fin 3) (s : Fin 512) : (V3 m ρ c main_v6 : Vec Ideal S8x512x3 .f32) (ix3 b s j) = (args m c).normal b s j :=
  (v6 _ b j s).trans (W2_v4_1 m ρ c b j s)
/-- the coordinates, -/
theorem V3_v0 (b : Fin 8) (j : Fin 3) (n : Fin 4096) : (V3 m ρ c main_v0 : Vec Ideal S8x3x4096 .f32) (ix3 b j n) = (args m c).ctr b n j :=
  (congrFun ((W3_of m ρ c main_v0 (by decide)).trans (W2_of_ne m ρ c main_v0 (by decide))) (ix3 b j n)).trans (v0 _ b j n)
/-- and the data rows. -/
theorem V3_v8 (b : Fin 8) (n : Fin 4096) (k : Fin 16) : (V3 m ρ c main_v8 : Vec Ideal S8x4096x16 .f32) (ix3 b n k) = (args m c).row b n k := by
  refine (v8 _ b n k).trans ?_
  rw [W2_args m ρ c main_arg0 (by decide), W2_args m ρ c main_arg1 (by decide), W2_args m ρ c main_arg2 (by decide)]
  rfl

omit m ρ c in
/-- Arrays that hold the queries, the points and their rows gather the samples, -/
theorem gat_of (A : Args) (q : S8x512x3.Idx → EReal) (p : S8x3x4096.Idx → EReal) (d : S8x4096x16.Idx → EReal) (hq : ∀ b s j, q (ix3 b s j) = A.center b s j)
    (hp : ∀ b j n, p (ix3 b j n) = A.ctr b n j) (hd : ∀ b n k, d (ix3 b n k) = A.row b n k) (b : Fin 8) (k : ℕ) (s : Fin 512) (n : Fin 16) :
    Ball.gat q p d b k s n = A.gath b k s n := by
  unfold Ball.gat Args.gath
  simp only [hq, hp, hd]

omit m ρ c in
/-- and every query among them has a point in its ball. -/
theorem met_of (A : Args) (H : A.Reals) (q : S8x512x3.Idx → EReal) (p : S8x3x4096.Idx → EReal) (hq : ∀ b s j, q (ix3 b s j) = A.center b s j)
    (hp : ∀ b j n, p (ix3 b j n) = A.ctr b n j) : Ball.Met q p := fun b s => by
  refine ⟨A.pick b s, ?_⟩
  simp only [hq, hp]
  exact H.near_self b s

/-- What it gathers is the shared computation's sample. -/
theorem gat_eq (b : Fin 8) (k : ℕ) (s : Fin 512) (n : Fin 16) :
    Ball.gat (V3 m ρ c main_v5 : Vec Ideal S8x512x3 .f32) (V3 m ρ c main_v0 : Vec Ideal S8x3x4096 .f32) (V3 m ρ c main_v8 : Vec Ideal S8x4096x16 .f32) b k s n
      = (args m c).gath b k s n := by
  exact gat_of _ _ _ _ (fun b s j => V3_v5 m ρ c b j s) (fun b j n => V3_v0 m ρ c b j n) (fun b n k => V3_v8 m ρ c b n k) b k s n

/-- Under real arguments every query has a point in its ball. -/
theorem met (H : (args m c).Reals) : Ball.Met (V3 m ρ c main_v5 : Vec Ideal S8x512x3 .f32) (V3 m ρ c main_v0 : Vec Ideal S8x3x4096 .f32) := fun b s => by
  exact met_of _ H _ _ (fun b s j => V3_v5 m ρ c b j s) (fun b j n => V3_v0 m ρ c b j n) b s

/-- It leaves the samples, -/
theorem W4_v9_0 (H : (args m c).Reals) (b : Fin 8) (k : Fin 32) (s : Fin 512) (n : Fin 16) :
    (W4 m ρ c (Proc.devRef .tc main_v9_0) : Vec Ideal S8x32x512x16 .f32) (ix4 b k s n) = (args m c).gath b k.val s n :=
  (congrFun ((W4_arr m ρ c 3).trans (Ball.arr1_3 (V3 m ρ) c (met m ρ c H))) (ix4 b k s n)).trans (gat_eq m ρ c b k.val s n)
/-- their sums over a cloud, -/
theorem W4_v9_1 (H : (args m c).Reals) (b : Fin 8) (n : Fin 16) :
    (W4 m ρ c (Proc.devRef .tc main_v9_1) : Vec Ideal S8x1x16 .f32) (ix3 b 0 n) = ∑ p, (args m c).samp (b, p) n := by
  refine (congrFun ((W4_arr m ρ c 4).trans (Ball.arr1_4 (V3 m ρ) c (met m ρ c H))) (ix3 b 0 n)).trans ?_
  exact Args.sum_samples _ _ fun p => (gat_eq m ρ c b _ _ n).symm
/-- and the sums of their products. -/
theorem W4_v9_2 (H : (args m c).Reals) (b : Fin 8) (k l : Fin 16) :
    (W4 m ρ c (Proc.devRef .tc main_v9_2) : Vec Ideal S8x16x16 .f32) (ix3 b k l) = ∑ p, (args m c).samp (b, p) k * (args m c).samp (b, p) l := by
  refine (congrFun ((W4_arr m ρ c 5).trans (Ball.arr1_5 (V3 m ρ) c (met m ρ c H))) (ix3 b k l)).trans ?_
  exact Args.sum_samples _ _ fun p => (congrArg₂ (fun u v : EReal => u * v) (gat_eq m ρ c b _ _ k) (gat_eq m ρ c b _ _ l)).symm

/-- The first layer call is given the samples, channel first. -/
theorem V5_v11 (H : (args m c).Reals) (b : Fin 8) (k : Fin 16) (n : Fin 16384) :
    (V5 m ρ c main_v11 : Vec Ideal S8x16x16384 .f32) (ix3 b k n) = (args m c).samp (b, n) k :=
  (Moments.v11 _ b k n).trans (W4_v9_0 m ρ c H b _ _ k)

/-- The first layer, -/
theorem layer0 (H : (args m c).Reals) (b : Fin 8) (o : Fin 64) (n : Fin 16384) :
    layer (V5 m ρ c main_v11 : Vec Ideal S8x16x16384 .f32) (V5 m ρ c main_v59 : Vec Ideal S64x16 .f32) (V5 m ρ c main_v60 : Vec Ideal S64x1 .f32) b o n
      = (args m c).act0 (b, n) o := by
  have hl : ∀ k : Fin 3, (V5 m ρ c main_v59 : Vec Ideal S64x16 .f32) (ix2 o ⟨k.val, by omega⟩)
      = (args m c).wl o k * gain NN EPS (args m c).loc ((args m c).wl o) ((args m c).gl o) := fun k => by
    refine (Moments.v59_loc (W4 m ρ c) (args m c).samp (W4_v9_1 m ρ c H) (W4_v9_2 m ρ c H) (args m c).wl (fun o k => ?_) o k).trans ?_
    · rw [W4_args m ρ c main_arg3 (by decide)]; rfl
    · rw [W4_args m ρ c main_arg5 (by decide)]; rfl
  have hf : ∀ k : Fin 13, (V5 m ρ c main_v59 : Vec Ideal S64x16 .f32) (ix2 o ⟨3 + k.val, by omega⟩)
      = (args m c).wf o k * gain NN EPS (args m c).fea ((args m c).wf o) ((args m c).gf o) := fun k => by
    refine (Moments.v59_feat (W4 m ρ c) (args m c).samp (W4_v9_1 m ρ c H) (W4_v9_2 m ρ c H) (args m c).wf (fun o k => ?_) o k).trans ?_
    · rw [W4_args m ρ c main_arg7 (by decide)]; rfl
    · rw [W4_args m ρ c main_arg9 (by decide)]; rfl
  have hd : (V5 m ρ c main_v60 : Vec Ideal S64x1 .f32) (ix2 o 0)
      = offset NN EPS (args m c).loc ((args m c).wl o) ((args m c).bl o) ((args m c).gl o) ((args m c).el o)
        + offset NN EPS (args m c).fea ((args m c).wf o) ((args m c).bf o) ((args m c).gf o) ((args m c).ef o) := by
    refine (Moments.v60 (W4 m ρ c) (args m c).samp (W4_v9_1 m ρ c H) (W4_v9_2 m ρ c H) (args m c).wl (fun o k => ?_) (args m c).wf (fun o k => ?_) o).trans ?_
    · rw [W4_args m ρ c main_arg3 (by decide)]; rfl
    · rw [W4_args m ρ c main_arg7 (by decide)]; rfl
    · rw [W4_args m ρ c main_arg4 (by decide), W4_args m ρ c main_arg5 (by decide), W4_args m ρ c main_arg6 (by decide),
        W4_args m ρ c main_arg8 (by decide), W4_args m ρ c main_arg9 (by decide), W4_args m ρ c main_arg10 (by decide)]; rfl
  refine Eq.trans ?_ (H.act0_fold (b, n) o (fun k => (V5 m ρ c main_v59 : Vec Ideal S64x16 .f32) (ix2 o k)) _ hl hf hd).symm
  unfold layer
  simp only [V5_v11 m ρ c H]

/-- The first layer call leaves the first layer's outputs, -/
theorem W6_v61_0 (H : (args m c).Reals) (b : Fin 8) (o : Fin 64) (n : Fin 16384) :
    (W6 m ρ c (Proc.devRef .tc main_v61_0) : Vec Ideal S8x64x16384 .f32) (ix3 b o n) = (args m c).act0 (b, n) o :=
  (congrFun ((W6_arr m ρ c 3).trans (arr2_3 (V5 m ρ) c)) (ix3 b o n)).trans (layer0 m ρ c H b o n)
/-- their sums over a cloud, -/
theorem W6_v61_1 (H : (args m c).Reals) (b : Fin 8) (o : Fin 64) :
    (W6 m ρ c (Proc.devRef .tc main_v61_1) : Vec Ideal S8x64x1 .f32) (ix3 b o 0) = ∑ n, (args m c).act0 (b, n) o := by
  refine (congrFun ((W6_arr m ρ c 4).trans (arr2_4 (V5 m ρ) c)) (ix3 b o 0)).trans ?_
  exact @Finset.sum_congr _ EReal _ _ _ _ _ rfl fun n _ => layer0 m ρ c H b o n
/-- and the sums of their products. -/
theorem W6_v61_2 (H : (args m c).Reals) (b : Fin 8) (k l : Fin 64) :
    (W6 m ρ c (Proc.devRef .tc main_v61_2) : Vec Ideal S8x64x64 .f32) (ix3 b k l) = ∑ n, (args m c).act0 (b, n) k * (args m c).act0 (b, n) l := by
  refine (congrFun ((W6_arr m ρ c 5).trans (arr2_5 (V5 m ρ) c)) (ix3 b k l)).trans ?_
  exact @Finset.sum_congr _ EReal _ _ _ _ _ rfl fun n _ => congrArg₂ (fun u v : EReal => u * v) (layer0 m ρ c H b k n) (layer0 m ρ c H b l n)

/-- the second, -/
theorem layer1 (H : (args m c).Reals) (b : Fin 8) (o : Fin 64) (n : Fin 16384) :
    layer (V7 m ρ c main_v61_0 : Vec Ideal S8x64x16384 .f32) (V7 m ρ c main_v86 : Vec Ideal S64x64 .f32) (V7 m ρ c main_v90 : Vec Ideal S64x1 .f32) b o n
      = (args m c).act1 (b, n) o := by
  have hw : ∀ k : Fin 64, (V7 m ρ c main_v86 : Vec Ideal S64x64 .f32) (ix2 o k)
      = (args m c).w1 o k * gain NN EPS (args m c).act0 ((args m c).w1 o) ((args m c).g1 o) := fun k => by
    refine (Moments.v86 (W6 m ρ c) (args m c).act0 (W6_v61_1 m ρ c H) (W6_v61_2 m ρ c H) (args m c).w1 (fun o k => ?_) o k).trans ?_
    · rw [W6_args m ρ c main_arg11 (by decide)]; rfl
    · rw [W6_args m ρ c main_arg13 (by decide)]; rfl
  have hd : (V7 m ρ c main_v90 : Vec Ideal S64x1 .f32) (ix2 o 0)
      = offset NN EPS (args m c).act0 ((args m c).w1 o) ((args m c).b1 o) ((args m c).g1 o) ((args m c).e1 o) := by
    refine (Moments.v90 (W6 m ρ c) (args m c).act0 (W6_v61_1 m ρ c H) (W6_v61_2 m ρ c H) (args m c).w1 (fun o k => ?_) o).trans ?_
    · rw [W6_args m ρ c main_arg11 (by decide)]; rfl
    · rw [W6_args m ρ c main_arg12 (by decide), W6_args m ρ c main_arg13 (by decide), W6_args m ρ c main_arg14 (by decide)]; rfl
  have hx : ∀ k : Fin 64, (V7 m ρ c main_v61_0 : Vec Ideal S8x64x16384 .f32) (ix3 b k n) = (args m c).act0 (b, n) k := fun k =>
    (congrFun (W7_of m ρ c main_v61_0 (by decide)) (ix3 b k n)).trans (W6_v61_0 m ρ c H b k n)
  rw [H.act1_fold (b, n) o]
  unfold layer
  simp only [hw, hd, hx]

/-- The second layer call leaves the second layer's outputs, -/
theorem W8_v91_0 (H : (args m c).Reals) (b : Fin 8) (o : Fin 64) (n : Fin 16384) :
    (W8 m ρ c (Proc.devRef .tc main_v91_0) : Vec Ideal S8x64x16384 .f32) (ix3 b o n) = (args m c).act1 (b, n) o :=
  (congrFun ((W8_arr m ρ c 3).trans (arr3_3 (V7 m ρ) c)) (ix3 b o n)).trans (layer1 m ρ c H b o n)
/-- their sums over a cloud, -/
theorem W8_v91_1 (H : (args m c).Reals) (b : Fin 8) (o : Fin 64) :
    (W8 m ρ c (Proc.devRef .tc main_v91_1) : Vec Ideal S8x64x1 .f32) (ix3 b o 0) = ∑ n, (args m c).act1 (b, n) o := by
  refine (congrFun ((W8_arr m ρ c 4).trans (arr3_4 (V7 m ρ) c)) (ix3 b o 0)).trans ?_
  exact @Finset.sum_congr _ EReal _ _ _ _ _ rfl fun n _ => layer1 m ρ c H b o n
/-- and the sums of their products. -/
theorem W8_v91_2 (H : (args m c).Reals) (b : Fin 8) (k l : Fin 64) :
    (W8 m ρ c (Proc.devRef .tc main_v91_2) : Vec Ideal S8x64x64 .f32) (ix3 b k l) = ∑ n, (args m c).act1 (b, n) k * (args m c).act1 (b, n) l := by
  refine (congrFun ((W8_arr m ρ c 5).trans (arr3_5 (V7 m ρ) c)) (ix3 b k l)).trans ?_
  exact @Finset.sum_congr _ EReal _ _ _ _ _ rfl fun n _ => congrArg₂ (fun u v : EReal => u * v) (layer1 m ρ c H b k n) (layer1 m ρ c H b l n)

/-- and the third. -/
theorem layer2 (H : (args m c).Reals) (b : Fin 8) (o : Fin 128) (n : Fin 16384) :
    layer (V9 m ρ c main_v91_0 : Vec Ideal S8x64x16384 .f32) (V9 m ρ c main_v116 : Vec Ideal S128x64 .f32) (V9 m ρ c main_v120 : Vec Ideal S128x1 .f32) b o n
      = (args m c).act2 (b, n) o := by
  have hw : ∀ k : Fin 64, (V9 m ρ c main_v116 : Vec Ideal S128x64 .f32) (ix2 o k)
      = (args m c).w2 o k * gain NN EPS (args m c).act1 ((args m c).w2 o) ((args m c).g2 o) := fun k => by
    refine (Moments.v116 (W8 m ρ c) (args m c).act1 (W8_v91_1 m ρ c H) (W8_v91_2 m ρ c H) (args m c).w2 (fun o k => ?_) o k).trans ?_
    · rw [W8_args m ρ c main_arg15 (by decide)]; rfl
    · rw [W8_args m ρ c main_arg17 (by decide)]; rfl
  have hd : (V9 m ρ c main_v120 : Vec Ideal S128x1 .f32) (ix2 o 0)
      = offset NN EPS (args m c).act1 ((args m c).w2 o) ((args m c).b2 o) ((args m c).g2 o) ((args m c).e2 o) := by
    refine (Moments.v120 (W8 m ρ c) (args m c).act1 (W8_v91_1 m ρ c H) (W8_v91_2 m ρ c H) (args m c).w2 (fun o k => ?_) o).trans ?_
    · rw [W8_args m ρ c main_arg15 (by decide)]; rfl
    · rw [W8_args m ρ c main_arg16 (by decide), W8_args m ρ c main_arg17 (by decide), W8_args m ρ c main_arg18 (by decide)]; rfl
  have hx : ∀ k : Fin 64, (V9 m ρ c main_v91_0 : Vec Ideal S8x64x16384 .f32) (ix3 b k n) = (args m c).act1 (b, n) k := fun k =>
    (congrFun (W9_of m ρ c main_v91_0 (by decide)) (ix3 b k n)).trans (W8_v91_0 m ρ c H b k n)
  rw [H.act2_fold (b, n) o]
  unfold layer
  simp only [hw, hd, hx]

/-- THE RESULTS. -/
theorem result2 (H : (args m c).Reals) (b : Fin 8) (o : Fin 128) (s : Fin 512) :
    (W10 m ρ c (Proc.devRef .tc main_v121) : Vec Ideal S8x128x512 .f32) (ix3 b o s) = (args m c).out b o s := by
  refine (congrFun ((W10_arr m ρ c 3).trans (arr4_3 (V9 m ρ) c)) (ix3 b o s)).trans ?_
  exact @Finset.sup_congr EReal (Fin 32) _ _ _ _ _ _ rfl fun k _ => layer2 m ρ c H b o _
/-- The first result is the sampled points' coordinates. -/
theorem result0 (b : Fin 8) (s : Fin 512) (j : Fin 3) :
    (W10 m ρ c (Proc.devRef .tc main_v5) : Vec Ideal S8x512x3 .f32) (ix3 b s j) = (args m c).center b s j :=
  (congrFun ((W10_of m ρ c main_v5 (by decide)).trans <| (W9_of m ρ c main_v5 (by decide)).trans <| (W8_of m ρ c main_v5 (by decide)).trans <|
    (W7_of m ρ c main_v5 (by decide)).trans <| (W6_of m ρ c main_v5 (by decide)).trans <| (W5_of m ρ c main_v5 (by decide)).trans <|
    (W4_of m ρ c main_v5 (by decide))) (ix3 b s j)).trans (V3_v5 m ρ c b j s)
/-- The second result is their normals. -/
theorem result1 (b : Fin 8) (s : Fin 512) (j : Fin 3) :
    (W10 m ρ c (Proc.devRef .tc main_v6) : Vec Ideal S8x512x3 .f32) (ix3 b s j) = (args m c).normal b s j :=
  (congrFun ((W10_of m ρ c main_v6 (by decide)).trans <| (W9_of m ρ c main_v6 (by decide)).trans <| (W8_of m ρ c main_v6 (by decide)).trans <|
    (W7_of m ρ c main_v6 (by decide)).trans <| (W6_of m ρ c main_v6 (by decide)).trans <| (W5_of m ρ c main_v6 (by decide)).trans <|
    (W4_of m ρ c main_v6 (by decide))) (ix3 b s j)).trans (V3_v6 m ρ c b j s)

end Cert.KernelIdeal.Val

end
-- ==== Proof.KernelRun.lean ====
/- The kernel's run: what it leaves in its results and its arguments. -/
module

public import proofs.«01_k».proof.Proof.KernelVal
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.Run

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic Idealize.ShloMosaic.TcCoe Idealize.ShloMosaic.Tactic
open Idealize.SL.Sem

variable (m : (l : Loc nD τ sig) → Buf (Elt Ideal) l) (ρ : Dev nD → PrngReg)

set_option backward.isDefEq.respectTransparency.types false in
/-- Every run of the kernel ends with its results at the last segment's contents and its arguments as launched. -/
theorem run : θ_run defs (onTc (τ := τ) (main (F := Ideal))) ⟨m, fun _ => 0, ρ⟩ (fun r => ∀ c : Dev nD,
      r.2.mem ((c.tc : Thread nD τ).loc main_v5) = W10 m ρ c (Proc.devRef .tc main_v5)
      ∧ r.2.mem ((c.tc : Thread nD τ).loc main_v6) = W10 m ρ c (Proc.devRef .tc main_v6)
      ∧ r.2.mem ((c.tc : Thread nD τ).loc main_v121) = W10 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨h c _ (mem_uc main_v5 (by decide)), h c _ (mem_uc main_v6 (by decide)), h c _ (mem_uc main_v121 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.Run

end
-- ==== Proof.RefStretches.lean ====
/- The reference program's host operations as stretches: 15 operations before its loop, one trip's operations, and the stretches after it. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2128

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 15 host operations of @main, in order. -/
abbrev hostOps0 : List (HloOp τ sig (Elt F)) :=
  [ StableHlo.unary main_arg2 main_v0 ((transpose S8x4096x10 [0, 2, 1] · transposes_S8x10x4096_S8x4096x10_0_2_1) : (⟨S8x10x4096, .f32⟩ : BufTy).Contents (Elt F) → (⟨S8x4096x10, .f32⟩ : BufTy).Contents (Elt F)),
    StableHlo.nullary main_c (constantI S_ 32 0#32),
    StableHlo.unary main_c main_v1 (broadcastInDim S8x512 ![] bcast_S_S8x512 : (⟨S_, .i32⟩ : BufTy).Contents (Elt F) → (⟨S8x512, .i32⟩ : BufTy).Contents (Elt F)),
    StableHlo.nullary main_cst (constant S_ .f32 0x501502F9#32),
    StableHlo.unary main_cst main_v2 (broadcastInDim S8x4096 ![] bcast_S_S8x4096 : (⟨S_, .f32⟩ : BufTy).Contents (Elt F) → (⟨S8x4096, .f32⟩ : BufTy).Contents (Elt F)),
    StableHlo.nullary main_c_0 (constantI S_ 32 0#32),
    StableHlo.unary main_c_0 main_v3 (broadcastInDim S8 ![] bcast_S_S8 : (⟨S_, .i32⟩ : BufTy).Contents (Elt F) → (⟨S8, .i32⟩ : BufTy).Contents (Elt F)),
    StableHlo.nullary main_c_1 (constantI S_ 32 0#32),
    StableHlo.nullary main_c_2 (constantI S_ 32 0#32),
    StableHlo.unary main_arg0 main_v4_0 id,
    StableHlo.unary main_c_2 main_v4_1 id,
    StableHlo.unary main_c_1 main_v4_2 id,
    StableHlo.unary main_v1 main_v4_3 id,
    StableHlo.unary main_v2 main_v4_4 id,
    StableHlo.unary main_v3 main_v4_5 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_1 : List (HloOp τ sig (Elt F)) :=
  [ StableHlo.unary main_v4_3 main_v5 (broadcastInDim S8x512x1 ![0, 1] bcast_S8x512_S8x512x1_0_1 : (⟨S8x512, .i32⟩ : BufTy).Contents (Elt F) → (⟨S8x512x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  StableHlo.unary_bufs_sub ..
/-- 22 host operations of @take_along_axis_0 (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x512x1, .i32⟩) (broadcastInDim S8x512x1 ![] bcast_S_S8x512x1),
    StableHlo.TRef.binary (.of main_v5 : StableHlo.TRef sig ⟨S8x512x1, .i32⟩) (.of main_call2_v0 : StableHlo.TRef sig ⟨S8x512x1, .i32⟩) (.of main_call2_v1 : StableHlo.TRef sig ⟨S8x512x1, .i1⟩) (cmpi .slt),
    StableHlo.TRef.nullary (.of main_call2_c_0 : StableHlo.TRef sig ⟨S_, .i32⟩) (constantI S_ 32 4096#32),
    StableHlo.TRef.unary (.of main_call2_c_0 : StableHlo.TRef sig ⟨S_, .i32⟩) (.of main_call2_v2 : StableHlo.TRef sig ⟨S8x512x1, .i32⟩) (broadcastInDim S8x512x1 ![] bcast_S_S8x512x1),
    StableHlo.TRef.binary (.of main_v5 : StableHlo.TRef sig ⟨S8x512x1, .i32⟩) (.of main_call2_v2 : StableHlo.TRef sig ⟨S8x512x1, .i32⟩) (.of main_call2_v3 : StableHlo.TRef sig ⟨S8x512x1, .i32⟩) addi,
    StableHlo.TRef.ternary (.of main_call2_v1 : StableHlo.TRef sig ⟨S8x512x1, .i1⟩) (.of main_call2_v3 : StableHlo.TRef sig ⟨S8x512x1, .i32⟩) (.of main_v5 : StableHlo.TRef sig ⟨S8x512x1, .i32⟩) (.of main_call2_v4 : StableHlo.TRef sig ⟨S8x512x1, .i32⟩) select,
    StableHlo.TRef.nullary (.of main_call2_c_1 : StableHlo.TRef sig ⟨S1, .i32⟩) (constantI S1 32 4095#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S8x512x1, .i32⟩) (broadcastInDim S8x512x1 ![] bcast_S_S8x512x1),
    StableHlo.TRef.binary (.of main_call2_v4 : StableHlo.TRef sig ⟨S8x512x1, .i32⟩) (.of main_call2_v5 : StableHlo.TRef sig ⟨S8x512x1, .i32⟩) (.of main_call2_v6 : StableHlo.TRef sig ⟨S8x512x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S8x512x1, .i32⟩) (broadcastInDim S8x512x1 ![0, 1, 2] bcast_S1x1x1_S8x512x1_0_1_2),
    StableHlo.TRef.binary (.of main_call2_v4 : StableHlo.TRef sig ⟨S8x512x1, .i32⟩) (.of main_call2_v8 : StableHlo.TRef sig ⟨S8x512x1, .i32⟩) (.of main_call2_v9 : StableHlo.TRef sig ⟨S8x512x1, .i1⟩) (cmpi .sle),
    StableHlo.TRef.binary (.of main_call2_v6 : StableHlo.TRef sig ⟨S8x512x1, .i1⟩) (.of main_call2_v9 : StableHlo.TRef sig ⟨S8x512x1, .i1⟩) (.of main_call2_v10 : StableHlo.TRef sig ⟨S8x512x1, .i1⟩) andi,
    StableHlo.TRef.nullary (.of main_call2_c_3 : StableHlo.TRef sig ⟨S_, .i1⟩) (constantI S_ 1 1#1),
    StableHlo.TRef.binary (.of main_call2_v10 : StableHlo.TRef sig ⟨S8x512x1, .i1⟩) (.of main_call2_c_3 : StableHlo.TRef sig ⟨S_, .i1⟩) (.of main_call2_v11 : StableHlo.TRef sig ⟨S8x512, .i1⟩) (fun x v => Host.reduce IntOp.andi x v reducesTo_S8x512x1_S8x512_d2 h_S_),
    StableHlo.TRef.binary (.of main_arg0 : StableHlo.TRef sig ⟨S8x4096x3, .f32⟩) (.of main_call2_v4 : StableHlo.TRef sig ⟨S8x512x1, .i32⟩) (.of main_call2_v12 : StableHlo.TRef sig ⟨S8x512x3, .f32⟩) (fun x i => Host.gather gather_S8x4096x3_S8x512x1_S8x512x3_2_1_0_0_1_2_113 x i),
    StableHlo.TRef.unary (.of main_call2_v11 : StableHlo.TRef sig ⟨S8x512, .i1⟩) (.of main_call2_v13 : StableHlo.TRef sig ⟨S8x512x3, .i1⟩) (broadcastInDim S8x512x3 ![0, 1] bcast_S8x512_S8x512x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x512x3, .f32⟩) (broadcastInDim S8x512x3 ![] bcast_S_S8x512x3),
    StableHlo.TRef.ternary (.of main_call2_v13 : StableHlo.TRef sig ⟨S8x512x3, .i1⟩) (.of main_call2_v12 : StableHlo.TRef sig ⟨S8x512x3, .f32⟩) (.of main_call2_v14 : StableHlo.TRef sig ⟨S8x512x3, .f32⟩) (.of main_v6 : StableHlo.TRef sig ⟨S8x512x3, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 1 host operation of @main, in order. -/
abbrev hostOps0_3 : List (HloOp τ sig (Elt F)) :=
  [ StableHlo.unary main_v4_3 main_v7 (broadcastInDim S8x512x1 ![0, 1] bcast_S8x512_S8x512x1_0_1 : (⟨S8x512, .i32⟩ : BufTy).Contents (Elt F) → (⟨S8x512x1, .i32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  StableHlo.unary_bufs_sub ..
/-- 22 host operations of @take_along_axis_0 (main_call3), in order. -/
abbrev hostOps0_4 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8x512x1, .i32⟩) (broadcastInDim S8x512x1 ![] bcast_S_S8x512x1),
    StableHlo.TRef.binary (.of main_v7 : StableHlo.TRef sig ⟨S8x512x1, .i32⟩) (.of main_call3_v0 : StableHlo.TRef sig ⟨S8x512x1, .i32⟩) (.of main_call3_v1 : StableHlo.TRef sig ⟨S8x512x1, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S8x512x1, .i32⟩) (broadcastInDim S8x512x1 ![] bcast_S_S8x512x1),
    StableHlo.TRef.binary (.of main_v7 : StableHlo.TRef sig ⟨S8x512x1, .i32⟩) (.of main_call3_v2 : StableHlo.TRef sig ⟨S8x512x1, .i32⟩) (.of main_call3_v3 : StableHlo.TRef sig ⟨S8x512x1, .i32⟩) addi,
    StableHlo.TRef.ternary (.of main_call3_v1 : StableHlo.TRef sig ⟨S8x512x1, .i1⟩) (.of main_call3_v3 : StableHlo.TRef sig ⟨S8x512x1, .i32⟩) (.of main_v7 : StableHlo.TRef sig ⟨S8x512x1, .i32⟩) (.of main_call3_v4 : StableHlo.TRef sig ⟨S8x512x1, .i32⟩) select,
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S8x512x1, .i32⟩) (broadcastInDim S8x512x1 ![] bcast_S_S8x512x1),
    StableHlo.TRef.binary (.of main_call3_v4 : StableHlo.TRef sig ⟨S8x512x1, .i32⟩) (.of main_call3_v5 : StableHlo.TRef sig ⟨S8x512x1, .i32⟩) (.of main_call3_v6 : StableHlo.TRef sig ⟨S8x512x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S8x512x1, .i32⟩) (broadcastInDim S8x512x1 ![0, 1, 2] bcast_S1x1x1_S8x512x1_0_1_2),
    StableHlo.TRef.binary (.of main_call3_v4 : StableHlo.TRef sig ⟨S8x512x1, .i32⟩) (.of main_call3_v8 : StableHlo.TRef sig ⟨S8x512x1, .i32⟩) (.of main_call3_v9 : StableHlo.TRef sig ⟨S8x512x1, .i1⟩) (cmpi .sle),
    StableHlo.TRef.binary (.of main_call3_v6 : StableHlo.TRef sig ⟨S8x512x1, .i1⟩) (.of main_call3_v9 : StableHlo.TRef sig ⟨S8x512x1, .i1⟩) (.of main_call3_v10 : StableHlo.TRef sig ⟨S8x512x1, .i1⟩) andi,
    StableHlo.TRef.nullary (.of main_call3_c_3 : StableHlo.TRef sig ⟨S_, .i1⟩) (constantI S_ 1 1#1),
    StableHlo.TRef.binary (.of main_call3_v10 : StableHlo.TRef sig ⟨S8x512x1, .i1⟩) (.of main_call3_c_3 : StableHlo.TRef sig ⟨S_, .i1⟩) (.of main_call3_v11 : StableHlo.TRef sig ⟨S8x512, .i1⟩) (fun x v => Host.reduce IntOp.andi x v reducesTo_S8x512x1_S8x512_d2 h_S_),
    StableHlo.TRef.binary (.of main_arg1 : StableHlo.TRef sig ⟨S8x4096x3, .f32⟩) (.of main_call3_v4 : StableHlo.TRef sig ⟨S8x512x1, .i32⟩) (.of main_call3_v12 : StableHlo.TRef sig ⟨S8x512x3, .f32⟩) (fun x i => Host.gather gather_S8x4096x3_S8x512x1_S8x512x3_2_1_0_0_1_2_113 x i),
    StableHlo.TRef.unary (.of main_call3_v11 : StableHlo.TRef sig ⟨S8x512, .i1⟩) (.of main_call3_v13 : StableHlo.TRef sig ⟨S8x512x3, .i1⟩) (broadcastInDim S8x512x3 ![0, 1] bcast_S8x512_S8x512x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S8x512x3, .f32⟩) (broadcastInDim S8x512x3 ![] bcast_S_S8x512x3),
    StableHlo.TRef.ternary (.of main_call3_v13 : StableHlo.TRef sig ⟨S8x512x3, .i1⟩) (.of main_call3_v12 : StableHlo.TRef sig ⟨S8x512x3, .f32⟩) (.of main_call3_v14 : StableHlo.TRef sig ⟨S8x512x3, .f32⟩) (.of main_v8 : StableHlo.TRef sig ⟨S8x512x3, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 23 host operations of @main, in order. -/
abbrev hostOps0_5 : List (HloOp τ sig (Elt F)) :=
  [ StableHlo.binary main_v6 main_v6 main_v9 (mulf : (⟨S8x512x3, .f32⟩ : BufTy).Contents (Elt F) → (⟨S8x512x3, .f32⟩ : BufTy).Contents (Elt F) → (⟨S8x512x3, .f32⟩ : BufTy).Contents (Elt F)),
    StableHlo.nullary main_cst_3 (constant S_ .f32 0x00000000#32),
    StableHlo.binary main_v9 main_cst_3 main_v10 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.unary main_v10 main_v11 (broadcastInDim S8x512x1 ![0, 1] bcast_S8x512_S8x512x1_0_1 : (⟨S8x512, .f32⟩ : BufTy).Contents (Elt F) → (⟨S8x512x1, .f32⟩ : BufTy).Contents (Elt F)),
    StableHlo.binary main_arg0 main_arg0 main_v12 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst_4 (constant S_ .f32 0x00000000#32),
    StableHlo.binary main_v12 main_cst_4 main_v13 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.unary main_v13 main_v14 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v11 main_v15 (broadcastInDim S8x512x4096 ![0, 1, 2] bcast_S8x512x1_S8x512x4096_0_1_2 : (⟨S8x512x1, .f32⟩ : BufTy).Contents (Elt F) → (⟨S8x512x4096, .f32⟩ : BufTy).Contents (Elt F)),
    StableHlo.unary main_v14 main_v16 (broadcastInDim S8x512x4096 ![0, 1, 2] bcast_S8x1x4096_S8x512x4096_0_1_2 : (⟨S8x1x4096, .f32⟩ : BufTy).Contents (Elt F) → (⟨S8x512x4096, .f32⟩ : BufTy).Contents (Elt F)),
    StableHlo.binary main_v15 main_v16 main_v17 (addf : (⟨S8x512x4096, .f32⟩ : BufTy).Contents (Elt F) → (⟨S8x512x4096, .f32⟩ : BufTy).Contents (Elt F) → (⟨S8x512x4096, .f32⟩ : BufTy).Contents (Elt F)),
    StableHlo.binary main_v6 main_arg0 main_v18 ((fun l r => Host.dotGeneral dot_S8x512x3_S8x4096x3_S8x512x4096_2_2_1_1_0_0 none l r) : (⟨S8x512x3, .f32⟩ : BufTy).Contents (Elt F) → (⟨S8x4096x3, .f32⟩ : BufTy).Contents (Elt F) → (⟨S8x512x4096, .f32⟩ : BufTy).Contents (Elt F)),
    StableHlo.nullary main_cst_5 (constant S_ .f32 0x40000000#32),
    StableHlo.unary main_cst_5 main_v19 (broadcastInDim S8x512x4096 ![] bcast_S_S8x512x4096 : (⟨S_, .f32⟩ : BufTy).Contents (Elt F) → (⟨S8x512x4096, .f32⟩ : BufTy).Contents (Elt F)),
    StableHlo.binary main_v19 main_v18 main_v20 (mulf : (⟨S8x512x4096, .f32⟩ : BufTy).Contents (Elt F) → (⟨S8x512x4096, .f32⟩ : BufTy).Contents (Elt F) → (⟨S8x512x4096, .f32⟩ : BufTy).Contents (Elt F)),
    StableHlo.binary main_v17 main_v20 main_v21 (subf : (⟨S8x512x4096, .f32⟩ : BufTy).Contents (Elt F) → (⟨S8x512x4096, .f32⟩ : BufTy).Contents (Elt F) → (⟨S8x512x4096, .f32⟩ : BufTy).Contents (Elt F)),
    StableHlo.nullary main_v22 (iotaInDim S4096 32 0),
    StableHlo.unary main_v22 main_v23 (broadcastInDim S1x1x4096 ![2] bcast_S4096_S1x1x4096_2 : (⟨S4096, .i32⟩ : BufTy).Contents (Elt F) → (⟨S1x1x4096, .i32⟩ : BufTy).Contents (Elt F)),
    StableHlo.unary main_v23 main_v24 (broadcastInDim S8x512x4096 ![0, 1, 2] bcast_S1x1x4096_S8x512x4096_0_1_2 : (⟨S1x1x4096, .i32⟩ : BufTy).Contents (Elt F) → (⟨S8x512x4096, .i32⟩ : BufTy).Contents (Elt F)),
    StableHlo.nullary main_cst_6 (constant S_ .f32 0x3CB851EC#32),
    StableHlo.unary main_cst_6 main_v25 (broadcastInDim S8x512x4096 ![] bcast_S_S8x512x4096 : (⟨S_, .f32⟩ : BufTy).Contents (Elt F) → (⟨S8x512x4096, .f32⟩ : BufTy).Contents (Elt F)),
    StableHlo.binary main_v21 main_v25 main_v26 (cmpf .ogt : (⟨S8x512x4096, .f32⟩ : BufTy).Contents (Elt F) → (⟨S8x512x4096, .f32⟩ : BufTy).Contents (Elt F) → (⟨S8x512x4096, .i1⟩ : BufTy).Contents (Elt F)),
    StableHlo.nullary main_c_7 (constantI S_ 32 4096#32) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub ..⟩
/-- 3 host operations of @_where (main_call4), in order. -/
abbrev hostOps0_6 : List (HloOp τ sig (Elt F)) :=
  [ StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8x512x4096, .i32⟩) (broadcastInDim S8x512x4096 ![] bcast_S_S8x512x4096),
    StableHlo.TRef.ternary (.of main_v26 : StableHlo.TRef sig ⟨S8x512x4096, .i1⟩) (.of main_call4_v1 : StableHlo.TRef sig ⟨S8x512x4096, .i32⟩) (.of main_v24 : StableHlo.TRef sig ⟨S8x512x4096, .i32⟩) (.of main_v27 : StableHlo.TRef sig ⟨S8x512x4096, .i32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @sort (main_call5), in order. -/
abbrev hostOps0_7 : List (HloOp τ sig (Elt F)) :=
  [ StableHlo.TRef.unary (.of main_v27 : StableHlo.TRef sig ⟨S8x512x4096, .i32⟩) (.of main_v28 : StableHlo.TRef sig ⟨S8x512x4096, .i32⟩) (fun x => Host.sort S8x512x4096 2 comparator_i32_d2 x) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  StableHlo.unary_bufs_sub ..
/-- 6 host operations of @main, in order. -/
abbrev hostOps0_8 : List (HloOp τ sig (Elt F)) :=
  [ StableHlo.unary main_v28 main_v29 ((extractStridedSlice S8x512x32 ![0, 0, 0] · slices_S8x512x4096_S8x512x32_0_0_0) : (⟨S8x512x4096, .i32⟩ : BufTy).Contents (Elt F) → (⟨S8x512x32, .i32⟩ : BufTy).Contents (Elt F)),
    StableHlo.unary main_v29 main_v30 ((extractStridedSlice S8x512x1 ![0, 0, 0] · slices_S8x512x32_S8x512x1_0_0_0) : (⟨S8x512x32, .i32⟩ : BufTy).Contents (Elt F) → (⟨S8x512x1, .i32⟩ : BufTy).Contents (Elt F)),
    StableHlo.unary main_v30 main_v31 (broadcastInDim S8x512x32 ![0, 1, 2] bcast_S8x512x1_S8x512x32_0_1_2 : (⟨S8x512x1, .i32⟩ : BufTy).Contents (Elt F) → (⟨S8x512x32, .i32⟩ : BufTy).Contents (Elt F)),
    StableHlo.nullary main_c_8 (constantI S_ 32 4096#32),
    StableHlo.unary main_c_8 main_v32 (broadcastInDim S8x512x32 ![] bcast_S_S8x512x32 : (⟨S_, .i32⟩ : BufTy).Contents (Elt F) → (⟨S8x512x32, .i32⟩ : BufTy).Contents (Elt F)),
    StableHlo.binary main_v29 main_v32 main_v33 (cmpi .eq : (⟨S8x512x32, .i32⟩ : BufTy).Contents (Elt F) → (⟨S8x512x32, .i32⟩ : BufTy).Contents (Elt F) → (⟨S8x512x32, .i1⟩ : BufTy).Contents (Elt F)) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub ..⟩
/-- 1 host operation of @_where_1 (main_call6), in order. -/
abbrev hostOps0_9 : List (HloOp τ sig (Elt F)) :=
  [ StableHlo.TRef.ternary (.of main_v33 : StableHlo.TRef sig ⟨S8x512x32, .i1⟩) (.of main_v31 : StableHlo.TRef sig ⟨S8x512x32, .i32⟩) (.of main_v29 : StableHlo.TRef sig ⟨S8x512x32, .i32⟩) (.of main_v34 : StableHlo.TRef sig ⟨S8x512x32, .i32⟩) select ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  StableHlo.ternary_bufs_sub ..
/-- 45 host operations of @main, in order. -/
abbrev hostOps0_10 : List (HloOp τ sig (Elt F)) :=
  ( StableHlo.nullary main_c_9 (constantI S_ 32 0#32)
  :: StableHlo.unary main_c_9 main_v35 (broadcastInDim S8x512x32 ![] bcast_S_S8x512x32 : (⟨S_, .i32⟩ : BufTy).Contents (Elt F) → (⟨S8x512x32, .i32⟩ : BufTy).Contents (Elt F))
  :: StableHlo.binary main_v34 main_v35 main_v36 (cmpi .slt : (⟨S8x512x32, .i32⟩ : BufTy).Contents (Elt F) → (⟨S8x512x32, .i32⟩ : BufTy).Contents (Elt F) → (⟨S8x512x32, .i1⟩ : BufTy).Contents (Elt F))
  :: StableHlo.nullary main_c_10 (constantI S_ 32 4096#32)
  :: StableHlo.unary main_c_10 main_v37 (broadcastInDim S8x512x32 ![] bcast_S_S8x512x32 : (⟨S_, .i32⟩ : BufTy).Contents (Elt F) → (⟨S8x512x32, .i32⟩ : BufTy).Contents (Elt F))
  :: StableHlo.binary main_v34 main_v37 main_v38 (addi : (⟨S8x512x32, .i32⟩ : BufTy).Contents (Elt F) → (⟨S8x512x32, .i32⟩ : BufTy).Contents (Elt F) → (⟨S8x512x32, .i32⟩ : BufTy).Contents (Elt F))
  :: StableHlo.ternary main_v36 main_v38 main_v34 main_v39 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F))
  :: StableHlo.unary main_v39 main_v40 (broadcastInDim S8x512x32x1 ![0, 1, 2] bcast_S8x512x32_S8x512x32x1_0_1_2 : (⟨S8x512x32, .i32⟩ : BufTy).Contents (Elt F) → (⟨S8x512x32x1, .i32⟩ : BufTy).Contents (Elt F))
  :: StableHlo.binary main_arg1 main_v40 main_v41 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F))
  :: StableHlo.nullary main_c_11 (constantI S_ 32 0#32)
  :: StableHlo.unary main_c_11 main_v42 (broadcastInDim S8x512x32 ![] bcast_S_S8x512x32 : (⟨S_, .i32⟩ : BufTy).Contents (Elt F) → (⟨S8x512x32, .i32⟩ : BufTy).Contents (Elt F))
  :: StableHlo.binary main_v34 main_v42 main_v43 (cmpi .slt : (⟨S8x512x32, .i32⟩ : BufTy).Contents (Elt F) → (⟨S8x512x32, .i32⟩ : BufTy).Contents (Elt F) → (⟨S8x512x32, .i1⟩ : BufTy).Contents (Elt F))
  :: StableHlo.nullary main_c_12 (constantI S_ 32 4096#32)
  :: StableHlo.unary main_c_12 main_v44 (broadcastInDim S8x512x32 ![] bcast_S_S8x512x32 : (⟨S_, .i32⟩ : BufTy).Contents (Elt F) → (⟨S8x512x32, .i32⟩ : BufTy).Contents (Elt F))
  :: StableHlo.binary main_v34 main_v44 main_v45 (addi : (⟨S8x512x32, .i32⟩ : BufTy).Contents (Elt F) → (⟨S8x512x32, .i32⟩ : BufTy).Contents (Elt F) → (⟨S8x512x32, .i32⟩ : BufTy).Contents (Elt F))
  :: StableHlo.ternary main_v43 main_v45 main_v34 main_v46 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F))
  :: StableHlo.unary main_v46 main_v47 (broadcastInDim S8x512x32x1 ![0, 1, 2] bcast_S8x512x32_S8x512x32x1_0_1_2 : (⟨S8x512x32, .i32⟩ : BufTy).Contents (Elt F) → (⟨S8x512x32x1, .i32⟩ : BufTy).Contents (Elt F))
  :: StableHlo.binary main_arg0 main_v47 main_v48 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F))
  :: StableHlo.unary main_v6 main_v49 (broadcastInDim S8x512x1x3 ![0, 1, 3] bcast_S8x512x3_S8x512x1x3_0_1_3 : (⟨S8x512x3, .f32⟩ : BufTy).Contents (Elt F) → (⟨S8x512x1x3, .f32⟩ : BufTy).Contents (Elt F))
  :: StableHlo.unary main_v49 main_v50 (broadcastInDim S8x512x32x3 ![0, 1, 2, 3] bcast_S8x512x1x3_S8x512x32x3_0_1_2_3 : (⟨S8x512x1x3, .f32⟩ : BufTy).Contents (Elt F) → (⟨S8x512x32x3, .f32⟩ : BufTy).Contents (Elt F))
  :: StableHlo.binary main_v48 main_v50 main_v51 (subf : (⟨S8x512x32x3, .f32⟩ : BufTy).Contents (Elt F) → (⟨S8x512x32x3, .f32⟩ : BufTy).Contents (Elt F) → (⟨S8x512x32x3, .f32⟩ : BufTy).Contents (Elt F))
  :: StableHlo.nullary main_c_13 (constantI S_ 32 0#32)
  :: StableHlo.unary main_c_13 main_v52 (broadcastInDim S8x512x32 ![] bcast_S_S8x512x32 : (⟨S_, .i32⟩ : BufTy).Contents (Elt F) → (⟨S8x512x32, .i32⟩ : BufTy).Contents (Elt F))
  :: StableHlo.binary main_v34 main_v52 main_v53 (cmpi .slt : (⟨S8x512x32, .i32⟩ : BufTy).Contents (Elt F) → (⟨S8x512x32, .i32⟩ : BufTy).Contents (Elt F) → (⟨S8x512x32, .i1⟩ : BufTy).Contents (Elt F))
  :: StableHlo.nullary main_c_14 (constantI S_ 32 4096#32)
  :: StableHlo.unary main_c_14 main_v54 (broadcastInDim S8x512x32 ![] bcast_S_S8x512x32 : (⟨S_, .i32⟩ : BufTy).Contents (Elt F) → (⟨S8x512x32, .i32⟩ : BufTy).Contents (Elt F))
  :: StableHlo.binary main_v34 main_v54 main_v55 (addi : (⟨S8x512x32, .i32⟩ : BufTy).Contents (Elt F) → (⟨S8x512x32, .i32⟩ : BufTy).Contents (Elt F) → (⟨S8x512x32, .i32⟩ : BufTy).Contents (Elt F))
  :: StableHlo.ternary main_v53 main_v55 main_v34 main_v56 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F))
  :: StableHlo.unary main_v56 main_v57 (broadcastInDim S8x512x32x1 ![0, 1, 2] bcast_S8x512x32_S8x512x32x1_0_1_2 : (⟨S8x512x32, .i32⟩ : BufTy).Contents (Elt F) → (⟨S8x512x32x1, .i32⟩ : BufTy).Contents (Elt F))
  :: StableHlo.binary main_v0 main_v57 main_v58 ((fun x i => Host.gather gather_S8x4096x10_S8x512x32x1_S8x512x32x10_3_1_0_0_1_3_1110 x i) : (⟨S8x4096x10, .f32⟩ : BufTy).Contents (Elt F) → (⟨S8x512x32x1, .i32⟩ : BufTy).Contents (Elt F) → (⟨S8x512x32x10, .f32⟩ : BufTy).Contents (Elt F))
  :: StableHlo.nary ![main_v51, main_v41, main_v58] main_v59 (fun u => (concatenate S8x512x32x16 3 [⟨S8x512x32x3, (u 0 : (⟨S8x512x32x3, .f32⟩ : BufTy).Contents (Elt F))⟩, ⟨S8x512x32x3, (u 1 : (⟨S8x512x32x3, .f32⟩ : BufTy).Contents (Elt F))⟩, ⟨S8x512x32x10, (u 2 : (⟨S8x512x32x10, .f32⟩ : BufTy).Contents (Elt F))⟩] concatenates_S8x512x32x3_S8x512x32x3_S8x512x32x10_S8x512x32x16_d3 : (⟨S8x512x32x16, .f32⟩ : BufTy).Contents (Elt F)))
  :: StableHlo.unary main_v59 main_v60 ((transpose S8x16x32x512 [0, 3, 2, 1] · transposes_S8x512x32x16_S8x16x32x512_0_3_2_1) : (⟨S8x512x32x16, .f32⟩ : BufTy).Contents (Elt F) → (⟨S8x16x32x512, .f32⟩ : BufTy).Contents (Elt F))
  :: StableHlo.unary main_v60 main_v61 ((extractStridedSlice S8x3x32x512 ![0, 0, 0, 0] · slices_S8x16x32x512_S8x3x32x512_0_0_0_0) : (⟨S8x16x32x512, .f32⟩ : BufTy).Contents (Elt F) → (⟨S8x3x32x512, .f32⟩ : BufTy).Contents (Elt F))
  :: StableHlo.binary main_v61 main_arg3 main_v62 ((fun l r => Host.dotGeneral dot_S8x3x32x512_S64x3_S8x32x512x64_1_1_023_0_n_n none l r) : (⟨S8x3x32x512, .f32⟩ : BufTy).Contents (Elt F) → (⟨S64x3, .f32⟩ : BufTy).Contents (Elt F) → (⟨S8x32x512x64, .f32⟩ : BufTy).Contents (Elt F))
  :: StableHlo.unary main_v62 main_v63 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F))
  :: StableHlo.unary main_arg4 main_v64 (broadcastInDim S1x64x1x1 ![1] bcast_S64_S1x64x1x1_1 : (⟨S64, .f32⟩ : BufTy).Contents (Elt F) → (⟨S1x64x1x1, .f32⟩ : BufTy).Contents (Elt F))
  :: StableHlo.unary main_v64 main_v65 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F))
  :: StableHlo.binary main_v63 main_v65 main_v66 (addf : (⟨S8x64x32x512, .f32⟩ : BufTy).Contents (Elt F) → (⟨S8x64x32x512, .f32⟩ : BufTy).Contents (Elt F) → (⟨S8x64x32x512, .f32⟩ : BufTy).Contents (Elt F))
  :: StableHlo.nullary main_cst_15 (constant S_ .f32 0x00000000#32)
  :: StableHlo.binary main_v66 main_cst_15 main_v67 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F))
  :: StableHlo.unary main_v67 main_v68 (broadcastInDim S1x64x1x1 ![1] bcast_S64_S1x64x1x1_1 : (⟨S64, .f32⟩ : BufTy).Contents (Elt F) → (⟨S1x64x1x1, .f32⟩ : BufTy).Contents (Elt F))
  :: StableHlo.nullary main_cst_16 (constant S_ .f32 0x48000000#32)
  :: StableHlo.unary main_cst_16 main_v69 (broadcastInDim S1x64x1x1 ![] bcast_S_S1x64x1x1 : (⟨S_, .f32⟩ : BufTy).Contents (Elt F) → (⟨S1x64x1x1, .f32⟩ : BufTy).Contents (Elt F))
  :: StableHlo.binary main_v68 main_v69 main_v70 (Host.divf : (⟨S1x64x1x1, .f32⟩ : BufTy).Contents (Elt F) → (⟨S1x64x1x1, .f32⟩ : BufTy).Contents (Elt F) → (⟨S1x64x1x1, .f32⟩ : BufTy).Contents (Elt F))
  :: StableHlo.nullary main_c_17 (constantI S_ 32 0#32)
  :: [] )
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call7), in order. -/
abbrev hostOps0_11 : List (HloOp τ sig (Elt F)) :=
  [ StableHlo.TRef.nullary (.of main_call7_cst : StableHlo.TRef sig ⟨S_, .f32⟩) (constant S_ .f32 0x00000000#32),
    StableHlo.TRef.binary (.of main_v66 : StableHlo.TRef sig ⟨S8x64x32x512, .f32⟩) (.of main_call7_cst : StableHlo.TRef sig ⟨S_, .f32⟩) (.of main_call7_v0 : StableHlo.TRef sig ⟨S64, .f32⟩) (fun x v => Host.reduceAdd x v reducesTo_S8x64x32x512_S64_d0_2_3 h_S_),
    StableHlo.TRef.unary (.of main_call7_v0 : StableHlo.TRef sig ⟨S64, .f32⟩) (.of main_call7_v1 : StableHlo.TRef sig ⟨S1x64x1x1, .f32⟩) (broadcastInDim S1x64x1x1 ![1] bcast_S64_S1x64x1x1_1),
    StableHlo.TRef.nullary (.of main_call7_cst_0 : StableHlo.TRef sig ⟨S_, .f32⟩) (constant S_ .f32 0x48000000#32),
    StableHlo.TRef.unary (.of main_call7_cst_0 : StableHlo.TRef sig ⟨S_, .f32⟩) (.of main_call7_v2 : StableHlo.TRef sig ⟨S1x64x1x1, .f32⟩) (broadcastInDim S1x64x1x1 ![] bcast_S_S1x64x1x1),
    StableHlo.TRef.binary (.of main_call7_v1 : StableHlo.TRef sig ⟨S1x64x1x1, .f32⟩) (.of main_call7_v2 : StableHlo.TRef sig ⟨S1x64x1x1, .f32⟩) (.of main_call7_v3 : StableHlo.TRef sig ⟨S1x64x1x1, .f32⟩) Host.divf,
    StableHlo.TRef.unary (.of main_call7_v3 : StableHlo.TRef sig ⟨S1x64x1x1, .f32⟩) (.of main_call7_v4 : StableHlo.TRef sig ⟨S8x64x32x512, .f32⟩) (broadcastInDim S8x64x32x512 ![0, 1, 2, 3] bcast_S1x64x1x1_S8x64x32x512_0_1_2_3),
    StableHlo.TRef.binary (.of main_v66 : StableHlo.TRef sig ⟨S8x64x32x512, .f32⟩) (.of main_call7_v4 : StableHlo.TRef sig ⟨S8x64x32x512, .f32⟩) (.of main_call7_v5 : StableHlo.TRef sig ⟨S8x64x32x512, .f32⟩) subf,
    StableHlo.TRef.binary (.of main_call7_v5 : StableHlo.TRef sig ⟨S8x64x32x512, .f32⟩) (.of main_call7_v5 : StableHlo.TRef sig ⟨S8x64x32x512, .f32⟩) (.of main_call7_v6 : StableHlo.TRef sig ⟨S8x64x32x512, .f32⟩) mulf,
    StableHlo.TRef.unary (.of main_c_17 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x48000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S8x64x32x512, .f32⟩) (.of main_call7_cst_2 : StableHlo.TRef sig ⟨S_, .f32⟩) (.of main_call7_v9 : StableHlo.TRef sig ⟨S64, .f32⟩) (fun x v => Host.reduceAdd x v reducesTo_S8x64x32x512_S64_d0_2_3 h_S_),
    StableHlo.TRef.unary (.of main_call7_v9 : StableHlo.TRef sig ⟨S64, .f32⟩) (.of main_call7_v10 : StableHlo.TRef sig ⟨S1x64x1x1, .f32⟩) (broadcastInDim S1x64x1x1 ![1] bcast_S64_S1x64x1x1_1),
    StableHlo.TRef.unary (.of main_call7_v8 : StableHlo.TRef sig ⟨S_, .f32⟩) (.of main_call7_v11 : StableHlo.TRef sig ⟨S1x64x1x1, .f32⟩) (broadcastInDim S1x64x1x1 ![] bcast_S_S1x64x1x1),
    StableHlo.TRef.binary (.of main_call7_v10 : StableHlo.TRef sig ⟨S1x64x1x1, .f32⟩) (.of main_call7_v11 : StableHlo.TRef sig ⟨S1x64x1x1, .f32⟩) (.of main_call7_v12 : StableHlo.TRef sig ⟨S1x64x1x1, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S1x64x1x1, .f32⟩) (broadcastInDim S1x64x1x1 ![] bcast_S_S1x64x1x1),
    StableHlo.TRef.ternary (.of main_call7_v13 : StableHlo.TRef sig ⟨S_, .i1⟩) (.of main_call7_v12 : StableHlo.TRef sig ⟨S1x64x1x1, .f32⟩) (.of main_call7_call0_v1 : StableHlo.TRef sig ⟨S1x64x1x1, .f32⟩) (.of main_v71 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 27 host operations of @main, in order. -/
abbrev hostOps0_12 : List (HloOp τ sig (Elt F)) :=
  [ StableHlo.unary main_v70 main_v72 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v66 main_v72 main_v73 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_18 (constant S_ .f32 0x3727C5AC#32),
    StableHlo.unary main_cst_18 main_v74 (broadcastInDim S1x64x1x1 ![] bcast_S_S1x64x1x1 : (⟨S_, .f32⟩ : BufTy).Contents (Elt F) → (⟨S1x64x1x1, .f32⟩ : BufTy).Contents (Elt F)),
    StableHlo.binary main_v71 main_v74 main_v75 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v75 main_v76 (Host.sqrt : (⟨S1x64x1x1, .f32⟩ : BufTy).Contents (Elt F) → (⟨S1x64x1x1, .f32⟩ : BufTy).Contents (Elt F)),
    StableHlo.unary main_v76 main_v77 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v73 main_v77 main_v78 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg5 main_v79 (broadcastInDim S1x64x1x1 ![1] bcast_S64_S1x64x1x1_1 : (⟨S64, .f32⟩ : BufTy).Contents (Elt F) → (⟨S1x64x1x1, .f32⟩ : BufTy).Contents (Elt F)),
    StableHlo.unary main_v79 main_v80 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v78 main_v80 main_v81 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg6 main_v82 (broadcastInDim S1x64x1x1 ![1] bcast_S64_S1x64x1x1_1 : (⟨S64, .f32⟩ : BufTy).Contents (Elt F) → (⟨S1x64x1x1, .f32⟩ : BufTy).Contents (Elt F)),
    StableHlo.unary main_v82 main_v83 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v81 main_v83 main_v84 (addf : (⟨S8x64x32x512, .f32⟩ : BufTy).Contents (Elt F) → (⟨S8x64x32x512, .f32⟩ : BufTy).Contents (Elt F) → (⟨S8x64x32x512, .f32⟩ : BufTy).Contents (Elt F)),
    StableHlo.unary main_v60 main_v85 ((extractStridedSlice S8x13x32x512 ![0, 3, 0, 0] · slices_S8x16x32x512_S8x13x32x512_0_3_0_0) : (⟨S8x16x32x512, .f32⟩ : BufTy).Contents (Elt F) → (⟨S8x13x32x512, .f32⟩ : BufTy).Contents (Elt F)),
    StableHlo.binary main_v85 main_arg7 main_v86 ((fun l r => Host.dotGeneral dot_S8x13x32x512_S64x13_S8x32x512x64_1_1_023_0_n_n none l r) : (⟨S8x13x32x512, .f32⟩ : BufTy).Contents (Elt F) → (⟨S64x13, .f32⟩ : BufTy).Contents (Elt F) → (⟨S8x32x512x64, .f32⟩ : BufTy).Contents (Elt F)),
    StableHlo.unary main_v86 main_v87 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F)),
    StableHlo.unary main_arg8 main_v88 (broadcastInDim S1x64x1x1 ![1] bcast_S64_S1x64x1x1_1 : (⟨S64, .f32⟩ : BufTy).Contents (Elt F) → (⟨S1x64x1x1, .f32⟩ : BufTy).Contents (Elt F)),
    StableHlo.unary main_v88 main_v89 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v87 main_v89 main_v90 (addf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_19 (constant S_ .f32 0x00000000#32),
    StableHlo.binary main_v90 main_cst_19 main_v91 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F)),
    StableHlo.unary main_v91 main_v92 (broadcastInDim S1x64x1x1 ![1] bcast_S64_S1x64x1x1_1 : (⟨S64, .f32⟩ : BufTy).Contents (Elt F) → (⟨S1x64x1x1, .f32⟩ : BufTy).Contents (Elt F)),
    StableHlo.nullary main_cst_20 (constant S_ .f32 0x48000000#32),
    StableHlo.unary main_cst_20 main_v93 (broadcastInDim S1x64x1x1 ![] bcast_S_S1x64x1x1 : (⟨S_, .f32⟩ : BufTy).Contents (Elt F) → (⟨S1x64x1x1, .f32⟩ : BufTy).Contents (Elt F)),
    StableHlo.binary main_v92 main_v93 main_v94 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_21 (constantI S_ 32 0#32) ]
/-- Each touches TensorCore references only (`HostSeg.ofOps` over `StableHlo.tcRefs`, or a subset by `sub_ucRefs`). -/
theorem hostOps0_12_sub : (hostOps0_12 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call8), in order. -/
abbrev hostOps0_13 : List (HloOp τ sig (Elt F)) :=
  [ StableHlo.TRef.nullary (.of main_call8_cst : StableHlo.TRef sig ⟨S_, .f32⟩) (constant S_ .f32 0x00000000#32),
    StableHlo.TRef.binary (.of main_v90 : StableHlo.TRef sig ⟨S8x64x32x512, .f32⟩) (.of main_call8_cst : StableHlo.TRef sig ⟨S_, .f32⟩) (.of main_call8_v0 : StableHlo.TRef sig ⟨S64, .f32⟩) (fun x v => Host.reduceAdd x v reducesTo_S8x64x32x512_S64_d0_2_3 h_S_),
    StableHlo.TRef.unary (.of main_call8_v0 : StableHlo.TRef sig ⟨S64, .f32⟩) (.of main_call8_v1 : StableHlo.TRef sig ⟨S1x64x1x1, .f32⟩) (broadcastInDim S1x64x1x1 ![1] bcast_S64_S1x64x1x1_1),
    StableHlo.TRef.nullary (.of main_call8_cst_0 : StableHlo.TRef sig ⟨S_, .f32⟩) (constant S_ .f32 0x48000000#32),
    StableHlo.TRef.unary (.of main_call8_cst_0 : StableHlo.TRef sig ⟨S_, .f32⟩) (.of main_call8_v2 : StableHlo.TRef sig ⟨S1x64x1x1, .f32⟩) (broadcastInDim S1x64x1x1 ![] bcast_S_S1x64x1x1),
    StableHlo.TRef.binary (.of main_call8_v1 : StableHlo.TRef sig ⟨S1x64x1x1, .f32⟩) (.of main_call8_v2 : StableHlo.TRef sig ⟨S1x64x1x1, .f32⟩) (.of main_call8_v3 : StableHlo.TRef sig ⟨S1x64x1x1, .f32⟩) Host.divf,
    StableHlo.TRef.unary (.of main_call8_v3 : StableHlo.TRef sig ⟨S1x64x1x1, .f32⟩) (.of main_call8_v4 : StableHlo.TRef sig ⟨S8x64x32x512, .f32⟩) (broadcastInDim S8x64x32x512 ![0, 1, 2, 3] bcast_S1x64x1x1_S8x64x32x512_0_1_2_3),
    StableHlo.TRef.binary (.of main_v90 : StableHlo.TRef sig ⟨S8x64x32x512, .f32⟩) (.of main_call8_v4 : StableHlo.TRef sig ⟨S8x64x32x512, .f32⟩) (.of main_call8_v5 : StableHlo.TRef sig ⟨S8x64x32x512, .f32⟩) subf,
    StableHlo.TRef.binary (.of main_call8_v5 : StableHlo.TRef sig ⟨S8x64x32x512, .f32⟩) (.of main_call8_v5 : StableHlo.TRef sig ⟨S8x64x32x512, .f32⟩) (.of main_call8_v6 : StableHlo.TRef sig ⟨S8x64x32x512, .f32⟩) mulf,
    StableHlo.TRef.unary (.of main_c_21 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x48000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S8x64x32x512, .f32⟩) (.of main_call8_cst_2 : StableHlo.TRef sig ⟨S_, .f32⟩) (.of main_call8_v9 : StableHlo.TRef sig ⟨S64, .f32⟩) (fun x v => Host.reduceAdd x v reducesTo_S8x64x32x512_S64_d0_2_3 h_S_),
    StableHlo.TRef.unary (.of main_call8_v9 : StableHlo.TRef sig ⟨S64, .f32⟩) (.of main_call8_v10 : StableHlo.TRef sig ⟨S1x64x1x1, .f32⟩) (broadcastInDim S1x64x1x1 ![1] bcast_S64_S1x64x1x1_1),
    StableHlo.TRef.unary (.of main_call8_v8 : StableHlo.TRef sig ⟨S_, .f32⟩) (.of main_call8_v11 : StableHlo.TRef sig ⟨S1x64x1x1, .f32⟩) (broadcastInDim S1x64x1x1 ![] bcast_S_S1x64x1x1),
    StableHlo.TRef.binary (.of main_call8_v10 : StableHlo.TRef sig ⟨S1x64x1x1, .f32⟩) (.of main_call8_v11 : StableHlo.TRef sig ⟨S1x64x1x1, .f32⟩) (.of main_call8_v12 : StableHlo.TRef sig ⟨S1x64x1x1, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v13 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S1x64x1x1, .f32⟩) (broadcastInDim S1x64x1x1 ![] bcast_S_S1x64x1x1),
    StableHlo.TRef.ternary (.of main_call8_v13 : StableHlo.TRef sig ⟨S_, .i1⟩) (.of main_call8_v12 : StableHlo.TRef sig ⟨S1x64x1x1, .f32⟩) (.of main_call8_call0_v1 : StableHlo.TRef sig ⟨S1x64x1x1, .f32⟩) (.of main_v95 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem hostOps0_13_sub : (hostOps0_13 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 15 host operations of @main, in order. -/
abbrev hostOps0_14 : List (HloOp τ sig (Elt F)) :=
  [ StableHlo.unary main_v94 main_v96 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v90 main_v96 main_v97 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_22 (constant S_ .f32 0x3727C5AC#32),
    StableHlo.unary main_cst_22 main_v98 (broadcastInDim S1x64x1x1 ![] bcast_S_S1x64x1x1 : (⟨S_, .f32⟩ : BufTy).Contents (Elt F) → (⟨S1x64x1x1, .f32⟩ : BufTy).Contents (Elt F)),
    StableHlo.binary main_v95 main_v98 main_v99 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v99 main_v100 (Host.sqrt : (⟨S1x64x1x1, .f32⟩ : BufTy).Contents (Elt F) → (⟨S1x64x1x1, .f32⟩ : BufTy).Contents (Elt F)),
    StableHlo.unary main_v100 main_v101 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v97 main_v101 main_v102 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg9 main_v103 (broadcastInDim S1x64x1x1 ![1] bcast_S64_S1x64x1x1_1 : (⟨S64, .f32⟩ : BufTy).Contents (Elt F) → (⟨S1x64x1x1, .f32⟩ : BufTy).Contents (Elt F)),
    StableHlo.unary main_v103 main_v104 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v102 main_v104 main_v105 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg10 main_v106 (broadcastInDim S1x64x1x1 ![1] bcast_S64_S1x64x1x1_1 : (⟨S64, .f32⟩ : BufTy).Contents (Elt F) → (⟨S1x64x1x1, .f32⟩ : BufTy).Contents (Elt F)),
    StableHlo.unary main_v106 main_v107 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v105 main_v107 main_v108 (addf : (⟨S8x64x32x512, .f32⟩ : BufTy).Contents (Elt F) → (⟨S8x64x32x512, .f32⟩ : BufTy).Contents (Elt F) → (⟨S8x64x32x512, .f32⟩ : BufTy).Contents (Elt F)),
    StableHlo.binary main_v84 main_v108 main_v109 (addf : (⟨S8x64x32x512, .f32⟩ : BufTy).Contents (Elt F) → (⟨S8x64x32x512, .f32⟩ : BufTy).Contents (Elt F) → (⟨S8x64x32x512, .f32⟩ : BufTy).Contents (Elt F)) ]
/-- Each touches TensorCore references only (`HostSeg.ofOps` over `StableHlo.tcRefs`, or a subset by `sub_ucRefs`). -/
theorem hostOps0_14_sub : (hostOps0_14 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩
/-- 3 host operations of @relu (main_call9), in order. -/
abbrev hostOps0_15 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S8x64x32x512, .f32⟩) (broadcastInDim S8x64x32x512 ![] bcast_S_S8x64x32x512),
    StableHlo.TRef.binary (.of main_v109 : StableHlo.TRef sig ⟨S8x64x32x512, .f32⟩) (.of main_call9_v0 : StableHlo.TRef sig ⟨S8x64x32x512, .f32⟩) (.of main_v110 : StableHlo.TRef sig ⟨S8x64x32x512, .f32⟩) maximumf ]
/-- Each touches TensorCore references only (`HostSeg.ofOps` over `StableHlo.tcRefs`, or a subset by `sub_ucRefs`). -/
theorem hostOps0_15_sub : (hostOps0_15 : List (HloOp τ sig (Elt F))).Forall fun op => op.bufs ⊆ StableHlo.tcRefs τ sig :=
  ⟨StableHlo.nullary_bufs_sub .., StableHlo.unary_bufs_sub .., StableHlo.binary_bufs_sub ..⟩
/-- 12 host operations of @main, in order. -/
abbrev hostOps0_16 : List (HloOp τ sig (Elt F)) :=
  [ StableHlo.binary main_v110 main_arg11 main_v111 ((fun l r => Host.dotGeneral dot_S8x64x32x512_S64x64_S8x32x512x64_1_1_023_0_n_n none l r) : (⟨S8x64x32x512, .f32⟩ : BufTy).Contents (Elt F) → (⟨S64x64, .f32⟩ : BufTy).Contents (Elt F) → (⟨S8x32x512x64, .f32⟩ : BufTy).Contents (Elt F)),
    StableHlo.unary main_v111 main_v112 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F)),
    StableHlo.unary main_arg12 main_v113 (broadcastInDim S1x64x1x1 ![1] bcast_S64_S1x64x1x1_1 : (⟨S64, .f32⟩ : BufTy).Contents (Elt F) → (⟨S1x64x1x1, .f32⟩ : BufTy).Contents (Elt F)),
    StableHlo.unary main_v113 main_v114 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v112 main_v114 main_v115 (addf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_23 (constant S_ .f32 0x00000000#32),
    StableHlo.binary main_v115 main_cst_23 main_v116 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F)),
    StableHlo.unary main_v116 main_v117 (broadcastInDim S1x64x1x1 ![1] bcast_S64_S1x64x1x1_1 : (⟨S64, .f32⟩ : BufTy).Contents (Elt F) → (⟨S1x64x1x1, .f32⟩ : BufTy).Contents (Elt F)),
    StableHlo.nullary main_cst_24 (constant S_ .f32 0x48000000#32),
    StableHlo.unary main_cst_24 main_v118 (broadcastInDim S1x64x1x1 ![] bcast_S_S1x64x1x1 : (⟨S_, .f32⟩ : BufTy).Contents (Elt F) → (⟨S1x64x1x1, .f32⟩ : BufTy).Contents (Elt F)),
    StableHlo.binary main_v117 main_v118 main_v119 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_25 (constantI S_ 32 0#32) ]
/-- Each touches TensorCore references only (`HostSeg.ofOps` over `StableHlo.tcRefs`, or a subset by `sub_ucRefs`). -/
theorem hostOps0_16_sub : (hostOps0_16 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call10), in order. -/
abbrev hostOps0_17 : List (HloOp τ sig (Elt F)) :=
  [ StableHlo.TRef.nullary (.of main_call10_cst : StableHlo.TRef sig ⟨S_, .f32⟩) (constant S_ .f32 0x00000000#32),
    StableHlo.TRef.binary (.of main_v115 : StableHlo.TRef sig ⟨S8x64x32x512, .f32⟩) (.of main_call10_cst : StableHlo.TRef sig ⟨S_, .f32⟩) (.of main_call10_v0 : StableHlo.TRef sig ⟨S64, .f32⟩) (fun x v => Host.reduceAdd x v reducesTo_S8x64x32x512_S64_d0_2_3 h_S_),
    StableHlo.TRef.unary (.of main_call10_v0 : StableHlo.TRef sig ⟨S64, .f32⟩) (.of main_call10_v1 : StableHlo.TRef sig ⟨S1x64x1x1, .f32⟩) (broadcastInDim S1x64x1x1 ![1] bcast_S64_S1x64x1x1_1),
    StableHlo.TRef.nullary (.of main_call10_cst_0 : StableHlo.TRef sig ⟨S_, .f32⟩) (constant S_ .f32 0x48000000#32),
    StableHlo.TRef.unary (.of main_call10_cst_0 : StableHlo.TRef sig ⟨S_, .f32⟩) (.of main_call10_v2 : StableHlo.TRef sig ⟨S1x64x1x1, .f32⟩) (broadcastInDim S1x64x1x1 ![] bcast_S_S1x64x1x1),
    StableHlo.TRef.binary (.of main_call10_v1 : StableHlo.TRef sig ⟨S1x64x1x1, .f32⟩) (.of main_call10_v2 : StableHlo.TRef sig ⟨S1x64x1x1, .f32⟩) (.of main_call10_v3 : StableHlo.TRef sig ⟨S1x64x1x1, .f32⟩) Host.divf,
    StableHlo.TRef.unary (.of main_call10_v3 : StableHlo.TRef sig ⟨S1x64x1x1, .f32⟩) (.of main_call10_v4 : StableHlo.TRef sig ⟨S8x64x32x512, .f32⟩) (broadcastInDim S8x64x32x512 ![0, 1, 2, 3] bcast_S1x64x1x1_S8x64x32x512_0_1_2_3),
    StableHlo.TRef.binary (.of main_v115 : StableHlo.TRef sig ⟨S8x64x32x512, .f32⟩) (.of main_call10_v4 : StableHlo.TRef sig ⟨S8x64x32x512, .f32⟩) (.of main_call10_v5 : StableHlo.TRef sig ⟨S8x64x32x512, .f32⟩) subf,
    StableHlo.TRef.binary (.of main_call10_v5 : StableHlo.TRef sig ⟨S8x64x32x512, .f32⟩) (.of main_call10_v5 : StableHlo.TRef sig ⟨S8x64x32x512, .f32⟩) (.of main_call10_v6 : StableHlo.TRef sig ⟨S8x64x32x512, .f32⟩) mulf,
    StableHlo.TRef.unary (.of main_c_25 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x48000000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S8x64x32x512, .f32⟩) (.of main_call10_cst_2 : StableHlo.TRef sig ⟨S_, .f32⟩) (.of main_call10_v9 : StableHlo.TRef sig ⟨S64, .f32⟩) (fun x v => Host.reduceAdd x v reducesTo_S8x64x32x512_S64_d0_2_3 h_S_),
    StableHlo.TRef.unary (.of main_call10_v9 : StableHlo.TRef sig ⟨S64, .f32⟩) (.of main_call10_v10 : StableHlo.TRef sig ⟨S1x64x1x1, .f32⟩) (broadcastInDim S1x64x1x1 ![1] bcast_S64_S1x64x1x1_1),
    StableHlo.TRef.unary (.of main_call10_v8 : StableHlo.TRef sig ⟨S_, .f32⟩) (.of main_call10_v11 : StableHlo.TRef sig ⟨S1x64x1x1, .f32⟩) (broadcastInDim S1x64x1x1 ![] bcast_S_S1x64x1x1),
    StableHlo.TRef.binary (.of main_call10_v10 : StableHlo.TRef sig ⟨S1x64x1x1, .f32⟩) (.of main_call10_v11 : StableHlo.TRef sig ⟨S1x64x1x1, .f32⟩) (.of main_call10_v12 : StableHlo.TRef sig ⟨S1x64x1x1, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v13 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S1x64x1x1, .f32⟩) (broadcastInDim S1x64x1x1 ![] bcast_S_S1x64x1x1),
    StableHlo.TRef.ternary (.of main_call10_v13 : StableHlo.TRef sig ⟨S_, .i1⟩) (.of main_call10_v12 : StableHlo.TRef sig ⟨S1x64x1x1, .f32⟩) (.of main_call10_call0_v1 : StableHlo.TRef sig ⟨S1x64x1x1, .f32⟩) (.of main_v120 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem hostOps0_17_sub : (hostOps0_17 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, in order. -/
abbrev hostOps0_18 : List (HloOp τ sig (Elt F)) :=
  [ StableHlo.unary main_v119 main_v121 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v115 main_v121 main_v122 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_26 (constant S_ .f32 0x3727C5AC#32),
    StableHlo.unary main_cst_26 main_v123 (broadcastInDim S1x64x1x1 ![] bcast_S_S1x64x1x1 : (⟨S_, .f32⟩ : BufTy).Contents (Elt F) → (⟨S1x64x1x1, .f32⟩ : BufTy).Contents (Elt F)),
    StableHlo.binary main_v120 main_v123 main_v124 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v124 main_v125 (Host.sqrt : (⟨S1x64x1x1, .f32⟩ : BufTy).Contents (Elt F) → (⟨S1x64x1x1, .f32⟩ : BufTy).Contents (Elt F)),
    StableHlo.unary main_v125 main_v126 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v122 main_v126 main_v127 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg13 main_v128 (broadcastInDim S1x64x1x1 ![1] bcast_S64_S1x64x1x1_1 : (⟨S64, .f32⟩ : BufTy).Contents (Elt F) → (⟨S1x64x1x1, .f32⟩ : BufTy).Contents (Elt F)),
    StableHlo.unary main_v128 main_v129 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v127 main_v129 main_v130 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg14 main_v131 (broadcastInDim S1x64x1x1 ![1] bcast_S64_S1x64x1x1_1 : (⟨S64, .f32⟩ : BufTy).Contents (Elt F) → (⟨S1x64x1x1, .f32⟩ : BufTy).Contents (Elt F)),
    StableHlo.unary main_v131 main_v132 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v130 main_v132 main_v133 (addf : (⟨S8x64x32x512, .f32⟩ : BufTy).Contents (Elt F) → (⟨S8x64x32x512, .f32⟩ : BufTy).Contents (Elt F) → (⟨S8x64x32x512, .f32⟩ : BufTy).Contents (Elt F)) ]
/-- Each touches TensorCore references only (`HostSeg.ofOps` over `StableHlo.tcRefs`, or a subset by `sub_ucRefs`). -/
theorem hostOps0_18_sub : (hostOps0_18 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 3 host operations of @relu (main_call11), in order. -/
abbrev hostOps0_19 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S8x64x32x512, .f32⟩) (broadcastInDim S8x64x32x512 ![] bcast_S_S8x64x32x512),
    StableHlo.TRef.binary (.of main_v133 : StableHlo.TRef sig ⟨S8x64x32x512, .f32⟩) (.of main_call11_v0 : StableHlo.TRef sig ⟨S8x64x32x512, .f32⟩) (.of main_v134 : StableHlo.TRef sig ⟨S8x64x32x512, .f32⟩) maximumf ]
/-- Each touches TensorCore references only (`HostSeg.ofOps` over `StableHlo.tcRefs`, or a subset by `sub_ucRefs`). -/
theorem hostOps0_19_sub : (hostOps0_19 : List (HloOp τ sig (Elt F))).Forall fun op => op.bufs ⊆ StableHlo.tcRefs τ sig :=
  ⟨StableHlo.nullary_bufs_sub .., StableHlo.unary_bufs_sub .., StableHlo.binary_bufs_sub ..⟩
/-- 12 host operations of @main, in order. -/
abbrev hostOps0_20 : List (HloOp τ sig (Elt F)) :=
  [ StableHlo.binary main_v134 main_arg15 main_v135 ((fun l r => Host.dotGeneral dot_S8x64x32x512_S128x64_S8x32x512x128_1_1_023_0_n_n none l r) : (⟨S8x64x32x512, .f32⟩ : BufTy).Contents (Elt F) → (⟨S128x64, .f32⟩ : BufTy).Contents (Elt F) → (⟨S8x32x512x128, .f32⟩ : BufTy).Contents (Elt F)),
    StableHlo.unary main_v135 main_v136 ((transpose S8x128x32x512 [0, 3, 1, 2] · transposes_S8x32x512x128_S8x128x32x512_0_3_1_2) : (⟨S8x32x512x128, .f32⟩ : BufTy).Contents (Elt F) → (⟨S8x128x32x512, .f32⟩ : BufTy).Contents (Elt F)),
    StableHlo.unary main_arg16 main_v137 (broadcastInDim S1x128x1x1 ![1] bcast_S128_S1x128x1x1_1 : (⟨S128, .f32⟩ : BufTy).Contents (Elt F) → (⟨S1x128x1x1, .f32⟩ : BufTy).Contents (Elt F)),
    StableHlo.unary main_v137 main_v138 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v136 main_v138 main_v139 (addf : (⟨S8x128x32x512, .f32⟩ : BufTy).Contents (Elt F) → (⟨S8x128x32x512, .f32⟩ : BufTy).Contents (Elt F) → (⟨S8x128x32x512, .f32⟩ : BufTy).Contents (Elt F)),
    StableHlo.nullary main_cst_27 (constant S_ .f32 0x00000000#32),
    StableHlo.binary main_v139 main_cst_27 main_v140 ((fun x v => Host.reduceAdd x v reducesTo_S8x128x32x512_S128_d0_2_3 h_S_) : (⟨S8x128x32x512, .f32⟩ : BufTy).Contents (Elt F) → (⟨S_, .f32⟩ : BufTy).Contents (Elt F) → (⟨S128, .f32⟩ : BufTy).Contents (Elt F)),
    StableHlo.unary main_v140 main_v141 (broadcastInDim S1x128x1x1 ![1] bcast_S128_S1x128x1x1_1 : (⟨S128, .f32⟩ : BufTy).Contents (Elt F) → (⟨S1x128x1x1, .f32⟩ : BufTy).Contents (Elt F)),
    StableHlo.nullary main_cst_28 (constant S_ .f32 0x48000000#32),
    StableHlo.unary main_cst_28 main_v142 (broadcastInDim S1x128x1x1 ![] bcast_S_S1x128x1x1 : (⟨S_, .f32⟩ : BufTy).Contents (Elt F) → (⟨S1x128x1x1, .f32⟩ : BufTy).Contents (Elt F)),
    StableHlo.binary main_v141 main_v142 main_v143 (Host.divf : (⟨S1x128x1x1, .f32⟩ : BufTy).Contents (Elt F) → (⟨S1x128x1x1, .f32⟩ : BufTy).Contents (Elt F) → (⟨S1x128x1x1, .f32⟩ : BufTy).Contents (Elt F)),
    StableHlo.nullary main_c_29 (constantI S_ 32 0#32) ]
/-- Each touches TensorCore references only (`HostSeg.ofOps` over `StableHlo.tcRefs`, or a subset by `sub_ucRefs`). -/
theorem hostOps0_20_sub : (hostOps0_20 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var_3 (main_call12), in order. -/
abbrev hostOps0_21 : List (HloOp τ sig (Elt F)) :=
  [ StableHlo.TRef.nullary (.of main_call12_cst : StableHlo.TRef sig ⟨S_, .f32⟩) (constant S_ .f32 0x00000000#32),
    StableHlo.TRef.binary (.of main_v139 : StableHlo.TRef sig ⟨S8x128x32x512, .f32⟩) (.of main_call12_cst : StableHlo.TRef sig ⟨S_, .f32⟩) (.of main_call12_v0 : StableHlo.TRef sig ⟨S128, .f32⟩) (fun x v => Host.reduceAdd x v reducesTo_S8x128x32x512_S128_d0_2_3 h_S_),
    StableHlo.TRef.unary (.of main_call12_v0 : StableHlo.TRef sig ⟨S128, .f32⟩) (.of main_call12_v1 : StableHlo.TRef sig ⟨S1x128x1x1, .f32⟩) (broadcastInDim S1x128x1x1 ![1] bcast_S128_S1x128x1x1_1),
    StableHlo.TRef.nullary (.of main_call12_cst_0 : StableHlo.TRef sig ⟨S_, .f32⟩) (constant S_ .f32 0x48000000#32),
    StableHlo.TRef.unary (.of main_call12_cst_0 : StableHlo.TRef sig ⟨S_, .f32⟩) (.of main_call12_v2 : StableHlo.TRef sig ⟨S1x128x1x1, .f32⟩) (broadcastInDim S1x128x1x1 ![] bcast_S_S1x128x1x1),
    StableHlo.TRef.binary (.of main_call12_v1 : StableHlo.TRef sig ⟨S1x128x1x1, .f32⟩) (.of main_call12_v2 : StableHlo.TRef sig ⟨S1x128x1x1, .f32⟩) (.of main_call12_v3 : StableHlo.TRef sig ⟨S1x128x1x1, .f32⟩) Host.divf,
    StableHlo.TRef.unary (.of main_call12_v3 : StableHlo.TRef sig ⟨S1x128x1x1, .f32⟩) (.of main_call12_v4 : StableHlo.TRef sig ⟨S8x128x32x512, .f32⟩) (broadcastInDim S8x128x32x512 ![0, 1, 2, 3] bcast_S1x128x1x1_S8x128x32x512_0_1_2_3),
    StableHlo.TRef.binary (.of main_v139 : StableHlo.TRef sig ⟨S8x128x32x512, .f32⟩) (.of main_call12_v4 : StableHlo.TRef sig ⟨S8x128x32x512, .f32⟩) (.of main_call12_v5 : StableHlo.TRef sig ⟨S8x128x32x512, .f32⟩) subf,
    StableHlo.TRef.binary (.of main_call12_v5 : StableHlo.TRef sig ⟨S8x128x32x512, .f32⟩) (.of main_call12_v5 : StableHlo.TRef sig ⟨S8x128x32x512, .f32⟩) (.of main_call12_v6 : StableHlo.TRef sig ⟨S8x128x32x512, .f32⟩) mulf,
    StableHlo.TRef.unary (.of main_c_29 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x48000000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S8x128x32x512, .f32⟩) (.of main_call12_cst_2 : StableHlo.TRef sig ⟨S_, .f32⟩) (.of main_call12_v9 : StableHlo.TRef sig ⟨S128, .f32⟩) (fun x v => Host.reduceAdd x v reducesTo_S8x128x32x512_S128_d0_2_3 h_S_),
    StableHlo.TRef.unary (.of main_call12_v9 : StableHlo.TRef sig ⟨S128, .f32⟩) (.of main_call12_v10 : StableHlo.TRef sig ⟨S1x128x1x1, .f32⟩) (broadcastInDim S1x128x1x1 ![1] bcast_S128_S1x128x1x1_1),
    StableHlo.TRef.unary (.of main_call12_v8 : StableHlo.TRef sig ⟨S_, .f32⟩) (.of main_call12_v11 : StableHlo.TRef sig ⟨S1x128x1x1, .f32⟩) (broadcastInDim S1x128x1x1 ![] bcast_S_S1x128x1x1),
    StableHlo.TRef.binary (.of main_call12_v10 : StableHlo.TRef sig ⟨S1x128x1x1, .f32⟩) (.of main_call12_v11 : StableHlo.TRef sig ⟨S1x128x1x1, .f32⟩) (.of main_call12_v12 : StableHlo.TRef sig ⟨S1x128x1x1, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v13 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S1x128x1x1, .f32⟩) (broadcastInDim S1x128x1x1 ![] bcast_S_S1x128x1x1),
    StableHlo.TRef.ternary (.of main_call12_v13 : StableHlo.TRef sig ⟨S_, .i1⟩) (.of main_call12_v12 : StableHlo.TRef sig ⟨S1x128x1x1, .f32⟩) (.of main_call12_call0_v1 : StableHlo.TRef sig ⟨S1x128x1x1, .f32⟩) (.of main_v144 : StableHlo.TRef sig ⟨S1x128x1x1, .f32⟩) (fun p a b => select (broadcastInDim S1x128x1x1 ![] bcast_S_S1x128x1x1 p) a b) ]
/-- Each touches TensorCore references only (`HostSeg.ofOps` over `StableHlo.tcRefs`, or a subset by `sub_ucRefs`). -/
theorem hostOps0_21_sub : (hostOps0_21 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, in order. -/
abbrev hostOps0_22 : List (HloOp τ sig (Elt F)) :=
  [ StableHlo.unary main_v143 main_v145 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v139 main_v145 main_v146 (subf : (⟨S8x128x32x512, .f32⟩ : BufTy).Contents (Elt F) → (⟨S8x128x32x512, .f32⟩ : BufTy).Contents (Elt F) → (⟨S8x128x32x512, .f32⟩ : BufTy).Contents (Elt F)),
    StableHlo.nullary main_cst_30 (constant S_ .f32 0x3727C5AC#32),
    StableHlo.unary main_cst_30 main_v147 (broadcastInDim S1x128x1x1 ![] bcast_S_S1x128x1x1 : (⟨S_, .f32⟩ : BufTy).Contents (Elt F) → (⟨S1x128x1x1, .f32⟩ : BufTy).Contents (Elt F)),
    StableHlo.binary main_v144 main_v147 main_v148 (addf : (⟨S1x128x1x1, .f32⟩ : BufTy).Contents (Elt F) → (⟨S1x128x1x1, .f32⟩ : BufTy).Contents (Elt F) → (⟨S1x128x1x1, .f32⟩ : BufTy).Contents (Elt F)),
    StableHlo.unary main_v148 main_v149 (Host.sqrt : (⟨S1x128x1x1, .f32⟩ : BufTy).Contents (Elt F) → (⟨S1x128x1x1, .f32⟩ : BufTy).Contents (Elt F)),
    StableHlo.unary main_v149 main_v150 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v146 main_v150 main_v151 (Host.divf : (⟨S8x128x32x512, .f32⟩ : BufTy).Contents (Elt F) → (⟨S8x128x32x512, .f32⟩ : BufTy).Contents (Elt F) → (⟨S8x128x32x512, .f32⟩ : BufTy).Contents (Elt F)),
    StableHlo.unary main_arg17 main_v152 (broadcastInDim S1x128x1x1 ![1] bcast_S128_S1x128x1x1_1 : (⟨S128, .f32⟩ : BufTy).Contents (Elt F) → (⟨S1x128x1x1, .f32⟩ : BufTy).Contents (Elt F)),
    StableHlo.unary main_v152 main_v153 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v151 main_v153 main_v154 (mulf : (⟨S8x128x32x512, .f32⟩ : BufTy).Contents (Elt F) → (⟨S8x128x32x512, .f32⟩ : BufTy).Contents (Elt F) → (⟨S8x128x32x512, .f32⟩ : BufTy).Contents (Elt F)),
    StableHlo.unary main_arg18 main_v155 (broadcastInDim S1x128x1x1 ![1] bcast_S128_S1x128x1x1_1 : (⟨S128, .f32⟩ : BufTy).Contents (Elt F) → (⟨S1x128x1x1, .f32⟩ : BufTy).Contents (Elt F)),
    StableHlo.unary main_v155 main_v156 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v154 main_v156 main_v157 (addf : (⟨S8x128x32x512, .f32⟩ : BufTy).Contents (Elt F) → (⟨S8x128x32x512, .f32⟩ : BufTy).Contents (Elt F) → (⟨S8x128x32x512, .f32⟩ : BufTy).Contents (Elt F)) ]
/-- Each touches TensorCore references only (`HostSeg.ofOps` over `StableHlo.tcRefs`, or a subset by `sub_ucRefs`). -/
theorem hostOps0_22_sub : (hostOps0_22 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 3 host operations of @relu_5 (main_call13), in order. -/
abbrev hostOps0_23 : List (HloOp τ sig (Elt F)) :=
  [ StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S8x128x32x512, .f32⟩) (broadcastInDim S8x128x32x512 ![] bcast_S_S8x128x32x512),
    StableHlo.TRef.binary (.of main_v157 : StableHlo.TRef sig ⟨S8x128x32x512, .f32⟩) (.of main_call13_v0 : StableHlo.TRef sig ⟨S8x128x32x512, .f32⟩) (.of main_v158 : StableHlo.TRef sig ⟨S8x128x32x512, .f32⟩) maximumf ]
/-- Each touches TensorCore references only (`HostSeg.ofOps` over `StableHlo.tcRefs`, or a subset by `sub_ucRefs`). -/
theorem hostOps0_23_sub : (hostOps0_23 : List (HloOp τ sig (Elt F))).Forall fun op => op.bufs ⊆ StableHlo.tcRefs τ sig :=
  ⟨StableHlo.nullary_bufs_sub .., StableHlo.unary_bufs_sub .., StableHlo.binary_bufs_sub ..⟩
/-- 2 host operations of @main, in order. -/
abbrev hostOps0_24 : List (HloOp τ sig (Elt F)) :=
  [ StableHlo.nullary main_cst_31 (constant S_ .f32 0xFF800000#32),
    StableHlo.binary main_v158 main_cst_31 main_v159 ((fun x v => Host.reduce FloatOps.maximumf x v reducesTo_S8x128x32x512_S8x128x512_d2 h_S_) : (⟨S8x128x32x512, .f32⟩ : BufTy).Contents (Elt F) → (⟨S_, .f32⟩ : BufTy).Contents (Elt F) → (⟨S8x128x512, .f32⟩ : BufTy).Contents (Elt F)) ]
/-- Each touches TensorCore references only (`HostSeg.ofOps` over `StableHlo.tcRefs`, or a subset by `sub_ucRefs`). -/
theorem hostOps0_24_sub : (hostOps0_24 : List (HloOp τ sig (Elt F))).Forall fun op => op.bufs ⊆ StableHlo.tcRefs τ sig :=
  ⟨StableHlo.nullary_bufs_sub .., StableHlo.binary_bufs_sub ..⟩

end Cert.ReferenceIdeal.Gen

end
-- ==== Proof.RefChain.lean ====
/- The reference program's main function as a chain of its stretches and its counted loop. -/
module

public import proofs.«01_k».proof.Proof.RefStretches

@[expose] public section

-- a long stretch's `::` list and the decided enumerations over the program's references recurse past the default depth
set_option maxRecDepth 2128

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 15 host operations of @main, window 0 (statements 1 … 60), in order. -/
abbrev main_part0_ops0 : List (HloOp τ sig (Elt F)) :=
  [ StableHlo.unary main_arg2 main_v0 ((transpose S8x4096x10 [0, 2, 1] · transposes_S8x10x4096_S8x4096x10_0_2_1) : (⟨S8x10x4096, .f32⟩ : BufTy).Contents (Elt F) → (⟨S8x4096x10, .f32⟩ : BufTy).Contents (Elt F)),
    StableHlo.nullary main_c (constantI S_ 32 0#32),
    StableHlo.unary main_c main_v1 (broadcastInDim S8x512 ![] bcast_S_S8x512 : (⟨S_, .i32⟩ : BufTy).Contents (Elt F) → (⟨S8x512, .i32⟩ : BufTy).Contents (Elt F)),
    StableHlo.nullary main_cst (constant S_ .f32 0x501502F9#32),
    StableHlo.unary main_cst main_v2 (broadcastInDim S8x4096 ![] bcast_S_S8x4096 : (⟨S_, .f32⟩ : BufTy).Contents (Elt F) → (⟨S8x4096, .f32⟩ : BufTy).Contents (Elt F)),
    StableHlo.nullary main_c_0 (constantI S_ 32 0#32),
    StableHlo.unary main_c_0 main_v3 (broadcastInDim S8 ![] bcast_S_S8 : (⟨S_, .i32⟩ : BufTy).Contents (Elt F) → (⟨S8, .i32⟩ : BufTy).Contents (Elt F)),
    StableHlo.nullary main_c_1 (constantI S_ 32 0#32),
    StableHlo.nullary main_c_2 (constantI S_ 32 0#32),
    StableHlo.unary main_arg0 main_v4_0 id,
    StableHlo.unary main_c_2 main_v4_1 id,
    StableHlo.unary main_c_1 main_v4_2 id,
    StableHlo.unary main_v1 main_v4_3 id,
    StableHlo.unary main_v2 main_v4_4 id,
    StableHlo.unary main_v3 main_v4_5 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, window 0 (statements 1 … 60), in order. -/
abbrev main_part0_ops1 : List (HloOp τ sig (Elt F)) :=
  [ StableHlo.unary main_v4_3 main_v5 (broadcastInDim S8x512x1 ![0, 1] bcast_S8x512_S8x512x1_0_1 : (⟨S8x512, .i32⟩ : BufTy).Contents (Elt F) → (⟨S8x512x1, .i32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  StableHlo.unary_bufs_sub ..
/-- 22 host operations of @take_along_axis_0 (main_call2), window 0 (statements 1 … 60), in order. -/
abbrev main_part0_ops2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x512x1, .i32⟩) (broadcastInDim S8x512x1 ![] bcast_S_S8x512x1),
    StableHlo.TRef.binary (.of main_v5 : StableHlo.TRef sig ⟨S8x512x1, .i32⟩) (.of main_call2_v0 : StableHlo.TRef sig ⟨S8x512x1, .i32⟩) (.of main_call2_v1 : StableHlo.TRef sig ⟨S8x512x1, .i1⟩) (cmpi .slt),
    StableHlo.TRef.nullary (.of main_call2_c_0 : StableHlo.TRef sig ⟨S_, .i32⟩) (constantI S_ 32 4096#32),
    StableHlo.TRef.unary (.of main_call2_c_0 : StableHlo.TRef sig ⟨S_, .i32⟩) (.of main_call2_v2 : StableHlo.TRef sig ⟨S8x512x1, .i32⟩) (broadcastInDim S8x512x1 ![] bcast_S_S8x512x1),
    StableHlo.TRef.binary (.of main_v5 : StableHlo.TRef sig ⟨S8x512x1, .i32⟩) (.of main_call2_v2 : StableHlo.TRef sig ⟨S8x512x1, .i32⟩) (.of main_call2_v3 : StableHlo.TRef sig ⟨S8x512x1, .i32⟩) addi,
    StableHlo.TRef.ternary (.of main_call2_v1 : StableHlo.TRef sig ⟨S8x512x1, .i1⟩) (.of main_call2_v3 : StableHlo.TRef sig ⟨S8x512x1, .i32⟩) (.of main_v5 : StableHlo.TRef sig ⟨S8x512x1, .i32⟩) (.of main_call2_v4 : StableHlo.TRef sig ⟨S8x512x1, .i32⟩) select,
    StableHlo.TRef.nullary (.of main_call2_c_1 : StableHlo.TRef sig ⟨S1, .i32⟩) (constantI S1 32 4095#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S8x512x1, .i32⟩) (broadcastInDim S8x512x1 ![] bcast_S_S8x512x1),
    StableHlo.TRef.binary (.of main_call2_v4 : StableHlo.TRef sig ⟨S8x512x1, .i32⟩) (.of main_call2_v5 : StableHlo.TRef sig ⟨S8x512x1, .i32⟩) (.of main_call2_v6 : StableHlo.TRef sig ⟨S8x512x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S8x512x1, .i32⟩) (broadcastInDim S8x512x1 ![0, 1, 2] bcast_S1x1x1_S8x512x1_0_1_2),
    StableHlo.TRef.binary (.of main_call2_v4 : StableHlo.TRef sig ⟨S8x512x1, .i32⟩) (.of main_call2_v8 : StableHlo.TRef sig ⟨S8x512x1, .i32⟩) (.of main_call2_v9 : StableHlo.TRef sig ⟨S8x512x1, .i1⟩) (cmpi .sle),
    StableHlo.TRef.binary (.of main_call2_v6 : StableHlo.TRef sig ⟨S8x512x1, .i1⟩) (.of main_call2_v9 : StableHlo.TRef sig ⟨S8x512x1, .i1⟩) (.of main_call2_v10 : StableHlo.TRef sig ⟨S8x512x1, .i1⟩) andi,
    StableHlo.TRef.nullary (.of main_call2_c_3 : StableHlo.TRef sig ⟨S_, .i1⟩) (constantI S_ 1 1#1),
    StableHlo.TRef.binary (.of main_call2_v10 : StableHlo.TRef sig ⟨S8x512x1, .i1⟩) (.of main_call2_c_3 : StableHlo.TRef sig ⟨S_, .i1⟩) (.of main_call2_v11 : StableHlo.TRef sig ⟨S8x512, .i1⟩) (fun x v => Host.reduce IntOp.andi x v reducesTo_S8x512x1_S8x512_d2 h_S_),
    StableHlo.TRef.binary (.of main_arg0 : StableHlo.TRef sig ⟨S8x4096x3, .f32⟩) (.of main_call2_v4 : StableHlo.TRef sig ⟨S8x512x1, .i32⟩) (.of main_call2_v12 : StableHlo.TRef sig ⟨S8x512x3, .f32⟩) (fun x i => Host.gather gather_S8x4096x3_S8x512x1_S8x512x3_2_1_0_0_1_2_113 x i),
    StableHlo.TRef.unary (.of main_call2_v11 : StableHlo.TRef sig ⟨S8x512, .i1⟩) (.of main_call2_v13 : StableHlo.TRef sig ⟨S8x512x3, .i1⟩) (broadcastInDim S8x512x3 ![0, 1] bcast_S8x512_S8x512x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x512x3, .f32⟩) (broadcastInDim S8x512x3 ![] bcast_S_S8x512x3),
    StableHlo.TRef.ternary (.of main_call2_v13 : StableHlo.TRef sig ⟨S8x512x3, .i1⟩) (.of main_call2_v12 : StableHlo.TRef sig ⟨S8x512x3, .f32⟩) (.of main_call2_v14 : StableHlo.TRef sig ⟨S8x512x3, .f32⟩) (.of main_v6 : StableHlo.TRef sig ⟨S8x512x3, .f32⟩) select ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 1 host operation of @main, window 0 (statements 1 … 60), in order. -/
abbrev main_part0_ops3 : List (HloOp τ sig (Elt F)) :=
  [ StableHlo.unary main_v4_3 main_v7 (broadcastInDim S8x512x1 ![0, 1] bcast_S8x512_S8x512x1_0_1 : (⟨S8x512, .i32⟩ : BufTy).Contents (Elt F) → (⟨S8x512x1, .i32⟩ : BufTy).Contents (Elt F)) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  StableHlo.unary_bufs_sub ..
/-- 22 host operations of @take_along_axis_0 (main_call3), window 0 (statements 1 … 60), in order. -/
abbrev main_part0_ops4 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8x512x1, .i32⟩) (broadcastInDim S8x512x1 ![] bcast_S_S8x512x1),
    StableHlo.TRef.binary (.of main_v7 : StableHlo.TRef sig ⟨S8x512x1, .i32⟩) (.of main_call3_v0 : StableHlo.TRef sig ⟨S8x512x1, .i32⟩) (.of main_call3_v1 : StableHlo.TRef sig ⟨S8x512x1, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S8x512x1, .i32⟩) (broadcastInDim S8x512x1 ![] bcast_S_S8x512x1),
    StableHlo.TRef.binary (.of main_v7 : StableHlo.TRef sig ⟨S8x512x1, .i32⟩) (.of main_call3_v2 : StableHlo.TRef sig ⟨S8x512x1, .i32⟩) (.of main_call3_v3 : StableHlo.TRef sig ⟨S8x512x1, .i32⟩) addi,
    StableHlo.TRef.ternary (.of main_call3_v1 : StableHlo.TRef sig ⟨S8x512x1, .i1⟩) (.of main_call3_v3 : StableHlo.TRef sig ⟨S8x512x1, .i32⟩) (.of main_v7 : StableHlo.TRef sig ⟨S8x512x1, .i32⟩) (.of main_call3_v4 : StableHlo.TRef sig ⟨S8x512x1, .i32⟩) select,
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S8x512x1, .i32⟩) (broadcastInDim S8x512x1 ![] bcast_S_S8x512x1),
    StableHlo.TRef.binary (.of main_call3_v4 : StableHlo.TRef sig ⟨S8x512x1, .i32⟩) (.of main_call3_v5 : StableHlo.TRef sig ⟨S8x512x1, .i32⟩) (.of main_call3_v6 : StableHlo.TRef sig ⟨S8x512x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S8x512x1, .i32⟩) (broadcastInDim S8x512x1 ![0, 1, 2] bcast_S1x1x1_S8x512x1_0_1_2),
    StableHlo.TRef.binary (.of main_call3_v4 : StableHlo.TRef sig ⟨S8x512x1, .i32⟩) (.of main_call3_v8 : StableHlo.TRef sig ⟨S8x512x1, .i32⟩) (.of main_call3_v9 : StableHlo.TRef sig ⟨S8x512x1, .i1⟩) (cmpi .sle),
    StableHlo.TRef.binary (.of main_call3_v6 : StableHlo.TRef sig ⟨S8x512x1, .i1⟩) (.of main_call3_v9 : StableHlo.TRef sig ⟨S8x512x1, .i1⟩) (.of main_call3_v10 : StableHlo.TRef sig ⟨S8x512x1, .i1⟩) andi,
    StableHlo.TRef.nullary (.of main_call3_c_3 : StableHlo.TRef sig ⟨S_, .i1⟩) (constantI S_ 1 1#1),
    StableHlo.TRef.binary (.of main_call3_v10 : StableHlo.TRef sig ⟨S8x512x1, .i1⟩) (.of main_call3_c_3 : StableHlo.TRef sig ⟨S_, .i1⟩) (.of main_call3_v11 : StableHlo.TRef sig ⟨S8x512, .i1⟩) (fun x v => Host.reduce IntOp.andi x v reducesTo_S8x512x1_S8x512_d2 h_S_),
    StableHlo.TRef.binary (.of main_arg1 : StableHlo.TRef sig ⟨S8x4096x3, .f32⟩) (.of main_call3_v4 : StableHlo.TRef sig ⟨S8x512x1, .i32⟩) (.of main_call3_v12 : StableHlo.TRef sig ⟨S8x512x3, .f32⟩) (fun x i => Host.gather gather_S8x4096x3_S8x512x1_S8x512x3_2_1_0_0_1_2_113 x i),
    StableHlo.TRef.unary (.of main_call3_v11 : StableHlo.TRef sig ⟨S8x512, .i1⟩) (.of main_call3_v13 : StableHlo.TRef sig ⟨S8x512x3, .i1⟩) (broadcastInDim S8x512x3 ![0, 1] bcast_S8x512_S8x512x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S8x512x3, .f32⟩) (broadcastInDim S8x512x3 ![] bcast_S_S8x512x3),
    StableHlo.TRef.ternary (.of main_call3_v13 : StableHlo.TRef sig ⟨S8x512x3, .i1⟩) (.of main_call3_v12 : StableHlo.TRef sig ⟨S8x512x3, .f32⟩) (.of main_call3_v14 : StableHlo.TRef sig ⟨S8x512x3, .f32⟩) (.of main_v8 : StableHlo.TRef sig ⟨S8x512x3, .f32⟩) select ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 23 host operations of @main, window 0 (statements 1 … 60), in order. -/
abbrev main_part0_ops5 : List (HloOp τ sig (Elt F)) :=
  [ StableHlo.binary main_v6 main_v6 main_v9 (mulf : (⟨S8x512x3, .f32⟩ : BufTy).Contents (Elt F) → (⟨S8x512x3, .f32⟩ : BufTy).Contents (Elt F) → (⟨S8x512x3, .f32⟩ : BufTy).Contents (Elt F)),
    StableHlo.nullary main_cst_3 (constant S_ .f32 0x00000000#32),
    StableHlo.binary main_v9 main_cst_3 main_v10 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.unary main_v10 main_v11 (broadcastInDim S8x512x1 ![0, 1] bcast_S8x512_S8x512x1_0_1 : (⟨S8x512, .f32⟩ : BufTy).Contents (Elt F) → (⟨S8x512x1, .f32⟩ : BufTy).Contents (Elt F)),
    StableHlo.binary main_arg0 main_arg0 main_v12 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst_4 (constant S_ .f32 0x00000000#32),
    StableHlo.binary main_v12 main_cst_4 main_v13 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.unary main_v13 main_v14 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v11 main_v15 (broadcastInDim S8x512x4096 ![0, 1, 2] bcast_S8x512x1_S8x512x4096_0_1_2 : (⟨S8x512x1, .f32⟩ : BufTy).Contents (Elt F) → (⟨S8x512x4096, .f32⟩ : BufTy).Contents (Elt F)),
    StableHlo.unary main_v14 main_v16 (broadcastInDim S8x512x4096 ![0, 1, 2] bcast_S8x1x4096_S8x512x4096_0_1_2 : (⟨S8x1x4096, .f32⟩ : BufTy).Contents (Elt F) → (⟨S8x512x4096, .f32⟩ : BufTy).Contents (Elt F)),
    StableHlo.binary main_v15 main_v16 main_v17 (addf : (⟨S8x512x4096, .f32⟩ : BufTy).Contents (Elt F) → (⟨S8x512x4096, .f32⟩ : BufTy).Contents (Elt F) → (⟨S8x512x4096, .f32⟩ : BufTy).Contents (Elt F)),
    StableHlo.binary main_v6 main_arg0 main_v18 ((fun l r => Host.dotGeneral dot_S8x512x3_S8x4096x3_S8x512x4096_2_2_1_1_0_0 none l r) : (⟨S8x512x3, .f32⟩ : BufTy).Contents (Elt F) → (⟨S8x4096x3, .f32⟩ : BufTy).Contents (Elt F) → (⟨S8x512x4096, .f32⟩ : BufTy).Contents (Elt F)),
    StableHlo.nullary main_cst_5 (constant S_ .f32 0x40000000#32),
    StableHlo.unary main_cst_5 main_v19 (broadcastInDim S8x512x4096 ![] bcast_S_S8x512x4096 : (⟨S_, .f32⟩ : BufTy).Contents (Elt F) → (⟨S8x512x4096, .f32⟩ : BufTy).Contents (Elt F)),
    StableHlo.binary main_v19 main_v18 main_v20 (mulf : (⟨S8x512x4096, .f32⟩ : BufTy).Contents (Elt F) → (⟨S8x512x4096, .f32⟩ : BufTy).Contents (Elt F) → (⟨S8x512x4096, .f32⟩ : BufTy).Contents (Elt F)),
    StableHlo.binary main_v17 main_v20 main_v21 (subf : (⟨S8x512x4096, .f32⟩ : BufTy).Contents (Elt F) → (⟨S8x512x4096, .f32⟩ : BufTy).Contents (Elt F) → (⟨S8x512x4096, .f32⟩ : BufTy).Contents (Elt F)),
    StableHlo.nullary main_v22 (iotaInDim S4096 32 0),
    StableHlo.unary main_v22 main_v23 (broadcastInDim S1x1x4096 ![2] bcast_S4096_S1x1x4096_2 : (⟨S4096, .i32⟩ : BufTy).Contents (Elt F) → (⟨S1x1x4096, .i32⟩ : BufTy).Contents (Elt F)),
    StableHlo.unary main_v23 main_v24 (broadcastInDim S8x512x4096 ![0, 1, 2] bcast_S1x1x4096_S8x512x4096_0_1_2 : (⟨S1x1x4096, .i32⟩ : BufTy).Contents (Elt F) → (⟨S8x512x4096, .i32⟩ : BufTy).Contents (Elt F)),
    StableHlo.nullary main_cst_6 (constant S_ .f32 0x3CB851EC#32),
    StableHlo.unary main_cst_6 main_v25 (broadcastInDim S8x512x4096 ![] bcast_S_S8x512x4096 : (⟨S_, .f32⟩ : BufTy).Contents (Elt F) → (⟨S8x512x4096, .f32⟩ : BufTy).Contents (Elt F)),
    StableHlo.binary main_v21 main_v25 main_v26 (cmpf .ogt : (⟨S8x512x4096, .f32⟩ : BufTy).Contents (Elt F) → (⟨S8x512x4096, .f32⟩ : BufTy).Contents (Elt F) → (⟨S8x512x4096, .i1⟩ : BufTy).Contents (Elt F)),
    StableHlo.nullary main_c_7 (constantI S_ 32 4096#32) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub ..⟩
/-- 3 host operations of @_where (main_call4), window 0 (statements 1 … 60), in order. -/
abbrev main_part0_ops6 : List (HloOp τ sig (Elt F)) :=
  [ StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8x512x4096, .i32⟩) (broadcastInDim S8x512x4096 ![] bcast_S_S8x512x4096),
    StableHlo.TRef.ternary (.of main_v26 : StableHlo.TRef sig ⟨S8x512x4096, .i1⟩) (.of main_call4_v1 : StableHlo.TRef sig ⟨S8x512x4096, .i32⟩) (.of main_v24 : StableHlo.TRef sig ⟨S8x512x4096, .i32⟩) (.of main_v27 : StableHlo.TRef sig ⟨S8x512x4096, .i32⟩) select ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @sort (main_call5), window 0 (statements 1 … 60), in order. -/
abbrev main_part0_ops7 : List (HloOp τ sig (Elt F)) :=
  [ StableHlo.TRef.unary (.of main_v27 : StableHlo.TRef sig ⟨S8x512x4096, .i32⟩) (.of main_v28 : StableHlo.TRef sig ⟨S8x512x4096, .i32⟩) (fun x => Host.sort S8x512x4096 2 comparator_i32_d2 x) ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  StableHlo.unary_bufs_sub ..
/-- 6 host operations of @main, window 0 (statements 1 … 60), in order. -/
abbrev main_part0_ops8 : List (HloOp τ sig (Elt F)) :=
  [ StableHlo.unary main_v28 main_v29 ((extractStridedSlice S8x512x32 ![0, 0, 0] · slices_S8x512x4096_S8x512x32_0_0_0) : (⟨S8x512x4096, .i32⟩ : BufTy).Contents (Elt F) → (⟨S8x512x32, .i32⟩ : BufTy).Contents (Elt F)),
    StableHlo.unary main_v29 main_v30 ((extractStridedSlice S8x512x1 ![0, 0, 0] · slices_S8x512x32_S8x512x1_0_0_0) : (⟨S8x512x32, .i32⟩ : BufTy).Contents (Elt F) → (⟨S8x512x1, .i32⟩ : BufTy).Contents (Elt F)),
    StableHlo.unary main_v30 main_v31 (broadcastInDim S8x512x32 ![0, 1, 2] bcast_S8x512x1_S8x512x32_0_1_2 : (⟨S8x512x1, .i32⟩ : BufTy).Contents (Elt F) → (⟨S8x512x32, .i32⟩ : BufTy).Contents (Elt F)),
    StableHlo.nullary main_c_8 (constantI S_ 32 4096#32),
    StableHlo.unary main_c_8 main_v32 (broadcastInDim S8x512x32 ![] bcast_S_S8x512x32 : (⟨S_, .i32⟩ : BufTy).Contents (Elt F) → (⟨S8x512x32, .i32⟩ : BufTy).Contents (Elt F)),
    StableHlo.binary main_v29 main_v32 main_v33 (cmpi .eq : (⟨S8x512x32, .i32⟩ : BufTy).Contents (Elt F) → (⟨S8x512x32, .i32⟩ : BufTy).Contents (Elt F) → (⟨S8x512x32, .i1⟩ : BufTy).Contents (Elt F)) ]
/-- Each touches TensorCore references only (`HostSeg.ofOps` over `StableHlo.tcRefs`, or a subset by `sub_ucRefs`). -/
theorem main_part0_ops8_sub : (main_part0_ops8 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub ..⟩
/-- 1 host operation of @_where_1 (main_call6), window 0 (statements 1 … 60), in order. -/
abbrev main_part0_ops9 : List (HloOp τ sig (Elt F)) :=
  [ StableHlo.TRef.ternary (.of main_v33 : StableHlo.TRef sig ⟨S8x512x32, .i1⟩) (.of main_v31 : StableHlo.TRef sig ⟨S8x512x32, .i32⟩) (.of main_v29 : StableHlo.TRef sig ⟨S8x512x32, .i32⟩) (.of main_v34 : StableHlo.TRef sig ⟨S8x512x32, .i32⟩) select ]
/-- Each touches TensorCore references only (`HostSeg.ofOps` over `StableHlo.tcRefs`, or a subset by `sub_ucRefs`). -/
theorem main_part0_ops9_sub : (main_part0_ops9 : List (HloOp τ sig (Elt F))).Forall fun op => op.bufs ⊆ StableHlo.tcRefs τ sig :=
  StableHlo.ternary_bufs_sub ..
/-- 8 host operations of @main, window 0 (statements 1 … 60), in order. -/
abbrev main_part0_ops10 : List (HloOp τ sig (Elt F)) :=
  [ StableHlo.nullary main_c_9 (constantI S_ 32 0#32),
    StableHlo.unary main_c_9 main_v35 (broadcastInDim S8x512x32 ![] bcast_S_S8x512x32 : (⟨S_, .i32⟩ : BufTy).Contents (Elt F) → (⟨S8x512x32, .i32⟩ : BufTy).Contents (Elt F)),
    StableHlo.binary main_v34 main_v35 main_v36 (cmpi .slt : (⟨S8x512x32, .i32⟩ : BufTy).Contents (Elt F) → (⟨S8x512x32, .i32⟩ : BufTy).Contents (Elt F) → (⟨S8x512x32, .i1⟩ : BufTy).Contents (Elt F)),
    StableHlo.nullary main_c_10 (constantI S_ 32 4096#32),
    StableHlo.unary main_c_10 main_v37 (broadcastInDim S8x512x32 ![] bcast_S_S8x512x32 : (⟨S_, .i32⟩ : BufTy).Contents (Elt F) → (⟨S8x512x32, .i32⟩ : BufTy).Contents (Elt F)),
    StableHlo.binary main_v34 main_v37 main_v38 (addi : (⟨S8x512x32, .i32⟩ : BufTy).Contents (Elt F) → (⟨S8x512x32, .i32⟩ : BufTy).Contents (Elt F) → (⟨S8x512x32, .i32⟩ : BufTy).Contents (Elt F)),
    StableHlo.ternary main_v36 main_v38 main_v34 main_v39 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_v39 main_v40 (broadcastInDim S8x512x32x1 ![0, 1, 2] bcast_S8x512x32_S8x512x32x1_0_1_2 : (⟨S8x512x32, .i32⟩ : BufTy).Contents (Elt F) → (⟨S8x512x32x1, .i32⟩ : BufTy).Contents (Elt F)) ]
/-- Each touches TensorCore references only (`HostSeg.ofOps` over `StableHlo.tcRefs`, or a subset by `sub_ucRefs`). -/
theorem main_part0_ops10_sub : (main_part0_ops10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9 ]
  (StableHlo.seq main_part0_ops10) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons]
  chain_rfl

/-- 37 host operations of @main, window 1 (statements 61 … 120), in order. -/
abbrev main_part1_ops0 : List (HloOp τ sig (Elt F)) :=
  ( StableHlo.binary main_arg1 main_v40 main_v41 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F))
  :: StableHlo.nullary main_c_11 (constantI S_ 32 0#32)
  :: StableHlo.unary main_c_11 main_v42 (broadcastInDim S8x512x32 ![] bcast_S_S8x512x32 : (⟨S_, .i32⟩ : BufTy).Contents (Elt F) → (⟨S8x512x32, .i32⟩ : BufTy).Contents (Elt F))
  :: StableHlo.binary main_v34 main_v42 main_v43 (cmpi .slt : (⟨S8x512x32, .i32⟩ : BufTy).Contents (Elt F) → (⟨S8x512x32, .i32⟩ : BufTy).Contents (Elt F) → (⟨S8x512x32, .i1⟩ : BufTy).Contents (Elt F))
  :: StableHlo.nullary main_c_12 (constantI S_ 32 4096#32)
  :: StableHlo.unary main_c_12 main_v44 (broadcastInDim S8x512x32 ![] bcast_S_S8x512x32 : (⟨S_, .i32⟩ : BufTy).Contents (Elt F) → (⟨S8x512x32, .i32⟩ : BufTy).Contents (Elt F))
  :: StableHlo.binary main_v34 main_v44 main_v45 (addi : (⟨S8x512x32, .i32⟩ : BufTy).Contents (Elt F) → (⟨S8x512x32, .i32⟩ : BufTy).Contents (Elt F) → (⟨S8x512x32, .i32⟩ : BufTy).Contents (Elt F))
  :: StableHlo.ternary main_v43 main_v45 main_v34 main_v46 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F))
  :: StableHlo.unary main_v46 main_v47 (broadcastInDim S8x512x32x1 ![0, 1, 2] bcast_S8x512x32_S8x512x32x1_0_1_2 : (⟨S8x512x32, .i32⟩ : BufTy).Contents (Elt F) → (⟨S8x512x32x1, .i32⟩ : BufTy).Contents (Elt F))
  :: StableHlo.binary main_arg0 main_v47 main_v48 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F))
  :: StableHlo.unary main_v6 main_v49 (broadcastInDim S8x512x1x3 ![0, 1, 3] bcast_S8x512x3_S8x512x1x3_0_1_3 : (⟨S8x512x3, .f32⟩ : BufTy).Contents (Elt F) → (⟨S8x512x1x3, .f32⟩ : BufTy).Contents (Elt F))
  :: StableHlo.unary main_v49 main_v50 (broadcastInDim S8x512x32x3 ![0, 1, 2, 3] bcast_S8x512x1x3_S8x512x32x3_0_1_2_3 : (⟨S8x512x1x3, .f32⟩ : BufTy).Contents (Elt F) → (⟨S8x512x32x3, .f32⟩ : BufTy).Contents (Elt F))
  :: StableHlo.binary main_v48 main_v50 main_v51 (subf : (⟨S8x512x32x3, .f32⟩ : BufTy).Contents (Elt F) → (⟨S8x512x32x3, .f32⟩ : BufTy).Contents (Elt F) → (⟨S8x512x32x3, .f32⟩ : BufTy).Contents (Elt F))
  :: StableHlo.nullary main_c_13 (constantI S_ 32 0#32)
  :: StableHlo.unary main_c_13 main_v52 (broadcastInDim S8x512x32 ![] bcast_S_S8x512x32 : (⟨S_, .i32⟩ : BufTy).Contents (Elt F) → (⟨S8x512x32, .i32⟩ : BufTy).Contents (Elt F))
  :: StableHlo.binary main_v34 main_v52 main_v53 (cmpi .slt : (⟨S8x512x32, .i32⟩ : BufTy).Contents (Elt F) → (⟨S8x512x32, .i32⟩ : BufTy).Contents (Elt F) → (⟨S8x512x32, .i1⟩ : BufTy).Contents (Elt F))
  :: StableHlo.nullary main_c_14 (constantI S_ 32 4096#32)
  :: StableHlo.unary main_c_14 main_v54 (broadcastInDim S8x512x32 ![] bcast_S_S8x512x32 : (⟨S_, .i32⟩ : BufTy).Contents (Elt F) → (⟨S8x512x32, .i32⟩ : BufTy).Contents (Elt F))
  :: StableHlo.binary main_v34 main_v54 main_v55 (addi : (⟨S8x512x32, .i32⟩ : BufTy).Contents (Elt F) → (⟨S8x512x32, .i32⟩ : BufTy).Contents (Elt F) → (⟨S8x512x32, .i32⟩ : BufTy).Contents (Elt F))
  :: StableHlo.ternary main_v53 main_v55 main_v34 main_v56 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F))
  :: StableHlo.unary main_v56 main_v57 (broadcastInDim S8x512x32x1 ![0, 1, 2] bcast_S8x512x32_S8x512x32x1_0_1_2 : (⟨S8x512x32, .i32⟩ : BufTy).Contents (Elt F) → (⟨S8x512x32x1, .i32⟩ : BufTy).Contents (Elt F))
  :: StableHlo.binary main_v0 main_v57 main_v58 ((fun x i => Host.gather gather_S8x4096x10_S8x512x32x1_S8x512x32x10_3_1_0_0_1_3_1110 x i) : (⟨S8x4096x10, .f32⟩ : BufTy).Contents (Elt F) → (⟨S8x512x32x1, .i32⟩ : BufTy).Contents (Elt F) → (⟨S8x512x32x10, .f32⟩ : BufTy).Contents (Elt F))
  :: StableHlo.nary ![main_v51, main_v41, main_v58] main_v59 (fun u => (concatenate S8x512x32x16 3 [⟨S8x512x32x3, (u 0 : (⟨S8x512x32x3, .f32⟩ : BufTy).Contents (Elt F))⟩, ⟨S8x512x32x3, (u 1 : (⟨S8x512x32x3, .f32⟩ : BufTy).Contents (Elt F))⟩, ⟨S8x512x32x10, (u 2 : (⟨S8x512x32x10, .f32⟩ : BufTy).Contents (Elt F))⟩] concatenates_S8x512x32x3_S8x512x32x3_S8x512x32x10_S8x512x32x16_d3 : (⟨S8x512x32x16, .f32⟩ : BufTy).Contents (Elt F)))
  :: StableHlo.unary main_v59 main_v60 ((transpose S8x16x32x512 [0, 3, 2, 1] · transposes_S8x512x32x16_S8x16x32x512_0_3_2_1) : (⟨S8x512x32x16, .f32⟩ : BufTy).Contents (Elt F) → (⟨S8x16x32x512, .f32⟩ : BufTy).Contents (Elt F))
  :: StableHlo.unary main_v60 main_v61 ((extractStridedSlice S8x3x32x512 ![0, 0, 0, 0] · slices_S8x16x32x512_S8x3x32x512_0_0_0_0) : (⟨S8x16x32x512, .f32⟩ : BufTy).Contents (Elt F) → (⟨S8x3x32x512, .f32⟩ : BufTy).Contents (Elt F))
  :: StableHlo.binary main_v61 main_arg3 main_v62 ((fun l r => Host.dotGeneral dot_S8x3x32x512_S64x3_S8x32x512x64_1_1_023_0_n_n none l r) : (⟨S8x3x32x512, .f32⟩ : BufTy).Contents (Elt F) → (⟨S64x3, .f32⟩ : BufTy).Contents (Elt F) → (⟨S8x32x512x64, .f32⟩ : BufTy).Contents (Elt F))
  :: StableHlo.unary main_v62 main_v63 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F))
  :: StableHlo.unary main_arg4 main_v64 (broadcastInDim S1x64x1x1 ![1] bcast_S64_S1x64x1x1_1 : (⟨S64, .f32⟩ : BufTy).Contents (Elt F) → (⟨S1x64x1x1, .f32⟩ : BufTy).Contents (Elt F))
  :: StableHlo.unary main_v64 main_v65 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F))
  :: StableHlo.binary main_v63 main_v65 main_v66 (addf : (⟨S8x64x32x512, .f32⟩ : BufTy).Contents (Elt F) → (⟨S8x64x32x512, .f32⟩ : BufTy).Contents (Elt F) → (⟨S8x64x32x512, .f32⟩ : BufTy).Contents (Elt F))
  :: StableHlo.nullary main_cst_15 (constant S_ .f32 0x00000000#32)
  :: StableHlo.binary main_v66 main_cst_15 main_v67 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F))
  :: StableHlo.unary main_v67 main_v68 (broadcastInDim S1x64x1x1 ![1] bcast_S64_S1x64x1x1_1 : (⟨S64, .f32⟩ : BufTy).Contents (Elt F) → (⟨S1x64x1x1, .f32⟩ : BufTy).Contents (Elt F))
  :: StableHlo.nullary main_cst_16 (constant S_ .f32 0x48000000#32)
  :: StableHlo.unary main_cst_16 main_v69 (broadcastInDim S1x64x1x1 ![] bcast_S_S1x64x1x1 : (⟨S_, .f32⟩ : BufTy).Contents (Elt F) → (⟨S1x64x1x1, .f32⟩ : BufTy).Contents (Elt F))
  :: StableHlo.binary main_v68 main_v69 main_v70 (Host.divf : (⟨S1x64x1x1, .f32⟩ : BufTy).Contents (Elt F) → (⟨S1x64x1x1, .f32⟩ : BufTy).Contents (Elt F) → (⟨S1x64x1x1, .f32⟩ : BufTy).Contents (Elt F))
  :: StableHlo.nullary main_c_17 (constantI S_ 32 0#32)
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call7), window 1 (statements 61 … 120), in order. -/
abbrev main_part1_ops1 : List (HloOp τ sig (Elt F)) :=
  [ StableHlo.TRef.nullary (.of main_call7_cst : StableHlo.TRef sig ⟨S_, .f32⟩) (constant S_ .f32 0x00000000#32),
    StableHlo.TRef.binary (.of main_v66 : StableHlo.TRef sig ⟨S8x64x32x512, .f32⟩) (.of main_call7_cst : StableHlo.TRef sig ⟨S_, .f32⟩) (.of main_call7_v0 : StableHlo.TRef sig ⟨S64, .f32⟩) (fun x v => Host.reduceAdd x v reducesTo_S8x64x32x512_S64_d0_2_3 h_S_),
    StableHlo.TRef.unary (.of main_call7_v0 : StableHlo.TRef sig ⟨S64, .f32⟩) (.of main_call7_v1 : StableHlo.TRef sig ⟨S1x64x1x1, .f32⟩) (broadcastInDim S1x64x1x1 ![1] bcast_S64_S1x64x1x1_1),
    StableHlo.TRef.nullary (.of main_call7_cst_0 : StableHlo.TRef sig ⟨S_, .f32⟩) (constant S_ .f32 0x48000000#32),
    StableHlo.TRef.unary (.of main_call7_cst_0 : StableHlo.TRef sig ⟨S_, .f32⟩) (.of main_call7_v2 : StableHlo.TRef sig ⟨S1x64x1x1, .f32⟩) (broadcastInDim S1x64x1x1 ![] bcast_S_S1x64x1x1),
    StableHlo.TRef.binary (.of main_call7_v1 : StableHlo.TRef sig ⟨S1x64x1x1, .f32⟩) (.of main_call7_v2 : StableHlo.TRef sig ⟨S1x64x1x1, .f32⟩) (.of main_call7_v3 : StableHlo.TRef sig ⟨S1x64x1x1, .f32⟩) Host.divf,
    StableHlo.TRef.unary (.of main_call7_v3 : StableHlo.TRef sig ⟨S1x64x1x1, .f32⟩) (.of main_call7_v4 : StableHlo.TRef sig ⟨S8x64x32x512, .f32⟩) (broadcastInDim S8x64x32x512 ![0, 1, 2, 3] bcast_S1x64x1x1_S8x64x32x512_0_1_2_3),
    StableHlo.TRef.binary (.of main_v66 : StableHlo.TRef sig ⟨S8x64x32x512, .f32⟩) (.of main_call7_v4 : StableHlo.TRef sig ⟨S8x64x32x512, .f32⟩) (.of main_call7_v5 : StableHlo.TRef sig ⟨S8x64x32x512, .f32⟩) subf,
    StableHlo.TRef.binary (.of main_call7_v5 : StableHlo.TRef sig ⟨S8x64x32x512, .f32⟩) (.of main_call7_v5 : StableHlo.TRef sig ⟨S8x64x32x512, .f32⟩) (.of main_call7_v6 : StableHlo.TRef sig ⟨S8x64x32x512, .f32⟩) mulf,
    StableHlo.TRef.unary (.of main_c_17 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x48000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S8x64x32x512, .f32⟩) (.of main_call7_cst_2 : StableHlo.TRef sig ⟨S_, .f32⟩) (.of main_call7_v9 : StableHlo.TRef sig ⟨S64, .f32⟩) (fun x v => Host.reduceAdd x v reducesTo_S8x64x32x512_S64_d0_2_3 h_S_),
    StableHlo.TRef.unary (.of main_call7_v9 : StableHlo.TRef sig ⟨S64, .f32⟩) (.of main_call7_v10 : StableHlo.TRef sig ⟨S1x64x1x1, .f32⟩) (broadcastInDim S1x64x1x1 ![1] bcast_S64_S1x64x1x1_1),
    StableHlo.TRef.unary (.of main_call7_v8 : StableHlo.TRef sig ⟨S_, .f32⟩) (.of main_call7_v11 : StableHlo.TRef sig ⟨S1x64x1x1, .f32⟩) (broadcastInDim S1x64x1x1 ![] bcast_S_S1x64x1x1),
    StableHlo.TRef.binary (.of main_call7_v10 : StableHlo.TRef sig ⟨S1x64x1x1, .f32⟩) (.of main_call7_v11 : StableHlo.TRef sig ⟨S1x64x1x1, .f32⟩) (.of main_call7_v12 : StableHlo.TRef sig ⟨S1x64x1x1, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S1x64x1x1, .f32⟩) (broadcastInDim S1x64x1x1 ![] bcast_S_S1x64x1x1),
    StableHlo.TRef.ternary (.of main_call7_v13 : StableHlo.TRef sig ⟨S_, .i1⟩) (.of main_call7_v12 : StableHlo.TRef sig ⟨S1x64x1x1, .f32⟩) (.of main_call7_call0_v1 : StableHlo.TRef sig ⟨S1x64x1x1, .f32⟩) (.of main_v71 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 22 host operations of @main, window 1 (statements 61 … 120), in order. -/
abbrev main_part1_ops2 : List (HloOp τ sig (Elt F)) :=
  [ StableHlo.unary main_v70 main_v72 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v66 main_v72 main_v73 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_18 (constant S_ .f32 0x3727C5AC#32),
    StableHlo.unary main_cst_18 main_v74 (broadcastInDim S1x64x1x1 ![] bcast_S_S1x64x1x1 : (⟨S_, .f32⟩ : BufTy).Contents (Elt F) → (⟨S1x64x1x1, .f32⟩ : BufTy).Contents (Elt F)),
    StableHlo.binary main_v71 main_v74 main_v75 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v75 main_v76 (Host.sqrt : (⟨S1x64x1x1, .f32⟩ : BufTy).Contents (Elt F) → (⟨S1x64x1x1, .f32⟩ : BufTy).Contents (Elt F)),
    StableHlo.unary main_v76 main_v77 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v73 main_v77 main_v78 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg5 main_v79 (broadcastInDim S1x64x1x1 ![1] bcast_S64_S1x64x1x1_1 : (⟨S64, .f32⟩ : BufTy).Contents (Elt F) → (⟨S1x64x1x1, .f32⟩ : BufTy).Contents (Elt F)),
    StableHlo.unary main_v79 main_v80 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v78 main_v80 main_v81 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg6 main_v82 (broadcastInDim S1x64x1x1 ![1] bcast_S64_S1x64x1x1_1 : (⟨S64, .f32⟩ : BufTy).Contents (Elt F) → (⟨S1x64x1x1, .f32⟩ : BufTy).Contents (Elt F)),
    StableHlo.unary main_v82 main_v83 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v81 main_v83 main_v84 (addf : (⟨S8x64x32x512, .f32⟩ : BufTy).Contents (Elt F) → (⟨S8x64x32x512, .f32⟩ : BufTy).Contents (Elt F) → (⟨S8x64x32x512, .f32⟩ : BufTy).Contents (Elt F)),
    StableHlo.unary main_v60 main_v85 ((extractStridedSlice S8x13x32x512 ![0, 3, 0, 0] · slices_S8x16x32x512_S8x13x32x512_0_3_0_0) : (⟨S8x16x32x512, .f32⟩ : BufTy).Contents (Elt F) → (⟨S8x13x32x512, .f32⟩ : BufTy).Contents (Elt F)),
    StableHlo.binary main_v85 main_arg7 main_v86 ((fun l r => Host.dotGeneral dot_S8x13x32x512_S64x13_S8x32x512x64_1_1_023_0_n_n none l r) : (⟨S8x13x32x512, .f32⟩ : BufTy).Contents (Elt F) → (⟨S64x13, .f32⟩ : BufTy).Contents (Elt F) → (⟨S8x32x512x64, .f32⟩ : BufTy).Contents (Elt F)),
    StableHlo.unary main_v86 main_v87 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F)),
    StableHlo.unary main_arg8 main_v88 (broadcastInDim S1x64x1x1 ![1] bcast_S64_S1x64x1x1_1 : (⟨S64, .f32⟩ : BufTy).Contents (Elt F) → (⟨S1x64x1x1, .f32⟩ : BufTy).Contents (Elt F)),
    StableHlo.unary main_v88 main_v89 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v87 main_v89 main_v90 (addf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_19 (constant S_ .f32 0x00000000#32),
    StableHlo.binary main_v90 main_cst_19 main_v91 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1 ]
  (StableHlo.seq main_part1_ops2) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 5 host operations of @main, window 2 (statements 121 … 180), in order. -/
abbrev main_part2_ops0 : List (HloOp τ sig (Elt F)) :=
  [ StableHlo.unary main_v91 main_v92 (broadcastInDim S1x64x1x1 ![1] bcast_S64_S1x64x1x1_1 : (⟨S64, .f32⟩ : BufTy).Contents (Elt F) → (⟨S1x64x1x1, .f32⟩ : BufTy).Contents (Elt F)),
    StableHlo.nullary main_cst_20 (constant S_ .f32 0x48000000#32),
    StableHlo.unary main_cst_20 main_v93 (broadcastInDim S1x64x1x1 ![] bcast_S_S1x64x1x1 : (⟨S_, .f32⟩ : BufTy).Contents (Elt F) → (⟨S1x64x1x1, .f32⟩ : BufTy).Contents (Elt F)),
    StableHlo.binary main_v92 main_v93 main_v94 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_21 (constantI S_ 32 0#32) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 23 host operations of @_var (main_call8), window 2 (statements 121 … 180), in order. -/
abbrev main_part2_ops1 : List (HloOp τ sig (Elt F)) :=
  [ StableHlo.TRef.nullary (.of main_call8_cst : StableHlo.TRef sig ⟨S_, .f32⟩) (constant S_ .f32 0x00000000#32),
    StableHlo.TRef.binary (.of main_v90 : StableHlo.TRef sig ⟨S8x64x32x512, .f32⟩) (.of main_call8_cst : StableHlo.TRef sig ⟨S_, .f32⟩) (.of main_call8_v0 : StableHlo.TRef sig ⟨S64, .f32⟩) (fun x v => Host.reduceAdd x v reducesTo_S8x64x32x512_S64_d0_2_3 h_S_),
    StableHlo.TRef.unary (.of main_call8_v0 : StableHlo.TRef sig ⟨S64, .f32⟩) (.of main_call8_v1 : StableHlo.TRef sig ⟨S1x64x1x1, .f32⟩) (broadcastInDim S1x64x1x1 ![1] bcast_S64_S1x64x1x1_1),
    StableHlo.TRef.nullary (.of main_call8_cst_0 : StableHlo.TRef sig ⟨S_, .f32⟩) (constant S_ .f32 0x48000000#32),
    StableHlo.TRef.unary (.of main_call8_cst_0 : StableHlo.TRef sig ⟨S_, .f32⟩) (.of main_call8_v2 : StableHlo.TRef sig ⟨S1x64x1x1, .f32⟩) (broadcastInDim S1x64x1x1 ![] bcast_S_S1x64x1x1),
    StableHlo.TRef.binary (.of main_call8_v1 : StableHlo.TRef sig ⟨S1x64x1x1, .f32⟩) (.of main_call8_v2 : StableHlo.TRef sig ⟨S1x64x1x1, .f32⟩) (.of main_call8_v3 : StableHlo.TRef sig ⟨S1x64x1x1, .f32⟩) Host.divf,
    StableHlo.TRef.unary (.of main_call8_v3 : StableHlo.TRef sig ⟨S1x64x1x1, .f32⟩) (.of main_call8_v4 : StableHlo.TRef sig ⟨S8x64x32x512, .f32⟩) (broadcastInDim S8x64x32x512 ![0, 1, 2, 3] bcast_S1x64x1x1_S8x64x32x512_0_1_2_3),
    StableHlo.TRef.binary (.of main_v90 : StableHlo.TRef sig ⟨S8x64x32x512, .f32⟩) (.of main_call8_v4 : StableHlo.TRef sig ⟨S8x64x32x512, .f32⟩) (.of main_call8_v5 : StableHlo.TRef sig ⟨S8x64x32x512, .f32⟩) subf,
    StableHlo.TRef.binary (.of main_call8_v5 : StableHlo.TRef sig ⟨S8x64x32x512, .f32⟩) (.of main_call8_v5 : StableHlo.TRef sig ⟨S8x64x32x512, .f32⟩) (.of main_call8_v6 : StableHlo.TRef sig ⟨S8x64x32x512, .f32⟩) mulf,
    StableHlo.TRef.unary (.of main_c_21 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x48000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S8x64x32x512, .f32⟩) (.of main_call8_cst_2 : StableHlo.TRef sig ⟨S_, .f32⟩) (.of main_call8_v9 : StableHlo.TRef sig ⟨S64, .f32⟩) (fun x v => Host.reduceAdd x v reducesTo_S8x64x32x512_S64_d0_2_3 h_S_),
    StableHlo.TRef.unary (.of main_call8_v9 : StableHlo.TRef sig ⟨S64, .f32⟩) (.of main_call8_v10 : StableHlo.TRef sig ⟨S1x64x1x1, .f32⟩) (broadcastInDim S1x64x1x1 ![1] bcast_S64_S1x64x1x1_1),
    StableHlo.TRef.unary (.of main_call8_v8 : StableHlo.TRef sig ⟨S_, .f32⟩) (.of main_call8_v11 : StableHlo.TRef sig ⟨S1x64x1x1, .f32⟩) (broadcastInDim S1x64x1x1 ![] bcast_S_S1x64x1x1),
    StableHlo.TRef.binary (.of main_call8_v10 : StableHlo.TRef sig ⟨S1x64x1x1, .f32⟩) (.of main_call8_v11 : StableHlo.TRef sig ⟨S1x64x1x1, .f32⟩) (.of main_call8_v12 : StableHlo.TRef sig ⟨S1x64x1x1, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v13 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S1x64x1x1, .f32⟩) (broadcastInDim S1x64x1x1 ![] bcast_S_S1x64x1x1),
    StableHlo.TRef.ternary (.of main_call8_v13 : StableHlo.TRef sig ⟨S_, .i1⟩) (.of main_call8_v12 : StableHlo.TRef sig ⟨S1x64x1x1, .f32⟩) (.of main_call8_call0_v1 : StableHlo.TRef sig ⟨S1x64x1x1, .f32⟩) (.of main_v95 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 15 host operations of @main, window 2 (statements 121 … 180), in order. -/
abbrev main_part2_ops2 : List (HloOp τ sig (Elt F)) :=
  [ StableHlo.unary main_v94 main_v96 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v90 main_v96 main_v97 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_22 (constant S_ .f32 0x3727C5AC#32),
    StableHlo.unary main_cst_22 main_v98 (broadcastInDim S1x64x1x1 ![] bcast_S_S1x64x1x1 : (⟨S_, .f32⟩ : BufTy).Contents (Elt F) → (⟨S1x64x1x1, .f32⟩ : BufTy).Contents (Elt F)),
    StableHlo.binary main_v95 main_v98 main_v99 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v99 main_v100 (Host.sqrt : (⟨S1x64x1x1, .f32⟩ : BufTy).Contents (Elt F) → (⟨S1x64x1x1, .f32⟩ : BufTy).Contents (Elt F)),
    StableHlo.unary main_v100 main_v101 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v97 main_v101 main_v102 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg9 main_v103 (broadcastInDim S1x64x1x1 ![1] bcast_S64_S1x64x1x1_1 : (⟨S64, .f32⟩ : BufTy).Contents (Elt F) → (⟨S1x64x1x1, .f32⟩ : BufTy).Contents (Elt F)),
    StableHlo.unary main_v103 main_v104 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v102 main_v104 main_v105 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg10 main_v106 (broadcastInDim S1x64x1x1 ![1] bcast_S64_S1x64x1x1_1 : (⟨S64, .f32⟩ : BufTy).Contents (Elt F) → (⟨S1x64x1x1, .f32⟩ : BufTy).Contents (Elt F)),
    StableHlo.unary main_v106 main_v107 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v105 main_v107 main_v108 (addf : (⟨S8x64x32x512, .f32⟩ : BufTy).Contents (Elt F) → (⟨S8x64x32x512, .f32⟩ : BufTy).Contents (Elt F) → (⟨S8x64x32x512, .f32⟩ : BufTy).Contents (Elt F)),
    StableHlo.binary main_v84 main_v108 main_v109 (addf : (⟨S8x64x32x512, .f32⟩ : BufTy).Contents (Elt F) → (⟨S8x64x32x512, .f32⟩ : BufTy).Contents (Elt F) → (⟨S8x64x32x512, .f32⟩ : BufTy).Contents (Elt F)) ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩
/-- 3 host operations of @relu (main_call9), window 2 (statements 121 … 180), in order. -/
abbrev main_part2_ops3 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S8x64x32x512, .f32⟩) (broadcastInDim S8x64x32x512 ![] bcast_S_S8x64x32x512),
    StableHlo.TRef.binary (.of main_v109 : StableHlo.TRef sig ⟨S8x64x32x512, .f32⟩) (.of main_call9_v0 : StableHlo.TRef sig ⟨S8x64x32x512, .f32⟩) (.of main_v110 : StableHlo.TRef sig ⟨S8x64x32x512, .f32⟩) maximumf ]
/-- Each touches TensorCore references only (`HostSeg.ofOps` over `StableHlo.tcRefs`, or a subset by `sub_ucRefs`). -/
theorem main_part2_ops3_sub : (main_part2_ops3 : List (HloOp τ sig (Elt F))).Forall fun op => op.bufs ⊆ StableHlo.tcRefs τ sig :=
  ⟨StableHlo.nullary_bufs_sub .., StableHlo.unary_bufs_sub .., StableHlo.binary_bufs_sub ..⟩
/-- 12 host operations of @main, window 2 (statements 121 … 180), in order. -/
abbrev main_part2_ops4 : List (HloOp τ sig (Elt F)) :=
  [ StableHlo.binary main_v110 main_arg11 main_v111 ((fun l r => Host.dotGeneral dot_S8x64x32x512_S64x64_S8x32x512x64_1_1_023_0_n_n none l r) : (⟨S8x64x32x512, .f32⟩ : BufTy).Contents (Elt F) → (⟨S64x64, .f32⟩ : BufTy).Contents (Elt F) → (⟨S8x32x512x64, .f32⟩ : BufTy).Contents (Elt F)),
    StableHlo.unary main_v111 main_v112 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F)),
    StableHlo.unary main_arg12 main_v113 (broadcastInDim S1x64x1x1 ![1] bcast_S64_S1x64x1x1_1 : (⟨S64, .f32⟩ : BufTy).Contents (Elt F) → (⟨S1x64x1x1, .f32⟩ : BufTy).Contents (Elt F)),
    StableHlo.unary main_v113 main_v114 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v112 main_v114 main_v115 (addf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_23 (constant S_ .f32 0x00000000#32),
    StableHlo.binary main_v115 main_cst_23 main_v116 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F)),
    StableHlo.unary main_v116 main_v117 (broadcastInDim S1x64x1x1 ![1] bcast_S64_S1x64x1x1_1 : (⟨S64, .f32⟩ : BufTy).Contents (Elt F) → (⟨S1x64x1x1, .f32⟩ : BufTy).Contents (Elt F)),
    StableHlo.nullary main_cst_24 (constant S_ .f32 0x48000000#32),
    StableHlo.unary main_cst_24 main_v118 (broadcastInDim S1x64x1x1 ![] bcast_S_S1x64x1x1 : (⟨S_, .f32⟩ : BufTy).Contents (Elt F) → (⟨S1x64x1x1, .f32⟩ : BufTy).Contents (Elt F)),
    StableHlo.binary main_v117 main_v118 main_v119 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_25 (constantI S_ 32 0#32) ]
/-- Each touches TensorCore references only (`HostSeg.ofOps` over `StableHlo.tcRefs`, or a subset by `sub_ucRefs`). -/
theorem main_part2_ops4_sub : (main_part2_ops4 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call10), window 2 (statements 121 … 180), in order. -/
abbrev main_part2_ops5 : List (HloOp τ sig (Elt F)) :=
  [ StableHlo.TRef.nullary (.of main_call10_cst : StableHlo.TRef sig ⟨S_, .f32⟩) (constant S_ .f32 0x00000000#32),
    StableHlo.TRef.binary (.of main_v115 : StableHlo.TRef sig ⟨S8x64x32x512, .f32⟩) (.of main_call10_cst : StableHlo.TRef sig ⟨S_, .f32⟩) (.of main_call10_v0 : StableHlo.TRef sig ⟨S64, .f32⟩) (fun x v => Host.reduceAdd x v reducesTo_S8x64x32x512_S64_d0_2_3 h_S_),
    StableHlo.TRef.unary (.of main_call10_v0 : StableHlo.TRef sig ⟨S64, .f32⟩) (.of main_call10_v1 : StableHlo.TRef sig ⟨S1x64x1x1, .f32⟩) (broadcastInDim S1x64x1x1 ![1] bcast_S64_S1x64x1x1_1),
    StableHlo.TRef.nullary (.of main_call10_cst_0 : StableHlo.TRef sig ⟨S_, .f32⟩) (constant S_ .f32 0x48000000#32),
    StableHlo.TRef.unary (.of main_call10_cst_0 : StableHlo.TRef sig ⟨S_, .f32⟩) (.of main_call10_v2 : StableHlo.TRef sig ⟨S1x64x1x1, .f32⟩) (broadcastInDim S1x64x1x1 ![] bcast_S_S1x64x1x1),
    StableHlo.TRef.binary (.of main_call10_v1 : StableHlo.TRef sig ⟨S1x64x1x1, .f32⟩) (.of main_call10_v2 : StableHlo.TRef sig ⟨S1x64x1x1, .f32⟩) (.of main_call10_v3 : StableHlo.TRef sig ⟨S1x64x1x1, .f32⟩) Host.divf,
    StableHlo.TRef.unary (.of main_call10_v3 : StableHlo.TRef sig ⟨S1x64x1x1, .f32⟩) (.of main_call10_v4 : StableHlo.TRef sig ⟨S8x64x32x512, .f32⟩) (broadcastInDim S8x64x32x512 ![0, 1, 2, 3] bcast_S1x64x1x1_S8x64x32x512_0_1_2_3),
    StableHlo.TRef.binary (.of main_v115 : StableHlo.TRef sig ⟨S8x64x32x512, .f32⟩) (.of main_call10_v4 : StableHlo.TRef sig ⟨S8x64x32x512, .f32⟩) (.of main_call10_v5 : StableHlo.TRef sig ⟨S8x64x32x512, .f32⟩) subf,
    StableHlo.TRef.binary (.of main_call10_v5 : StableHlo.TRef sig ⟨S8x64x32x512, .f32⟩) (.of main_call10_v5 : StableHlo.TRef sig ⟨S8x64x32x512, .f32⟩) (.of main_call10_v6 : StableHlo.TRef sig ⟨S8x64x32x512, .f32⟩) mulf,
    StableHlo.TRef.unary (.of main_c_25 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x48000000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S8x64x32x512, .f32⟩) (.of main_call10_cst_2 : StableHlo.TRef sig ⟨S_, .f32⟩) (.of main_call10_v9 : StableHlo.TRef sig ⟨S64, .f32⟩) (fun x v => Host.reduceAdd x v reducesTo_S8x64x32x512_S64_d0_2_3 h_S_),
    StableHlo.TRef.unary (.of main_call10_v9 : StableHlo.TRef sig ⟨S64, .f32⟩) (.of main_call10_v10 : StableHlo.TRef sig ⟨S1x64x1x1, .f32⟩) (broadcastInDim S1x64x1x1 ![1] bcast_S64_S1x64x1x1_1),
    StableHlo.TRef.unary (.of main_call10_v8 : StableHlo.TRef sig ⟨S_, .f32⟩) (.of main_call10_v11 : StableHlo.TRef sig ⟨S1x64x1x1, .f32⟩) (broadcastInDim S1x64x1x1 ![] bcast_S_S1x64x1x1),
    StableHlo.TRef.binary (.of main_call10_v10 : StableHlo.TRef sig ⟨S1x64x1x1, .f32⟩) (.of main_call10_v11 : StableHlo.TRef sig ⟨S1x64x1x1, .f32⟩) (.of main_call10_v12 : StableHlo.TRef sig ⟨S1x64x1x1, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v13 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S1x64x1x1, .f32⟩) (broadcastInDim S1x64x1x1 ![] bcast_S_S1x64x1x1),
    StableHlo.TRef.ternary (.of main_call10_v13 : StableHlo.TRef sig ⟨S_, .i1⟩) (.of main_call10_v12 : StableHlo.TRef sig ⟨S1x64x1x1, .f32⟩) (.of main_call10_call0_v1 : StableHlo.TRef sig ⟨S1x64x1x1, .f32⟩) (.of main_v120 : StableHlo.TRef sig ⟨S1x64x1x1, .f32⟩) (fun p a b => select (broadcastInDim S1x64x1x1 ![] bcast_S_S1x64x1x1 p) a b) ]
/-- Each touches TensorCore references only (`HostSeg.ofOps` over `StableHlo.tcRefs`, or a subset by `sub_ucRefs`). -/
theorem main_part2_ops5_sub : (main_part2_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, window 2 (statements 121 … 180), in order. -/
abbrev main_part2_ops6 : List (HloOp τ sig (Elt F)) :=
  [ StableHlo.unary main_v119 main_v121 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v115 main_v121 main_v122 (subf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_26 (constant S_ .f32 0x3727C5AC#32),
    StableHlo.unary main_cst_26 main_v123 (broadcastInDim S1x64x1x1 ![] bcast_S_S1x64x1x1 : (⟨S_, .f32⟩ : BufTy).Contents (Elt F) → (⟨S1x64x1x1, .f32⟩ : BufTy).Contents (Elt F)),
    StableHlo.binary main_v120 main_v123 main_v124 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v124 main_v125 (Host.sqrt : (⟨S1x64x1x1, .f32⟩ : BufTy).Contents (Elt F) → (⟨S1x64x1x1, .f32⟩ : BufTy).Contents (Elt F)),
    StableHlo.unary main_v125 main_v126 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v122 main_v126 main_v127 (Host.divf : (⟨S8x64x32x512, .f32⟩ : BufTy).Contents (Elt F) → (⟨S8x64x32x512, .f32⟩ : BufTy).Contents (Elt F) → (⟨S8x64x32x512, .f32⟩ : BufTy).Contents (Elt F)),
    StableHlo.unary main_arg13 main_v128 (broadcastInDim S1x64x1x1 ![1] bcast_S64_S1x64x1x1_1 : (⟨S64, .f32⟩ : BufTy).Contents (Elt F) → (⟨S1x64x1x1, .f32⟩ : BufTy).Contents (Elt F)),
    StableHlo.unary main_v128 main_v129 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v127 main_v129 main_v130 (mulf : (⟨S8x64x32x512, .f32⟩ : BufTy).Contents (Elt F) → (⟨S8x64x32x512, .f32⟩ : BufTy).Contents (Elt F) → (⟨S8x64x32x512, .f32⟩ : BufTy).Contents (Elt F)),
    StableHlo.unary main_arg14 main_v131 (broadcastInDim S1x64x1x1 ![1] bcast_S64_S1x64x1x1_1 : (⟨S64, .f32⟩ : BufTy).Contents (Elt F) → (⟨S1x64x1x1, .f32⟩ : BufTy).Contents (Elt F)),
    StableHlo.unary main_v131 main_v132 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v130 main_v132 main_v133 (addf : (⟨S8x64x32x512, .f32⟩ : BufTy).Contents (Elt F) → (⟨S8x64x32x512, .f32⟩ : BufTy).Contents (Elt F) → (⟨S8x64x32x512, .f32⟩ : BufTy).Contents (Elt F)) ]
/-- Each touches TensorCore references only (`HostSeg.ofOps` over `StableHlo.tcRefs`, or a subset by `sub_ucRefs`). -/
theorem main_part2_ops6_sub : (main_part2_ops6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 3 host operations of @relu (main_call11), window 2 (statements 121 … 180), in order. -/
abbrev main_part2_ops7 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S8x64x32x512, .f32⟩) (broadcastInDim S8x64x32x512 ![] bcast_S_S8x64x32x512),
    StableHlo.TRef.binary (.of main_v133 : StableHlo.TRef sig ⟨S8x64x32x512, .f32⟩) (.of main_call11_v0 : StableHlo.TRef sig ⟨S8x64x32x512, .f32⟩) (.of main_v134 : StableHlo.TRef sig ⟨S8x64x32x512, .f32⟩) maximumf ]
/-- Each touches TensorCore references only (`HostSeg.ofOps` over `StableHlo.tcRefs`, or a subset by `sub_ucRefs`). -/
theorem main_part2_ops7_sub : (main_part2_ops7 : List (HloOp τ sig (Elt F))).Forall fun op => op.bufs ⊆ StableHlo.tcRefs τ sig :=
  ⟨StableHlo.nullary_bufs_sub .., StableHlo.unary_bufs_sub .., StableHlo.binary_bufs_sub ..⟩
/-- 10 host operations of @main, window 2 (statements 121 … 180), in order. -/
abbrev main_part2_ops8 : List (HloOp τ sig (Elt F)) :=
  [ StableHlo.binary main_v134 main_arg15 main_v135 ((fun l r => Host.dotGeneral dot_S8x64x32x512_S128x64_S8x32x512x128_1_1_023_0_n_n none l r) : (⟨S8x64x32x512, .f32⟩ : BufTy).Contents (Elt F) → (⟨S128x64, .f32⟩ : BufTy).Contents (Elt F) → (⟨S8x32x512x128, .f32⟩ : BufTy).Contents (Elt F)),
    StableHlo.unary main_v135 main_v136 ((transpose S8x128x32x512 [0, 3, 1, 2] · transposes_S8x32x512x128_S8x128x32x512_0_3_1_2) : (⟨S8x32x512x128, .f32⟩ : BufTy).Contents (Elt F) → (⟨S8x128x32x512, .f32⟩ : BufTy).Contents (Elt F)),
    StableHlo.unary main_arg16 main_v137 (broadcastInDim S1x128x1x1 ![1] bcast_S128_S1x128x1x1_1 : (⟨S128, .f32⟩ : BufTy).Contents (Elt F) → (⟨S1x128x1x1, .f32⟩ : BufTy).Contents (Elt F)),
    StableHlo.unary main_v137 main_v138 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v136 main_v138 main_v139 (addf : (⟨S8x128x32x512, .f32⟩ : BufTy).Contents (Elt F) → (⟨S8x128x32x512, .f32⟩ : BufTy).Contents (Elt F) → (⟨S8x128x32x512, .f32⟩ : BufTy).Contents (Elt F)),
    StableHlo.nullary main_cst_27 (constant S_ .f32 0x00000000#32),
    StableHlo.binary main_v139 main_cst_27 main_v140 ((fun x v => Host.reduceAdd x v reducesTo_S8x128x32x512_S128_d0_2_3 h_S_) : (⟨S8x128x32x512, .f32⟩ : BufTy).Contents (Elt F) → (⟨S_, .f32⟩ : BufTy).Contents (Elt F) → (⟨S128, .f32⟩ : BufTy).Contents (Elt F)),
    StableHlo.unary main_v140 main_v141 (broadcastInDim S1x128x1x1 ![1] bcast_S128_S1x128x1x1_1 : (⟨S128, .f32⟩ : BufTy).Contents (Elt F) → (⟨S1x128x1x1, .f32⟩ : BufTy).Contents (Elt F)),
    StableHlo.nullary main_cst_28 (constant S_ .f32 0x48000000#32),
    StableHlo.unary main_cst_28 main_v142 (broadcastInDim S1x128x1x1 ![] bcast_S_S1x128x1x1 : (⟨S_, .f32⟩ : BufTy).Contents (Elt F) → (⟨S1x128x1x1, .f32⟩ : BufTy).Contents (Elt F)) ]
/-- Each touches TensorCore references only (`HostSeg.ofOps` over `StableHlo.tcRefs`, or a subset by `sub_ucRefs`). -/
theorem main_part2_ops8_sub : (main_part2_ops8 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub ..⟩
/-- Window 2 of `main` (`main_part2`, statements 121 … 180) is the chain of ITS items ending in the last
    (`Pipeline.chainK`: no closing `pure`, the window's last statement being in tail position), each item but the last aligned with the
    window's statements, then `chain_rfl`. -/
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7 ]
  (StableHlo.seq main_part2_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 2 host operations of @main, window 3 (statements 181 … 201), in order. -/
abbrev main_part3_ops0 : List (HloOp τ sig (Elt F)) :=
  [ StableHlo.binary main_v141 main_v142 main_v143 (Host.divf : (⟨S1x128x1x1, .f32⟩ : BufTy).Contents (Elt F) → (⟨S1x128x1x1, .f32⟩ : BufTy).Contents (Elt F) → (⟨S1x128x1x1, .f32⟩ : BufTy).Contents (Elt F)),
    StableHlo.nullary main_c_29 (constantI S_ 32 0#32) ]
/-- Each touches TensorCore references only (`HostSeg.ofOps` over `StableHlo.tcRefs`, or a subset by `sub_ucRefs`). -/
theorem main_part3_ops0_sub : (main_part3_ops0 : List (HloOp τ sig (Elt F))).Forall fun op => op.bufs ⊆ StableHlo.tcRefs τ sig :=
  ⟨StableHlo.binary_bufs_sub .., StableHlo.nullary_bufs_sub ..⟩
/-- 23 host operations of @_var_3 (main_call12), window 3 (statements 181 … 201), in order. -/
abbrev main_part3_ops1 : List (HloOp τ sig (Elt F)) :=
  [ StableHlo.TRef.nullary (.of main_call12_cst : StableHlo.TRef sig ⟨S_, .f32⟩) (constant S_ .f32 0x00000000#32),
    StableHlo.TRef.binary (.of main_v139 : StableHlo.TRef sig ⟨S8x128x32x512, .f32⟩) (.of main_call12_cst : StableHlo.TRef sig ⟨S_, .f32⟩) (.of main_call12_v0 : StableHlo.TRef sig ⟨S128, .f32⟩) (fun x v => Host.reduceAdd x v reducesTo_S8x128x32x512_S128_d0_2_3 h_S_),
    StableHlo.TRef.unary (.of main_call12_v0 : StableHlo.TRef sig ⟨S128, .f32⟩) (.of main_call12_v1 : StableHlo.TRef sig ⟨S1x128x1x1, .f32⟩) (broadcastInDim S1x128x1x1 ![1] bcast_S128_S1x128x1x1_1),
    StableHlo.TRef.nullary (.of main_call12_cst_0 : StableHlo.TRef sig ⟨S_, .f32⟩) (constant S_ .f32 0x48000000#32),
    StableHlo.TRef.unary (.of main_call12_cst_0 : StableHlo.TRef sig ⟨S_, .f32⟩) (.of main_call12_v2 : StableHlo.TRef sig ⟨S1x128x1x1, .f32⟩) (broadcastInDim S1x128x1x1 ![] bcast_S_S1x128x1x1),
    StableHlo.TRef.binary (.of main_call12_v1 : StableHlo.TRef sig ⟨S1x128x1x1, .f32⟩) (.of main_call12_v2 : StableHlo.TRef sig ⟨S1x128x1x1, .f32⟩) (.of main_call12_v3 : StableHlo.TRef sig ⟨S1x128x1x1, .f32⟩) Host.divf,
    StableHlo.TRef.unary (.of main_call12_v3 : StableHlo.TRef sig ⟨S1x128x1x1, .f32⟩) (.of main_call12_v4 : StableHlo.TRef sig ⟨S8x128x32x512, .f32⟩) (broadcastInDim S8x128x32x512 ![0, 1, 2, 3] bcast_S1x128x1x1_S8x128x32x512_0_1_2_3),
    StableHlo.TRef.binary (.of main_v139 : StableHlo.TRef sig ⟨S8x128x32x512, .f32⟩) (.of main_call12_v4 : StableHlo.TRef sig ⟨S8x128x32x512, .f32⟩) (.of main_call12_v5 : StableHlo.TRef sig ⟨S8x128x32x512, .f32⟩) subf,
    StableHlo.TRef.binary (.of main_call12_v5 : StableHlo.TRef sig ⟨S8x128x32x512, .f32⟩) (.of main_call12_v5 : StableHlo.TRef sig ⟨S8x128x32x512, .f32⟩) (.of main_call12_v6 : StableHlo.TRef sig ⟨S8x128x32x512, .f32⟩) mulf,
    StableHlo.TRef.unary (.of main_c_29 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x48000000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S8x128x32x512, .f32⟩) (.of main_call12_cst_2 : StableHlo.TRef sig ⟨S_, .f32⟩) (.of main_call12_v9 : StableHlo.TRef sig ⟨S128, .f32⟩) (fun x v => Host.reduceAdd x v reducesTo_S8x128x32x512_S128_d0_2_3 h_S_),
    StableHlo.TRef.unary (.of main_call12_v9 : StableHlo.TRef sig ⟨S128, .f32⟩) (.of main_call12_v10 : StableHlo.TRef sig ⟨S1x128x1x1, .f32⟩) (broadcastInDim S1x128x1x1 ![1] bcast_S128_S1x128x1x1_1),
    StableHlo.TRef.unary (.of main_call12_v8 : StableHlo.TRef sig ⟨S_, .f32⟩) (.of main_call12_v11 : StableHlo.TRef sig ⟨S1x128x1x1, .f32⟩) (broadcastInDim S1x128x1x1 ![] bcast_S_S1x128x1x1),
    StableHlo.TRef.binary (.of main_call12_v10 : StableHlo.TRef sig ⟨S1x128x1x1, .f32⟩) (.of main_call12_v11 : StableHlo.TRef sig ⟨S1x128x1x1, .f32⟩) (.of main_call12_v12 : StableHlo.TRef sig ⟨S1x128x1x1, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v13 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S1x128x1x1, .f32⟩) (broadcastInDim S1x128x1x1 ![] bcast_S_S1x128x1x1),
    StableHlo.TRef.ternary (.of main_call12_v13 : StableHlo.TRef sig ⟨S_, .i1⟩) (.of main_call12_v12 : StableHlo.TRef sig ⟨S1x128x1x1, .f32⟩) (.of main_call12_call0_v1 : StableHlo.TRef sig ⟨S1x128x1x1, .f32⟩) (.of main_v144 : StableHlo.TRef sig ⟨S1x128x1x1, .f32⟩) (fun p a b => select (broadcastInDim S1x128x1x1 ![] bcast_S_S1x128x1x1 p) a b) ]
/-- Each touches TensorCore references only (`HostSeg.ofOps` over `StableHlo.tcRefs`, or a subset by `sub_ucRefs`). -/
theorem main_part3_ops1_sub : (main_part3_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, window 3 (statements 181 … 201), in order. -/
abbrev main_part3_ops2 : List (HloOp τ sig (Elt F)) :=
  [ StableHlo.unary main_v143 main_v145 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v139 main_v145 main_v146 (subf : (⟨S8x128x32x512, .f32⟩ : BufTy).Contents (Elt F) → (⟨S8x128x32x512, .f32⟩ : BufTy).Contents (Elt F) → (⟨S8x128x32x512, .f32⟩ : BufTy).Contents (Elt F)),
    StableHlo.nullary main_cst_30 (constant S_ .f32 0x3727C5AC#32),
    StableHlo.unary main_cst_30 main_v147 (broadcastInDim S1x128x1x1 ![] bcast_S_S1x128x1x1 : (⟨S_, .f32⟩ : BufTy).Contents (Elt F) → (⟨S1x128x1x1, .f32⟩ : BufTy).Contents (Elt F)),
    StableHlo.binary main_v144 main_v147 main_v148 (addf : (⟨S1x128x1x1, .f32⟩ : BufTy).Contents (Elt F) → (⟨S1x128x1x1, .f32⟩ : BufTy).Contents (Elt F) → (⟨S1x128x1x1, .f32⟩ : BufTy).Contents (Elt F)),
    StableHlo.unary main_v148 main_v149 (Host.sqrt : (⟨S1x128x1x1, .f32⟩ : BufTy).Contents (Elt F) → (⟨S1x128x1x1, .f32⟩ : BufTy).Contents (Elt F)),
    StableHlo.unary main_v149 main_v150 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v146 main_v150 main_v151 (Host.divf : (⟨S8x128x32x512, .f32⟩ : BufTy).Contents (Elt F) → (⟨S8x128x32x512, .f32⟩ : BufTy).Contents (Elt F) → (⟨S8x128x32x512, .f32⟩ : BufTy).Contents (Elt F)),
    StableHlo.unary main_arg17 main_v152 (broadcastInDim S1x128x1x1 ![1] bcast_S128_S1x128x1x1_1 : (⟨S128, .f32⟩ : BufTy).Contents (Elt F) → (⟨S1x128x1x1, .f32⟩ : BufTy).Contents (Elt F)),
    StableHlo.unary main_v152 main_v153 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v151 main_v153 main_v154 (mulf : (⟨S8x128x32x512, .f32⟩ : BufTy).Contents (Elt F) → (⟨S8x128x32x512, .f32⟩ : BufTy).Contents (Elt F) → (⟨S8x128x32x512, .f32⟩ : BufTy).Contents (Elt F)),
    StableHlo.unary main_arg18 main_v155 (broadcastInDim S1x128x1x1 ![1] bcast_S128_S1x128x1x1_1 : (⟨S128, .f32⟩ : BufTy).Contents (Elt F) → (⟨S1x128x1x1, .f32⟩ : BufTy).Contents (Elt F)),
    StableHlo.unary main_v155 main_v156 (broadcastInDim S8x128x32x512 ![0, 1, 2, 3] bcast_S1x128x1x1_S8x128x32x512_0_1_2_3 : (⟨S1x128x1x1, .f32⟩ : BufTy).Contents (Elt F) → (⟨S8x128x32x512, .f32⟩ : BufTy).Contents (Elt F)),
    StableHlo.binary main_v154 main_v156 main_v157 (addf : (⟨S8x128x32x512, .f32⟩ : BufTy).Contents (Elt F) → (⟨S8x128x32x512, .f32⟩ : BufTy).Contents (Elt F) → (⟨S8x128x32x512, .f32⟩ : BufTy).Contents (Elt F)) ]
/-- Each touches TensorCore references only (`HostSeg.ofOps` over `StableHlo.tcRefs`, or a subset by `sub_ucRefs`). -/
theorem main_part3_ops2_sub : (main_part3_ops2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 3 host operations of @relu_5 (main_call13), window 3 (statements 181 … 201), in order. -/
abbrev main_part3_ops3 : List (HloOp τ sig (Elt F)) :=
  [ StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S8x128x32x512, .f32⟩) (broadcastInDim S8x128x32x512 ![] bcast_S_S8x128x32x512),
    StableHlo.TRef.binary (.of main_v157 : StableHlo.TRef sig ⟨S8x128x32x512, .f32⟩) (.of main_call13_v0 : StableHlo.TRef sig ⟨S8x128x32x512, .f32⟩) (.of main_v158 : StableHlo.TRef sig ⟨S8x128x32x512, .f32⟩) maximumf ]
/-- Each touches TensorCore references only (`HostSeg.ofOps` over `StableHlo.tcRefs`, or a subset by `sub_ucRefs`). -/
theorem main_part3_ops3_sub : (main_part3_ops3 : List (HloOp τ sig (Elt F))).Forall fun op => op.bufs ⊆ StableHlo.tcRefs τ sig :=
  ⟨StableHlo.nullary_bufs_sub .., StableHlo.unary_bufs_sub .., StableHlo.binary_bufs_sub ..⟩
/-- 2 host operations of @main, window 3 (statements 181 … 201), in order. -/
abbrev main_part3_ops4 : List (HloOp τ sig (Elt F)) :=
  [ StableHlo.nullary main_cst_31 (constant S_ .f32 0xFF800000#32),
    StableHlo.binary main_v158 main_cst_31 main_v159 ((fun x v => Host.reduce FloatOps.maximumf x v reducesTo_S8x128x32x512_S8x128x512_d2 h_S_) : (⟨S8x128x32x512, .f32⟩ : BufTy).Contents (Elt F) → (⟨S_, .f32⟩ : BufTy).Contents (Elt F) → (⟨S8x128x512, .f32⟩ : BufTy).Contents (Elt F)) ]
/-- Each touches TensorCore references only (`HostSeg.ofOps` over `StableHlo.tcRefs`, or a subset by `sub_ucRefs`). -/
theorem main_part3_ops4_sub : (main_part3_ops4 : List (HloOp τ sig (Elt F))).Forall fun op => op.bufs ⊆ StableHlo.tcRefs τ sig :=
  ⟨StableHlo.nullary_bufs_sub .., StableHlo.binary_bufs_sub ..⟩
/-- The last window of `main` (`main_part3`, statements 181 … 201) is the chain of ITS items, each item aligned with the window's
    statements, then `chain_rfl`. -/
theorem main_part3_chain (c : Dev nD) : main_part3 (F := F) c = (Pipeline.chain
  [ StableHlo.seq main_part3_ops0,
    StableHlo.seq main_part3_ops1,
    StableHlo.seq main_part3_ops2,
    StableHlo.seq main_part3_ops3,
    StableHlo.seq main_part3_ops4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part1_ops0,
    StableHlo.seq main_part1_ops1,
    StableHlo.seq main_part1_ops2,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part3_ops0,
    StableHlo.seq main_part3_ops1,
    StableHlo.seq main_part3_ops2,
    StableHlo.seq main_part3_ops3,
    StableHlo.seq main_part3_ops4 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3],
    .ops [main_part0_ops4],
    .ops [main_part0_ops5],
    .ops [main_part0_ops6],
    .ops [main_part0_ops7],
    .ops [main_part0_ops8],
    .ops [main_part0_ops9],
    .ops [main_part0_ops10, main_part1_ops0],
    .ops [main_part1_ops1],
    .ops [main_part1_ops2, main_part2_ops0],
    .ops [main_part2_ops1],
    .ops [main_part2_ops2],
    .ops [main_part2_ops3],
    .ops [main_part2_ops4],
    .ops [main_part2_ops5],
    .ops [main_part2_ops6],
    .ops [main_part2_ops7],
    .ops [main_part2_ops8, main_part3_ops0],
    .ops [main_part3_ops1],
    .ops [main_part3_ops2],
    .ops [main_part3_ops3],
    .ops [main_part3_ops4] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part1_ops0,
    StableHlo.seq main_part1_ops1,
    StableHlo.seq main_part1_ops2,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part3_ops0,
    StableHlo.seq main_part3_ops1,
    StableHlo.seq main_part3_ops2,
    StableHlo.seq main_part3_ops3,
    StableHlo.seq main_part3_ops4 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 4 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 11 host operations of host loop 0's body region, in order. -/
abbrev while0Ops0 : List (HloOp τ sig (Elt F)) :=
  [ StableHlo.nullary main_while0b_c_37 (constantI S_ 32 1#32),
    StableHlo.binary main_v4_2 main_while0b_c_37 main_while0b_v160 (addi : (⟨S_, .i32⟩ : BufTy).Contents (Elt F) → (⟨S_, .i32⟩ : BufTy).Contents (Elt F) → (⟨S_, .i32⟩ : BufTy).Contents (Elt F)),
    StableHlo.nullary main_while0b_c_38 (constantI S_ 32 0#32),
    StableHlo.binary main_v4_2 main_while0b_c_38 main_while0b_v161 (cmpi .slt : (⟨S_, .i32⟩ : BufTy).Contents (Elt F) → (⟨S_, .i32⟩ : BufTy).Contents (Elt F) → (⟨S_, .i1⟩ : BufTy).Contents (Elt F)),
    StableHlo.nullary main_while0b_c_39 (constantI S_ 32 512#32),
    StableHlo.binary main_v4_2 main_while0b_c_39 main_while0b_v162 (addi : (⟨S_, .i32⟩ : BufTy).Contents (Elt F) → (⟨S_, .i32⟩ : BufTy).Contents (Elt F) → (⟨S_, .i32⟩ : BufTy).Contents (Elt F)),
    StableHlo.ternary main_while0b_v161 main_while0b_v162 main_v4_2 main_while0b_v163 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v163 main_while0b_v164 (id : (⟨S_, .i32⟩ : BufTy).Contents (Elt F) → (⟨S_, .i32⟩ : BufTy).Contents (Elt F)),
    StableHlo.unary main_while0b_v164 main_while0b_v165 (broadcastInDim S1 ![] bcast_S_S1 : (⟨S_, .i32⟩ : BufTy).Contents (Elt F) → (⟨S1, .i32⟩ : BufTy).Contents (Elt F)),
    StableHlo.ternary main_v4_3 main_while0b_v165 main_v4_5 main_while0b_v166 ((fun x i u => Host.scatter scatter_S8x512_S1_S8_0_1_1_0 (fun _ b => b) x i u) : (⟨S8x512, .i32⟩ : BufTy).Contents (Elt F) → (⟨S1, .i32⟩ : BufTy).Contents (Elt F) → (⟨S8, .i32⟩ : BufTy).Contents (Elt F) → (⟨S8x512, .i32⟩ : BufTy).Contents (Elt F)),
    StableHlo.unary main_v4_5 main_while0b_v167 (broadcastInDim S8x1x1 ![0] bcast_S8_S8x1x1_0 : (⟨S8, .i32⟩ : BufTy).Contents (Elt F) → (⟨S8x1x1, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩
/-- 22 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x1, .i32⟩) (broadcastInDim S8x1x1 ![] bcast_S_S8x1x1),
    StableHlo.TRef.binary (.of main_while0b_v167 : StableHlo.TRef sig ⟨S8x1x1, .i32⟩) (.of main_while0b_call0_v0 : StableHlo.TRef sig ⟨S8x1x1, .i32⟩) (.of main_while0b_call0_v1 : StableHlo.TRef sig ⟨S8x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S8x1x1, .i32⟩) (broadcastInDim S8x1x1 ![] bcast_S_S8x1x1),
    StableHlo.TRef.binary (.of main_while0b_v167 : StableHlo.TRef sig ⟨S8x1x1, .i32⟩) (.of main_while0b_call0_v2 : StableHlo.TRef sig ⟨S8x1x1, .i32⟩) (.of main_while0b_call0_v3 : StableHlo.TRef sig ⟨S8x1x1, .i32⟩) addi,
    StableHlo.TRef.ternary (.of main_while0b_call0_v1 : StableHlo.TRef sig ⟨S8x1x1, .i1⟩) (.of main_while0b_call0_v3 : StableHlo.TRef sig ⟨S8x1x1, .i32⟩) (.of main_while0b_v167 : StableHlo.TRef sig ⟨S8x1x1, .i32⟩) (.of main_while0b_call0_v4 : StableHlo.TRef sig ⟨S8x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S8x1x1, .i32⟩) (broadcastInDim S8x1x1 ![] bcast_S_S8x1x1),
    StableHlo.TRef.binary (.of main_while0b_call0_v4 : StableHlo.TRef sig ⟨S8x1x1, .i32⟩) (.of main_while0b_call0_v5 : StableHlo.TRef sig ⟨S8x1x1, .i32⟩) (.of main_while0b_call0_v6 : StableHlo.TRef sig ⟨S8x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S8x1x1, .i32⟩) (broadcastInDim S8x1x1 ![0, 1, 2] bcast_S1x1x1_S8x1x1_0_1_2),
    StableHlo.TRef.binary (.of main_while0b_call0_v4 : StableHlo.TRef sig ⟨S8x1x1, .i32⟩) (.of main_while0b_call0_v8 : StableHlo.TRef sig ⟨S8x1x1, .i32⟩) (.of main_while0b_call0_v9 : StableHlo.TRef sig ⟨S8x1x1, .i1⟩) (cmpi .sle),
    StableHlo.TRef.binary (.of main_while0b_call0_v6 : StableHlo.TRef sig ⟨S8x1x1, .i1⟩) (.of main_while0b_call0_v9 : StableHlo.TRef sig ⟨S8x1x1, .i1⟩) (.of main_while0b_call0_v10 : StableHlo.TRef sig ⟨S8x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S8x1x1, .i1⟩) (.of main_while0b_call0_c_3 : StableHlo.TRef sig ⟨S_, .i1⟩) (.of main_while0b_call0_v11 : StableHlo.TRef sig ⟨S8x1, .i1⟩) (fun x v => Host.reduce IntOp.andi x v reducesTo_S8x1x1_S8x1_d2 h_S_),
    StableHlo.TRef.binary (.of main_v4_0 : StableHlo.TRef sig ⟨S8x4096x3, .f32⟩) (.of main_while0b_call0_v4 : StableHlo.TRef sig ⟨S8x1x1, .i32⟩) (.of main_while0b_call0_v12 : StableHlo.TRef sig ⟨S8x1x3, .f32⟩) (fun x i => Host.gather gather_S8x4096x3_S8x1x1_S8x1x3_2_1_0_0_1_2_113 x i),
    StableHlo.TRef.unary (.of main_while0b_call0_v11 : StableHlo.TRef sig ⟨S8x1, .i1⟩) (.of main_while0b_call0_v13 : StableHlo.TRef sig ⟨S8x1x3, .i1⟩) (broadcastInDim S8x1x3 ![0, 1] bcast_S8x1_S8x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v13 : StableHlo.TRef sig ⟨S8x1x3, .i1⟩) (.of main_while0b_call0_v12 : StableHlo.TRef sig ⟨S8x1x3, .f32⟩) (.of main_while0b_call0_v14 : StableHlo.TRef sig ⟨S8x1x3, .f32⟩) (.of main_while0b_v168 : StableHlo.TRef sig ⟨S8x1x3, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 6 host operations of host loop 0's body region, in order. -/
abbrev while0Ops0_2 : List (HloOp τ sig (Elt F)) :=
  [ StableHlo.unary main_while0b_v168 main_while0b_v169 (broadcastInDim S8x4096x3 ![0, 1, 2] bcast_S8x1x3_S8x4096x3_0_1_2 : (⟨S8x1x3, .f32⟩ : BufTy).Contents (Elt F) → (⟨S8x4096x3, .f32⟩ : BufTy).Contents (Elt F)),
    StableHlo.binary main_v4_0 main_while0b_v169 main_while0b_v170 (subf : (⟨S8x4096x3, .f32⟩ : BufTy).Contents (Elt F) → (⟨S8x4096x3, .f32⟩ : BufTy).Contents (Elt F) → (⟨S8x4096x3, .f32⟩ : BufTy).Contents (Elt F)),
    StableHlo.binary main_while0b_v170 main_while0b_v170 main_while0b_v171 (mulf : (⟨S8x4096x3, .f32⟩ : BufTy).Contents (Elt F) → (⟨S8x4096x3, .f32⟩ : BufTy).Contents (Elt F) → (⟨S8x4096x3, .f32⟩ : BufTy).Contents (Elt F)),
    StableHlo.nullary main_while0b_cst_40 (constant S_ .f32 0x00000000#32),
    StableHlo.binary main_while0b_v171 main_while0b_cst_40 main_while0b_v172 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_v4_4 main_while0b_v172 main_while0b_v173 (minimumf : (⟨S8x4096, .f32⟩ : BufTy).Contents (Elt F) → (⟨S8x4096, .f32⟩ : BufTy).Contents (Elt F) → (⟨S8x4096, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- 5 host operations of @argmax (main_while0b_call1), in order. -/
abbrev while0Ops0_3 : List (HloOp τ sig (Elt F)) :=
  [ StableHlo.TRef.nullary (.of main_while0b_call1_v0 : StableHlo.TRef sig ⟨S8x4096, .i32⟩) (iotaInDim S8x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v173 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x4096_S8_d1 h_S_ j).1),
    StableHlo.TRef.quaternary (.of main_while0b_v173 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_v174 : StableHlo.TRef sig ⟨S8, .i32⟩) (fun x y u v j => (Host.argReduce reducer_argmax_f32_i32 x y u v reducesTo_S8x4096_S8_d1 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 7 host operations of host loop 0's body region, in order. -/
abbrev while0Ops0_4 : List (HloOp τ sig (Elt F)) :=
  [ StableHlo.nullary main_while0b_c_41 (constantI S_ 32 1#32),
    StableHlo.binary main_v4_1 main_while0b_c_41 main_while0b_v175 (addi : (⟨S_, .i32⟩ : BufTy).Contents (Elt F) → (⟨S_, .i32⟩ : BufTy).Contents (Elt F) → (⟨S_, .i32⟩ : BufTy).Contents (Elt F)),
    StableHlo.unary main_while0b_v175 main_v4_1 id,
    StableHlo.unary main_while0b_v160 main_v4_2 id,
    StableHlo.unary main_while0b_v166 main_v4_3 id,
    StableHlo.unary main_while0b_v173 main_v4_4 id,
    StableHlo.unary main_while0b_v174 main_v4_5 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.ReferenceIdeal.Gen

end
-- ==== Proof.RefRun.lean ====
/- Every run of the reference program ends with each buffer at the fold `finalContents`, and one trip of its loop is the step `STEP` of the carried buffers. -/
module

public import proofs.«01_k».proof.Proof.RefChain

@[expose] public section

-- a long stretch's `::` list and the decided enumerations over the program's references recurse past the default depth
set_option maxRecDepth 2128

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_c, main_v1, main_cst, main_v2, main_c_0, main_v3, main_c_1, main_c_2, main_v4_0, main_v4_1, main_v4_2, main_v4_3, main_v4_4, main_v4_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_37, main_while0b_v160, main_while0b_c_38, main_while0b_v161, main_while0b_c_39, main_while0b_v162, main_while0b_v163, main_while0b_v164, main_while0b_v165, main_while0b_v166, main_while0b_v167]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v168]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v169, main_while0b_v170, main_while0b_v171, main_while0b_cst_40, main_while0b_v172, main_while0b_v173]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v174]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_41, main_while0b_v175, main_v4_1, main_v4_2, main_v4_3, main_v4_4, main_v4_5]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- No operation of `hostOps0_12` allocates a buffer. -/
theorem hostOps0_12_fresh : (hostOps0_12 : List (HloOp τ sig (Elt F))).Forall fun op => op.fresh = ∅ :=
  StableHlo.forall_fresh_of_map rfl
/-- No operation of `hostOps0_13` allocates a buffer. -/
theorem hostOps0_13_fresh : (hostOps0_13 : List (HloOp τ sig (Elt F))).Forall fun op => op.fresh = ∅ :=
  StableHlo.forall_fresh_of_map rfl
/-- No operation of `hostOps0_14` allocates a buffer. -/
theorem hostOps0_14_fresh : (hostOps0_14 : List (HloOp τ sig (Elt F))).Forall fun op => op.fresh = ∅ :=
  StableHlo.forall_fresh_of_map rfl
/-- No operation of `hostOps0_15` allocates a buffer. -/
theorem hostOps0_15_fresh : (hostOps0_15 : List (HloOp τ sig (Elt F))).Forall fun op => op.fresh = ∅ :=
  StableHlo.forall_fresh_of_map rfl
/-- No operation of `hostOps0_16` allocates a buffer. -/
theorem hostOps0_16_fresh : (hostOps0_16 : List (HloOp τ sig (Elt F))).Forall fun op => op.fresh = ∅ :=
  StableHlo.forall_fresh_of_map rfl
/-- No operation of `hostOps0_17` allocates a buffer. -/
theorem hostOps0_17_fresh : (hostOps0_17 : List (HloOp τ sig (Elt F))).Forall fun op => op.fresh = ∅ :=
  StableHlo.forall_fresh_of_map rfl
/-- No operation of `hostOps0_18` allocates a buffer. -/
theorem hostOps0_18_fresh : (hostOps0_18 : List (HloOp τ sig (Elt F))).Forall fun op => op.fresh = ∅ :=
  StableHlo.forall_fresh_of_map rfl
/-- No operation of `hostOps0_19` allocates a buffer. -/
theorem hostOps0_19_fresh : (hostOps0_19 : List (HloOp τ sig (Elt F))).Forall fun op => op.fresh = ∅ :=
  StableHlo.forall_fresh_of_map rfl
/-- No operation of `hostOps0_20` allocates a buffer. -/
theorem hostOps0_20_fresh : (hostOps0_20 : List (HloOp τ sig (Elt F))).Forall fun op => op.fresh = ∅ :=
  StableHlo.forall_fresh_of_map rfl
/-- No operation of `hostOps0_21` allocates a buffer. -/
theorem hostOps0_21_fresh : (hostOps0_21 : List (HloOp τ sig (Elt F))).Forall fun op => op.fresh = ∅ :=
  StableHlo.forall_fresh_of_map rfl
/-- No operation of `hostOps0_22` allocates a buffer. -/
theorem hostOps0_22_fresh : (hostOps0_22 : List (HloOp τ sig (Elt F))).Forall fun op => op.fresh = ∅ :=
  StableHlo.forall_fresh_of_map rfl
/-- No operation of `hostOps0_23` allocates a buffer. -/
theorem hostOps0_23_fresh : (hostOps0_23 : List (HloOp τ sig (Elt F))).Forall fun op => op.fresh = ∅ :=
  StableHlo.forall_fresh_of_map rfl
/-- No operation of `hostOps0_24` allocates a buffer. -/
theorem hostOps0_24_fresh : (hostOps0_24 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_37 (constantI S_ 32 512#32),
    StableHlo.binary main_v4_1 main_while0c_c_37 main_while0c_v160 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.cons hostOps0_15_sub (hf := List.forall_iff_forall_mem.mp hostOps0_15_fresh) (.cons hostOps0_16_sub (hf := List.forall_iff_forall_mem.mp hostOps0_16_fresh) (.cons hostOps0_17_sub (hf := List.forall_iff_forall_mem.mp hostOps0_17_fresh) (.cons hostOps0_18_sub (hf := List.forall_iff_forall_mem.mp hostOps0_18_fresh) (.cons hostOps0_19_sub (hf := List.forall_iff_forall_mem.mp hostOps0_19_fresh) (.cons hostOps0_20_sub (hf := List.forall_iff_forall_mem.mp hostOps0_20_fresh) (.cons hostOps0_21_sub (hf := List.forall_iff_forall_mem.mp hostOps0_21_fresh) (.cons hostOps0_22_sub (hf := List.forall_iff_forall_mem.mp hostOps0_22_fresh) (.cons hostOps0_23_sub (hf := List.forall_iff_forall_mem.mp hostOps0_23_fresh) (.cons hostOps0_24_sub (hf := List.forall_iff_forall_mem.mp hostOps0_24_fresh) (.nil))))))))))))))))))))))))

/-- The reference each operation of `condOps` writes, in order. -/
abbrev condOps_W : List (Ref sig .tc) := [main_while0c_c_37, main_while0c_v160]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_1`) is written by one stretch of the body, `while0Ops0_4`: not by the condition, nor by the
    body's other stretches. -/
theorem ctr_cond (V : Valuation τ sig (Elt F)) : after condOps V (Proc.devRef .tc main_v4_1) = V (Proc.devRef .tc main_v4_1) :=
  after_of_writes_sub condOps V condOps_writes (by decide +kernel)
theorem ctr_while0Ops0 (V : Valuation τ sig (Elt F)) : after while0Ops0 V (Proc.devRef .tc main_v4_1) = V (Proc.devRef .tc main_v4_1) :=
  after_of_writes_sub while0Ops0 V while0Ops0_writes (by decide +kernel)
theorem ctr_while0Ops0_1 (V : Valuation τ sig (Elt F)) : after while0Ops0_1 V (Proc.devRef .tc main_v4_1) = V (Proc.devRef .tc main_v4_1) :=
  after_of_writes_sub while0Ops0_1 V while0Ops0_1_writes (by decide +kernel)
theorem ctr_while0Ops0_2 (V : Valuation τ sig (Elt F)) : after while0Ops0_2 V (Proc.devRef .tc main_v4_1) = V (Proc.devRef .tc main_v4_1) :=
  after_of_writes_sub while0Ops0_2 V while0Ops0_2_writes (by decide +kernel)
theorem ctr_while0Ops0_3 (V : Valuation τ sig (Elt F)) : after while0Ops0_3 V (Proc.devRef .tc main_v4_1) = V (Proc.devRef .tc main_v4_1) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v4_1) = addi (X (Proc.devRef .tc main_v4_1)) (constantI S_ 32 1#32) := by
  after_results
  rfl

/-- The counter is the loop's lower bound at the loop's entry: its last writer before the loop read back. -/
theorem ctr_entry (c : Dev nD) : entryContents preI m c (Proc.devRef .tc main_v4_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_37 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

/-! ## One trip's values -/

/-- The body's operations 1 … 11 of 51. -/
abbrev trip_w0 : List (HloOp τ sig (Elt F)) :=
  [ StableHlo.nullary main_while0b_c_37 (constantI S_ 32 1#32),
    StableHlo.binary main_v4_2 main_while0b_c_37 main_while0b_v160 (addi : (⟨S_, .i32⟩ : BufTy).Contents (Elt F) → (⟨S_, .i32⟩ : BufTy).Contents (Elt F) → (⟨S_, .i32⟩ : BufTy).Contents (Elt F)),
    StableHlo.nullary main_while0b_c_38 (constantI S_ 32 0#32),
    StableHlo.binary main_v4_2 main_while0b_c_38 main_while0b_v161 (cmpi .slt : (⟨S_, .i32⟩ : BufTy).Contents (Elt F) → (⟨S_, .i32⟩ : BufTy).Contents (Elt F) → (⟨S_, .i1⟩ : BufTy).Contents (Elt F)),
    StableHlo.nullary main_while0b_c_39 (constantI S_ 32 512#32),
    StableHlo.binary main_v4_2 main_while0b_c_39 main_while0b_v162 (addi : (⟨S_, .i32⟩ : BufTy).Contents (Elt F) → (⟨S_, .i32⟩ : BufTy).Contents (Elt F) → (⟨S_, .i32⟩ : BufTy).Contents (Elt F)),
    StableHlo.ternary main_while0b_v161 main_while0b_v162 main_v4_2 main_while0b_v163 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v163 main_while0b_v164 (id : (⟨S_, .i32⟩ : BufTy).Contents (Elt F) → (⟨S_, .i32⟩ : BufTy).Contents (Elt F)),
    StableHlo.unary main_while0b_v164 main_while0b_v165 (broadcastInDim S1 ![] bcast_S_S1 : (⟨S_, .i32⟩ : BufTy).Contents (Elt F) → (⟨S1, .i32⟩ : BufTy).Contents (Elt F)),
    StableHlo.ternary main_v4_3 main_while0b_v165 main_v4_5 main_while0b_v166 ((fun x i u => Host.scatter scatter_S8x512_S1_S8_0_1_1_0 (fun _ b => b) x i u) : (⟨S8x512, .i32⟩ : BufTy).Contents (Elt F) → (⟨S1, .i32⟩ : BufTy).Contents (Elt F) → (⟨S8, .i32⟩ : BufTy).Contents (Elt F) → (⟨S8x512, .i32⟩ : BufTy).Contents (Elt F)),
    StableHlo.unary main_v4_5 main_while0b_v167 (broadcastInDim S8x1x1 ![0] bcast_S8_S8x1x1_0 : (⟨S8, .i32⟩ : BufTy).Contents (Elt F) → (⟨S8x1x1, .i32⟩ : BufTy).Contents (Elt F)) ]

/-- The body's operations 12 … 33 of 51. -/
abbrev trip_w1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x1, .i32⟩) (broadcastInDim S8x1x1 ![] bcast_S_S8x1x1),
    StableHlo.TRef.binary (.of main_while0b_v167 : StableHlo.TRef sig ⟨S8x1x1, .i32⟩) (.of main_while0b_call0_v0 : StableHlo.TRef sig ⟨S8x1x1, .i32⟩) (.of main_while0b_call0_v1 : StableHlo.TRef sig ⟨S8x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S8x1x1, .i32⟩) (broadcastInDim S8x1x1 ![] bcast_S_S8x1x1),
    StableHlo.TRef.binary (.of main_while0b_v167 : StableHlo.TRef sig ⟨S8x1x1, .i32⟩) (.of main_while0b_call0_v2 : StableHlo.TRef sig ⟨S8x1x1, .i32⟩) (.of main_while0b_call0_v3 : StableHlo.TRef sig ⟨S8x1x1, .i32⟩) addi,
    StableHlo.TRef.ternary (.of main_while0b_call0_v1 : StableHlo.TRef sig ⟨S8x1x1, .i1⟩) (.of main_while0b_call0_v3 : StableHlo.TRef sig ⟨S8x1x1, .i32⟩) (.of main_while0b_v167 : StableHlo.TRef sig ⟨S8x1x1, .i32⟩) (.of main_while0b_call0_v4 : StableHlo.TRef sig ⟨S8x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S8x1x1, .i32⟩) (broadcastInDim S8x1x1 ![] bcast_S_S8x1x1),
    StableHlo.TRef.binary (.of main_while0b_call0_v4 : StableHlo.TRef sig ⟨S8x1x1, .i32⟩) (.of main_while0b_call0_v5 : StableHlo.TRef sig ⟨S8x1x1, .i32⟩) (.of main_while0b_call0_v6 : StableHlo.TRef sig ⟨S8x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S8x1x1, .i32⟩) (broadcastInDim S8x1x1 ![0, 1, 2] bcast_S1x1x1_S8x1x1_0_1_2),
    StableHlo.TRef.binary (.of main_while0b_call0_v4 : StableHlo.TRef sig ⟨S8x1x1, .i32⟩) (.of main_while0b_call0_v8 : StableHlo.TRef sig ⟨S8x1x1, .i32⟩) (.of main_while0b_call0_v9 : StableHlo.TRef sig ⟨S8x1x1, .i1⟩) (cmpi .sle),
    StableHlo.TRef.binary (.of main_while0b_call0_v6 : StableHlo.TRef sig ⟨S8x1x1, .i1⟩) (.of main_while0b_call0_v9 : StableHlo.TRef sig ⟨S8x1x1, .i1⟩) (.of main_while0b_call0_v10 : StableHlo.TRef sig ⟨S8x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S8x1x1, .i1⟩) (.of main_while0b_call0_c_3 : StableHlo.TRef sig ⟨S_, .i1⟩) (.of main_while0b_call0_v11 : StableHlo.TRef sig ⟨S8x1, .i1⟩) (fun x v => Host.reduce IntOp.andi x v reducesTo_S8x1x1_S8x1_d2 h_S_),
    StableHlo.TRef.binary (.of main_v4_0 : StableHlo.TRef sig ⟨S8x4096x3, .f32⟩) (.of main_while0b_call0_v4 : StableHlo.TRef sig ⟨S8x1x1, .i32⟩) (.of main_while0b_call0_v12 : StableHlo.TRef sig ⟨S8x1x3, .f32⟩) (fun x i => Host.gather gather_S8x4096x3_S8x1x1_S8x1x3_2_1_0_0_1_2_113 x i),
    StableHlo.TRef.unary (.of main_while0b_call0_v11 : StableHlo.TRef sig ⟨S8x1, .i1⟩) (.of main_while0b_call0_v13 : StableHlo.TRef sig ⟨S8x1x3, .i1⟩) (broadcastInDim S8x1x3 ![0, 1] bcast_S8x1_S8x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v13 : StableHlo.TRef sig ⟨S8x1x3, .i1⟩) (.of main_while0b_call0_v12 : StableHlo.TRef sig ⟨S8x1x3, .f32⟩) (.of main_while0b_call0_v14 : StableHlo.TRef sig ⟨S8x1x3, .f32⟩) (.of main_while0b_v168 : StableHlo.TRef sig ⟨S8x1x3, .f32⟩) select ]

/-- The body's operations 34 … 39 of 51. -/
abbrev trip_w2 : List (HloOp τ sig (Elt F)) :=
  [ StableHlo.unary main_while0b_v168 main_while0b_v169 (broadcastInDim S8x4096x3 ![0, 1, 2] bcast_S8x1x3_S8x4096x3_0_1_2 : (⟨S8x1x3, .f32⟩ : BufTy).Contents (Elt F) → (⟨S8x4096x3, .f32⟩ : BufTy).Contents (Elt F)),
    StableHlo.binary main_v4_0 main_while0b_v169 main_while0b_v170 (subf : (⟨S8x4096x3, .f32⟩ : BufTy).Contents (Elt F) → (⟨S8x4096x3, .f32⟩ : BufTy).Contents (Elt F) → (⟨S8x4096x3, .f32⟩ : BufTy).Contents (Elt F)),
    StableHlo.binary main_while0b_v170 main_while0b_v170 main_while0b_v171 (mulf : (⟨S8x4096x3, .f32⟩ : BufTy).Contents (Elt F) → (⟨S8x4096x3, .f32⟩ : BufTy).Contents (Elt F) → (⟨S8x4096x3, .f32⟩ : BufTy).Contents (Elt F)),
    StableHlo.nullary main_while0b_cst_40 (constant S_ .f32 0x00000000#32),
    StableHlo.binary main_while0b_v171 main_while0b_cst_40 main_while0b_v172 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_v4_4 main_while0b_v172 main_while0b_v173 (minimumf : (⟨S8x4096, .f32⟩ : BufTy).Contents (Elt F) → (⟨S8x4096, .f32⟩ : BufTy).Contents (Elt F) → (⟨S8x4096, .f32⟩ : BufTy).Contents (Elt F)) ]

/-- The body's operations 40 … 44 of 51. -/
abbrev trip_w3 : List (HloOp τ sig (Elt F)) :=
  [ StableHlo.TRef.nullary (.of main_while0b_call1_v0 : StableHlo.TRef sig ⟨S8x4096, .i32⟩) (iotaInDim S8x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v173 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x4096_S8_d1 h_S_ j).1),
    StableHlo.TRef.quaternary (.of main_while0b_v173 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_v174 : StableHlo.TRef sig ⟨S8, .i32⟩) (fun x y u v j => (Host.argReduce reducer_argmax_f32_i32 x y u v reducesTo_S8x4096_S8_d1 h_S_ j).2) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl

set_option maxRecDepth 8192 in
/-- `main_while0b_v167`'s composed term of the carried buffers (named: it is used 3 times). -/
def res_main_while0b_v167 (V0 : Valuation τ sig (Elt F)) : (Proc.devRef .tc main_while0b_v167 : DevRef τ sig).ty.Contents (Elt F) :=
  broadcastInDim S8x1x1 ![0] bcast_S8_S8x1x1_0 (V0 (Proc.devRef .tc main_v4_5))

set_option maxRecDepth 8192 in
/-- `main_while0b_call0_v4`'s composed term of the carried buffers (named: it is used 3 times). -/
def res_main_while0b_call0_v4 (V0 : Valuation τ sig (Elt F)) : (Proc.devRef .tc main_while0b_call0_v4 : DevRef τ sig).ty.Contents (Elt F) :=
  select (cmpi .slt (res_main_while0b_v167 V0) (broadcastInDim S8x1x1 ![] bcast_S_S8x1x1 (constantI S_ 32 0#32))) (addi (res_main_while0b_v167 V0) (broadcastInDim S8x1x1 ![] bcast_S_S8x1x1 (constantI S_ 32 4096#32))) (res_main_while0b_v167 V0)

set_option maxRecDepth 8192 in
/-- `main_while0b_v170`'s composed term of the carried buffers (named: it is used 2 times). -/
def res_main_while0b_v170 (V0 : Valuation τ sig (Elt F)) : (Proc.devRef .tc main_while0b_v170 : DevRef τ sig).ty.Contents (Elt F) :=
  subf (V0 (Proc.devRef .tc main_v4_0)) (broadcastInDim S8x4096x3 ![0, 1, 2] bcast_S8x1x3_S8x4096x3_0_1_2 (select (broadcastInDim S8x1x3 ![0, 1] bcast_S8x1_S8x1x3_0_1 (Host.reduce IntOp.andi (andi (cmpi .sge (res_main_while0b_call0_v4 V0) (broadcastInDim S8x1x1 ![] bcast_S_S8x1x1 (constantI S_ 32 0#32))) (cmpi .sle (res_main_while0b_call0_v4 V0) (broadcastInDim S8x1x1 ![0, 1, 2] bcast_S1x1x1_S8x1x1_0_1_2 (broadcastInDim S1x1x1 ![2] bcast_S1_S1x1x1_2 (constantI S1 32 4095#32))))) (constantI S_ 1 1#1) reducesTo_S8x1x1_S8x1_d2 h_S_)) (Host.gather gather_S8x4096x3_S8x1x1_S8x1x3_2_1_0_0_1_2_113 (V0 (Proc.devRef .tc main_v4_0)) (res_main_while0b_call0_v4 V0)) (broadcastInDim S8x1x3 ![] bcast_S_S8x1x3 (constant S_ .f32 0x7FC00000#32))))

set_option maxRecDepth 8192 in
/-- `main_while0b_v173`'s composed term of the carried buffers (named: it is used 3 times). -/
def res_main_while0b_v173 (V0 : Valuation τ sig (Elt F)) : (Proc.devRef .tc main_while0b_v173 : DevRef τ sig).ty.Contents (Elt F) :=
  minimumf (V0 (Proc.devRef .tc main_v4_4)) (Host.reduceAdd (mulf (res_main_while0b_v170 V0) (res_main_while0b_v170 V0)) (constant S_ .f32 0x00000000#32) reducesTo_S8x4096x3_S8x4096_d2 h_S_)

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S8x4096 32 1

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

/-- The device's buffer contents before the body's first window. -/
def val0 (V0 : Valuation τ sig (Elt F)) : Valuation τ sig (Elt F) := V0
theorem val0_main_v4_2 (V0 : Valuation τ sig (Elt F)) : val0 V0 (no_index (Proc.devRef .tc main_v4_2)) = V0 (Proc.devRef .tc main_v4_2) := rfl
theorem val0_main_v4_3 (V0 : Valuation τ sig (Elt F)) : val0 V0 (no_index (Proc.devRef .tc main_v4_3)) = V0 (Proc.devRef .tc main_v4_3) := rfl
theorem val0_main_v4_5 (V0 : Valuation τ sig (Elt F)) : val0 V0 (no_index (Proc.devRef .tc main_v4_5)) = V0 (Proc.devRef .tc main_v4_5) := rfl
theorem val0_main_v4_0 (V0 : Valuation τ sig (Elt F)) : val0 V0 (no_index (Proc.devRef .tc main_v4_0)) = V0 (Proc.devRef .tc main_v4_0) := rfl
theorem val0_main_v4_4 (V0 : Valuation τ sig (Elt F)) : val0 V0 (no_index (Proc.devRef .tc main_v4_4)) = V0 (Proc.devRef .tc main_v4_4) := rfl
theorem val0_main_v4_1 (V0 : Valuation τ sig (Elt F)) : val0 V0 (no_index (Proc.devRef .tc main_v4_1)) = V0 (Proc.devRef .tc main_v4_1) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_c_37, main_while0b_v160, main_while0b_c_38, main_while0b_v161, main_while0b_c_39, main_while0b_v162, main_while0b_v163, main_while0b_v164, main_while0b_v165, main_while0b_v166, main_while0b_v167]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
theorem val1_main_v4_5 (V0 : Valuation τ sig (Elt F)) : val1 V0 (no_index (Proc.devRef .tc main_v4_5)) = V0 (Proc.devRef .tc main_v4_5) :=
  (val1_keep V0 main_v4_5 (by decide)).trans (val0_main_v4_5 V0)
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
set_option maxRecDepth 8192 in
set_option maxHeartbeats 1100000 in
theorem val1_main_while0b_v160 (V0 : Valuation τ sig (Elt F)) : val1 V0 (no_index (Proc.devRef .tc main_while0b_v160)) = addi (V0 (Proc.devRef .tc main_v4_2)) (constantI S_ 32 1#32) := by
  unfold val1
  simp only [trip_w0]
  after_results_entrywise [val0_main_v4_2, cast_eq]
set_option maxRecDepth 8192 in
set_option maxHeartbeats 1100000 in
theorem val1_main_while0b_v166 (V0 : Valuation τ sig (Elt F)) : val1 V0 (no_index (Proc.devRef .tc main_while0b_v166)) = Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5)) := by
  unfold val1
  simp only [trip_w0]
  after_results_entrywise [val0_main_v4_5, val0_main_v4_2, val0_main_v4_3, cast_eq]
set_option maxRecDepth 8192 in
set_option maxHeartbeats 1100000 in
theorem val1_main_while0b_v167 (V0 : Valuation τ sig (Elt F)) : val1 V0 (no_index (Proc.devRef .tc main_while0b_v167)) = res_main_while0b_v167 V0 := by
  unfold val1
  simp only [trip_w0]
  after_results_entrywise [val0_main_v4_5, res_main_while0b_v167, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v168]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
theorem val2_main_v4_5 (V0 : Valuation τ sig (Elt F)) : val2 V0 (no_index (Proc.devRef .tc main_v4_5)) = V0 (Proc.devRef .tc main_v4_5) :=
  (val2_keep V0 main_v4_5 (by decide)).trans (val1_main_v4_5 V0)
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
theorem val2_main_while0b_v160 (V0 : Valuation τ sig (Elt F)) : val2 V0 (no_index (Proc.devRef .tc main_while0b_v160)) = addi (V0 (Proc.devRef .tc main_v4_2)) (constantI S_ 32 1#32) :=
  (val2_keep V0 main_while0b_v160 (by decide)).trans (val1_main_while0b_v160 V0)
theorem val2_main_while0b_v166 (V0 : Valuation τ sig (Elt F)) : val2 V0 (no_index (Proc.devRef .tc main_while0b_v166)) = Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5)) :=
  (val2_keep V0 main_while0b_v166 (by decide)).trans (val1_main_while0b_v166 V0)
set_option maxRecDepth 8192 in
set_option maxHeartbeats 2000000 in
theorem val2_main_while0b_v168 (V0 : Valuation τ sig (Elt F)) : val2 V0 (no_index (Proc.devRef .tc main_while0b_v168)) = select (broadcastInDim S8x1x3 ![0, 1] bcast_S8x1_S8x1x3_0_1 (Host.reduce IntOp.andi (andi (cmpi .sge (res_main_while0b_call0_v4 V0) (broadcastInDim S8x1x1 ![] bcast_S_S8x1x1 (constantI S_ 32 0#32))) (cmpi .sle (res_main_while0b_call0_v4 V0) (broadcastInDim S8x1x1 ![0, 1, 2] bcast_S1x1x1_S8x1x1_0_1_2 (broadcastInDim S1x1x1 ![2] bcast_S1_S1x1x1_2 (constantI S1 32 4095#32))))) (constantI S_ 1 1#1) reducesTo_S8x1x1_S8x1_d2 h_S_)) (Host.gather gather_S8x4096x3_S8x1x1_S8x1x3_2_1_0_0_1_2_113 (V0 (Proc.devRef .tc main_v4_0)) (res_main_while0b_call0_v4 V0)) (broadcastInDim S8x1x3 ![] bcast_S_S8x1x3 (constant S_ .f32 0x7FC00000#32)) := by
  unfold val2
  simp only [trip_w1]
  after_results_entrywise [val1_main_while0b_v167, val1_main_v4_0, res_main_while0b_call0_v4, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v169, main_while0b_v170, main_while0b_v171, main_while0b_cst_40, main_while0b_v172, main_while0b_v173]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
theorem val3_main_v4_5 (V0 : Valuation τ sig (Elt F)) : val3 V0 (no_index (Proc.devRef .tc main_v4_5)) = V0 (Proc.devRef .tc main_v4_5) :=
  (val3_keep V0 main_v4_5 (by decide)).trans (val2_main_v4_5 V0)
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
theorem val3_main_while0b_v160 (V0 : Valuation τ sig (Elt F)) : val3 V0 (no_index (Proc.devRef .tc main_while0b_v160)) = addi (V0 (Proc.devRef .tc main_v4_2)) (constantI S_ 32 1#32) :=
  (val3_keep V0 main_while0b_v160 (by decide)).trans (val2_main_while0b_v160 V0)
theorem val3_main_while0b_v166 (V0 : Valuation τ sig (Elt F)) : val3 V0 (no_index (Proc.devRef .tc main_while0b_v166)) = Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5)) :=
  (val3_keep V0 main_while0b_v166 (by decide)).trans (val2_main_while0b_v166 V0)
set_option maxRecDepth 8192 in
theorem val3_main_while0b_v173 (V0 : Valuation τ sig (Elt F)) : val3 V0 (no_index (Proc.devRef .tc main_while0b_v173)) = res_main_while0b_v173 V0 := by
  unfold val3
  simp only [trip_w2]
  after_results_entrywise [val2_main_while0b_v168, val2_main_v4_0, val2_main_v4_4, res_main_while0b_v170, res_main_while0b_v173, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call1_v0, main_while0b_call1_cst, main_while0b_call1_c, main_while0b_call1_v1_0, main_while0b_v174]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
theorem val4_main_v4_5 (V0 : Valuation τ sig (Elt F)) : val4 V0 (no_index (Proc.devRef .tc main_v4_5)) = V0 (Proc.devRef .tc main_v4_5) :=
  (val4_keep V0 main_v4_5 (by decide)).trans (val3_main_v4_5 V0)
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
theorem val4_main_while0b_v160 (V0 : Valuation τ sig (Elt F)) : val4 V0 (no_index (Proc.devRef .tc main_while0b_v160)) = addi (V0 (Proc.devRef .tc main_v4_2)) (constantI S_ 32 1#32) :=
  (val4_keep V0 main_while0b_v160 (by decide)).trans (val3_main_while0b_v160 V0)
theorem val4_main_while0b_v166 (V0 : Valuation τ sig (Elt F)) : val4 V0 (no_index (Proc.devRef .tc main_while0b_v166)) = Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5)) :=
  (val4_keep V0 main_while0b_v166 (by decide)).trans (val3_main_while0b_v166 V0)
theorem val4_main_while0b_v173 (V0 : Valuation τ sig (Elt F)) : val4 V0 (no_index (Proc.devRef .tc main_while0b_v173)) = res_main_while0b_v173 V0 :=
  (val4_keep V0 main_while0b_v173 (by decide)).trans (val3_main_while0b_v173 V0)
set_option maxRecDepth 8192 in
theorem val4_main_while0b_v174 (V0 : Valuation τ sig (Elt F)) : val4 V0 (no_index (Proc.devRef .tc main_while0b_v174)) = (fun j => (Host.argReduce reducer_argmax_f32_i32 (res_main_while0b_v173 V0) (res_main_while0b_call1_v0 V0) (res_main_while0b_call1_cst V0) (res_main_while0b_call1_c V0) reducesTo_S8x4096_S8_d1 h_S_ j).2) := by
  unfold val4
  simp only [trip_w3]
  after_results_entrywise [val3_main_while0b_v173, res_main_while0b_call1_v0, res_main_while0b_call1_cst, res_main_while0b_call1_c, cast_eq]

set_option maxRecDepth 8192 in
/-- The body's stretches before `while0Ops0_4`, from any contents: their windows in order. -/
theorem trip_windows (V0 : Valuation τ sig (Elt F)) : after while0Ops0_3 (after while0Ops0_2 (after while0Ops0_1 (after while0Ops0 (V0)))) = val4 V0 := by
  simp only [while0Ops0_cut, while0Ops0_1_cut, while0Ops0_2_cut, while0Ops0_3_cut, after_append]
  rfl

set_option maxRecDepth 8192 in
set_option maxHeartbeats 2000000 in
/-- `main_v4_0` after one trip's body, from any contents. -/
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl
set_option maxRecDepth 8192 in
set_option maxHeartbeats 2000000 in
/-- `main_v4_1` after one trip's body, from any contents. -/
theorem trip_main_v4_1 (V0 : Valuation τ sig (Elt F)) : afterL bodyI V0 (no_index (Proc.devRef .tc main_v4_1)) = id (addi (V0 (Proc.devRef .tc main_v4_1)) (constantI S_ 32 1#32)) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl
set_option maxRecDepth 8192 in
set_option maxHeartbeats 2000000 in
/-- `main_v4_2` after one trip's body, from any contents. -/
theorem trip_main_v4_2 (V0 : Valuation τ sig (Elt F)) : afterL bodyI V0 (no_index (Proc.devRef .tc main_v4_2)) = id (addi (V0 (Proc.devRef .tc main_v4_2)) (constantI S_ 32 1#32)) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl
set_option maxRecDepth 8192 in
set_option maxHeartbeats 2000000 in
/-- `main_v4_3` after one trip's body, from any contents. -/
theorem trip_main_v4_3 (V0 : Valuation τ sig (Elt F)) : afterL bodyI V0 (no_index (Proc.devRef .tc main_v4_3)) = id (Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5))) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl
set_option maxRecDepth 8192 in
set_option maxHeartbeats 2000000 in
/-- `main_v4_4` after one trip's body, from any contents. -/
theorem trip_main_v4_4 (V0 : Valuation τ sig (Elt F)) : afterL bodyI V0 (no_index (Proc.devRef .tc main_v4_4)) = id (res_main_while0b_v173 V0) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl
set_option maxRecDepth 8192 in
set_option maxHeartbeats 2000000 in
/-- `main_v4_5` after one trip's body, from any contents. -/
theorem trip_main_v4_5 (V0 : Valuation τ sig (Elt F)) : afterL bodyI V0 (no_index (Proc.devRef .tc main_v4_5)) = id ((fun j => (Host.argReduce reducer_argmax_f32_i32 (res_main_while0b_v173 V0) (res_main_while0b_call1_v0 V0) (res_main_while0b_call1_cst V0) (res_main_while0b_call1_c V0) reducesTo_S8x4096_S8_d1 h_S_ j).2)) := by
  simp only [bodyI, afterL_cons, afterL_nil, trip_windows]
  after_results
  all_goals (try simp only [val4_main_while0b_v160, val4_main_while0b_v166, val4_main_while0b_v173, val4_main_while0b_v174, val4_main_v4_0, val4_main_v4_1, val4_main_v4_2, val4_main_v4_3, val4_main_v4_4, val4_main_v4_5]) <;> rfl

/-- The loop's carried buffers. -/
abbrev carriedRefs : List (Ref sig .tc) := [main_v4_0, main_v4_1, main_v4_2, main_v4_3, main_v4_4, main_v4_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v167_congr {V0 V0' : Valuation τ sig (Elt F)} (h : Agree V0 V0') : res_main_while0b_v167 V0 = res_main_while0b_v167 V0' := by
  unfold res_main_while0b_v167
  rw [h main_v4_5 (by decide)]
set_option maxRecDepth 8192 in
theorem res_main_while0b_call0_v4_congr {V0 V0' : Valuation τ sig (Elt F)} (h : Agree V0 V0') : res_main_while0b_call0_v4 V0 = res_main_while0b_call0_v4 V0' := by
  unfold res_main_while0b_call0_v4
  rw [res_main_while0b_v167_congr h]
set_option maxRecDepth 8192 in
theorem res_main_while0b_v170_congr {V0 V0' : Valuation τ sig (Elt F)} (h : Agree V0 V0') : res_main_while0b_v170 V0 = res_main_while0b_v170 V0' := by
  unfold res_main_while0b_v170
  rw [res_main_while0b_call0_v4_congr h, h main_v4_0 (by decide)]
set_option maxRecDepth 8192 in
theorem res_main_while0b_v173_congr {V0 V0' : Valuation τ sig (Elt F)} (h : Agree V0 V0') : res_main_while0b_v173 V0 = res_main_while0b_v173 V0' := by
  unfold res_main_while0b_v173
  rw [res_main_while0b_v170_congr h, h main_v4_4 (by decide)]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl

set_option maxRecDepth 8192 in
/-- `main_v4_1` after one trip, of the contents before it. -/
def step_main_v4_1 (V0 : Valuation τ sig (Elt F)) : (Proc.devRef .tc main_v4_1 : DevRef τ sig).ty.Contents (Elt F) :=
  id (addi (V0 (Proc.devRef .tc main_v4_1)) (constantI S_ 32 1#32))
set_option maxRecDepth 8192 in
theorem step_main_v4_1_congr {V0 V0' : Valuation τ sig (Elt F)} (h : Agree V0 V0') : step_main_v4_1 V0 = step_main_v4_1 V0' := by
  unfold step_main_v4_1
  rw [h main_v4_1 (by decide)]
set_option maxRecDepth 8192 in
/-- `main_v4_2` after one trip, of the contents before it. -/
def step_main_v4_2 (V0 : Valuation τ sig (Elt F)) : (Proc.devRef .tc main_v4_2 : DevRef τ sig).ty.Contents (Elt F) :=
  id (addi (V0 (Proc.devRef .tc main_v4_2)) (constantI S_ 32 1#32))
set_option maxRecDepth 8192 in
theorem step_main_v4_2_congr {V0 V0' : Valuation τ sig (Elt F)} (h : Agree V0 V0') : step_main_v4_2 V0 = step_main_v4_2 V0' := by
  unfold step_main_v4_2
  rw [h main_v4_2 (by decide)]
set_option maxRecDepth 8192 in
/-- `main_v4_3` after one trip, of the contents before it. -/
def step_main_v4_3 (V0 : Valuation τ sig (Elt F)) : (Proc.devRef .tc main_v4_3 : DevRef τ sig).ty.Contents (Elt F) :=
  id (Host.scatter scatter_S8x512_S1_S8_0_1_1_0 (fun _ b => b) (V0 (Proc.devRef .tc main_v4_3)) (broadcastInDim S1 ![] bcast_S_S1 (id (select (cmpi .slt (V0 (Proc.devRef .tc main_v4_2)) (constantI S_ 32 0#32)) (addi (V0 (Proc.devRef .tc main_v4_2)) (constantI S_ 32 512#32)) (V0 (Proc.devRef .tc main_v4_2))))) (V0 (Proc.devRef .tc main_v4_5)))
set_option maxRecDepth 8192 in
theorem step_main_v4_3_congr {V0 V0' : Valuation τ sig (Elt F)} (h : Agree V0 V0') : step_main_v4_3 V0 = step_main_v4_3 V0' := by
  unfold step_main_v4_3
  rw [h main_v4_3 (by decide), h main_v4_2 (by decide), h main_v4_5 (by decide)]
set_option maxRecDepth 8192 in
/-- `main_v4_4` after one trip, of the contents before it. -/
def step_main_v4_4 (V0 : Valuation τ sig (Elt F)) : (Proc.devRef .tc main_v4_4 : DevRef τ sig).ty.Contents (Elt F) :=
  id (res_main_while0b_v173 V0)
set_option maxRecDepth 8192 in
theorem step_main_v4_4_congr {V0 V0' : Valuation τ sig (Elt F)} (h : Agree V0 V0') : step_main_v4_4 V0 = step_main_v4_4 V0' := by
  unfold step_main_v4_4
  rw [res_main_while0b_v173_congr h]
set_option maxRecDepth 8192 in
/-- `main_v4_5` after one trip, of the contents before it. -/
def step_main_v4_5 (V0 : Valuation τ sig (Elt F)) : (Proc.devRef .tc main_v4_5 : DevRef τ sig).ty.Contents (Elt F) :=
  id ((fun j => (Host.argReduce reducer_argmax_f32_i32 (res_main_while0b_v173 V0) (res_main_while0b_call1_v0 V0) (res_main_while0b_call1_cst V0) (res_main_while0b_call1_c V0) reducesTo_S8x4096_S8_d1 h_S_ j).2))
set_option maxRecDepth 8192 in
theorem step_main_v4_5_congr {V0 V0' : Valuation τ sig (Elt F)} (h : Agree V0 V0') : step_main_v4_5 V0 = step_main_v4_5 V0' := by
  unfold step_main_v4_5
  rw [res_main_while0b_v173_congr h, res_main_while0b_call1_v0_congr h, res_main_while0b_call1_cst_congr h, res_main_while0b_call1_c_congr h]

/-- ONE TRIP on the carried buffers: the buffers the body writes step, everything else is as it was. -/
def STEP (V0 : Valuation τ sig (Elt F)) : Valuation τ sig (Elt F) :=
  Function.update (Function.update (Function.update (Function.update (Function.update (V0) (Proc.devRef .tc main_v4_1) (step_main_v4_1 V0)) (Proc.devRef .tc main_v4_2) (step_main_v4_2 V0)) (Proc.devRef .tc main_v4_3) (step_main_v4_3 V0)) (Proc.devRef .tc main_v4_4) (step_main_v4_4 V0)) (Proc.devRef .tc main_v4_5) (step_main_v4_5 V0)

theorem STEP_main_v4_0 (V0 : Valuation τ sig (Elt F)) : STEP V0 (Proc.devRef .tc main_v4_0) = V0 (Proc.devRef .tc main_v4_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_1 (V0 : Valuation τ sig (Elt F)) : STEP V0 (Proc.devRef .tc main_v4_1) = step_main_v4_1 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v4_2 (V0 : Valuation τ sig (Elt F)) : STEP V0 (Proc.devRef .tc main_v4_2) = step_main_v4_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v4_3 (V0 : Valuation τ sig (Elt F)) : STEP V0 (Proc.devRef .tc main_v4_3) = step_main_v4_3 V0 := by
  unfold STEP; rw [Function.update_of_ne (devRef_ne_of_ne (by decide))]; rw [Function.update_of_ne (devRef_ne_of_ne (by decide))]; rw [Function.update_self]
theorem STEP_main_v4_4 (V0 : Valuation τ sig (Elt F)) : STEP V0 (Proc.devRef .tc main_v4_4) = step_main_v4_4 V0 := by
  unfold STEP; rw [Function.update_of_ne (devRef_ne_of_ne (by decide))]; rw [Function.update_self]
theorem STEP_main_v4_5 (V0 : Valuation τ sig (Elt F)) : STEP V0 (Proc.devRef .tc main_v4_5) = step_main_v4_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v4_0 (after condOps X)).trans ((hc main_v4_0 (by decide)).trans (STEP_main_v4_0 X).symm)
  · exact (trip_main_v4_1 (after condOps X)).trans ((step_main_v4_1_congr hc).trans (STEP_main_v4_1 X).symm)
  · exact (trip_main_v4_2 (after condOps X)).trans ((step_main_v4_2_congr hc).trans (STEP_main_v4_2 X).symm)
  · exact (trip_main_v4_3 (after condOps X)).trans ((step_main_v4_3_congr hc).trans (STEP_main_v4_3 X).symm)
  · exact (trip_main_v4_4 (after condOps X)).trans ((step_main_v4_4_congr hc).trans (STEP_main_v4_4 X).symm)
  · exact (trip_main_v4_5 (after condOps X)).trans ((step_main_v4_5_congr hc).trans (STEP_main_v4_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v4_0, STEP_main_v4_0]; exact h main_v4_0 (by decide)
  · rw [STEP_main_v4_1, STEP_main_v4_1]; exact step_main_v4_1_congr h
  · rw [STEP_main_v4_2, STEP_main_v4_2]; exact step_main_v4_2_congr h
  · rw [STEP_main_v4_3, STEP_main_v4_3]; exact step_main_v4_3_congr h
  · rw [STEP_main_v4_4, STEP_main_v4_4]; exact step_main_v4_4_congr h
  · rw [STEP_main_v4_5, STEP_main_v4_5]; exact step_main_v4_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.RefOps.lean ====
/- The reference's array operations read at an index: the gathers, the place of the largest value, sums over the samples. -/
module

public import proofs.«01_k».proof.Proof.Gen.ReferenceIdeal
public import proofs.«01_k».proof.Proof.Spec
public import proofs.«01_k».proof.Proof.Words
public import proofs.«01_k».proof.Proof.Lits
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Ops

open Cert.ReferenceIdeal Cert.ReferenceIdeal.Gen Cert.Spec
open Idealize.ShloMosaic Idealize.ShloMosaic.TcCoe Idealize.ShloMosaic.Tactic
open Idealize.SL.Sem

/-! ## The place of the largest value -/

/-- One comparison of the search for the largest value, on pairs of a value and its place. -/
theorem pick_pair (v w : EReal) (i j : ℕ) (hi : i < 2 ^ 31) (hj : j < 2 ^ 31) :
    reducer_argmax_f32_i32 (F := Ideal) (v, BitVec.ofNat 32 i) (w, BitVec.ofNat 32 j)
      = if w < v ∨ (v = w ∧ i < j) then (v, BitVec.ofNat 32 i) else (w, BitVec.ofNat 32 j) := by
  have hs : IntOp.cmpi .slt (BitVec.ofNat 32 i) (BitVec.ofNat 32 j) = if i < j then 1#1 else 0#1 := by
    by_cases h : i < j <;> simp [IntOp.cmpi, Words.slt_ofNat hi hj, h]
  unfold reducer_argmax_f32_i32
  simp only [hs]
  rcases lt_trichotomy v w with h | h | h
  · simp [Idealize.ShloMosaic.Ideal.cmpf_def, Ideal.cmp, Scalar.select, IntOp.ori, IntOp.andi, h, h.ne, h.ne', not_lt.2 h.le]
  · subst h
    by_cases hij : i < j <;> simp [Idealize.ShloMosaic.Ideal.cmpf_def, Ideal.cmp, Scalar.select, IntOp.ori, IntOp.andi, hij]
  · simp [Idealize.ShloMosaic.Ideal.cmpf_def, Ideal.cmp, Scalar.select, IntOp.ori, IntOp.andi, h, h.ne, h.ne']

/-- The search over a list: a value that none listed exceeds, and the first listed place that has it. -/
theorem pick_list {ι : Type} {N : ℕ} [NeZero N] (hN : N < 2 ^ 31) (g : Fin N → EReal) (X : ι → EReal) (Y : ι → BitVec 32) (q : ι → Fin N)
    (L : List ι) (hX : ∀ n ∈ L, X n = g (q n)) (hY : ∀ n ∈ L, Y n = BitVec.ofNat 32 (q n).val) :
    ∃ (v : EReal) (i : Fin N), L.foldl (fun r n => reducer_argmax_f32_i32 (F := Ideal) r (X n, Y n)) ((⊥ : EReal), 0#32) = (v, BitVec.ofNat 32 i.val)
      ∧ ((v = ⊥ ∧ i = 0) ∨ v = g i) ∧ ∀ n ∈ L, g (q n) ≤ v ∧ (g (q n) = v → i ≤ q n) := by
  induction L using List.reverseRecOn with
  | nil => exact ⟨⊥, 0, by simp, Or.inl ⟨rfl, rfl⟩, by simp⟩
  | append_singleton L a ih =>
    obtain ⟨v, i, h1, h2, h3⟩ := ih (fun n h => hX n (by simp [h])) (fun n h => hY n (by simp [h]))
    rw [List.foldl_append, h1]
    simp only [List.foldl_cons, List.foldl_nil, hX a (by simp), hY a (by simp)]
    rw [pick_pair v (g (q a)) i.val (q a).val (by omega) (by omega)]
    split_ifs with hc
    · refine ⟨v, i, rfl, h2, fun n hn => ?_⟩
      rcases List.mem_append.1 hn with hn | hn
      · exact h3 n hn
      · rw [List.mem_singleton.1 hn]
        rcases hc with hc | ⟨hc, hij⟩
        · exact ⟨hc.le, fun e => absurd hc (by simp [e])⟩
        · exact ⟨hc.ge, fun _ => Fin.le_def.2 hij.le⟩
    · push Not at hc
      refine ⟨g (q a), q a, rfl, Or.inr rfl, fun n hn => ?_⟩
      rcases List.mem_append.1 hn with hn | hn
      · refine ⟨(h3 n hn).1.trans hc.1, fun e => ?_⟩
        have hv : v = g (q a) := le_antisymm hc.1 (e ▸ (h3 n hn).1)
        exact (Fin.le_def.2 (hc.2 hv)).trans ((h3 n hn).2 (e.trans hv.symm))
      · rw [List.mem_singleton.1 hn]
        exact ⟨le_rfl, fun _ => le_rfl⟩

/-- The place of the largest of 4096 values in each row: the first place that has it. -/
theorem argmax_row (x : Vec Ideal S8x4096 .f32) (b : Fin 8) :
    (Host.argReduce (F := Ideal) (φ := .f32) reducer_argmax_f32_i32 x (iotaInDim S8x4096 32 1) (constant S_ .f32 0xFF800000#32) (constantI S_ 32 0#32)
        reducesTo_S8x4096_S8_d1 h_S_ (ix1 b)).2 = BitVec.ofNat 32 (firstMax fun n : Fin 4096 => (x (ix2 b n) : EReal)).val := by
  rw [Idealize.ShloMosaic.Ideal.argReduce_eq_reduce2]
  unfold Host.reduce2
  have key : ∀ n ∈ (List.finRange S8x4096.numel).filter (fun n => reducesTo_S8x4096_S8_d1.drop (S8x4096.rowMajor.symm n) = ix1 b),
      S8x4096.rowMajor.symm n = ix2 b ((S8x4096.rowMajor.symm n) 1) := by
    intro n hn
    obtain ⟨k, hk⟩ := (Shape.ReducesTo.fiber_r2_a1 reducesTo_S8x4096_S8_d1 (ix1 b) _).1 (of_decide_eq_true (List.mem_filter.1 hn).2)
    rw [← hk]; rfl
  obtain ⟨v, i, h1, h2, h3⟩ := pick_list (by norm_num) (fun n : Fin 4096 => (x (ix2 b n) : EReal)) (fun n => x (S8x4096.rowMajor.symm n))
    (fun n => iotaInDim S8x4096 32 1 (S8x4096.rowMajor.symm n)) (fun n => (S8x4096.rowMajor.symm n) 1)
    ((List.finRange S8x4096.numel).filter (fun n => reducesTo_S8x4096_S8_d1.drop (S8x4096.rowMajor.symm n) = ix1 b))
    (fun n hn => congrArg x (key n hn)) (fun n _ => rfl)
  have hi : (constant (F := Ideal) S_ .f32 0xFF800000#32 (Shape.Idx.first h_S_), constantI S_ 32 0#32 (Shape.Idx.first h_S_)) = ((⊥ : EReal), 0#32) :=
    Prod.ext Lits.ninf rfl
  rw [hi, h1]
  refine congrArg (fun z : Fin 4096 => BitVec.ofNat 32 z.val) (eq_firstMax ?_)
  have all : ∀ m : Fin 4096, (x (ix2 b m) : EReal) ≤ v ∧ ((x (ix2 b m) : EReal) = v → i ≤ m) := by
    intro m
    have := h3 (S8x4096.rowMajor (ix2 b m)) (List.mem_filter.2 ⟨List.mem_finRange _, decide_eq_true (by
      rw [Equiv.symm_apply_apply]
      exact (Shape.ReducesTo.fiber_r2_a1 reducesTo_S8x4096_S8_d1 (ix1 b) _).2 ⟨m, rfl⟩)⟩)
    rw [Equiv.symm_apply_apply] at this
    exact this
  have hv : v = x (ix2 b i) := by
    rcases h2 with ⟨e, -⟩ | e
    · exact e.trans (le_bot_iff.1 (e ▸ (all i).1)).symm
    · exact e
  refine ⟨fun m => (all m).1.trans_eq hv, fun m hm => lt_of_le_of_ne ((all m).1.trans_eq hv) fun e => ?_⟩
  exact absurd ((all m).2 (e.trans hv.symm)) (not_le.2 hm)

/-! ## Sums over the samples of all clouds -/

/-- Sums over the axes of the clouds, the samples and the groups: sums over the clouds and the 16384 samples of each. -/
theorem sum_samples {C : ℕ} (h : (⟨4, ![8, C, 32, 512]⟩ : Shape).ReducesTo [0, 2, 3] ⟨1, ![C]⟩) (o : Fin C) (v : (⟨4, ![8, C, 32, 512]⟩ : Shape).Idx → EReal) :
    ∑ i ∈ Finset.univ.filter (fun i => h.drop i = ix1 o), v i
      = ∑ p : Fin 8 × Fin 16384, v (ix4 p.1 o ⟨p.2.val / 512, by omega⟩ ⟨p.2.val % 512, Nat.mod_lt _ (by norm_num)⟩) := by
  refine Finset.sum_filter_eq_sum_of_fiber _ (fun p : Fin 8 × Fin 16384 =>
    (ix4 p.1 o ⟨p.2.val / 512, by omega⟩ ⟨p.2.val % 512, Nat.mod_lt _ (by norm_num)⟩ : (⟨4, ![8, C, 32, 512]⟩ : Shape).Idx)) ?_ ?_ v
  · intro p q e
    have e0 : p.1 = q.1 := congrFun e 0
    have e2 : p.2.val / 512 = q.2.val / 512 := congrArg Fin.val (congrFun e 2)
    have e3 : p.2.val % 512 = q.2.val % 512 := congrArg Fin.val (congrFun e 3)
    refine Prod.ext e0 (Fin.ext ?_)
    have h1 := Nat.div_add_mod p.2.val 512
    have h2 := Nat.div_add_mod q.2.val 512
    omega
  · intro i
    constructor
    · intro e
      have b2 : (i 2).val < 32 := (i 2).isLt
      have b3 : (i 3).val < 512 := (i 3).isLt
      refine ⟨(i 0, ⟨(i 2).val * 512 + (i 3).val, by omega⟩), ?_⟩
      funext a; apply Fin.ext
      match a with
      | ⟨0, _⟩ => rfl
      | ⟨1, _⟩ => exact (congrArg Fin.val (congrFun e ⟨0, Nat.one_pos⟩)).symm
      | ⟨2, _⟩ => show ((i 2).val * 512 + (i 3).val) / 512 = (i 2).val; omega
      | ⟨3, _⟩ => show ((i 2).val * 512 + (i 3).val) % 512 = (i 3).val; omega
    · rintro ⟨p, rfl⟩
      funext a; apply Fin.ext
      match a with
      | ⟨0, _⟩ => rfl

/-! ## Rows taken from a cloud by their numbers -/

theorem word_place {n : ℕ} (h : n < 4096) (k : ℕ) (hk : k = 1) : min (BitVec.ofNat 32 n).toInt.toNat (4096 - k) = n := by
  subst hk
  have e : (BitVec.ofNat 32 n).toInt = n := by rw [BitVec.toInt_ofNat']; simp [Int.bmod]; omega
  rw [e]; omega

/-- One row of each cloud. -/
theorem take_one {α : Type} (x : S8x4096x3.Idx → α) (idx : IVec S8x1x1 32) (b : Fin 8) (s : Fin 1) (c : Fin 3) (n : Fin 4096)
    (h : idx (ix3 b s 0) = BitVec.ofNat 32 n.val) :
    Host.gather gather_S8x4096x3_S8x1x1_S8x1x3_2_1_0_0_1_2_113 x idx (ix3 b s c) = x (ix3 b n c) := by
  refine congrArg x (funext fun a => Fin.ext ?_)
  match a with
  | ⟨0, _⟩ => exact Nat.zero_add b.val
  | ⟨1, _⟩ =>
    refine Eq.trans ?_ (word_place n.isLt 1 rfl)
    refine (congrArg (fun z : BitVec 32 => min z.toInt.toNat (4096 - 1)) (?_ : idx _ = _))
    refine (congrArg idx ?_).trans h
    funext a; apply Fin.ext
    match a with
    | ⟨0, _⟩ => rfl
    | ⟨1, _⟩ => rfl
    | ⟨2, _⟩ => rfl
  | ⟨2, _⟩ => exact Nat.zero_add c.val

/-- 512 rows of each cloud. -/
theorem take_picks {α : Type} (x : S8x4096x3.Idx → α) (idx : IVec S8x512x1 32) (b : Fin 8) (s : Fin 512) (c : Fin 3) (n : Fin 4096)
    (h : idx (ix3 b s 0) = BitVec.ofNat 32 n.val) :
    Host.gather gather_S8x4096x3_S8x512x1_S8x512x3_2_1_0_0_1_2_113 x idx (ix3 b s c) = x (ix3 b n c) := by
  refine congrArg x (funext fun a => Fin.ext ?_)
  match a with
  | ⟨0, _⟩ => exact Nat.zero_add b.val
  | ⟨1, _⟩ =>
    refine Eq.trans ?_ (word_place n.isLt 1 rfl)
    refine (congrArg (fun z : BitVec 32 => min z.toInt.toNat (4096 - 1)) (?_ : idx _ = _))
    refine (congrArg idx ?_).trans h
    funext a; apply Fin.ext
    match a with
    | ⟨0, _⟩ => rfl
    | ⟨1, _⟩ => rfl
    | ⟨2, _⟩ => rfl
  | ⟨2, _⟩ => exact Nat.zero_add c.val

/-- 32 rows of each cloud per pick. -/
theorem take_group {α : Type} (x : S8x4096x3.Idx → α) (idx : IVec S8x512x32x1 32) (b : Fin 8) (s : Fin 512) (k : Fin 32) (c : Fin 3) (n : Fin 4096)
    (h : idx (ix4 b s k 0) = BitVec.ofNat 32 n.val) :
    Host.gather gather_S8x4096x3_S8x512x32x1_S8x512x32x3_3_1_0_0_1_3_113 x idx (ix4 b s k c) = x (ix3 b n c) := by
  refine congrArg x (funext fun a => Fin.ext ?_)
  match a with
  | ⟨0, _⟩ => exact Nat.zero_add b.val
  | ⟨1, _⟩ =>
    refine Eq.trans ?_ (word_place n.isLt 1 rfl)
    refine (congrArg (fun z : BitVec 32 => min z.toInt.toNat (4096 - 1)) (?_ : idx _ = _))
    refine (congrArg idx ?_).trans h
    funext a; apply Fin.ext
    match a with
    | ⟨0, _⟩ => rfl
    | ⟨1, _⟩ => rfl
    | ⟨2, _⟩ => rfl
    | ⟨3, _⟩ => rfl
  | ⟨2, _⟩ => exact Nat.zero_add c.val

/-- The same for the ten features. -/
theorem take_group_features {α : Type} (x : S8x4096x10.Idx → α) (idx : IVec S8x512x32x1 32) (b : Fin 8) (s : Fin 512) (k : Fin 32) (c : Fin 10) (n : Fin 4096)
    (h : idx (ix4 b s k 0) = BitVec.ofNat 32 n.val) :
    Host.gather gather_S8x4096x10_S8x512x32x1_S8x512x32x10_3_1_0_0_1_3_1110 x idx (ix4 b s k c) = x (ix3 b n c) := by
  refine congrArg x (funext fun a => Fin.ext ?_)
  match a with
  | ⟨0, _⟩ => exact Nat.zero_add b.val
  | ⟨1, _⟩ =>
    refine Eq.trans ?_ (word_place n.isLt 1 rfl)
    refine (congrArg (fun z : BitVec 32 => min z.toInt.toNat (4096 - 1)) (?_ : idx _ = _))
    refine (congrArg idx ?_).trans h
    funext a; apply Fin.ext
    match a with
    | ⟨0, _⟩ => rfl
    | ⟨1, _⟩ => rfl
    | ⟨2, _⟩ => rfl
    | ⟨3, _⟩ => rfl
  | ⟨2, _⟩ => exact Nat.zero_add c.val

end Cert.ReferenceIdeal.Ops

end
-- ==== Proof.RefLoop.lean ====
/- The reference's loop: after `k` trips it holds the state of the farthest-point search after `k` steps. -/
module

public import proofs.«01_k».proof.Proof.RefRun
public import proofs.«01_k».proof.Proof.RefOps
public import proofs.«01_k».proof.Proof.Chain
public import Idealize.ShloMosaic.Lib.Routing.OpsOne
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Loop

open Cert.ReferenceIdeal Cert.ReferenceIdeal.Gen Cert.ReferenceIdeal.Value Cert.ReferenceIdeal.Ops Cert.Spec
open Idealize.ShloMosaic Idealize.ShloMosaic.TcCoe Idealize.ShloMosaic.Tactic
open Idealize.SL.Sem Idealize.ShloMosaic.HostLoop Idealize.ShloMosaic.StableHlo

/-! ## A place written as a word -/

/-- The word of a small number is not negative, -/
theorem word_slt (n : ℕ) (h : n < 2 ^ 31) : IntOp.cmpi .slt (BitVec.ofNat 32 n) 0#32 = 0#1 := by
  have : (BitVec.ofNat 32 n).slt 0#32 = false := by simpa using Words.slt_ofNat h (show 0 < 2 ^ 31 by norm_num)
  show BitVec.ofBool ((BitVec.ofNat 32 n).slt 0#32) = 0#1
  rw [this]; rfl

/-- is at least 0, -/
theorem word_sge (n : ℕ) (h : n < 2 ^ 31) : IntOp.cmpi .sge (BitVec.ofNat 32 n) 0#32 = 1#1 := by
  rw [show IntOp.cmpi .sge (BitVec.ofNat 32 n) 0#32 = IntOp.cmpi .sle 0#32 (BitVec.ofNat 32 n) from rfl]
  have := Words.slt_ofNat h (show 0 < 2 ^ 31 by norm_num)
  simp [IntOp.cmpi, BitVec.sle_eq_not_slt, this]

/-- and is within the cloud. -/
theorem word_sle (n : ℕ) (h : n < 4096) : IntOp.cmpi .sle (BitVec.ofNat 32 n) 4095#32 = 1#1 := by
  have := Words.slt_ofNat (show 4095 < 2 ^ 31 by norm_num) (show n < 2 ^ 31 by omega)
  have h2 : ¬ 4095 < n := by omega
  simp [IntOp.cmpi, BitVec.sle_eq_not_slt, this, h2]

/-- Ones and-ed together are a one. -/
theorem all_one {ι : Type} (s : Finset ι) (g : ι → BitVec 1) (h : ∀ x ∈ s, g x = 1#1) : s.fold IntOp.andi 1#1 g = 1#1 := by
  classical
  rw [Finset.fold_congr h]
  clear h
  induction s using Finset.induction_on with
  | empty => rfl
  | insert a s ha ih => rw [Finset.fold_insert ha, ih]; rfl

/-! ## One trip -/

variable (A0 : S8x4096x3.Idx → EReal)

/-- The points of cloud `b`. -/
abbrev pts (b : Fin 8) : Fin 4096 → Fin 3 → EReal := fun n j => A0 (ix3 b n j)

variable (V : Valuation τ sig (Elt Ideal)) (h0 : (V (Proc.devRef .tc main_v4_0) : Vec Ideal S8x4096x3 .f32) = A0)
  (b : Fin 8) (i : Fin 4096) (h5 : (V (Proc.devRef .tc main_v4_5) : IVec S8 32) (ix1 b) = BitVec.ofNat 32 i.val)

include h5 in
/-- The place that a trip gathers from is the current point, -/
theorem place : (res_main_while0b_call0_v4 V : IVec S8x1x1 32) (ix3 b 0 0) = BitVec.ofNat 32 i.val := by
  unfold res_main_while0b_call0_v4 res_main_while0b_v167
  pointwise
  have e : (V (Proc.devRef .tc main_v4_5) : IVec S8 32) (ix1 b) = BitVec.ofNat 32 i.val := h5
  rw [e, word_slt _ (by omega)]
  rfl

include h0 h5 in
/-- the difference is taken to that point's coordinates, -/
theorem diff (n : Fin 4096) (j : Fin 3) : (res_main_while0b_v170 V : Vec Ideal S8x4096x3 .f32) (ix3 b n j) = A0 (ix3 b n j) - A0 (ix3 b i j) := by
  have hp := place V b i h5
  unfold res_main_while0b_v170
  rw [h0]
  pointwise
  rw [all_one _ _ fun x hx => ?_, take_one A0 _ b 0 j i hp]
  · rfl
  · obtain ⟨k, rfl⟩ := (Shape.ReducesTo.fiber_r3_a2 reducesTo_S8x1x1_S8x1_d2 (ix2 b 0) x).1 (Finset.mem_filter.1 hx).2
    have e : (res_main_while0b_call0_v4 V : IVec S8x1x1 32) (ix3 b 0 k) = BitVec.ofNat 32 i.val := by
      rw [Subsingleton.elim k 0]; exact hp
    exact (congrArg (fun w : BitVec 32 => IntOp.andi (IntOp.cmpi .sge w 0#32) (IntOp.cmpi .sle w 4095#32)) e).trans (by
      rw [word_sge _ (by omega), word_sle _ i.isLt]; rfl)

include h0 h5 in
/-- and the distances become the smaller of the old one and the one to that point. -/
theorem dist (d : Fin 4096 → EReal) (n : Fin 4096) (h4 : (V (Proc.devRef .tc main_v4_4) : Vec Ideal S8x4096 .f32) (ix2 b n) = d n) :
    (res_main_while0b_v173 V : Vec Ideal S8x4096 .f32) (ix2 b n) = min (d n) (∑ j, (A0 (ix3 b n j) - A0 (ix3 b i j)) * (A0 (ix3 b n j) - A0 (ix3 b i j))) := by
  have hd := diff A0 V h0 b i h5 n
  unfold res_main_while0b_v173
  pointwise
  refine congrArg₂ (fun x y : EReal => min x y) h4 (@Finset.sum_congr _ EReal _ _ _ _ _ rfl fun j _ => ?_)
  exact congrArg₂ (fun x y : EReal => x * y) (hd j) (hd j)

/-! ## All trips -/

variable (m : (l : Loc nD τ sig) → Buf (Elt Ideal) l) (c : Dev nD)

/-- The clouds' points, as launched. -/
abbrev cld : S8x4096x3.Idx → EReal := m ((c.tc : Thread nD τ).loc main_arg0)

/-- The state before trip `k`. -/
structure At (k : ℕ) : Prop where
  points : (atK m k c (Proc.devRef .tc main_v4_0) : Vec Ideal S8x4096x3 .f32) = cld m c
  count : (atK m k c (Proc.devRef .tc main_v4_2) : IVec S_ 32) = fun _ => BitVec.ofNat 32 k
  far : ∀ (b : Fin 8) (n : Fin 4096), (atK m k c (Proc.devRef .tc main_v4_4) : Vec Ideal S8x4096 .f32) (ix2 b n) = (fpsAt (pts (cld m c) b) k).1 n
  cur : ∀ b : Fin 8, (atK m k c (Proc.devRef .tc main_v4_5) : IVec S8 32) (ix1 b) = BitVec.ofNat 32 (fps (pts (cld m c) b) k).val
  done : ∀ (b : Fin 8) (p : Fin 512), p.val < k → (atK m k c (Proc.devRef .tc main_v4_3) : IVec S8x512 32) (ix2 b p) = BitVec.ofNat 32 (fps (pts (cld m c) b) p.val).val

/-- The search's first state is held before the loop, -/
theorem at_zero : At m c 0 := by
  constructor
  · show entryContents preI m c (Proc.devRef .tc main_v4_0) = _
    simp only [entryContents, afterL_cons, afterL_nil]
    after_reads_simp
    rfl
  · show entryContents preI m c (Proc.devRef .tc main_v4_2) = _
    simp only [entryContents, afterL_cons, afterL_nil]
    after_reads_simp
    rfl
  · intro b n
    show entryContents preI m c (Proc.devRef .tc main_v4_4) (ix2 b n) = _
    simp only [entryContents, afterL_cons, afterL_nil]
    after_reads_simp
    rfl
  · intro b
    show entryContents preI m c (Proc.devRef .tc main_v4_5) (ix1 b) = _
    simp only [entryContents, afterL_cons, afterL_nil]
    after_reads_simp
    rfl
  · intro b p h
    exact absurd h (Nat.not_lt_zero _)

/-- The loop's condition writes none of what the loop carries. -/
theorem cond_keeps (V : Valuation τ sig (Elt Ideal)) (r : Ref sig .tc) (h : r ∈ carriedRefs) :
    after condOps V (Proc.devRef .tc r) = V (Proc.devRef .tc r) := by
  refine after_of_writes_sub condOps V condOps_writes ?_
  fin_cases h <;> decide

/-- each trip takes one step, -/
theorem at_succ (k : ℕ) (hk : k < 512) (H : At m c k) : At m c (k + 1) := by
  obtain ⟨V, hV⟩ : ∃ V, V = after condOps (atK m k c) := ⟨_, rfl⟩
  have hs : atK m (k + 1) c = afterL bodyI V := by rw [hV]; rfl
  have r0 : (V (Proc.devRef .tc main_v4_0) : Vec Ideal S8x4096x3 .f32) = cld m c := by rw [hV]; exact (cond_keeps _ _ (by decide)).trans H.points
  have r2 : (V (Proc.devRef .tc main_v4_2) : IVec S_ 32) = fun _ => BitVec.ofNat 32 k := by rw [hV]; exact (cond_keeps _ _ (by decide)).trans H.count
  have r3 : V (Proc.devRef .tc main_v4_3) = atK m k c (Proc.devRef .tc main_v4_3) := by rw [hV]; exact cond_keeps _ _ (by decide)
  have r4 : V (Proc.devRef .tc main_v4_4) = atK m k c (Proc.devRef .tc main_v4_4) := by rw [hV]; exact cond_keeps _ _ (by decide)
  have r5 : V (Proc.devRef .tc main_v4_5) = atK m k c (Proc.devRef .tc main_v4_5) := by rw [hV]; exact cond_keeps _ _ (by decide)
  have d4 : ∀ (b : Fin 8) (n : Fin 4096), (res_main_while0b_v173 V : Vec Ideal S8x4096 .f32) (ix2 b n) = (fpsAt (pts (cld m c) b) (k + 1)).1 n := by
    intro b n
    rw [fpsAt_succ]
    exact dist (cld m c) V r0 b (fps (pts (cld m c) b) k) (by rw [r5]; exact H.cur b) (fpsAt (pts (cld m c) b) k).1 n (by rw [r4]; exact H.far b n)
  constructor
  · rw [hs, trip_main_v4_0]; exact r0
  · rw [hs, trip_main_v4_2, r2]
    funext j
    show BitVec.ofNat 32 k + 1#32 = BitVec.ofNat 32 (k + 1)
    rw [← BitVec.ofNat_add]
  · intro b n
    rw [hs, trip_main_v4_4]; exact d4 b n
  · intro b
    rw [hs, trip_main_v4_5]
    refine (argmax_row (res_main_while0b_v173 V) b).trans ?_
    refine congrArg (fun z : Fin 4096 => BitVec.ofNat 32 z.val) ?_
    have e : (fun n : Fin 4096 => ((res_main_while0b_v173 V : Vec Ideal S8x4096 .f32) (ix2 b n) : EReal)) = (fpsAt (pts (cld m c) b) (k + 1)).1 := funext (d4 b)
    rw [e]
    unfold fps
    rw [fpsAt_succ]
    rfl
  · intro b p hp
    rw [hs, trip_main_v4_3, r2, r3]
    refine (Routing.scatter_col_signed (A := 8) (N := 512) scatter_S8x512_S1_S8_0_1_1_0 rfl rfl _ _ _ ⟨k, hk⟩ ?_ b p).trans ?_
    · show (Scalar.select (IntOp.cmpi .slt (BitVec.ofNat 32 k) 0#32) (IntOp.addi (BitVec.ofNat 32 k) 512#32) (BitVec.ofNat 32 k)).toInt = (k : ℤ)
      rw [word_slt k (by omega)]
      show (BitVec.ofNat 32 k).toInt = (k : ℤ)
      rw [BitVec.toInt_ofNat']; simp [Int.bmod]; omega
    · split_ifs with e
      · rw [r5, show p.val = k from congrArg Fin.val e]; exact H.cur b
      · exact H.done b p (by have : p.val ≠ k := fun h => e (Fin.ext h); omega)

/-- so `k` trips take `k` steps. -/
theorem at_all : ∀ k ≤ 512, At m c k
  | 0, _ => at_zero m c
  | k + 1, h => at_succ m c k (by omega) (at_all k (by omega))

end Cert.ReferenceIdeal.Loop

end
-- ==== Proof.RefKeep.lean ====
/- What the reference's stretches after the loop leave alone, and its arguments, which nothing writes. -/
module

public import proofs.«01_k».proof.Proof.RefRun
public import proofs.«01_k».proof.Proof.RefLoop
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Keep

open Cert.ReferenceIdeal Cert.ReferenceIdeal.Gen Cert.ReferenceIdeal.Value
open Idealize.ShloMosaic Idealize.ShloMosaic.TcCoe Idealize.ShloMosaic.Tactic
open Idealize.SL.Sem Idealize.ShloMosaic.StableHlo

/-! ## The buffers each stretch writes -/

/-- The buffers that each stretch writes. -/
abbrev hostOps0_1_W : List (Ref sig .tc) := [main_v5]
abbrev hostOps0_2_W : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v6]
abbrev hostOps0_3_W : List (Ref sig .tc) := [main_v7]
abbrev hostOps0_4_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v8]
abbrev hostOps0_5_W : List (Ref sig .tc) := [main_v9, main_cst_3, main_v10, main_v11, main_v12, main_cst_4, main_v13, main_v14, main_v15, main_v16, main_v17, main_v18, main_cst_5, main_v19, main_v20, main_v21, main_v22, main_v23, main_v24, main_cst_6, main_v25, main_v26, main_c_7]
abbrev hostOps0_6_W : List (Ref sig .tc) := [main_call4_v0, main_call4_v1, main_v27]
abbrev hostOps0_7_W : List (Ref sig .tc) := [main_v28]
abbrev hostOps0_8_W : List (Ref sig .tc) := [main_v29, main_v30, main_v31, main_c_8, main_v32, main_v33]
abbrev hostOps0_9_W : List (Ref sig .tc) := [main_v34]
abbrev hostOps0_10_W : List (Ref sig .tc) := [main_c_9, main_v35, main_v36, main_c_10, main_v37, main_v38, main_v39, main_v40, main_v41, main_c_11, main_v42, main_v43, main_c_12, main_v44, main_v45, main_v46, main_v47, main_v48, main_v49, main_v50, main_v51, main_c_13, main_v52, main_v53, main_c_14, main_v54, main_v55, main_v56, main_v57, main_v58, main_v59, main_v60, main_v61, main_v62, main_v63, main_v64, main_v65, main_v66, main_cst_15, main_v67, main_v68, main_cst_16, main_v69, main_v70, main_c_17]
abbrev hostOps0_11_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v71]
abbrev hostOps0_12_W : List (Ref sig .tc) := [main_v72, main_v73, main_cst_18, main_v74, main_v75, main_v76, main_v77, main_v78, main_v79, main_v80, main_v81, main_v82, main_v83, main_v84, main_v85, main_v86, main_v87, main_v88, main_v89, main_v90, main_cst_19, main_v91, main_v92, main_cst_20, main_v93, main_v94, main_c_21]
abbrev hostOps0_13_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v95]
abbrev hostOps0_14_W : List (Ref sig .tc) := [main_v96, main_v97, main_cst_22, main_v98, main_v99, main_v100, main_v101, main_v102, main_v103, main_v104, main_v105, main_v106, main_v107, main_v108, main_v109]
abbrev hostOps0_15_W : List (Ref sig .tc) := [main_call9_cst, main_call9_v0, main_v110]
abbrev hostOps0_16_W : List (Ref sig .tc) := [main_v111, main_v112, main_v113, main_v114, main_v115, main_cst_23, main_v116, main_v117, main_cst_24, main_v118, main_v119, main_c_25]
abbrev hostOps0_17_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v120]
abbrev hostOps0_18_W : List (Ref sig .tc) := [main_v121, main_v122, main_cst_26, main_v123, main_v124, main_v125, main_v126, main_v127, main_v128, main_v129, main_v130, main_v131, main_v132, main_v133]
abbrev hostOps0_19_W : List (Ref sig .tc) := [main_call11_cst, main_call11_v0, main_v134]
abbrev hostOps0_20_W : List (Ref sig .tc) := [main_v135, main_v136, main_v137, main_v138, main_v139, main_cst_27, main_v140, main_v141, main_cst_28, main_v142, main_v143, main_c_29]
abbrev hostOps0_21_W : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_v12, main_call12_cst_3, main_call12_v13, main_call12_cst_4, main_call12_call0_v0, main_call12_call0_v1, main_v144]
abbrev hostOps0_22_W : List (Ref sig .tc) := [main_v145, main_v146, main_cst_30, main_v147, main_v148, main_v149, main_v150, main_v151, main_v152, main_v153, main_v154, main_v155, main_v156, main_v157]
abbrev hostOps0_23_W : List (Ref sig .tc) := [main_call13_cst, main_call13_v0, main_v158]
abbrev hostOps0_24_W : List (Ref sig .tc) := [main_cst_31, main_v159]

/-- A stretch writes only the buffers listed. -/
abbrev Within (ops : List (HloOp τ sig (Elt Ideal))) (W : List (Ref sig .tc)) : Prop :=
  ops.Forall fun op => op.writes ⊆ (W.map (Proc.devRef (τ := τ) .tc)).toFinset

/-- The buffers the stretches after the loop write, stretch by stretch. -/
abbrev postW : List (List (Ref sig .tc)) := [hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W]

/-- Each stretch after the loop writes no others. -/
theorem post_within : List.Forall₂ Within (postI (F := Ideal)) postW := by
  repeat' first | exact List.Forall₂.nil | refine List.Forall₂.cons (forall_writes_sub_of_map rfl) ?_

/-- The buffers the loop's trip writes, -/
abbrev bodyW : List (List (Ref sig .tc)) := [while0Ops0_W, while0Ops0_1_W, while0Ops0_2_W, while0Ops0_3_W, while0Ops0_4_W]

/-- and no others. -/
theorem body_within : List.Forall₂ Within (bodyI (F := Ideal)) bodyW :=
  .cons while0Ops0_writes (.cons while0Ops0_1_writes (.cons while0Ops0_2_writes (.cons while0Ops0_3_writes (.cons while0Ops0_4_writes .nil))))

/-- A buffer that no stretch writes keeps its contents. -/
theorem afterL_keeps {items : List (List (HloOp τ sig (Elt Ideal)))} {Ws : List (List (Ref sig .tc))} (h : List.Forall₂ Within items Ws)
    (r : Ref sig .tc) (hr : r ∉ Ws.flatten) (V : Valuation τ sig (Elt Ideal)) : afterL items V (Proc.devRef .tc r) = V (Proc.devRef .tc r) := by
  induction h generalizing V with
  | nil => rfl
  | cons h₁ _ ih =>
    rw [List.flatten_cons, List.mem_append, not_or] at hr
    rw [afterL_cons, ih hr.2]
    exact after_of_writes_sub _ V h₁ hr.1

theorem afterL_append (l₁ l₂ : List (List (HloOp τ sig (Elt Ideal)))) (V : Valuation τ sig (Elt Ideal)) :
    afterL (l₁ ++ l₂) V = afterL l₂ (afterL l₁ V) := by
  induction l₁ generalizing V with
  | nil => rfl
  | cons a l ih => rw [List.cons_append, afterL_cons, afterL_cons, ih]

variable (m : (l : Loc nD τ sig) → Buf (Elt Ideal) l) (c : Dev nD)

/-- The contents after the loop and the first `j` stretches behind it. -/
def P (j : ℕ) : Valuation τ sig (Elt Ideal) := afterL (postI.take j) (after condOps (atK m 512 c))

/-- A buffer that no stretch between the `a`-th and the `b`-th writes is after `b` stretches what it was after `a`. -/
theorem keep (a b : ℕ) (hab : a ≤ b) (r : Ref sig .tc) (hr : r ∉ ((postW.take b).drop a).flatten) :
    P m c b (Proc.devRef .tc r) = P m c a (Proc.devRef .tc r) := by
  unfold P
  have e : (postI (F := Ideal)).take b = postI.take a ++ (postI.take b).drop a := by
    have h := (List.take_append_drop a ((postI (F := Ideal)).take b)).symm
    rwa [List.take_take, min_eq_left hab] at h
  rw [e, afterL_append]
  exact afterL_keeps (List.forall₂_drop a (List.forall₂_take b post_within)) r hr _

/-- A buffer that nothing before or in the loop writes is as launched behind it. -/
theorem loop_keeps (r : Ref sig .tc) (h0 : r ∉ hostOps0_W) (h1 : r ∉ condOps_W) (h2 : r ∉ bodyW.flatten) :
    P m c 0 (Proc.devRef .tc r) = m ((c.tc : Thread nD τ).loc r) := by
  have hk : ∀ k, atK m k c (Proc.devRef .tc r) = m ((c.tc : Thread nD τ).loc r) := by
    intro k
    induction k with
    | zero => exact after_of_writes_sub hostOps0 _ hostOps0_writes h0
    | succ k ih =>
      rw [show atK m (k + 1) c = afterL bodyI (after condOps (atK m k c)) from rfl, afterL_keeps body_within r h2,
        after_of_writes_sub condOps _ condOps_writes h1]
      exact ih
  show after condOps (atK m 512 c) (Proc.devRef .tc r) = _
  rw [after_of_writes_sub condOps _ condOps_writes h1]
  exact hk 512

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- No stretch writes an argument. -/
theorem args_free : ∀ r ∈ argRefs, r ∉ hostOps0_W ∧ r ∉ condOps_W ∧ r ∉ bodyW.flatten ∧ r ∉ postW.flatten := by decide +kernel

/-- An argument is as launched after any number of the stretches. -/
theorem arg_keeps (j : ℕ) (r : Ref sig .tc) (h : r ∈ argRefs) : P m c j (Proc.devRef .tc r) = m ((c.tc : Thread nD τ).loc r) := by
  obtain ⟨h0, h1, h2, h3⟩ := args_free r h
  rw [keep m c 0 j (Nat.zero_le _) r fun hm => h3 ?_]
  · exact loop_keeps m c r h0 h1 h2
  · obtain ⟨W, hW, hr⟩ := List.mem_flatten.1 hm
    exact List.mem_flatten.2 ⟨W, List.mem_of_mem_take (List.mem_of_mem_drop hW), hr⟩

/-- The run's last contents are those after all 24 stretches. -/
theorem final_eq : finalContents condOps preI bodyI postI 512 m c = P m c 24 := rfl

end Cert.ReferenceIdeal.Keep

end
-- ==== Proof.RefLayers.lean ====
/- The reference's layers: what its stretches after the gathers leave, from the contents before them. -/
module

public import proofs.«01_k».proof.Proof.RefRun
public import proofs.«01_k».proof.Proof.RefOps
public import proofs.«01_k».proof.Proof.Chain
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Layers

open Cert.ReferenceIdeal Cert.ReferenceIdeal.Gen Cert.ReferenceIdeal.Value Cert.ReferenceIdeal.Ops Cert.Spec Cert.Chain Cert.Fold
open Idealize.ShloMosaic Idealize.ShloMosaic.TcCoe Idealize.ShloMosaic.Tactic
open Idealize.SL.Sem Idealize.ShloMosaic.StableHlo

/-- Where the arrays keep channel `o` of sample `p`. -/
abbrev cell {C : ℕ} (p : Args.S) (o : Fin C) : (⟨4, ![8, C, 32, 512]⟩ : Shape).Idx :=
  ix4 p.1 o ⟨p.2.val / 512, by omega⟩ ⟨p.2.val % 512, Nat.mod_lt _ (by norm_num)⟩

/-- A sum over the axes of the clouds, the samples and the groups is the sum over all samples. -/
theorem add_samples {C : ℕ} (h : (⟨4, ![8, C, 32, 512]⟩ : Shape).ReducesTo [0, 2, 3] ⟨1, ![C]⟩) (o : Fin C) (v : (⟨4, ![8, C, 32, 512]⟩ : Shape).Idx → EReal) :
    Ideal.hostReduceAdd h v 0 (ix1 o) = ∑ p : Args.S, v (cell p o) := by
  show (0 : EReal) + ∑ i ∈ Finset.univ.filter (fun i => h.drop i = ix1 o), v i = _
  rw [zero_add, sum_samples]

attribute [local pointwise] add_samples

/-- The divisor of the variance, the number of samples less a correction of 0. -/
theorem var_pick (c : BitVec 32) (hc : c = 0#32) (a s : EReal) :
    (if 0 < Ideal.ofBits .f32 0x48000000#32 - FloatOps.sitofp (F := Ideal) .f32 c then
      Ideal.div s (Ideal.ofBits .f32 0x48000000#32 - FloatOps.sitofp (F := Ideal) .f32 c) else a) = Ideal.div s NN := by
  subst hc
  have h0 : (FloatOps.sitofp (F := Ideal) .f32 0#32 : EReal) = 0 := by
    show (((0#32 : BitVec 32).toInt : ℝ) : EReal) = 0
    simp
  rw [h0, show Ideal.ofBits .f32 0x48000000#32 = ((131072 : ℝ) : EReal) from Lits.count, show NN = ((131072 : ℝ) : EReal) from Lits.count, sub_zero, if_pos]
  exact_mod_cast (by norm_num : (0 : ℝ) < 131072)

/-- A linear map, its products written in the other order. -/
theorem lin_eq {K : Type} [Fintype K] (x w v u : K → EReal) (b b' : EReal) (hx : ∀ k, x k = v k) (hw : ∀ k, w k = u k) (hb : b = b') :
    ∑ k, x k * w k + b = lin u b' v := by
  rw [hb]
  exact congrArg (· + b') (Finset.sum_congr rfl fun k _ => by rw [hx, hw, mul_comm])

variable (X : Valuation τ sig (Elt Ideal))

/-- The squared distance of a sample from the mean, each read from the array. -/
theorem square_of (z : EReal) (f y : Args.S → EReal) (h : ∀ q, f q = y q) (p : Args.S) :
    (f p - Ideal.div (∑ q, f q) z) * (f p - Ideal.div (∑ q, f q) z) = (y p - mean z y) * (y p - mean z y) := by
  rw [show f = y from funext h]; rfl

/-- The normalisation, each of its parts read from the arrays. -/
theorem norm_eq {y : Args.S → EReal} {p : Args.S} {g e : EReal} (a m v b c : EReal) (ha : a = y p) (hm : m = mean NN y)
    (hv : v = mean NN fun q => (y q - mean NN y) * (y q - mean NN y)) (hb : b = g) (hc : c = e) :
    Ideal.div (a - m) (Ideal.sqrt (v + Ideal.ofBits .f32 0x3727C5AC#32)) * b + c = norm NN EPS y g e p := by
  subst ha hm hv hb hc; rfl

/-- The tenth stretch's gathers, -/
abbrev gathers {F : FTy → Type} [FloatOps F] : List (HloOp τ sig (Elt F)) :=
  [ StableHlo.nullary main_c_9 (constantI S_ 32 0#32),
    StableHlo.unary main_c_9 main_v35 (broadcastInDim S8x512x32 ![] bcast_S_S8x512x32 : (⟨S_, .i32⟩ : BufTy).Contents (Elt F) → (⟨S8x512x32, .i32⟩ : BufTy).Contents (Elt F)),
    StableHlo.binary main_v34 main_v35 main_v36 (cmpi .slt : (⟨S8x512x32, .i32⟩ : BufTy).Contents (Elt F) → (⟨S8x512x32, .i32⟩ : BufTy).Contents (Elt F) → (⟨S8x512x32, .i1⟩ : BufTy).Contents (Elt F)),
    StableHlo.nullary main_c_10 (constantI S_ 32 4096#32),
    StableHlo.unary main_c_10 main_v37 (broadcastInDim S8x512x32 ![] bcast_S_S8x512x32 : (⟨S_, .i32⟩ : BufTy).Contents (Elt F) → (⟨S8x512x32, .i32⟩ : BufTy).Contents (Elt F)),
    StableHlo.binary main_v34 main_v37 main_v38 (addi : (⟨S8x512x32, .i32⟩ : BufTy).Contents (Elt F) → (⟨S8x512x32, .i32⟩ : BufTy).Contents (Elt F) → (⟨S8x512x32, .i32⟩ : BufTy).Contents (Elt F)),
    StableHlo.ternary main_v36 main_v38 main_v34 main_v39 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_v39 main_v40 (broadcastInDim S8x512x32x1 ![0, 1, 2] bcast_S8x512x32_S8x512x32x1_0_1_2 : (⟨S8x512x32, .i32⟩ : BufTy).Contents (Elt F) → (⟨S8x512x32x1, .i32⟩ : BufTy).Contents (Elt F)),
    StableHlo.binary main_arg1 main_v40 main_v41 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F)),
    StableHlo.nullary main_c_11 (constantI S_ 32 0#32),
    StableHlo.unary main_c_11 main_v42 (broadcastInDim S8x512x32 ![] bcast_S_S8x512x32 : (⟨S_, .i32⟩ : BufTy).Contents (Elt F) → (⟨S8x512x32, .i32⟩ : BufTy).Contents (Elt F)),
    StableHlo.binary main_v34 main_v42 main_v43 (cmpi .slt : (⟨S8x512x32, .i32⟩ : BufTy).Contents (Elt F) → (⟨S8x512x32, .i32⟩ : BufTy).Contents (Elt F) → (⟨S8x512x32, .i1⟩ : BufTy).Contents (Elt F)),
    StableHlo.nullary main_c_12 (constantI S_ 32 4096#32),
    StableHlo.unary main_c_12 main_v44 (broadcastInDim S8x512x32 ![] bcast_S_S8x512x32 : (⟨S_, .i32⟩ : BufTy).Contents (Elt F) → (⟨S8x512x32, .i32⟩ : BufTy).Contents (Elt F)),
    StableHlo.binary main_v34 main_v44 main_v45 (addi : (⟨S8x512x32, .i32⟩ : BufTy).Contents (Elt F) → (⟨S8x512x32, .i32⟩ : BufTy).Contents (Elt F) → (⟨S8x512x32, .i32⟩ : BufTy).Contents (Elt F)),
    StableHlo.ternary main_v43 main_v45 main_v34 main_v46 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_v46 main_v47 (broadcastInDim S8x512x32x1 ![0, 1, 2] bcast_S8x512x32_S8x512x32x1_0_1_2 : (⟨S8x512x32, .i32⟩ : BufTy).Contents (Elt F) → (⟨S8x512x32x1, .i32⟩ : BufTy).Contents (Elt F)),
    StableHlo.binary main_arg0 main_v47 main_v48 ((fun x i => Host.gather gather_S8x4096x3_S8x512x32x1_S8x512x32x3_3_1_0_0_1_3_113 x i) : (⟨S8x4096x3, .f32⟩ : BufTy).Contents (Elt F) → (⟨S8x512x32x1, .i32⟩ : BufTy).Contents (Elt F) → (⟨S8x512x32x3, .f32⟩ : BufTy).Contents (Elt F)),
    StableHlo.unary main_v6 main_v49 (broadcastInDim S8x512x1x3 ![0, 1, 3] bcast_S8x512x3_S8x512x1x3_0_1_3 : (⟨S8x512x3, .f32⟩ : BufTy).Contents (Elt F) → (⟨S8x512x1x3, .f32⟩ : BufTy).Contents (Elt F)),
    StableHlo.unary main_v49 main_v50 (broadcastInDim S8x512x32x3 ![0, 1, 2, 3] bcast_S8x512x1x3_S8x512x32x3_0_1_2_3 : (⟨S8x512x1x3, .f32⟩ : BufTy).Contents (Elt F) → (⟨S8x512x32x3, .f32⟩ : BufTy).Contents (Elt F)),
    StableHlo.binary main_v48 main_v50 main_v51 (subf : (⟨S8x512x32x3, .f32⟩ : BufTy).Contents (Elt F) → (⟨S8x512x32x3, .f32⟩ : BufTy).Contents (Elt F) → (⟨S8x512x32x3, .f32⟩ : BufTy).Contents (Elt F)),
    StableHlo.nullary main_c_13 (constantI S_ 32 0#32),
    StableHlo.unary main_c_13 main_v52 (broadcastInDim S8x512x32 ![] bcast_S_S8x512x32 : (⟨S_, .i32⟩ : BufTy).Contents (Elt F) → (⟨S8x512x32, .i32⟩ : BufTy).Contents (Elt F)),
    StableHlo.binary main_v34 main_v52 main_v53 (cmpi .slt : (⟨S8x512x32, .i32⟩ : BufTy).Contents (Elt F) → (⟨S8x512x32, .i32⟩ : BufTy).Contents (Elt F) → (⟨S8x512x32, .i1⟩ : BufTy).Contents (Elt F)),
    StableHlo.nullary main_c_14 (constantI S_ 32 4096#32),
    StableHlo.unary main_c_14 main_v54 (broadcastInDim S8x512x32 ![] bcast_S_S8x512x32 : (⟨S_, .i32⟩ : BufTy).Contents (Elt F) → (⟨S8x512x32, .i32⟩ : BufTy).Contents (Elt F)),
    StableHlo.binary main_v34 main_v54 main_v55 (addi : (⟨S8x512x32, .i32⟩ : BufTy).Contents (Elt F) → (⟨S8x512x32, .i32⟩ : BufTy).Contents (Elt F) → (⟨S8x512x32, .i32⟩ : BufTy).Contents (Elt F)),
    StableHlo.ternary main_v53 main_v55 main_v34 main_v56 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_v56 main_v57 (broadcastInDim S8x512x32x1 ![0, 1, 2] bcast_S8x512x32_S8x512x32x1_0_1_2 : (⟨S8x512x32, .i32⟩ : BufTy).Contents (Elt F) → (⟨S8x512x32x1, .i32⟩ : BufTy).Contents (Elt F)),
    StableHlo.binary main_v0 main_v57 main_v58 ((fun x i => Host.gather gather_S8x4096x10_S8x512x32x1_S8x512x32x10_3_1_0_0_1_3_1110 x i) : (⟨S8x4096x10, .f32⟩ : BufTy).Contents (Elt F) → (⟨S8x512x32x1, .i32⟩ : BufTy).Contents (Elt F) → (⟨S8x512x32x10, .f32⟩ : BufTy).Contents (Elt F)) ]
/-- their stacking along the channels, -/
abbrev stack {F : FTy → Type} [FloatOps F] : List (HloOp τ sig (Elt F)) :=
  [ StableHlo.nary ![main_v51, main_v41, main_v58] main_v59 (fun u => (concatenate S8x512x32x16 3 [⟨S8x512x32x3, (u 0 : (⟨S8x512x32x3, .f32⟩ : BufTy).Contents (Elt F))⟩, ⟨S8x512x32x3, (u 1 : (⟨S8x512x32x3, .f32⟩ : BufTy).Contents (Elt F))⟩, ⟨S8x512x32x10, (u 2 : (⟨S8x512x32x10, .f32⟩ : BufTy).Contents (Elt F))⟩] concatenates_S8x512x32x3_S8x512x32x3_S8x512x32x10_S8x512x32x16_d3 : (⟨S8x512x32x16, .f32⟩ : BufTy).Contents (Elt F))),
    StableHlo.unary main_v59 main_v60 ((transpose S8x16x32x512 [0, 3, 2, 1] · transposes_S8x512x32x16_S8x16x32x512_0_3_2_1) : (⟨S8x512x32x16, .f32⟩ : BufTy).Contents (Elt F) → (⟨S8x16x32x512, .f32⟩ : BufTy).Contents (Elt F)) ]
/-- and its first linear map. -/
abbrev first {F : FTy → Type} [FloatOps F] : List (HloOp τ sig (Elt F)) :=
  [ StableHlo.unary main_v60 main_v61 ((extractStridedSlice S8x3x32x512 ![0, 0, 0, 0] · slices_S8x16x32x512_S8x3x32x512_0_0_0_0) : (⟨S8x16x32x512, .f32⟩ : BufTy).Contents (Elt F) → (⟨S8x3x32x512, .f32⟩ : BufTy).Contents (Elt F)),
    StableHlo.binary main_v61 main_arg3 main_v62 ((fun l r => Host.dotGeneral dot_S8x3x32x512_S64x3_S8x32x512x64_1_1_023_0_n_n none l r) : (⟨S8x3x32x512, .f32⟩ : BufTy).Contents (Elt F) → (⟨S64x3, .f32⟩ : BufTy).Contents (Elt F) → (⟨S8x32x512x64, .f32⟩ : BufTy).Contents (Elt F)),
    StableHlo.unary main_v62 main_v63 ((transpose S8x64x32x512 [0, 3, 1, 2] · transposes_S8x32x512x64_S8x64x32x512_0_3_1_2) : (⟨S8x32x512x64, .f32⟩ : BufTy).Contents (Elt F) → (⟨S8x64x32x512, .f32⟩ : BufTy).Contents (Elt F)),
    StableHlo.unary main_arg4 main_v64 (broadcastInDim S1x64x1x1 ![1] bcast_S64_S1x64x1x1_1 : (⟨S64, .f32⟩ : BufTy).Contents (Elt F) → (⟨S1x64x1x1, .f32⟩ : BufTy).Contents (Elt F)),
    StableHlo.unary main_v64 main_v65 (broadcastInDim S8x64x32x512 ![0, 1, 2, 3] bcast_S1x64x1x1_S8x64x32x512_0_1_2_3 : (⟨S1x64x1x1, .f32⟩ : BufTy).Contents (Elt F) → (⟨S8x64x32x512, .f32⟩ : BufTy).Contents (Elt F)),
    StableHlo.binary main_v63 main_v65 main_v66 (addf : (⟨S8x64x32x512, .f32⟩ : BufTy).Contents (Elt F) → (⟨S8x64x32x512, .f32⟩ : BufTy).Contents (Elt F) → (⟨S8x64x32x512, .f32⟩ : BufTy).Contents (Elt F)),
    StableHlo.nullary main_cst_15 (constant S_ .f32 0x00000000#32),
    StableHlo.binary main_v66 main_cst_15 main_v67 ((fun x v => Host.reduceAdd x v reducesTo_S8x64x32x512_S64_d0_2_3 h_S_) : (⟨S8x64x32x512, .f32⟩ : BufTy).Contents (Elt F) → (⟨S_, .f32⟩ : BufTy).Contents (Elt F) → (⟨S64, .f32⟩ : BufTy).Contents (Elt F)),
    StableHlo.unary main_v67 main_v68 (broadcastInDim S1x64x1x1 ![1] bcast_S64_S1x64x1x1_1 : (⟨S64, .f32⟩ : BufTy).Contents (Elt F) → (⟨S1x64x1x1, .f32⟩ : BufTy).Contents (Elt F)),
    StableHlo.nullary main_cst_16 (constant S_ .f32 0x48000000#32),
    StableHlo.unary main_cst_16 main_v69 (broadcastInDim S1x64x1x1 ![] bcast_S_S1x64x1x1 : (⟨S_, .f32⟩ : BufTy).Contents (Elt F) → (⟨S1x64x1x1, .f32⟩ : BufTy).Contents (Elt F)),
    StableHlo.binary main_v68 main_v69 main_v70 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_17 (constantI S_ 32 0#32) ]

/-- The tenth stretch gathers, stacks the channels and forms the first linear layer. -/
theorem tenth : (hostOps0_10 : List (HloOp τ sig (Elt Ideal))) = gathers ++ (stack ++ first) := rfl

set_option maxHeartbeats 4000000 in
/-- The linear layer of the three coordinates, -/
theorem lin_loc_cell (x : Args.S → Fin 3 → EReal) (hx : ∀ p i, (X (Proc.devRef .tc main_v60) : Vec Ideal S8x16x32x512 .f32) (cell p (⟨i.val, by omega⟩ : Fin 16)) = x p i)
    (w : Fin 64 → Fin 3 → EReal) (hw : ∀ o i, (X (Proc.devRef .tc main_arg3) : Vec Ideal S64x3 .f32) (ix2 o i) = w o i)
    (b : Fin 64 → EReal) (hb : ∀ o, (X (Proc.devRef .tc main_arg4) : Vec Ideal S64 .f32) (ix1 o) = b o) (p : Args.S) (o : Fin 64) :
    (after first X (Proc.devRef .tc main_v66) : Vec Ideal S8x64x32x512 .f32) (cell p o) = lin (w o) (b o) (x p) := by
  after_reads_at
  exact lin_eq _ _ _ _ _ _ (hx p) (hw o) (hb o)

set_option maxHeartbeats 4000000 in
/-- its mean, -/
theorem lin_loc_mean (x : Args.S → Fin 3 → EReal) (hx : ∀ p i, (X (Proc.devRef .tc main_v60) : Vec Ideal S8x16x32x512 .f32) (cell p (⟨i.val, by omega⟩ : Fin 16)) = x p i)
    (w : Fin 64 → Fin 3 → EReal) (hw : ∀ o i, (X (Proc.devRef .tc main_arg3) : Vec Ideal S64x3 .f32) (ix2 o i) = w o i)
    (b : Fin 64 → EReal) (hb : ∀ o, (X (Proc.devRef .tc main_arg4) : Vec Ideal S64 .f32) (ix1 o) = b o) (o : Fin 64) :
    (after first X (Proc.devRef .tc main_v70) : Vec Ideal S1x64x1x1 .f32) (ix4 0 o 0 0) = mean NN fun p => lin (w o) (b o) (x p) := by
  after_reads_at
  exact congrArg (fun z : EReal => Ideal.div z NN) (@Finset.sum_congr _ EReal _ _ _ _ _ rfl fun p _ => lin_eq _ _ _ _ _ _ (hx p) (hw o) (hb o))

set_option maxHeartbeats 4000000 in
/-- its variance, -/
theorem var_loc (Y : Fin 64 → Args.S → EReal) (hy : ∀ p o, (X (Proc.devRef .tc main_v66) : Vec Ideal S8x64x32x512 .f32) (cell p o) = Y o p)
    (hc : (X (Proc.devRef .tc main_c_17) : IVec S_ 32) ix0 = 0#32) (o : Fin 64) :
    (after hostOps0_11 X (Proc.devRef .tc main_v71) : Vec Ideal S1x64x1x1 .f32) (ix4 0 o 0 0)
      = mean NN fun p => (Y o p - mean NN (Y o)) * (Y o p - mean NN (Y o)) := by
  after_reads_at
  refine (var_pick _ hc _ _).trans (congrArg (fun z : EReal => Ideal.div z NN) (@Finset.sum_congr _ EReal _ _ _ _ _ rfl fun p _ => ?_))
  exact square_of _ _ (Y o) (fun q => hy q o) p

/-- and its normalised value. -/
theorem norm_loc (Y : Fin 64 → Args.S → EReal) (hy : ∀ p o, (X (Proc.devRef .tc main_v66) : Vec Ideal S8x64x32x512 .f32) (cell p o) = Y o p)
    (hm : ∀ o, (X (Proc.devRef .tc main_v70) : Vec Ideal S1x64x1x1 .f32) (ix4 0 o 0 0) = mean NN (Y o))
    (hv : ∀ o, (X (Proc.devRef .tc main_v71) : Vec Ideal S1x64x1x1 .f32) (ix4 0 o 0 0) = mean NN fun p => (Y o p - mean NN (Y o)) * (Y o p - mean NN (Y o)))
    (g e : Fin 64 → EReal) (hg : ∀ o, (X (Proc.devRef .tc main_arg5) : Vec Ideal S64 .f32) (ix1 o) = g o) (he : ∀ o, (X (Proc.devRef .tc main_arg6) : Vec Ideal S64 .f32) (ix1 o) = e o)
    (p : Args.S) (o : Fin 64) : (after hostOps0_12 X (Proc.devRef .tc main_v84) : Vec Ideal S8x64x32x512 .f32) (cell p o) = norm NN EPS (Y o) (g o) (e o) p := by
  after_reads_at
  exact norm_eq _ _ _ _ _ (hy p o) (hm o) (hv o) (hg o) (he o)

set_option maxHeartbeats 4000000 in
/-- The linear layer of the other 13 channels, -/
theorem lin_fea_cell (x : Args.S → Fin 13 → EReal) (hx : ∀ p i, (X (Proc.devRef .tc main_v60) : Vec Ideal S8x16x32x512 .f32) (cell p (⟨3 + i.val, by omega⟩ : Fin 16)) = x p i)
    (w : Fin 64 → Fin 13 → EReal) (hw : ∀ o i, (X (Proc.devRef .tc main_arg7) : Vec Ideal S64x13 .f32) (ix2 o i) = w o i)
    (b : Fin 64 → EReal) (hb : ∀ o, (X (Proc.devRef .tc main_arg8) : Vec Ideal S64 .f32) (ix1 o) = b o) (p : Args.S) (o : Fin 64) :
    (after hostOps0_12 X (Proc.devRef .tc main_v90) : Vec Ideal S8x64x32x512 .f32) (cell p o) = lin (w o) (b o) (x p) := by
  after_reads_at
  exact lin_eq _ _ _ _ _ _ (hx p) (hw o) (hb o)

set_option maxHeartbeats 4000000 in
/-- its mean, -/
theorem lin_fea_mean (x : Args.S → Fin 13 → EReal) (hx : ∀ p i, (X (Proc.devRef .tc main_v60) : Vec Ideal S8x16x32x512 .f32) (cell p (⟨3 + i.val, by omega⟩ : Fin 16)) = x p i)
    (w : Fin 64 → Fin 13 → EReal) (hw : ∀ o i, (X (Proc.devRef .tc main_arg7) : Vec Ideal S64x13 .f32) (ix2 o i) = w o i)
    (b : Fin 64 → EReal) (hb : ∀ o, (X (Proc.devRef .tc main_arg8) : Vec Ideal S64 .f32) (ix1 o) = b o) (o : Fin 64) :
    (after hostOps0_12 X (Proc.devRef .tc main_v94) : Vec Ideal S1x64x1x1 .f32) (ix4 0 o 0 0) = mean NN fun p => lin (w o) (b o) (x p) := by
  after_reads_at
  exact congrArg (fun z : EReal => Ideal.div z NN) (@Finset.sum_congr _ EReal _ _ _ _ _ rfl fun p _ => lin_eq _ _ _ _ _ _ (hx p) (hw o) (hb o))

set_option maxHeartbeats 4000000 in
/-- its variance, -/
theorem var_fea (Y : Fin 64 → Args.S → EReal) (hy : ∀ p o, (X (Proc.devRef .tc main_v90) : Vec Ideal S8x64x32x512 .f32) (cell p o) = Y o p)
    (hc : (X (Proc.devRef .tc main_c_21) : IVec S_ 32) ix0 = 0#32) (o : Fin 64) :
    (after hostOps0_13 X (Proc.devRef .tc main_v95) : Vec Ideal S1x64x1x1 .f32) (ix4 0 o 0 0)
      = mean NN fun p => (Y o p - mean NN (Y o)) * (Y o p - mean NN (Y o)) := by
  after_reads_at
  refine (var_pick _ hc _ _).trans (congrArg (fun z : EReal => Ideal.div z NN) (@Finset.sum_congr _ EReal _ _ _ _ _ rfl fun p _ => ?_))
  exact square_of _ _ (Y o) (fun q => hy q o) p

/-- and the sum of the two normalised values, -/
theorem join (Y Z : Fin 64 → Args.S → EReal) (hz : ∀ p o, (X (Proc.devRef .tc main_v84) : Vec Ideal S8x64x32x512 .f32) (cell p o) = Z o p)
    (hy : ∀ p o, (X (Proc.devRef .tc main_v90) : Vec Ideal S8x64x32x512 .f32) (cell p o) = Y o p)
    (hm : ∀ o, (X (Proc.devRef .tc main_v94) : Vec Ideal S1x64x1x1 .f32) (ix4 0 o 0 0) = mean NN (Y o))
    (hv : ∀ o, (X (Proc.devRef .tc main_v95) : Vec Ideal S1x64x1x1 .f32) (ix4 0 o 0 0) = mean NN fun p => (Y o p - mean NN (Y o)) * (Y o p - mean NN (Y o)))
    (g e : Fin 64 → EReal) (hg : ∀ o, (X (Proc.devRef .tc main_arg9) : Vec Ideal S64 .f32) (ix1 o) = g o) (he : ∀ o, (X (Proc.devRef .tc main_arg10) : Vec Ideal S64 .f32) (ix1 o) = e o)
    (p : Args.S) (o : Fin 64) : (after hostOps0_14 X (Proc.devRef .tc main_v109) : Vec Ideal S8x64x32x512 .f32) (cell p o) = Z o p + norm NN EPS (Y o) (g o) (e o) p := by
  after_reads_at
  exact congrArg₂ (fun a b : EReal => a + b) (hz p o) (norm_eq _ _ _ _ _ (hy p o) (hm o) (hv o) (hg o) (he o))

/-- cut off below at 0. -/
theorem cut0 (p : Args.S) (o : Fin 64) : (after hostOps0_15 X (Proc.devRef .tc main_v110) : Vec Ideal S8x64x32x512 .f32) (cell p o)
    = max (α := EReal) ((X (Proc.devRef .tc main_v109) : Vec Ideal S8x64x32x512 .f32) (cell p o)) 0 := by
  after_reads_at

set_option maxHeartbeats 4000000 in
/-- The second layer, -/
theorem lin1_cell (x : Args.S → Fin 64 → EReal) (hx : ∀ p i, (X (Proc.devRef .tc main_v110) : Vec Ideal S8x64x32x512 .f32) (cell p (i)) = x p i)
    (w : Fin 64 → Fin 64 → EReal) (hw : ∀ o i, (X (Proc.devRef .tc main_arg11) : Vec Ideal S64x64 .f32) (ix2 o i) = w o i)
    (b : Fin 64 → EReal) (hb : ∀ o, (X (Proc.devRef .tc main_arg12) : Vec Ideal S64 .f32) (ix1 o) = b o) (p : Args.S) (o : Fin 64) :
    (after hostOps0_16 X (Proc.devRef .tc main_v115) : Vec Ideal S8x64x32x512 .f32) (cell p o) = lin (w o) (b o) (x p) := by
  after_reads_at
  exact lin_eq _ _ _ _ _ _ (hx p) (hw o) (hb o)

set_option maxHeartbeats 4000000 in
/-- its mean, -/
theorem lin1_mean (x : Args.S → Fin 64 → EReal) (hx : ∀ p i, (X (Proc.devRef .tc main_v110) : Vec Ideal S8x64x32x512 .f32) (cell p (i)) = x p i)
    (w : Fin 64 → Fin 64 → EReal) (hw : ∀ o i, (X (Proc.devRef .tc main_arg11) : Vec Ideal S64x64 .f32) (ix2 o i) = w o i)
    (b : Fin 64 → EReal) (hb : ∀ o, (X (Proc.devRef .tc main_arg12) : Vec Ideal S64 .f32) (ix1 o) = b o) (o : Fin 64) :
    (after hostOps0_16 X (Proc.devRef .tc main_v119) : Vec Ideal S1x64x1x1 .f32) (ix4 0 o 0 0) = mean NN fun p => lin (w o) (b o) (x p) := by
  after_reads_at
  exact congrArg (fun z : EReal => Ideal.div z NN) (@Finset.sum_congr _ EReal _ _ _ _ _ rfl fun p _ => lin_eq _ _ _ _ _ _ (hx p) (hw o) (hb o))

set_option maxHeartbeats 4000000 in
/-- its variance, -/
theorem var1 (Y : Fin 64 → Args.S → EReal) (hy : ∀ p o, (X (Proc.devRef .tc main_v115) : Vec Ideal S8x64x32x512 .f32) (cell p o) = Y o p)
    (hc : (X (Proc.devRef .tc main_c_25) : IVec S_ 32) ix0 = 0#32) (o : Fin 64) :
    (after hostOps0_17 X (Proc.devRef .tc main_v120) : Vec Ideal S1x64x1x1 .f32) (ix4 0 o 0 0)
      = mean NN fun p => (Y o p - mean NN (Y o)) * (Y o p - mean NN (Y o)) := by
  after_reads_at
  refine (var_pick _ hc _ _).trans (congrArg (fun z : EReal => Ideal.div z NN) (@Finset.sum_congr _ EReal _ _ _ _ _ rfl fun p _ => ?_))
  exact square_of _ _ (Y o) (fun q => hy q o) p

/-- its normalised value, -/
theorem norm1 (Y : Fin 64 → Args.S → EReal) (hy : ∀ p o, (X (Proc.devRef .tc main_v115) : Vec Ideal S8x64x32x512 .f32) (cell p o) = Y o p)
    (hm : ∀ o, (X (Proc.devRef .tc main_v119) : Vec Ideal S1x64x1x1 .f32) (ix4 0 o 0 0) = mean NN (Y o))
    (hv : ∀ o, (X (Proc.devRef .tc main_v120) : Vec Ideal S1x64x1x1 .f32) (ix4 0 o 0 0) = mean NN fun p => (Y o p - mean NN (Y o)) * (Y o p - mean NN (Y o)))
    (g e : Fin 64 → EReal) (hg : ∀ o, (X (Proc.devRef .tc main_arg13) : Vec Ideal S64 .f32) (ix1 o) = g o) (he : ∀ o, (X (Proc.devRef .tc main_arg14) : Vec Ideal S64 .f32) (ix1 o) = e o)
    (p : Args.S) (o : Fin 64) : (after hostOps0_18 X (Proc.devRef .tc main_v133) : Vec Ideal S8x64x32x512 .f32) (cell p o) = norm NN EPS (Y o) (g o) (e o) p := by
  after_reads_at
  exact norm_eq _ _ _ _ _ (hy p o) (hm o) (hv o) (hg o) (he o)

/-- cut off below at 0. -/
theorem cut1 (p : Args.S) (o : Fin 64) : (after hostOps0_19 X (Proc.devRef .tc main_v134) : Vec Ideal S8x64x32x512 .f32) (cell p o)
    = max (α := EReal) ((X (Proc.devRef .tc main_v133) : Vec Ideal S8x64x32x512 .f32) (cell p o)) 0 := by
  after_reads_at

set_option maxHeartbeats 4000000 in
/-- The last layer, -/
theorem lin2_cell (x : Args.S → Fin 64 → EReal) (hx : ∀ p i, (X (Proc.devRef .tc main_v134) : Vec Ideal S8x64x32x512 .f32) (cell p (i)) = x p i)
    (w : Fin 128 → Fin 64 → EReal) (hw : ∀ o i, (X (Proc.devRef .tc main_arg15) : Vec Ideal S128x64 .f32) (ix2 o i) = w o i)
    (b : Fin 128 → EReal) (hb : ∀ o, (X (Proc.devRef .tc main_arg16) : Vec Ideal S128 .f32) (ix1 o) = b o) (p : Args.S) (o : Fin 128) :
    (after hostOps0_20 X (Proc.devRef .tc main_v139) : Vec Ideal S8x128x32x512 .f32) (cell p o) = lin (w o) (b o) (x p) := by
  after_reads_at
  exact lin_eq _ _ _ _ _ _ (hx p) (hw o) (hb o)

set_option maxHeartbeats 4000000 in
/-- its mean, -/
theorem lin2_mean (x : Args.S → Fin 64 → EReal) (hx : ∀ p i, (X (Proc.devRef .tc main_v134) : Vec Ideal S8x64x32x512 .f32) (cell p (i)) = x p i)
    (w : Fin 128 → Fin 64 → EReal) (hw : ∀ o i, (X (Proc.devRef .tc main_arg15) : Vec Ideal S128x64 .f32) (ix2 o i) = w o i)
    (b : Fin 128 → EReal) (hb : ∀ o, (X (Proc.devRef .tc main_arg16) : Vec Ideal S128 .f32) (ix1 o) = b o) (o : Fin 128) :
    (after hostOps0_20 X (Proc.devRef .tc main_v143) : Vec Ideal S1x128x1x1 .f32) (ix4 0 o 0 0) = mean NN fun p => lin (w o) (b o) (x p) := by
  after_reads_at
  exact congrArg (fun z : EReal => Ideal.div z NN) (@Finset.sum_congr _ EReal _ _ _ _ _ rfl fun p _ => lin_eq _ _ _ _ _ _ (hx p) (hw o) (hb o))

set_option maxHeartbeats 4000000 in
/-- its variance, -/
theorem var2 (Y : Fin 128 → Args.S → EReal) (hy : ∀ p o, (X (Proc.devRef .tc main_v139) : Vec Ideal S8x128x32x512 .f32) (cell p o) = Y o p)
    (hc : (X (Proc.devRef .tc main_c_29) : IVec S_ 32) ix0 = 0#32) (o : Fin 128) :
    (after hostOps0_21 X (Proc.devRef .tc main_v144) : Vec Ideal S1x128x1x1 .f32) (ix4 0 o 0 0)
      = mean NN fun p => (Y o p - mean NN (Y o)) * (Y o p - mean NN (Y o)) := by
  after_reads_at
  refine (var_pick _ hc _ _).trans (congrArg (fun z : EReal => Ideal.div z NN) (@Finset.sum_congr _ EReal _ _ _ _ _ rfl fun p _ => ?_))
  exact square_of _ _ (Y o) (fun q => hy q o) p

/-- its normalised value, -/
theorem norm2 (Y : Fin 128 → Args.S → EReal) (hy : ∀ p o, (X (Proc.devRef .tc main_v139) : Vec Ideal S8x128x32x512 .f32) (cell p o) = Y o p)
    (hm : ∀ o, (X (Proc.devRef .tc main_v143) : Vec Ideal S1x128x1x1 .f32) (ix4 0 o 0 0) = mean NN (Y o))
    (hv : ∀ o, (X (Proc.devRef .tc main_v144) : Vec Ideal S1x128x1x1 .f32) (ix4 0 o 0 0) = mean NN fun p => (Y o p - mean NN (Y o)) * (Y o p - mean NN (Y o)))
    (g e : Fin 128 → EReal) (hg : ∀ o, (X (Proc.devRef .tc main_arg17) : Vec Ideal S128 .f32) (ix1 o) = g o) (he : ∀ o, (X (Proc.devRef .tc main_arg18) : Vec Ideal S128 .f32) (ix1 o) = e o)
    (p : Args.S) (o : Fin 128) : (after hostOps0_22 X (Proc.devRef .tc main_v157) : Vec Ideal S8x128x32x512 .f32) (cell p o) = norm NN EPS (Y o) (g o) (e o) p := by
  after_reads_at
  exact norm_eq _ _ _ _ _ (hy p o) (hm o) (hv o) (hg o) (he o)

/-- cut off below at 0. -/
theorem cut2 (p : Args.S) (o : Fin 128) : (after hostOps0_23 X (Proc.devRef .tc main_v158) : Vec Ideal S8x128x32x512 .f32) (cell p o)
    = max (α := EReal) ((X (Proc.devRef .tc main_v157) : Vec Ideal S8x128x32x512 .f32) (cell p o)) 0 := by
  after_reads_at

/-- The count that each variance subtracts from the number of samples is 0. -/
theorem c17 : (after first X (Proc.devRef .tc main_c_17) : IVec S_ 32) ix0 = 0#32 := by after_reads_at
theorem c21 : (after hostOps0_12 X (Proc.devRef .tc main_c_21) : IVec S_ 32) ix0 = 0#32 := by after_reads_at
theorem c25 : (after hostOps0_16 X (Proc.devRef .tc main_c_25) : IVec S_ 32) ix0 = 0#32 := by after_reads_at
theorem c29 : (after hostOps0_20 X (Proc.devRef .tc main_c_29) : IVec S_ 32) ix0 = 0#32 := by after_reads_at

/-- The maximum over a query's samples. -/
theorem pool (b : Fin 8) (o : Fin 128) (m : Fin 512) : (after hostOps0_24 X (Proc.devRef .tc main_v159) : Vec Ideal S8x128x512 .f32) (ix3 b o m)
    = Finset.sup (α := EReal) Finset.univ fun k : Fin 32 => (X (Proc.devRef .tc main_v158) : Vec Ideal S8x128x32x512 .f32) (ix4 b o k m) := by
  after_reads_at
  rw [Lits.ninf]
  rfl

end Cert.ReferenceIdeal.Layers

end
-- ==== Proof.RefPicks.lean ====
/- The reference's queries and their neighbours: what its stretches from the loop to the gathered samples leave. -/
module

public import proofs.«01_k».proof.Proof.RefRun
public import proofs.«01_k».proof.Proof.RefOps
public import proofs.«01_k».proof.Proof.RefLoop
public import proofs.«01_k».proof.Proof.RefLayers
public import proofs.«01_k».proof.Proof.Chain
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Picks

open Cert.ReferenceIdeal Cert.ReferenceIdeal.Gen Cert.ReferenceIdeal.Value Cert.ReferenceIdeal.Ops Cert.Spec Cert.Chain Cert.ReferenceIdeal.Loop
open Idealize.ShloMosaic Idealize.ShloMosaic.TcCoe Idealize.ShloMosaic.Tactic
open Idealize.SL.Sem Idealize.ShloMosaic.StableHlo

/-! ## The sorted places -/

theorem left_le {N : ℕ} (P : Fin N → Prop) [DecidablePred P] (n : Fin N) : Pick.left P 0 n ≤ N := by
  rw [Pick.left_zero]; split_ifs
  · exact n.isLt.le
  · exact le_rfl

/-- Places along the last axis differ only in that axis. -/
theorem along_last {A B N : ℕ} (b : Fin A) (s : Fin B) (k k' : Fin N) :
    Shape.Idx.along (s := ⟨3, ![A, B, N]⟩) (ix3 b s k) ⟨2, Nat.lt_succ_self 2⟩ k' = ix3 b s k' := by
  funext a
  match a with
  | ⟨0, _⟩ => exact Function.update_of_ne (fun h => absurd (congrArg Fin.val h) (show (0 : ℕ) ≠ 2 by decide)) _ _
  | ⟨1, _⟩ => exact Function.update_of_ne (fun h => absurd (congrArg Fin.val h) (show (1 : ℕ) ≠ 2 by decide)) _ _
  | ⟨2, _⟩ => exact Function.update_self _ _ _

/-- A sort along the last of three axes, at an index. -/
theorem sort_last {A B N : ℕ} {α : Type} (cmp : α → α → BitVec 1) (x : (⟨3, ![A, B, N]⟩ : Shape).Idx → α) (b : Fin A) (s : Fin B) (k : Fin N) :
    Host.sort ⟨3, ![A, B, N]⟩ 2 cmp x (ix3 b s k) = x (ix3 b s (sortedFrom (fun i j => cmp (x (ix3 b s i)) (x (ix3 b s j)) == 1#1) k)) := by
  unfold Host.sort
  refine (dif_pos (show 2 < (⟨3, ![A, B, N]⟩ : Shape).rank from Nat.lt_succ_self 2)).trans ?_
  refine (congrArg x (along_last b s k _)).trans ?_
  refine congrArg (fun R : Fin N → Fin N → Bool => x (ix3 b s (sortedFrom R k))) (funext fun i => funext fun j => ?_)
  exact congrArg₂ (fun u v => cmp u v == 1#1) (congrArg x (along_last b s k i)) (congrArg x (along_last b s k j))

/-- Sorting the row of places, the number of all places for a place not taken, puts the `k`-th place taken at `k`. -/
theorem sorted_row {A B N : ℕ} (hN : N < 2 ^ 31) (x : IVec ⟨3, ![A, B, N]⟩ 32) (P : Fin N → Prop) [DecidablePred P] (b : Fin A) (s : Fin B)
    (h : ∀ n : Fin N, x (ix3 b s n) = BitVec.ofNat 32 (Pick.left P 0 n)) (k : Fin N) :
    Host.sort ⟨3, ![A, B, N]⟩ 2 comparator_i32_d2 x (ix3 b s k) = BitVec.ofNat 32 (Pick.kth P k.val) := by
  have hlt : ∀ n : Fin N, Pick.left P 0 n < 2 ^ 31 := fun n => lt_of_le_of_lt (left_le P n) hN
  rw [sort_last]
  generalize hR : (fun i j => comparator_i32_d2 (x (ix3 b s i)) (x (ix3 b s j)) == 1#1) = R
  have hRi : ∀ i j, R i j = decide (Pick.left P 0 i < Pick.left P 0 j) := by
    intro i j
    rw [← hR]
    show (BitVec.ofBool ((x (ix3 b s i)).slt (x (ix3 b s j))) == 1#1) = _
    rw [h, h, Words.slt_ofNat (hlt i) (hlt j)]
    by_cases e : Pick.left P 0 i < Pick.left P 0 j
    · rw [decide_eq_true e]; rfl
    · rw [decide_eq_false e]; rfl
  rw [h]
  refine congrArg _ (Pick.sorted_kth P (fun i => Pick.left P 0 (sortedFrom R i)) ?_
    (Equiv.ofBijective (sortedFrom R) ⟨sortedFrom_injective R, sortedFrom_surjective R⟩) (fun _ => rfl) k)
  intro i j hij
  rcases hij.eq_or_lt with rfl | hlt
  · exact le_rfl
  · have hn := sortedFrom_noInversion R R (fun a b => by rw [hRi, hRi, decide_eq_true_eq, decide_eq_false_iff_not]; exact fun h => not_lt.2 h.le) (fun _ _ e => e)
      (fun a b c => by rw [hRi, hRi, hRi, decide_eq_false_iff_not, decide_eq_false_iff_not, decide_eq_false_iff_not]; exact fun h h' => not_lt.2 ((not_lt.1 h').trans (not_lt.1 h))) i j hlt
    rw [hRi, decide_eq_false_iff_not] at hn
    exact not_lt.1 hn

/-- The sorted candidates of a query: the smallest left after `k` rounds stands at place `k`. -/
theorem sorted (x : IVec S8x512x4096 32) (P : Fin 4096 → Prop) [DecidablePred P] (b : Fin 8) (s : Fin 512)
    (h : ∀ n : Fin 4096, x (ix3 b s n) = BitVec.ofNat 32 (Pick.left P 0 n)) (k : Fin 4096) :
    Host.sort S8x512x4096 2 comparator_i32_d2 x (ix3 b s k) = BitVec.ofNat 32 (Pick.kth P k.val) :=
  sorted_row (by norm_num) x P b s h k

variable (X : Valuation τ sig (Elt Ideal))

/-! ## The queries -/

/-- A row taken at a place written as a word, which is neither negative nor past the end. -/
theorem taken (x : S8x4096x3.Idx → EReal) (i : IVec S8x512x1 32) (z : EReal) (b : Fin 8) (s : Fin 512) (n : Fin 4096) (h : i (ix3 b s 0) = BitVec.ofNat 32 n.val) (j : Fin 3) :
    Scalar.select (Finset.fold IntOp.andi 1#1 (fun x : Fin 1 =>
        IntOp.andi (IntOp.cmpi .sge (Scalar.select (IntOp.cmpi .slt (i (ix3 b s x)) 0#32) (IntOp.addi (i (ix3 b s x)) 4096#32) (i (ix3 b s x))) 0#32)
          (IntOp.cmpi .sle (Scalar.select (IntOp.cmpi .slt (i (ix3 b s x)) 0#32) (IntOp.addi (i (ix3 b s x)) 4096#32) (i (ix3 b s x))) 4095#32)) Finset.univ)
      (Host.gather gather_S8x4096x3_S8x512x1_S8x512x3_2_1_0_0_1_2_113 x
        (select (cmpi .slt i (broadcastInDim S8x512x1 ![] bcast_S_S8x512x1 (constantI S_ 32 0#32)))
          (addi i (broadcastInDim S8x512x1 ![] bcast_S_S8x512x1 (constantI S_ 32 4096#32))) i) (ix3 b s j)) z = x (ix3 b n j) := by
  rw [all_one _ _ fun k _ => ?_, take_picks x _ b s j n ?_]
  · rfl
  · show Scalar.select (IntOp.cmpi .slt (i (ix3 b s 0)) 0#32) (IntOp.addi (i (ix3 b s 0)) 4096#32) (i (ix3 b s 0)) = _
    rw [h, word_slt _ (by omega)]; rfl
  · rw [Subsingleton.elim k 0, h, word_slt _ (by omega)]
    show IntOp.andi (IntOp.cmpi .sge (BitVec.ofNat 32 n.val) 0#32) (IntOp.cmpi .sle (BitVec.ofNat 32 n.val) 4095#32) = 1#1
    rw [word_sge _ (by omega), word_sle _ n.isLt]; rfl

/-- The index of a sampled point, with a unit axis, -/
theorem place5 (b : Fin 8) (s : Fin 512) : (after hostOps0_1 X (Proc.devRef .tc main_v5) : IVec S8x512x1 32) (ix3 b s 0)
    = (X (Proc.devRef .tc main_v4_3) : IVec S8x512 32) (ix2 b s) := by after_reads_at

/-- and once more for the normals. -/
theorem place7 (b : Fin 8) (s : Fin 512) : (after hostOps0_3 X (Proc.devRef .tc main_v7) : IVec S8x512x1 32) (ix3 b s 0)
    = (X (Proc.devRef .tc main_v4_3) : IVec S8x512 32) (ix2 b s) := by after_reads_at

set_option maxHeartbeats 4000000 in
/-- The gather of coordinates reads the indexed point, -/
theorem take6 (b : Fin 8) (s : Fin 512) (n : Fin 4096) (h : (X (Proc.devRef .tc main_v5) : IVec S8x512x1 32) (ix3 b s 0) = BitVec.ofNat 32 n.val) (j : Fin 3) :
    (after hostOps0_2 X (Proc.devRef .tc main_v6) : Vec Ideal S8x512x3 .f32) (ix3 b s j) = (X (Proc.devRef .tc main_arg0) : Vec Ideal S8x4096x3 .f32) (ix3 b n j) := by
  after_reads_at
  exact taken _ _ _ b s n h j

set_option maxHeartbeats 4000000 in
/-- and the gather of normals its normal. -/
theorem take8 (b : Fin 8) (s : Fin 512) (n : Fin 4096) (h : (X (Proc.devRef .tc main_v7) : IVec S8x512x1 32) (ix3 b s 0) = BitVec.ofNat 32 n.val) (j : Fin 3) :
    (after hostOps0_4 X (Proc.devRef .tc main_v8) : Vec Ideal S8x512x3 .f32) (ix3 b s j) = (X (Proc.devRef .tc main_arg1) : Vec Ideal S8x4096x3 .f32) (ix3 b n j) := by
  after_reads_at
  exact taken _ _ _ b s n h j

/-! ## The neighbours -/

set_option maxHeartbeats 4000000 in
/-- A point is marked where its squared distance to the query exceeds the squared radius. -/
theorem far26 (b : Fin 8) (s : Fin 512) (n : Fin 4096) (q : Fin 3 → EReal) (hq : ∀ j, (X (Proc.devRef .tc main_v6) : Vec Ideal S8x512x3 .f32) (ix3 b s j) = q j) :
    (after hostOps0_5 X (Proc.devRef .tc main_v26) : IVec S8x512x4096 1) (ix3 b s n)
      = BitVec.ofBool (decide (RADSQ < dist2 q fun j => (X (Proc.devRef .tc main_arg0) : Vec Ideal S8x4096x3 .f32) (ix3 b n j))) := by
  after_reads_at
  rw [show q = _ from (funext hq).symm]
  rfl

/-- The candidates are the points' own numbers; -/
theorem iota24 (b : Fin 8) (s : Fin 512) (n : Fin 4096) : (after hostOps0_5 X (Proc.devRef .tc main_v24) : IVec S8x512x4096 32) (ix3 b s n) = BitVec.ofNat 32 n.val := by
  after_reads_at

/-- a marked one is replaced by 4096; -/
theorem none7 : (after hostOps0_5 X (Proc.devRef .tc main_c_7) : IVec S_ 32) ix0 = 4096#32 := by after_reads_at

/-- this is the choice between the two. -/
theorem places27 (b : Fin 8) (s : Fin 512) (n : Fin 4096) (w : BitVec 1) (u v : BitVec 32) (hw : (X (Proc.devRef .tc main_v26) : IVec S8x512x4096 1) (ix3 b s n) = w)
    (hu : (X (Proc.devRef .tc main_c_7) : IVec S_ 32) ix0 = u) (hv : (X (Proc.devRef .tc main_v24) : IVec S8x512x4096 32) (ix3 b s n) = v) :
    (after hostOps0_6 X (Proc.devRef .tc main_v27) : IVec S8x512x4096 32) (ix3 b s n) = Scalar.select w u v := by
  after_reads_at
  rw [← hw, ← hu, ← hv]; rfl

open Classical in
/-- The row of places of query `s`: each place whose point is near the query, and 4096 for the others. -/
theorem places (b : Fin 8) (s : Fin 512) (n : Fin 4096) (q : Fin 3 → EReal) (p : Fin 4096 → Fin 3 → EReal)
    (hq : ∀ j, (X (Proc.devRef .tc main_v6) : Vec Ideal S8x512x3 .f32) (ix3 b s j) = q j)
    (hp : ∀ n j, (X (Proc.devRef .tc main_arg0) : Vec Ideal S8x4096x3 .f32) (ix3 b n j) = p n j) :
    (after hostOps0_6 (after hostOps0_5 X) (Proc.devRef .tc main_v27) : IVec S8x512x4096 32) (ix3 b s n)
      = BitVec.ofNat 32 (Pick.left (fun n => near q (p n)) 0 n) := by
  rw [places27 _ b s n _ _ _ (far26 X b s n q hq) (none7 X) (iota24 X b s n), Pick.left_zero,
    show (fun j => (X (Proc.devRef .tc main_arg0) : Vec Ideal S8x4096x3 .f32) (ix3 b n j)) = p n from funext (hp n)]
  by_cases h : RADSQ < dist2 q (p n)
  · rw [if_neg (show ¬ near q (p n) from not_le.2 h), decide_eq_true h]; rfl
  · rw [if_pos (show near q (p n) from not_lt.1 h), decide_eq_false h]; rfl

/-- The candidates are then sorted, -/
theorem sort28 : (after hostOps0_7 X (Proc.devRef .tc main_v28) : IVec S8x512x4096 32)
    = Host.sort S8x512x4096 2 comparator_i32_d2 (X (Proc.devRef .tc main_v27) : IVec S8x512x4096 32) := by
  after_reads_at

/-- the first 32 taken, -/
theorem first29 (b : Fin 8) (s : Fin 512) (k : Fin 32) : (after hostOps0_8 X (Proc.devRef .tc main_v29) : IVec S8x512x32 32) (ix3 b s k)
    = (X (Proc.devRef .tc main_v28) : IVec S8x512x4096 32) (ix3 b s ⟨k.val, by omega⟩) := by
  after_reads_at

/-- the very first repeated, -/
theorem first31 (b : Fin 8) (s : Fin 512) (k : Fin 32) : (after hostOps0_8 X (Proc.devRef .tc main_v31) : IVec S8x512x32 32) (ix3 b s k)
    = (X (Proc.devRef .tc main_v28) : IVec S8x512x4096 32) (ix3 b s 0) := by
  after_reads_at

/-- those that stand for no point found, -/
theorem none33 (b : Fin 8) (s : Fin 512) (k : Fin 32) : (after hostOps0_8 X (Proc.devRef .tc main_v33) : IVec S8x512x32 1) (ix3 b s k)
    = IntOp.cmpi .eq ((X (Proc.devRef .tc main_v28) : IVec S8x512x4096 32) (ix3 b s ⟨k.val, by omega⟩)) 4096#32 := by
  after_reads_at

/-- and replaced by the first. -/
theorem pick34 (b : Fin 8) (s : Fin 512) (k : Fin 32) : (after hostOps0_9 X (Proc.devRef .tc main_v34) : IVec S8x512x32 32) (ix3 b s k)
    = Scalar.select ((X (Proc.devRef .tc main_v33) : IVec S8x512x32 1) (ix3 b s k)) ((X (Proc.devRef .tc main_v31) : IVec S8x512x32 32) (ix3 b s k))
      ((X (Proc.devRef .tc main_v29) : IVec S8x512x32 32) (ix3 b s k)) := by
  after_reads_at

/-- The neighbours kept for query `s`, from its row of places. -/
theorem kept (P : Fin 4096 → Prop) [DecidablePred P] (b : Fin 8) (s : Fin 512) (k : Fin 32)
    (h : ∀ n : Fin 4096, (X (Proc.devRef .tc main_v27) : IVec S8x512x4096 32) (ix3 b s n) = BitVec.ofNat 32 (Pick.left P 0 n)) :
    (after hostOps0_9 (after hostOps0_8 (after hostOps0_7 X)) (Proc.devRef .tc main_v34) : IVec S8x512x32 32) (ix3 b s k) = BitVec.ofNat 32 (Pick.eff P k.val) := by
  have hs : ∀ j : Fin 4096, (after hostOps0_7 X (Proc.devRef .tc main_v28) : IVec S8x512x4096 32) (ix3 b s j) = BitVec.ofNat 32 (Pick.kth P j.val) := fun j => by
    rw [sort28]; exact sorted _ P b s h j
  rw [pick34, first29, first31, none33, hs, hs]
  have hk := Pick.kth_le P k.val
  have e : IntOp.cmpi .eq (BitVec.ofNat 32 (Pick.kth P k.val)) 4096#32 = BitVec.ofBool (decide (Pick.kth P k.val = 4096)) :=
    congrArg BitVec.ofBool (Bool.eq_iff_iff.2 (by
      rw [beq_iff_eq, decide_eq_true_eq]; exact Words.ofNat_inj (by omega) (by norm_num)))
  unfold Pick.eff
  by_cases h : Pick.kth P k.val = 4096
  · rw [if_neg (by omega)]
    exact (congrArg (fun w : BitVec 1 => Scalar.select w _ _) (e.trans (by rw [decide_eq_true h]))).trans rfl
  · rw [if_pos (by omega)]
    exact (congrArg (fun w : BitVec 1 => Scalar.select w _ _) (e.trans (by rw [decide_eq_false h]))).trans rfl

/-! ## The samples -/

/-- A place written as a word, counted from the start also where it is negative. -/
theorem word_place (n : Fin 4096) (w : BitVec 32) (h : w = BitVec.ofNat 32 n.val) : Scalar.select (IntOp.cmpi .slt w 0#32) (IntOp.addi w 4096#32) w = BitVec.ofNat 32 n.val := by
  rw [h, word_slt _ (by omega)]; rfl

section
variable (b : Fin 8) (s : Fin 512) (k : Fin 32) (n : Fin 4096)

/-- The places as the gathers read them. -/
theorem index (v : IVec S8x512x32 32) (h : v (ix3 b s k) = BitVec.ofNat 32 n.val) :
    broadcastInDim S8x512x32x1 ![0, 1, 2] bcast_S8x512x32_S8x512x32x1_0_1_2
      (select (cmpi .slt v (broadcastInDim S8x512x32 ![] bcast_S_S8x512x32 (constantI S_ 32 0#32)))
        (addi v (broadcastInDim S8x512x32 ![] bcast_S_S8x512x32 (constantI S_ 32 4096#32))) v) (ix4 b s k 0) = BitVec.ofNat 32 n.val := by
  pointwise
  exact word_place n _ h

variable (h : (X (Proc.devRef .tc main_v34) : IVec S8x512x32 32) (ix3 b s k) = BitVec.ofNat 32 n.val)
include h

set_option maxHeartbeats 4000000 in
/-- The gathered coordinates less the query's, -/
theorem coords (c : Fin 3) (u v : EReal) (hu : (X (Proc.devRef .tc main_arg0) : Vec Ideal S8x4096x3 .f32) (ix3 b n c) = u)
    (hv : (X (Proc.devRef .tc main_v6) : Vec Ideal S8x512x3 .f32) (ix3 b s c) = v) :
    (after Layers.gathers X (Proc.devRef .tc main_v51) : Vec Ideal S8x512x32x3 .f32) (ix4 b s k c) = u - v := by
  after_reads_at
  exact congrArg₂ (fun a b : EReal => a - b) ((take_group _ _ b s k c n (index b s k n _ h)).trans hu) hv

set_option maxHeartbeats 4000000 in
/-- the gathered normals, -/
theorem normals (c : Fin 3) : (after Layers.gathers X (Proc.devRef .tc main_v41) : Vec Ideal S8x512x32x3 .f32) (ix4 b s k c)
    = (X (Proc.devRef .tc main_arg1) : Vec Ideal S8x4096x3 .f32) (ix3 b n c) := by
  after_reads_at
  exact take_group _ _ b s k c n (index b s k n _ h)

set_option maxHeartbeats 4000000 in
/-- the gathered features, -/
theorem features (c : Fin 10) : (after Layers.gathers X (Proc.devRef .tc main_v58) : Vec Ideal S8x512x32x10 .f32) (ix4 b s k c)
    = (X (Proc.devRef .tc main_v0) : Vec Ideal S8x4096x10 .f32) (ix3 b n c) := by
  after_reads_at
  exact take_group_features _ _ b s k c n (index b s k n _ h)
end

/-- and all of them side by side: the sample. -/
theorem sample (b : Fin 8) (s : Fin 512) (k : Fin 32) (c : Fin 16) :
    (after Layers.stack X (Proc.devRef .tc main_v60) : Vec Ideal S8x16x32x512 .f32) (ix4 b c k s)
      = if h : c.val < 3 then (X (Proc.devRef .tc main_v51) : Vec Ideal S8x512x32x3 .f32) (ix4 b s k ⟨c.val, h⟩)
        else if h' : c.val < 6 then (X (Proc.devRef .tc main_v41) : Vec Ideal S8x512x32x3 .f32) (ix4 b s k ⟨c.val - 3, by omega⟩)
        else (X (Proc.devRef .tc main_v58) : Vec Ideal S8x512x32x10 .f32) (ix4 b s k ⟨c.val - 6, by omega⟩) := by
  after_reads_at
  by_cases h : c.val < 3
  · rw [dif_pos h, dif_pos h, upto_zero]
  · rw [dif_neg h, dif_neg h]
    by_cases h' : c.val < 6
    · rw [dif_pos h', dif_pos (show c.val - 3 < 3 by omega), upto_zero]
    · rw [dif_neg h', dif_neg (show ¬ c.val - 3 < 3 by omega)]
      rfl

end Cert.ReferenceIdeal.Picks

end
-- ==== Proof.RefVal.lean ====
/- What the reference leaves: its queries, their normals and the pooled last layer, as functions of the arguments. -/
module

public import proofs.«01_k».proof.Proof.RefKeep
public import proofs.«01_k».proof.Proof.RefPicks
public import proofs.«01_k».proof.Proof.RefLayers
public import proofs.«01_k».proof.Proof.Chain
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.ReferenceIdeal.Val

open Cert.ReferenceIdeal Cert.ReferenceIdeal.Gen Cert.ReferenceIdeal.Value Cert.Spec Cert.Chain Cert.Fold Cert.ReferenceIdeal.Loop Cert.ReferenceIdeal.Keep
open Idealize.ShloMosaic Idealize.ShloMosaic.TcCoe Idealize.ShloMosaic.Tactic
open Idealize.SL.Sem Idealize.ShloMosaic.StableHlo

variable (m : (l : Loc nD τ sig) → Buf (Elt Ideal) l) (c : Dev nD)

/-- The arguments as launched. -/
def args : Args := Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- The contents after each stretch, from those before it. -/
theorem P1 : P m c 1 = after hostOps0_1 (P m c 0) := rfl
theorem P2 : P m c 2 = after hostOps0_2 (P m c 1) := rfl
theorem P3 : P m c 3 = after hostOps0_3 (P m c 2) := rfl
theorem P4 : P m c 4 = after hostOps0_4 (P m c 3) := rfl
theorem P5 : P m c 5 = after hostOps0_5 (P m c 4) := rfl
theorem P6 : P m c 6 = after hostOps0_6 (P m c 5) := rfl
theorem P7 : P m c 7 = after hostOps0_7 (P m c 6) := rfl
theorem P8 : P m c 8 = after hostOps0_8 (P m c 7) := rfl
theorem P9 : P m c 9 = after hostOps0_9 (P m c 8) := rfl
theorem P10 : P m c 10 = after hostOps0_10 (P m c 9) := rfl
theorem P11 : P m c 11 = after hostOps0_11 (P m c 10) := rfl
theorem P12 : P m c 12 = after hostOps0_12 (P m c 11) := rfl
theorem P13 : P m c 13 = after hostOps0_13 (P m c 12) := rfl
theorem P14 : P m c 14 = after hostOps0_14 (P m c 13) := rfl
theorem P15 : P m c 15 = after hostOps0_15 (P m c 14) := rfl
theorem P16 : P m c 16 = after hostOps0_16 (P m c 15) := rfl
theorem P17 : P m c 17 = after hostOps0_17 (P m c 16) := rfl
theorem P18 : P m c 18 = after hostOps0_18 (P m c 17) := rfl
theorem P19 : P m c 19 = after hostOps0_19 (P m c 18) := rfl
theorem P20 : P m c 20 = after hostOps0_20 (P m c 19) := rfl
theorem P21 : P m c 21 = after hostOps0_21 (P m c 20) := rfl
theorem P22 : P m c 22 = after hostOps0_22 (P m c 21) := rfl
theorem P23 : P m c 23 = after hostOps0_23 (P m c 22) := rfl
theorem P24 : P m c 24 = after hostOps0_24 (P m c 23) := rfl

/-- Two lists of operations, one after the other. -/
theorem after_append (l₁ l₂ : List (HloOp τ sig (Elt Ideal))) (V : Valuation τ sig (Elt Ideal)) : after (l₁ ++ l₂) V = after l₂ (after l₁ V) := by
  induction l₁ generalizing V with
  | nil => rfl
  | cons op l ih => exact ih _

/-- The contents after the tenth stretch's gathers and after their stacking. -/
def G : Valuation τ sig (Elt Ideal) := after Layers.gathers (P m c 9)
/-- The contents once the samples are stacked. -/
def St : Valuation τ sig (Elt Ideal) := after Layers.stack (G m c)

theorem P10' : P m c 10 = after Layers.first (St m c) := by
  rw [P10, Layers.tenth, after_append, after_append]; rfl

/-- The buffers that the parts of the tenth stretch write. -/
abbrev gathers_W : List (Ref sig .tc) := [main_c_9, main_v35, main_v36, main_c_10, main_v37, main_v38, main_v39, main_v40, main_v41, main_c_11, main_v42, main_v43, main_c_12, main_v44, main_v45, main_v46, main_v47, main_v48, main_v49, main_v50, main_v51, main_c_13, main_v52, main_v53, main_c_14, main_v54, main_v55, main_v56, main_v57, main_v58]
abbrev stack_W : List (Ref sig .tc) := [main_v59, main_v60]
abbrev first_W : List (Ref sig .tc) := [main_v61, main_v62, main_v63, main_v64, main_v65, main_v66, main_cst_15, main_v67, main_v68, main_cst_16, main_v69, main_v70, main_c_17]

theorem gathers_within : Within Layers.gathers gathers_W := forall_writes_sub_of_map rfl
theorem stack_within : Within Layers.stack stack_W := forall_writes_sub_of_map rfl
theorem first_within : Within Layers.first first_W := forall_writes_sub_of_map rfl

/-- The arguments are then as launched. -/
theorem St_arg (r : Ref sig .tc) (h : r ∈ argRefs) : St m c (Proc.devRef .tc r) = m ((c.tc : Thread nD τ).loc r) := by
  have hf : ∀ r ∈ argRefs, r ∉ gathers_W ∧ r ∉ stack_W := by decide +kernel
  unfold St
  rw [after_of_writes_sub _ _ stack_within (hf r h).2]
  unfold G
  rw [after_of_writes_sub _ _ gathers_within (hf r h).1]
  exact arg_keeps m c 9 r h

/-! ## The queries -/

/-- The loop leaves the numbers of the sampled points, -/
theorem found (b : Fin 8) (s : Fin 512) : (P m c 0 (Proc.devRef .tc main_v4_3) : IVec S8x512 32) (ix2 b s) = BitVec.ofNat 32 ((args m c).pick b s).val := by
  unfold P
  refine (congrFun (Loop.cond_keeps (atK m 512 c) main_v4_3 (by decide)) (ix2 b s)).trans ?_
  exact (at_all m c 512 le_rfl).done b s s.isLt

/-- The features, transposed before the loop. -/
theorem feats (b : Fin 8) (n : Fin 4096) (j : Fin 10) : (P m c 9 (Proc.devRef .tc main_v0) : Vec Ideal S8x4096x10 .f32) (ix3 b n j) = (args m c).feat b j n := by
  have hk : ∀ k, atK m k c (Proc.devRef .tc main_v0) = atK m 0 c (Proc.devRef .tc main_v0) := by
    intro k
    induction k with
    | zero => rfl
    | succ k ih =>
      rw [show atK m (k + 1) c = afterL bodyI (after condOps (atK m k c)) from rfl, afterL_keeps body_within main_v0 (by decide +kernel),
        after_of_writes_sub condOps _ condOps_writes (by decide +kernel)]
      exact ih
  refine (congrFun (keep m c 0 9 (by decide) main_v0 (by decide +kernel)) _).trans ?_
  refine (congrFun (show P m c 0 (Proc.devRef .tc main_v0) = atK m 0 c (Proc.devRef .tc main_v0) from
    (after_of_writes_sub condOps _ condOps_writes (by decide +kernel)).trans (hk 512)) _).trans ?_
  show (after hostOps0 (fun b => m (c, b)) (Proc.devRef .tc main_v0) : Vec Ideal S8x4096x10 .f32) (ix3 b n j) = _
  after_reads_at
  rfl

/-- from which their coordinates are read, -/
theorem center (b : Fin 8) (s : Fin 512) (j : Fin 3) : (P m c 2 (Proc.devRef .tc main_v6) : Vec Ideal S8x512x3 .f32) (ix3 b s j) = (args m c).center b s j := by
  rw [P2]
  refine (Picks.take6 _ b s ((args m c).pick b s) ?_ j).trans ?_
  · rw [P1]; exact (Picks.place5 _ b s).trans (found m c b s)
  · exact congrFun (arg_keeps m c 1 main_arg0 (by decide)) _

/-- and their normals. -/
theorem normal (b : Fin 8) (s : Fin 512) (j : Fin 3) : (P m c 4 (Proc.devRef .tc main_v8) : Vec Ideal S8x512x3 .f32) (ix3 b s j) = (args m c).normal b s j := by
  rw [P4]
  refine (Picks.take8 _ b s ((args m c).pick b s) ?_ j).trans ?_
  · rw [P3]
    exact (Picks.place7 _ b s).trans ((congrFun (keep m c 0 2 (by decide) main_v4_3 (by decide +kernel)) _).trans (found m c b s))
  · exact congrFun (arg_keeps m c 3 main_arg1 (by decide)) _

/-! ## The neighbours -/

variable (H : (args m c).Reals)
include H

open Classical in
/-- The neighbours' numbers of each query. -/
theorem neighbour (b : Fin 8) (s : Fin 512) (k : Fin 32) : (P m c 9 (Proc.devRef .tc main_v34) : IVec S8x512x32 32) (ix3 b s k)
    = BitVec.ofNat 32 (nb ((args m c).center b s) ((args m c).ctr b) k.val).val := by
  rw [P9, P8, P7, nb_val _ _ ⟨_, H.near_self b s⟩]
  refine Picks.kept _ _ b s k fun n => ?_
  rw [P6, P5]
  exact Picks.places _ b s n _ _ (fun j => (congrFun (keep m c 2 4 (by decide) main_v6 (by decide +kernel)) _).trans (center m c b s j))
    (fun n j => congrFun (arg_keeps m c 4 main_arg0 (by decide)) _)

/-- The samples, -/
theorem samples (b : Fin 8) (s : Fin 512) (k : Fin 32) (o : Fin 16) : (St m c (Proc.devRef .tc main_v60) : Vec Ideal S8x16x32x512 .f32) (ix4 b o k s) = (args m c).gath b k.val s o := by
  have hn := neighbour m c H b s k
  unfold St
  rw [Picks.sample]
  unfold Args.gath Args.row
  by_cases h : o.val < 3
  · rw [dif_pos h, dif_pos h, dif_pos h]
    exact Picks.coords (P m c 9) b s k _ hn ⟨o.val, h⟩ _ _ (congrFun (arg_keeps m c 9 main_arg0 (by decide)) _)
      ((congrFun (keep m c 2 9 (by decide) main_v6 (by decide +kernel)) _).trans (center m c b s _))
  · rw [dif_neg h, dif_neg h, dif_neg h, sub_zero]
    by_cases h' : o.val < 6
    · rw [dif_pos h', dif_pos h']
      exact (Picks.normals (P m c 9) b s k _ hn ⟨o.val - 3, by omega⟩).trans (congrFun (arg_keeps m c 9 main_arg1 (by decide)) _)
    · rw [dif_neg h', dif_neg h']
      exact (Picks.features (P m c 9) b s k _ hn ⟨o.val - 6, by omega⟩).trans (feats m c b _ _)

/-- by sample and channel. -/
theorem samp60 (p : Args.S) (o : Fin 16) : (St m c (Proc.devRef .tc main_v60) : Vec Ideal S8x16x32x512 .f32) (Layers.cell p o) = (args m c).samp p o :=
  samples m c H p.1 _ ⟨p.2.val / 512, by omega⟩ o

/-! ## The layers -/

/-- First layer, coordinates: the linear form, -/
theorem loc_y (p : Args.S) (o : Fin 64) : (P m c 10 (Proc.devRef .tc main_v66) : Vec Ideal S8x64x32x512 .f32) (Layers.cell p o) = lin ((args m c).wl o) ((args m c).bl o) ((args m c).loc p) := by
  rw [P10']
  exact Layers.lin_loc_cell _ (args m c).loc (fun p i => samp60 m c H p _) (args m c).wl (fun o i => congrFun (St_arg m c main_arg3 (by decide)) _) (args m c).bl (fun o => congrFun (St_arg m c main_arg4 (by decide)) _) p o

/-- its mean, -/
theorem loc_mean (o : Fin 64) : (P m c 10 (Proc.devRef .tc main_v70) : Vec Ideal S1x64x1x1 .f32) (ix4 0 o 0 0) = mean NN fun p => lin ((args m c).wl o) ((args m c).bl o) ((args m c).loc p) := by
  rw [P10']
  exact Layers.lin_loc_mean _ (args m c).loc (fun p i => samp60 m c H p _) (args m c).wl (fun o i => congrFun (St_arg m c main_arg3 (by decide)) _) (args m c).bl (fun o => congrFun (St_arg m c main_arg4 (by decide)) _) o

/-- its variance, -/
theorem loc_var (o : Fin 64) : (P m c 11 (Proc.devRef .tc main_v71) : Vec Ideal S1x64x1x1 .f32) (ix4 0 o 0 0)
    = mean NN fun p => (lin ((args m c).wl o) ((args m c).bl o) ((args m c).loc p) - mean NN fun p => lin ((args m c).wl o) ((args m c).bl o) ((args m c).loc p))
      * (lin ((args m c).wl o) ((args m c).bl o) ((args m c).loc p) - mean NN fun p => lin ((args m c).wl o) ((args m c).bl o) ((args m c).loc p)) := by
  rw [P11]
  exact Layers.var_loc _ (fun o p => lin ((args m c).wl o) ((args m c).bl o) ((args m c).loc p)) (fun p o => loc_y m c H p o)
    (by rw [P10']; exact Layers.c17 _) o

/-- its normalised value. -/
theorem loc_norm (p : Args.S) (o : Fin 64) : (P m c 12 (Proc.devRef .tc main_v84) : Vec Ideal S8x64x32x512 .f32) (Layers.cell p o)
    = norm NN EPS (fun q => lin ((args m c).wl o) ((args m c).bl o) ((args m c).loc q)) ((args m c).gl o) ((args m c).el o) p := by
  rw [P12]
  exact Layers.norm_loc _ (fun o p => lin ((args m c).wl o) ((args m c).bl o) ((args m c).loc p))
    (fun p o => (congrFun (keep m c 10 11 (by decide) main_v66 (by decide +kernel)) _).trans (loc_y m c H p o)) (fun o => (congrFun (keep m c 10 11 (by decide) main_v70 (by decide +kernel)) _).trans (loc_mean m c H o)) (fun o => loc_var m c H o)
    (args m c).gl (args m c).el (fun o => congrFun (arg_keeps m c 11 main_arg5 (by decide)) _) (fun o => congrFun (arg_keeps m c 11 main_arg6 (by decide)) _) p o

/-- The samples are still there for -/
theorem samp11 (p : Args.S) (o : Fin 16) : (P m c 11 (Proc.devRef .tc main_v60) : Vec Ideal S8x16x32x512 .f32) (Layers.cell p o) = (args m c).samp p o := by
  refine (congrFun (keep m c 10 11 (by decide) main_v60 (by decide +kernel)) _).trans ?_
  rw [P10']
  exact (congrFun (after_of_writes_sub _ _ first_within (by decide +kernel)) _).trans (samp60 m c H p o)

/-- the other 13 channels: the linear form, -/
theorem fea_y (p : Args.S) (o : Fin 64) : (P m c 12 (Proc.devRef .tc main_v90) : Vec Ideal S8x64x32x512 .f32) (Layers.cell p o) = lin ((args m c).wf o) ((args m c).bf o) ((args m c).fea p) := by
  rw [P12]
  exact Layers.lin_fea_cell _ (args m c).fea (fun p i => samp11 m c H p _) (args m c).wf (fun o i => congrFun (arg_keeps m c 11 main_arg7 (by decide)) _) (args m c).bf (fun o => congrFun (arg_keeps m c 11 main_arg8 (by decide)) _) p o

/-- its mean, -/
theorem fea_mean (o : Fin 64) : (P m c 12 (Proc.devRef .tc main_v94) : Vec Ideal S1x64x1x1 .f32) (ix4 0 o 0 0) = mean NN fun p => lin ((args m c).wf o) ((args m c).bf o) ((args m c).fea p) := by
  rw [P12]
  exact Layers.lin_fea_mean _ (args m c).fea (fun p i => samp11 m c H p _) (args m c).wf (fun o i => congrFun (arg_keeps m c 11 main_arg7 (by decide)) _) (args m c).bf (fun o => congrFun (arg_keeps m c 11 main_arg8 (by decide)) _) o

/-- and its variance. -/
theorem fea_var (o : Fin 64) : (P m c 13 (Proc.devRef .tc main_v95) : Vec Ideal S1x64x1x1 .f32) (ix4 0 o 0 0)
    = mean NN fun p => (lin ((args m c).wf o) ((args m c).bf o) ((args m c).fea p) - mean NN fun p => lin ((args m c).wf o) ((args m c).bf o) ((args m c).fea p))
      * (lin ((args m c).wf o) ((args m c).bf o) ((args m c).fea p) - mean NN fun p => lin ((args m c).wf o) ((args m c).bf o) ((args m c).fea p)) := by
  rw [P13]
  exact Layers.var_fea _ (fun o p => lin ((args m c).wf o) ((args m c).bf o) ((args m c).fea p)) (fun p o => fea_y m c H p o)
    (by rw [P12]; exact Layers.c21 _) o

/-- The first layer's output. -/
theorem act0 (p : Args.S) (o : Fin 64) : (P m c 15 (Proc.devRef .tc main_v110) : Vec Ideal S8x64x32x512 .f32) (Layers.cell p o) = (args m c).act0 p o := by
  rw [P15]
  refine (Layers.cut0 _ p o).trans (congrArg (fun z : EReal => max z 0) ?_)
  rw [P14]
  exact Layers.join _ (fun o p => lin ((args m c).wf o) ((args m c).bf o) ((args m c).fea p))
    (fun o p => norm NN EPS (fun q => lin ((args m c).wl o) ((args m c).bl o) ((args m c).loc q)) ((args m c).gl o) ((args m c).el o) p)
    (fun p o => (congrFun (keep m c 12 13 (by decide) main_v84 (by decide +kernel)) _).trans (loc_norm m c H p o)) (fun p o => (congrFun (keep m c 12 13 (by decide) main_v90 (by decide +kernel)) _).trans (fea_y m c H p o))
    (fun o => (congrFun (keep m c 12 13 (by decide) main_v94 (by decide +kernel)) _).trans (fea_mean m c H o)) (fun o => fea_var m c H o)
    (args m c).gf (args m c).ef (fun o => congrFun (arg_keeps m c 13 main_arg9 (by decide)) _) (fun o => congrFun (arg_keeps m c 13 main_arg10 (by decide)) _) p o

/-- Second layer: the linear form, -/
theorem one_y (p : Args.S) (o : Fin 64) : (P m c 16 (Proc.devRef .tc main_v115) : Vec Ideal S8x64x32x512 .f32) (Layers.cell p o) = lin ((args m c).w1 o) ((args m c).b1 o) ((args m c).act0 p) := by
  rw [P16]
  exact Layers.lin1_cell _ (args m c).act0 (fun p i => act0 m c H p i) (args m c).w1 (fun o i => congrFun (arg_keeps m c 15 main_arg11 (by decide)) _) (args m c).b1 (fun o => congrFun (arg_keeps m c 15 main_arg12 (by decide)) _) p o

/-- its mean, -/
theorem one_mean (o : Fin 64) : (P m c 16 (Proc.devRef .tc main_v119) : Vec Ideal S1x64x1x1 .f32) (ix4 0 o 0 0) = mean NN fun p => lin ((args m c).w1 o) ((args m c).b1 o) ((args m c).act0 p) := by
  rw [P16]
  exact Layers.lin1_mean _ (args m c).act0 (fun p i => act0 m c H p i) (args m c).w1 (fun o i => congrFun (arg_keeps m c 15 main_arg11 (by decide)) _) (args m c).b1 (fun o => congrFun (arg_keeps m c 15 main_arg12 (by decide)) _) o

/-- its variance, -/
theorem one_var (o : Fin 64) : (P m c 17 (Proc.devRef .tc main_v120) : Vec Ideal S1x64x1x1 .f32) (ix4 0 o 0 0)
    = mean NN fun p => (lin ((args m c).w1 o) ((args m c).b1 o) ((args m c).act0 p) - mean NN fun p => lin ((args m c).w1 o) ((args m c).b1 o) ((args m c).act0 p))
      * (lin ((args m c).w1 o) ((args m c).b1 o) ((args m c).act0 p) - mean NN fun p => lin ((args m c).w1 o) ((args m c).b1 o) ((args m c).act0 p)) := by
  rw [P17]
  exact Layers.var1 _ (fun o p => lin ((args m c).w1 o) ((args m c).b1 o) ((args m c).act0 p)) (fun p o => one_y m c H p o)
    (by rw [P16]; exact Layers.c25 _) o

/-- its normalised value, -/
theorem one_norm (p : Args.S) (o : Fin 64) : (P m c 18 (Proc.devRef .tc main_v133) : Vec Ideal S8x64x32x512 .f32) (Layers.cell p o)
    = norm NN EPS (fun q => lin ((args m c).w1 o) ((args m c).b1 o) ((args m c).act0 q)) ((args m c).g1 o) ((args m c).e1 o) p := by
  rw [P18]
  exact Layers.norm1 _ (fun o p => lin ((args m c).w1 o) ((args m c).b1 o) ((args m c).act0 p))
    (fun p o => (congrFun (keep m c 16 17 (by decide) main_v115 (by decide +kernel)) _).trans (one_y m c H p o)) (fun o => (congrFun (keep m c 16 17 (by decide) main_v119 (by decide +kernel)) _).trans (one_mean m c H o)) (fun o => one_var m c H o)
    (args m c).g1 (args m c).e1 (fun o => congrFun (arg_keeps m c 17 main_arg13 (by decide)) _) (fun o => congrFun (arg_keeps m c 17 main_arg14 (by decide)) _) p o

/-- and its output. -/
theorem act1 (p : Args.S) (o : Fin 64) : (P m c 19 (Proc.devRef .tc main_v134) : Vec Ideal S8x64x32x512 .f32) (Layers.cell p o) = (args m c).act1 p o := by
  rw [P19]
  exact (Layers.cut1 _ p o).trans (congrArg (fun z : EReal => max z 0) (one_norm m c H p o))

/-- Last layer: the linear form, -/
theorem two_y (p : Args.S) (o : Fin 128) : (P m c 20 (Proc.devRef .tc main_v139) : Vec Ideal S8x128x32x512 .f32) (Layers.cell p o) = lin ((args m c).w2 o) ((args m c).b2 o) ((args m c).act1 p) := by
  rw [P20]
  exact Layers.lin2_cell _ (args m c).act1 (fun p i => act1 m c H p i) (args m c).w2 (fun o i => congrFun (arg_keeps m c 19 main_arg15 (by decide)) _) (args m c).b2 (fun o => congrFun (arg_keeps m c 19 main_arg16 (by decide)) _) p o

/-- its mean, -/
theorem two_mean (o : Fin 128) : (P m c 20 (Proc.devRef .tc main_v143) : Vec Ideal S1x128x1x1 .f32) (ix4 0 o 0 0) = mean NN fun p => lin ((args m c).w2 o) ((args m c).b2 o) ((args m c).act1 p) := by
  rw [P20]
  exact Layers.lin2_mean _ (args m c).act1 (fun p i => act1 m c H p i) (args m c).w2 (fun o i => congrFun (arg_keeps m c 19 main_arg15 (by decide)) _) (args m c).b2 (fun o => congrFun (arg_keeps m c 19 main_arg16 (by decide)) _) o

/-- its variance, -/
theorem two_var (o : Fin 128) : (P m c 21 (Proc.devRef .tc main_v144) : Vec Ideal S1x128x1x1 .f32) (ix4 0 o 0 0)
    = mean NN fun p => (lin ((args m c).w2 o) ((args m c).b2 o) ((args m c).act1 p) - mean NN fun p => lin ((args m c).w2 o) ((args m c).b2 o) ((args m c).act1 p))
      * (lin ((args m c).w2 o) ((args m c).b2 o) ((args m c).act1 p) - mean NN fun p => lin ((args m c).w2 o) ((args m c).b2 o) ((args m c).act1 p)) := by
  rw [P21]
  exact Layers.var2 _ (fun o p => lin ((args m c).w2 o) ((args m c).b2 o) ((args m c).act1 p)) (fun p o => two_y m c H p o)
    (by rw [P20]; exact Layers.c29 _) o

/-- its normalised value, -/
theorem two_norm (p : Args.S) (o : Fin 128) : (P m c 22 (Proc.devRef .tc main_v157) : Vec Ideal S8x128x32x512 .f32) (Layers.cell p o)
    = norm NN EPS (fun q => lin ((args m c).w2 o) ((args m c).b2 o) ((args m c).act1 q)) ((args m c).g2 o) ((args m c).e2 o) p := by
  rw [P22]
  exact Layers.norm2 _ (fun o p => lin ((args m c).w2 o) ((args m c).b2 o) ((args m c).act1 p))
    (fun p o => (congrFun (keep m c 20 21 (by decide) main_v139 (by decide +kernel)) _).trans (two_y m c H p o)) (fun o => (congrFun (keep m c 20 21 (by decide) main_v143 (by decide +kernel)) _).trans (two_mean m c H o)) (fun o => two_var m c H o)
    (args m c).g2 (args m c).e2 (fun o => congrFun (arg_keeps m c 21 main_arg17 (by decide)) _) (fun o => congrFun (arg_keeps m c 21 main_arg18 (by decide)) _) p o

/-- and its output. -/
theorem act2 (p : Args.S) (o : Fin 128) : (P m c 23 (Proc.devRef .tc main_v158) : Vec Ideal S8x128x32x512 .f32) (Layers.cell p o) = (args m c).act2 p o := by
  rw [P23]
  exact (Layers.cut2 _ p o).trans (congrArg (fun z : EReal => max z 0) (two_norm m c H p o))

/-- The third result is the pooled last layer, -/
theorem pooled (b : Fin 8) (o : Fin 128) (s : Fin 512) : (P m c 24 (Proc.devRef .tc main_v159) : Vec Ideal S8x128x512 .f32) (ix3 b o s) = (args m c).out b o s := by
  rw [P24]
  refine (Layers.pool _ b o s).trans ?_
  refine @Finset.sup_congr EReal (Fin 32) _ _ _ _ _ _ rfl fun k _ => ?_
  refine Eq.trans (congrArg (P m c 23 (Proc.devRef .tc main_v158) : Vec Ideal S8x128x32x512 .f32) ?_) (act2 m c H (b, ⟨k.val * 512 + s.val, by omega⟩) o)
  have h1 : (⟨(k.val * 512 + s.val) / 512, by omega⟩ : Fin 32) = k := Fin.ext (show (k.val * 512 + s.val) / 512 = k.val by omega)
  have h2 : (⟨(k.val * 512 + s.val) % 512, Nat.mod_lt _ (by norm_num)⟩ : Fin 512) = s := Fin.ext (show (k.val * 512 + s.val) % 512 = s.val by omega)
  exact (congrArg₂ (fun x y => ix4 b o x y) h1 h2).symm

/-! ## The results -/

omit H in
/-- the first the sampled points' coordinates, -/
theorem result0 (b : Fin 8) (s : Fin 512) (j : Fin 3) : (P m c 24 (Proc.devRef .tc main_v6) : Vec Ideal S8x512x3 .f32) (ix3 b s j) = (args m c).center b s j :=
  (congrFun (keep m c 2 24 (by decide) main_v6 (by decide +kernel)) _).trans (center m c b s j)

omit H in
/-- and the second their normals. -/
theorem result1 (b : Fin 8) (s : Fin 512) (j : Fin 3) : (P m c 24 (Proc.devRef .tc main_v8) : Vec Ideal S8x512x3 .f32) (ix3 b s j) = (args m c).normal b s j :=
  (congrFun (keep m c 4 24 (by decide) main_v8 (by decide +kernel)) _).trans (normal m c b s j)

end Cert.ReferenceIdeal.Val

end
-- ==== Proof.RefFrame.lean ====
/- The reference's run: its arguments stay as launched, its counters are zero, and its results are what the stretches leave. -/
module

public import proofs.«01_k».proof.Proof.RefKeep
public import proofs.«01_k».proof.Proof.RefVal
public import Idealize.ShloMosaic.Lib.Pipeline.ValueKit
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.ReferenceIdeal.Run

open Cert.ReferenceIdeal Cert.ReferenceIdeal.Gen Cert.ReferenceIdeal.Value Cert.ReferenceIdeal.Keep
open Idealize.ShloMosaic Idealize.ShloMosaic.TcCoe Idealize.ShloMosaic.Tactic
open Idealize.SL.Sem

variable (m : (l : Loc nD τ sig) → Buf (Elt Ideal) l) (ρ : Dev nD → PrngReg)

/-- The run, with the results and the arguments; -/
theorem run : θ_run (defs (F := Ideal)) (onTc (τ := τ) (main (F := Ideal))) ⟨m, fun _ => 0, ρ⟩ (fun r => ∀ c : Dev nD,
      r.2.mem ((c.tc : Thread nD τ).loc main_v6) = P m c 24 (Proc.devRef .tc main_v6)
      ∧ r.2.mem ((c.tc : Thread nD τ).loc main_v8) = P m c 24 (Proc.devRef .tc main_v8)
      ∧ r.2.mem ((c.tc : Thread nD τ).loc main_v159) = P m c 24 (Proc.devRef .tc main_v159)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine θ_run_mono (run_fold m ρ) fun r h c => ?_
  have k : ∀ b : Ref sig .tc, b ∈ argRefs → (Proc.devRef .tc b : DevRef τ sig).isScoped = false → r.2.mem ((c.tc : Thread nD τ).loc b) = m ((c.tc : Thread nD τ).loc b) :=
    fun b hb hs => (h c b hs).trans ((congrFun (final_eq m c) _).trans (arg_keeps m c 24 b hb))
  exact ⟨(h c main_v6 (by decide)).trans (congrFun (final_eq m c) _), (h c main_v8 (by decide)).trans (congrFun (final_eq m c) _),
    (h c main_v159 (by decide)).trans (congrFun (final_eq m c) _), k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide), k main_arg15 (by decide) (by decide), k main_arg16 (by decide) (by decide), k main_arg17 (by decide) (by decide), k main_arg18 (by decide) (by decide)⟩

/-- and with the counters. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) := by
  refine θ_run_mono (run m ρ) fun r h => ⟨fun c => (h c).2.2.2, ?_⟩
  exact sem_eq_zero_of_no_sems (by decide) r.2

end Cert.ReferenceIdeal.Run

end
-- ==== Proof.Pre.lean ====
/- The condition on the arguments: where it holds, every argument but the last bias is real. -/
module

public import proofs.«01_k».proof.Proof.Chain
public import proofs.«01_k».proof.Pre_finite
public import Idealize.ShloMosaic.Lib.ReduceAll
public import proofs.«01_k».proof.Proof.Lits
public import Idealize.ShloMosaic.Lib.Pipeline.ValueKit
public import Idealize.ShloMosaic.Lib.Pointwise
public import Idealize.ShloMosaic.Lib.StableHlo.ReadAt
public import Idealize.ShloMosaic.Lib.Tactic

@[expose] public section

set_option maxRecDepth 16384

noncomputable section

namespace Cert.Pre_finite

open Cert.Chain
open Idealize.ShloMosaic Idealize.ShloMosaic.TcCoe Idealize.ShloMosaic.Tactic
open Idealize.SL.Sem

/-- The sizes the condition's text depends on. -/
instance facts : Facts where
  bcast_S_S8x4096x3 := by decide
  reducesTo_S8x4096x3_S_d0_1_2 := by decide
  h_S_ := by decide
  bcast_S_S8x10x4096 := by decide
  reducesTo_S8x10x4096_S_d0_1_2 := by decide
  bcast_S_S64x3 := by decide
  reducesTo_S64x3_S_d0_1 := by decide
  bcast_S_S64 := by decide
  reducesTo_S64_S_d0 := by decide
  bcast_S_S64x13 := by decide
  reducesTo_S64x13_S_d0_1 := by decide
  bcast_S_S64x64 := by decide
  reducesTo_S64x64_S_d0_1 := by decide
  bcast_S_S128x64 := by decide
  reducesTo_S128x64_S_d0_1 := by decide
  bcast_S_S128 := by decide
  reducesTo_S128_S_d0 := by decide

instance : Subsingleton S_.Idx := ⟨fun _ _ => funext fun a => a.elim0⟩

/-- The word of plus infinity. -/
theorem pinf : Ideal.ofBits .f32 0x7F800000#32 = (⊤ : EReal) := by simp [Ideal.ofBits, Ideal.ieee]

/-- Where all magnitudes are below infinity, all entries are real. -/
theorem real_of_all {s : Shape} {axes : List (Fin s.rank)} (h : s.ReducesTo axes S_) (h0 : 0 < S_.numel) (hb : S_.BroadcastsInDim s (![] : Fin 0 → Fin s.rank))
    (x : FVec Ideal s .f32)
    (e : Host.reduce IntOp.andi (cmpf .olt (Host.absf x) (broadcastInDim s ![] hb (constant S_ .f32 0x7F800000#32))) (constantI S_ 1 1#1) h h0 ix0 = 1#1)
    (i : s.Idx) : IsReal (x i) := by
  have hi := Host.reduce_andi_all _ _ h h0 ix0 e i
  have hi' : BitVec.ofBool (decide (max (x i : EReal) (-(x i : EReal)) < Ideal.ofBits .f32 0x7F800000#32)) = 1#1 := hi
  rw [pinf] at hi'
  have hlt : max (x i : EReal) (-(x i : EReal)) < ⊤ := by
    by_contra hn
    rw [decide_eq_false hn] at hi'
    exact absurd hi' (by decide)
  obtain ⟨h1, h2⟩ := max_lt_iff.1 hlt
  refine ⟨(x i : EReal).toReal, (EReal.coe_toReal h1.ne fun hb => ?_).symm⟩
  rw [hb] at h2
  exact absurd h2 (by simp)

/-- Both parts of a conjunction that is one are one. -/
theorem and_one {u v : IVec S_ 1} (e : andi u v ix0 = 1#1) : u ix0 = 1#1 ∧ v ix0 = 1#1 := by
  generalize hu : u ix0 = a
  generalize hv : v ix0 = b
  have e' : a &&& b = 1#1 := by rw [← hu, ← hv]; exact e
  revert e'
  clear hu hv e
  revert a b
  decide

/-- Where the condition holds, the arguments it speaks of are real. -/
theorem reals (a0 : FVec Ideal S8x4096x3 .f32) (a1 : FVec Ideal S8x4096x3 .f32) (a2 : FVec Ideal S8x10x4096 .f32) (a3 : FVec Ideal S64x3 .f32) (a4 : FVec Ideal S64 .f32) (a5 : FVec Ideal S64 .f32) (a6 : FVec Ideal S64 .f32) (a7 : FVec Ideal S64x13 .f32) (a8 : FVec Ideal S64 .f32) (a9 : FVec Ideal S64 .f32) (a10 : FVec Ideal S64 .f32) (a11 : FVec Ideal S64x64 .f32) (a12 : FVec Ideal S64 .f32) (a13 : FVec Ideal S64 .f32) (a14 : FVec Ideal S64 .f32) (a15 : FVec Ideal S128x64 .f32) (a16 : FVec Ideal S128 .f32) (a17 : FVec Ideal S128 .f32) (a18 : FVec Ideal S128 .f32)
    (e : fn (F := Ideal) a0 a1 a2 a3 a4 a5 a6 a7 a8 a9 a10 a11 a12 a13 a14 a15 a16 a17 a18 = fun _ => 1#1) : (Args.ofArrays a0 a1 a2 a3 a4 a5 a6 a7 a8 a9 a10 a11 a12 a13 a14 a15 a16 a17 a18).Reals := by
  have e0 := congrFun e ix0
  unfold fn fn_part1 fn_part2 fn_part3 fn_part4 fn_part5 at e0
  obtain ⟨e0, h17⟩ := and_one e0
  obtain ⟨e0, h16⟩ := and_one e0
  obtain ⟨e0, h15⟩ := and_one e0
  obtain ⟨e0, h14⟩ := and_one e0
  obtain ⟨e0, h13⟩ := and_one e0
  obtain ⟨e0, h12⟩ := and_one e0
  obtain ⟨e0, h11⟩ := and_one e0
  obtain ⟨e0, h10⟩ := and_one e0
  obtain ⟨e0, h9⟩ := and_one e0
  obtain ⟨e0, h8⟩ := and_one e0
  obtain ⟨e0, h7⟩ := and_one e0
  obtain ⟨e0, h6⟩ := and_one e0
  obtain ⟨e0, h5⟩ := and_one e0
  obtain ⟨e0, h4⟩ := and_one e0
  obtain ⟨e0, h3⟩ := and_one e0
  obtain ⟨e0, h2⟩ := and_one e0
  obtain ⟨e0, h1⟩ := and_one e0
  constructor
  · exact fun b n j => real_of_all _ _ _ _ e0 (ix3 b n j)
  · exact fun b n j => real_of_all _ _ _ _ h1 (ix3 b n j)
  · exact fun b n j => real_of_all _ _ _ _ h2 (ix3 b n j)
  · exact fun o k => real_of_all _ _ _ _ h3 (ix2 o k)
  · exact fun o => real_of_all _ _ _ _ h4 (ix1 o)
  · exact fun o => real_of_all _ _ _ _ h5 (ix1 o)
  · exact fun o => real_of_all _ _ _ _ h6 (ix1 o)
  · exact fun o k => real_of_all _ _ _ _ h7 (ix2 o k)
  · exact fun o => real_of_all _ _ _ _ h8 (ix1 o)
  · exact fun o => real_of_all _ _ _ _ h9 (ix1 o)
  · exact fun o => real_of_all _ _ _ _ h10 (ix1 o)
  · exact fun o k => real_of_all _ _ _ _ h11 (ix2 o k)
  · exact fun o => real_of_all _ _ _ _ h12 (ix1 o)
  · exact fun o => real_of_all _ _ _ _ h13 (ix1 o)
  · exact fun o => real_of_all _ _ _ _ h14 (ix1 o)
  · exact fun o k => real_of_all _ _ _ _ h15 (ix2 o k)
  · exact fun o => real_of_all _ _ _ _ h16 (ix1 o)
  · exact fun o => real_of_all _ _ _ _ h17 (ix1 o)

end Cert.Pre_finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefFrame
public import proofs.«01_k».proof.Proof.Pre
public import Idealize.ShloMosaic.Adequacy
public import Idealize.ShloMosaic.Init

@[expose] public section

noncomputable section

namespace Cert.Proof

open Idealize.ShloMosaic Idealize.SL.Sem Cert.Chain

/-- Where both are given the same arrays and these are finite, the reference's run ends with the kernel's results. -/
theorem algebraic : Cert.algebraic_KernelIdeal_ReferenceIdeal_pre_finite := by
  intro m g m' g' hp he
  refine ⟨fun c => Cert.KernelIdeal.Gen.W10 m g c (Proc.devRef .tc Cert.KernelIdeal.main_v5),
    fun c => Cert.KernelIdeal.Gen.W10 m g c (Proc.devRef .tc Cert.KernelIdeal.main_v6),
    fun c => Cert.KernelIdeal.Gen.W10 m g c (Proc.devRef .tc Cert.KernelIdeal.main_v121), Cert.KernelIdeal.Run.run m g, ?_⟩
  refine (θ_run Cert.ReferenceIdeal.defs _ _).mono (fun r h c => ?_) (Cert.ReferenceIdeal.Run.run m' g')
  have same : Cert.ReferenceIdeal.Val.args m' c = Cert.KernelIdeal.Val.args m c := by
    obtain ⟨e0, e1, e2, e3, e4, e5, e6, e7, e8, e9, e10, e11, e12, e13, e14, e15, e16, e17, e18⟩ := he c
    unfold Cert.ReferenceIdeal.Val.args Cert.KernelIdeal.Val.args
    rw [e0, e1, e2, e3, e4, e5, e6, e7, e8, e9, e10, e11, e12, e13, e14, e15, e16, e17, e18]
  have H : (Cert.KernelIdeal.Val.args m c).Reals := Cert.Pre_finite.reals _ _ _ _ _ _ _ _ _ _ _ _ _ _ _ _ _ _ _ (hp c)
  have H' : (Cert.ReferenceIdeal.Val.args m' c).Reals := same ▸ H
  obtain ⟨h0, h1, h2, h3⟩ := h c
  refine ⟨h0.trans ?_, h1.trans ?_, h2.trans ?_, h3⟩
  · refine funext fun i : (⟨3, ![8, 512, 3]⟩ : Shape).Idx => ?_
    rw [eq_ix3 i]
    exact (Cert.ReferenceIdeal.Val.result0 m' c _ _ _).trans <| (congrArg (fun A => Args.center A _ _ _) same).trans
      (Cert.KernelIdeal.Val.result0 m g c _ _ _).symm
  · refine funext fun i : (⟨3, ![8, 512, 3]⟩ : Shape).Idx => ?_
    rw [eq_ix3 i]
    exact (Cert.ReferenceIdeal.Val.result1 m' c _ _ _).trans <| (congrArg (fun A => Args.normal A _ _ _) same).trans
      (Cert.KernelIdeal.Val.result1 m g c _ _ _).symm
  · refine funext fun i : (⟨3, ![8, 128, 512]⟩ : Shape).Idx => ?_
    rw [eq_ix3 i]
    exact (Cert.ReferenceIdeal.Val.pooled m' c H' _ _ _).trans <| (congrArg (fun A => Args.out A _ _ _) same).trans
      (Cert.KernelIdeal.Val.result2 m g c H _ _ _).symm

/-- Everything that is claimed. -/
theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  fun m g _ => Cert.ReferenceIdeal.Run.frame m g, fun m g _ => Cert.ReferenceIdeal.Run.frame m g, trivial, algebraic⟩

end Cert.Proof

end
